-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_DwGuIdeal_dwgu_finite [hPre_dwgu_finite : Cert.Pre_dwgu_finite.Facts] (m : (ℓ : Loc Cert.DwGuIdeal.nD Cert.DwGuIdeal.τ Cert.DwGuIdeal.sig) → Buf (Elt Ideal) ℓ) : Prop :=
  ∀ c : Dev Cert.DwGuIdeal.nD,
    (Cert.Pre_dwgu_finite.fn (F := Ideal) (m ((c.tc : Thread Cert.DwGuIdeal.nD Cert.DwGuIdeal.τ).loc Cert.DwGuIdeal.main_arg0)) (m ((c.tc : Thread Cert.DwGuIdeal.nD Cert.DwGuIdeal.τ).loc Cert.DwGuIdeal.main_arg1)) (m ((c.tc : Thread Cert.DwGuIdeal.nD Cert.DwGuIdeal.τ).loc Cert.DwGuIdeal.main_arg2)) (m ((c.tc : Thread Cert.DwGuIdeal.nD Cert.DwGuIdeal.τ).loc Cert.DwGuIdeal.main_arg3))) = (fun _ => 1#1)

def Pre_DwGuRefIdeal (m : (ℓ : Loc Cert.DwGuRefIdeal.nD Cert.DwGuRefIdeal.τ Cert.DwGuRefIdeal.sig) → Buf (Elt Ideal) ℓ) : Prop :=
  True

def Pre_DwGuRefIdeal_dwgu_finite [hPre_dwgu_finite : Cert.Pre_dwgu_finite.Facts] (m : (ℓ : Loc Cert.DwGuRefIdeal.nD Cert.DwGuRefIdeal.τ Cert.DwGuRefIdeal.sig) → Buf (Elt Ideal) ℓ) : Prop :=
  ∀ c : Dev Cert.DwGuRefIdeal.nD,
    (Cert.Pre_dwgu_finite.fn (F := Ideal) (m ((c.tc : Thread Cert.DwGuRefIdeal.nD Cert.DwGuRefIdeal.τ).loc Cert.DwGuRefIdeal.main_arg0)) (m ((c.tc : Thread Cert.DwGuRefIdeal.nD Cert.DwGuRefIdeal.τ).loc Cert.DwGuRefIdeal.main_arg1)) (m ((c.tc : Thread Cert.DwGuRefIdeal.nD Cert.DwGuRefIdeal.τ).loc Cert.DwGuRefIdeal.main_arg2)) (m ((c.tc : Thread Cert.DwGuRefIdeal.nD Cert.DwGuRefIdeal.τ).loc Cert.DwGuRefIdeal.main_arg3))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_ain_finite [hPre_ain_finite : Cert.Pre_ain_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_ain_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_ain_finite [hPre_ain_finite : Cert.Pre_ain_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_ain_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_qkv_finite [hPre_qkv_finite : Cert.Pre_qkv_finite.Facts] (m : (ℓ : Loc Cert.QkvIdeal.nD Cert.QkvIdeal.τ Cert.QkvIdeal.sig) → Buf (Elt Ideal) ℓ) : Prop :=
  ∀ c : Dev Cert.QkvIdeal.nD,
    (Cert.Pre_qkv_finite.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_qkv_finite [hPre_qkv_finite : Cert.Pre_qkv_finite.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_qkv_finite.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10))) = (fun _ => 1#1)

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_inb_finite [hPre_inb_finite : Cert.Pre_inb_finite.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_inb_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3)) (m ((c.tc : Thread Cert.SwigluBwdIdeal.nD Cert.SwigluBwdIdeal.τ).loc Cert.SwigluBwdIdeal.main_arg4)) (m ((c.tc : Thread Cert.SwigluBwdIdeal.nD Cert.SwigluBwdIdeal.τ).loc Cert.SwigluBwdIdeal.main_arg5)) (m ((c.tc : Thread Cert.SwigluBwdIdeal.nD Cert.SwigluBwdIdeal.τ).loc Cert.SwigluBwdIdeal.main_arg6)) (m ((c.tc : Thread Cert.SwigluBwdIdeal.nD Cert.SwigluBwdIdeal.τ).loc Cert.SwigluBwdIdeal.main_arg7))) = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_inb_finite [hPre_inb_finite : Cert.Pre_inb_finite.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_inb_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3)) (m ((c.tc : Thread Cert.SwigluBwdRefIdeal.nD Cert.SwigluBwdRefIdeal.τ).loc Cert.SwigluBwdRefIdeal.main_arg4)) (m ((c.tc : Thread Cert.SwigluBwdRefIdeal.nD Cert.SwigluBwdRefIdeal.τ).loc Cert.SwigluBwdRefIdeal.main_arg5)) (m ((c.tc : Thread Cert.SwigluBwdRefIdeal.nD Cert.SwigluBwdRefIdeal.τ).loc Cert.SwigluBwdRefIdeal.main_arg6)) (m ((c.tc : Thread Cert.SwigluBwdRefIdeal.nD Cert.SwigluBwdRefIdeal.τ).loc Cert.SwigluBwdRefIdeal.main_arg7))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_fwd_finite [hPre_fwd_finite : Cert.Pre_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_fwd_finite [hPre_fwd_finite : Cert.Pre_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_Kvq (m : (ℓ : Loc Cert.Kvq.nD Cert.Kvq.τ Cert.Kvq.sig) → Buf (Elt Bits) ℓ) : Prop :=
  True

def Pre_KvqIdeal (m : (ℓ : Loc Cert.KvqIdeal.nD Cert.KvqIdeal.τ Cert.KvqIdeal.sig) → Buf (Elt Ideal) ℓ) : Prop :=
  True

def Pre_KvqRefIdeal (m : (ℓ : Loc Cert.KvqRefIdeal.nD Cert.KvqRefIdeal.τ Cert.KvqRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_ConvMix (m : (ℓ : Loc Cert.ConvMix.nD Cert.ConvMix.τ Cert.ConvMix.sig) → Buf (Elt Bits) ℓ) : Prop :=
  True

def Pre_ConvMixIdeal (m : (ℓ : Loc Cert.ConvMixIdeal.nD Cert.ConvMixIdeal.τ Cert.ConvMixIdeal.sig) → Buf (Elt Ideal) ℓ) : Prop :=
  True

def Pre_ConvMixRefIdeal (m : (ℓ : Loc Cert.ConvMixRefIdeal.nD Cert.ConvMixRefIdeal.τ Cert.ConvMixRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_SmallSum [hPre_small_place : Cert.Pre_small_place.Facts] (m : (ℓ : Loc Cert.SmallSum.nD Cert.SmallSum.τ Cert.SmallSum.sig) → Buf (Elt Bits) ℓ) : Prop :=
  ∀ c : Dev Cert.SmallSum.nD,
    (Cert.Pre_small_place.fn (F := Bits) (m ((c.tc : Thread Cert.SmallSum.nD Cert.SmallSum.τ).loc Cert.SmallSum.main_arg0)) (m ((c.tc : Thread Cert.SmallSum.nD Cert.SmallSum.τ).loc Cert.SmallSum.main_arg1))) = (fun _ => 1#1)

def Pre_SmallSumIdeal [hPre_small_place : Cert.Pre_small_place.Facts] (m : (ℓ : Loc Cert.SmallSumIdeal.nD Cert.SmallSumIdeal.τ Cert.SmallSumIdeal.sig) → Buf (Elt Ideal) ℓ) : Prop :=
  ∀ c : Dev Cert.SmallSumIdeal.nD,
    (Cert.Pre_small_place.fn (F := Ideal) (m ((c.tc : Thread Cert.SmallSumIdeal.nD Cert.SmallSumIdeal.τ).loc Cert.SmallSumIdeal.main_arg0)) (m ((c.tc : Thread Cert.SmallSumIdeal.nD Cert.SmallSumIdeal.τ).loc Cert.SmallSumIdeal.main_arg1))) = (fun _ => 1#1)

def Pre_SmallSumRefIdeal (m : (ℓ : Loc Cert.SmallSumRefIdeal.nD Cert.SmallSumRefIdeal.τ Cert.SmallSumRefIdeal.sig) → Buf (Elt Ideal) ℓ) : Prop :=
  True

def Pre_SmallSumRefIdeal_small_place [hPre_small_place : Cert.Pre_small_place.Facts] (m : (ℓ : Loc Cert.SmallSumRefIdeal.nD Cert.SmallSumRefIdeal.τ Cert.SmallSumRefIdeal.sig) → Buf (Elt Ideal) ℓ) : Prop :=
  ∀ c : Dev Cert.SmallSumRefIdeal.nD,
    (Cert.Pre_small_place.fn (F := Ideal) (m ((c.tc : Thread Cert.SmallSumRefIdeal.nD Cert.SmallSumRefIdeal.τ).loc Cert.SmallSumRefIdeal.main_arg0)) (m ((c.tc : Thread Cert.SmallSumRefIdeal.nD Cert.SmallSumRefIdeal.τ).loc Cert.SmallSumRefIdeal.main_arg1))) = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1)
      ∧ r.2.mem ((c.tc : Thread Cert.DwGu.nD Cert.DwGu.τ).loc Cert.DwGu.main_arg2) = m ((c.tc : Thread Cert.DwGu.nD Cert.DwGu.τ).loc Cert.DwGu.main_arg2)
      ∧ r.2.mem ((c.tc : Thread Cert.DwGu.nD Cert.DwGu.τ).loc Cert.DwGu.main_arg3) = m ((c.tc : Thread Cert.DwGu.nD Cert.DwGu.τ).loc Cert.DwGu.main_arg3))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1)
      ∧ r.2.mem ((c.tc : Thread Cert.DwGuIdeal.nD Cert.DwGuIdeal.τ).loc Cert.DwGuIdeal.main_arg2) = m ((c.tc : Thread Cert.DwGuIdeal.nD Cert.DwGuIdeal.τ).loc Cert.DwGuIdeal.main_arg2)
      ∧ r.2.mem ((c.tc : Thread Cert.DwGuIdeal.nD Cert.DwGuIdeal.τ).loc Cert.DwGuIdeal.main_arg3) = m ((c.tc : Thread Cert.DwGuIdeal.nD Cert.DwGuIdeal.τ).loc Cert.DwGuIdeal.main_arg3))
      ∧ r.2.sem = fun _ => 0)

def quiescent_DwGuIdeal_pre_dwgu_finite [hDwGuIdeal : Cert.DwGuIdeal.Facts] [hPre_dwgu_finite : Cert.Pre_dwgu_finite.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal_dwgu_finite m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1)
      ∧ r.2.mem ((c.tc : Thread Cert.DwGuIdeal.nD Cert.DwGuIdeal.τ).loc Cert.DwGuIdeal.main_arg2) = m ((c.tc : Thread Cert.DwGuIdeal.nD Cert.DwGuIdeal.τ).loc Cert.DwGuIdeal.main_arg2)
      ∧ r.2.mem ((c.tc : Thread Cert.DwGuIdeal.nD Cert.DwGuIdeal.τ).loc Cert.DwGuIdeal.main_arg3) = m ((c.tc : Thread Cert.DwGuIdeal.nD Cert.DwGuIdeal.τ).loc Cert.DwGuIdeal.main_arg3))
      ∧ r.2.sem = fun _ => 0)

def quiescent_DwGuRefIdeal [hDwGuRefIdeal : Cert.DwGuRefIdeal.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1)
      ∧ r.2.mem ((c.tc : Thread Cert.DwGuRefIdeal.nD Cert.DwGuRefIdeal.τ).loc Cert.DwGuRefIdeal.main_arg2) = m ((c.tc : Thread Cert.DwGuRefIdeal.nD Cert.DwGuRefIdeal.τ).loc Cert.DwGuRefIdeal.main_arg2)
      ∧ r.2.mem ((c.tc : Thread Cert.DwGuRefIdeal.nD Cert.DwGuRefIdeal.τ).loc Cert.DwGuRefIdeal.main_arg3) = m ((c.tc : Thread Cert.DwGuRefIdeal.nD Cert.DwGuRefIdeal.τ).loc Cert.DwGuRefIdeal.main_arg3))
      ∧ r.2.sem = fun _ => 0)

def quiescent_DwGuRefIdeal_pre_dwgu_finite [hDwGuRefIdeal : Cert.DwGuRefIdeal.Facts] [hPre_dwgu_finite : Cert.Pre_dwgu_finite.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal_dwgu_finite m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1)
      ∧ r.2.mem ((c.tc : Thread Cert.DwGuRefIdeal.nD Cert.DwGuRefIdeal.τ).loc Cert.DwGuRefIdeal.main_arg2) = m ((c.tc : Thread Cert.DwGuRefIdeal.nD Cert.DwGuRefIdeal.τ).loc Cert.DwGuRefIdeal.main_arg2)
      ∧ r.2.mem ((c.tc : Thread Cert.DwGuRefIdeal.nD Cert.DwGuRefIdeal.τ).loc Cert.DwGuRefIdeal.main_arg3) = m ((c.tc : Thread Cert.DwGuRefIdeal.nD Cert.DwGuRefIdeal.τ).loc Cert.DwGuRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_ain_finite [hNormBwdIdeal : Cert.NormBwdIdeal.Facts] [hPre_ain_finite : Cert.Pre_ain_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_ain_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_NormBwdRefIdeal_pre_ain_finite [hNormBwdRefIdeal : Cert.NormBwdRefIdeal.Facts] [hPre_ain_finite : Cert.Pre_ain_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_ain_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ r.2.sem = fun _ => 0)

def quiescent_QkvIdeal_pre_qkv_finite [hQkvIdeal : Cert.QkvIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_qkv_finite m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10))
      ∧ r.2.sem = fun _ => 0)

def quiescent_QkvRefIdeal_pre_qkv_finite [hQkvRefIdeal : Cert.QkvRefIdeal.Facts] [hPre_qkv_finite : Cert.Pre_qkv_finite.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_qkv_finite m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3)
      ∧ r.2.mem ((c.tc : Thread Cert.SwigluBwd.nD Cert.SwigluBwd.τ).loc Cert.SwigluBwd.main_arg4) = m ((c.tc : Thread Cert.SwigluBwd.nD Cert.SwigluBwd.τ).loc Cert.SwigluBwd.main_arg4)
      ∧ r.2.mem ((c.tc : Thread Cert.SwigluBwd.nD Cert.SwigluBwd.τ).loc Cert.SwigluBwd.main_arg5) = m ((c.tc : Thread Cert.SwigluBwd.nD Cert.SwigluBwd.τ).loc Cert.SwigluBwd.main_arg5)
      ∧ r.2.mem ((c.tc : Thread Cert.SwigluBwd.nD Cert.SwigluBwd.τ).loc Cert.SwigluBwd.main_arg6) = m ((c.tc : Thread Cert.SwigluBwd.nD Cert.SwigluBwd.τ).loc Cert.SwigluBwd.main_arg6)
      ∧ r.2.mem ((c.tc : Thread Cert.SwigluBwd.nD Cert.SwigluBwd.τ).loc Cert.SwigluBwd.main_arg7) = m ((c.tc : Thread Cert.SwigluBwd.nD Cert.SwigluBwd.τ).loc Cert.SwigluBwd.main_arg7))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3)
      ∧ r.2.mem ((c.tc : Thread Cert.SwigluBwdIdeal.nD Cert.SwigluBwdIdeal.τ).loc Cert.SwigluBwdIdeal.main_arg4) = m ((c.tc : Thread Cert.SwigluBwdIdeal.nD Cert.SwigluBwdIdeal.τ).loc Cert.SwigluBwdIdeal.main_arg4)
      ∧ r.2.mem ((c.tc : Thread Cert.SwigluBwdIdeal.nD Cert.SwigluBwdIdeal.τ).loc Cert.SwigluBwdIdeal.main_arg5) = m ((c.tc : Thread Cert.SwigluBwdIdeal.nD Cert.SwigluBwdIdeal.τ).loc Cert.SwigluBwdIdeal.main_arg5)
      ∧ r.2.mem ((c.tc : Thread Cert.SwigluBwdIdeal.nD Cert.SwigluBwdIdeal.τ).loc Cert.SwigluBwdIdeal.main_arg6) = m ((c.tc : Thread Cert.SwigluBwdIdeal.nD Cert.SwigluBwdIdeal.τ).loc Cert.SwigluBwdIdeal.main_arg6)
      ∧ r.2.mem ((c.tc : Thread Cert.SwigluBwdIdeal.nD Cert.SwigluBwdIdeal.τ).loc Cert.SwigluBwdIdeal.main_arg7) = m ((c.tc : Thread Cert.SwigluBwdIdeal.nD Cert.SwigluBwdIdeal.τ).loc Cert.SwigluBwdIdeal.main_arg7))
      ∧ r.2.sem = fun _ => 0)

def quiescent_SwigluBwdIdeal_pre_inb_finite [hSwigluBwdIdeal : Cert.SwigluBwdIdeal.Facts] [hPre_inb_finite : Cert.Pre_inb_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_inb_finite m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3)
      ∧ r.2.mem ((c.tc : Thread Cert.SwigluBwdIdeal.nD Cert.SwigluBwdIdeal.τ).loc Cert.SwigluBwdIdeal.main_arg4) = m ((c.tc : Thread Cert.SwigluBwdIdeal.nD Cert.SwigluBwdIdeal.τ).loc Cert.SwigluBwdIdeal.main_arg4)
      ∧ r.2.mem ((c.tc : Thread Cert.SwigluBwdIdeal.nD Cert.SwigluBwdIdeal.τ).loc Cert.SwigluBwdIdeal.main_arg5) = m ((c.tc : Thread Cert.SwigluBwdIdeal.nD Cert.SwigluBwdIdeal.τ).loc Cert.SwigluBwdIdeal.main_arg5)
      ∧ r.2.mem ((c.tc : Thread Cert.SwigluBwdIdeal.nD Cert.SwigluBwdIdeal.τ).loc Cert.SwigluBwdIdeal.main_arg6) = m ((c.tc : Thread Cert.SwigluBwdIdeal.nD Cert.SwigluBwdIdeal.τ).loc Cert.SwigluBwdIdeal.main_arg6)
      ∧ r.2.mem ((c.tc : Thread Cert.SwigluBwdIdeal.nD Cert.SwigluBwdIdeal.τ).loc Cert.SwigluBwdIdeal.main_arg7) = m ((c.tc : Thread Cert.SwigluBwdIdeal.nD Cert.SwigluBwdIdeal.τ).loc Cert.SwigluBwdIdeal.main_arg7))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3)
      ∧ r.2.mem ((c.tc : Thread Cert.SwigluBwdRefIdeal.nD Cert.SwigluBwdRefIdeal.τ).loc Cert.SwigluBwdRefIdeal.main_arg4) = m ((c.tc : Thread Cert.SwigluBwdRefIdeal.nD Cert.SwigluBwdRefIdeal.τ).loc Cert.SwigluBwdRefIdeal.main_arg4)
      ∧ r.2.mem ((c.tc : Thread Cert.SwigluBwdRefIdeal.nD Cert.SwigluBwdRefIdeal.τ).loc Cert.SwigluBwdRefIdeal.main_arg5) = m ((c.tc : Thread Cert.SwigluBwdRefIdeal.nD Cert.SwigluBwdRefIdeal.τ).loc Cert.SwigluBwdRefIdeal.main_arg5)
      ∧ r.2.mem ((c.tc : Thread Cert.SwigluBwdRefIdeal.nD Cert.SwigluBwdRefIdeal.τ).loc Cert.SwigluBwdRefIdeal.main_arg6) = m ((c.tc : Thread Cert.SwigluBwdRefIdeal.nD Cert.SwigluBwdRefIdeal.τ).loc Cert.SwigluBwdRefIdeal.main_arg6)
      ∧ r.2.mem ((c.tc : Thread Cert.SwigluBwdRefIdeal.nD Cert.SwigluBwdRefIdeal.τ).loc Cert.SwigluBwdRefIdeal.main_arg7) = m ((c.tc : Thread Cert.SwigluBwdRefIdeal.nD Cert.SwigluBwdRefIdeal.τ).loc Cert.SwigluBwdRefIdeal.main_arg7))
      ∧ r.2.sem = fun _ => 0)

def quiescent_SwigluBwdRefIdeal_pre_inb_finite [hSwigluBwdRefIdeal : Cert.SwigluBwdRefIdeal.Facts] [hPre_inb_finite : Cert.Pre_inb_finite.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_inb_finite m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3)
      ∧ r.2.mem ((c.tc : Thread Cert.SwigluBwdRefIdeal.nD Cert.SwigluBwdRefIdeal.τ).loc Cert.SwigluBwdRefIdeal.main_arg4) = m ((c.tc : Thread Cert.SwigluBwdRefIdeal.nD Cert.SwigluBwdRefIdeal.τ).loc Cert.SwigluBwdRefIdeal.main_arg4)
      ∧ r.2.mem ((c.tc : Thread Cert.SwigluBwdRefIdeal.nD Cert.SwigluBwdRefIdeal.τ).loc Cert.SwigluBwdRefIdeal.main_arg5) = m ((c.tc : Thread Cert.SwigluBwdRefIdeal.nD Cert.SwigluBwdRefIdeal.τ).loc Cert.SwigluBwdRefIdeal.main_arg5)
      ∧ r.2.mem ((c.tc : Thread Cert.SwigluBwdRefIdeal.nD Cert.SwigluBwdRefIdeal.τ).loc Cert.SwigluBwdRefIdeal.main_arg6) = m ((c.tc : Thread Cert.SwigluBwdRefIdeal.nD Cert.SwigluBwdRefIdeal.τ).loc Cert.SwigluBwdRefIdeal.main_arg6)
      ∧ r.2.mem ((c.tc : Thread Cert.SwigluBwdRefIdeal.nD Cert.SwigluBwdRefIdeal.τ).loc Cert.SwigluBwdRefIdeal.main_arg7) = m ((c.tc : Thread Cert.SwigluBwdRefIdeal.nD Cert.SwigluBwdRefIdeal.τ).loc Cert.SwigluBwdRefIdeal.main_arg7))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_fwd_finite [hAttnFwdIdeal : Cert.AttnFwdIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_fwd_finite [hAttnFwdRefIdeal : Cert.AttnFwdRefIdeal.Facts] [hPre_fwd_finite : Cert.Pre_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Kvq [hKvq : Cert.Kvq.Facts] : Prop :=
  ∀ (m : (ℓ : Loc Cert.Kvq.nD Cert.Kvq.τ Cert.Kvq.sig) → Buf (Elt Bits) ℓ) (g : Dev Cert.Kvq.nD → PrngReg), Pre_Kvq m →
    θ_run (Cert.Kvq.defs (F := Bits)) (onTc (τ := Cert.Kvq.τ) (Cert.Kvq.main (F := Bits))) ⟨m, fun _ => 0, g⟩ (fun r => (∀ c : Dev Cert.Kvq.nD,
      r.2.mem ((c.tc : Thread Cert.Kvq.nD Cert.Kvq.τ).loc Cert.Kvq.main_arg0) = m ((c.tc : Thread Cert.Kvq.nD Cert.Kvq.τ).loc Cert.Kvq.main_arg0)
      ∧ r.2.mem ((c.tc : Thread Cert.Kvq.nD Cert.Kvq.τ).loc Cert.Kvq.main_arg1) = m ((c.tc : Thread Cert.Kvq.nD Cert.Kvq.τ).loc Cert.Kvq.main_arg1)
      ∧ r.2.mem ((c.tc : Thread Cert.Kvq.nD Cert.Kvq.τ).loc Cert.Kvq.main_arg2) = m ((c.tc : Thread Cert.Kvq.nD Cert.Kvq.τ).loc Cert.Kvq.main_arg2)
      ∧ r.2.mem ((c.tc : Thread Cert.Kvq.nD Cert.Kvq.τ).loc Cert.Kvq.main_arg3) = m ((c.tc : Thread Cert.Kvq.nD Cert.Kvq.τ).loc Cert.Kvq.main_arg3)
      ∧ r.2.mem ((c.tc : Thread Cert.Kvq.nD Cert.Kvq.τ).loc Cert.Kvq.main_arg4) = m ((c.tc : Thread Cert.Kvq.nD Cert.Kvq.τ).loc Cert.Kvq.main_arg4))
      ∧ r.2.sem = fun _ => 0)

def quiescent_KvqIdeal [hKvqIdeal : Cert.KvqIdeal.Facts] : Prop :=
  ∀ (m : (ℓ : Loc Cert.KvqIdeal.nD Cert.KvqIdeal.τ Cert.KvqIdeal.sig) → Buf (Elt Ideal) ℓ) (g : Dev Cert.KvqIdeal.nD → PrngReg), Pre_KvqIdeal m →
    θ_run (Cert.KvqIdeal.defs (F := Ideal)) (onTc (τ := Cert.KvqIdeal.τ) (Cert.KvqIdeal.main (F := Ideal))) ⟨m, fun _ => 0, g⟩ (fun r => (∀ c : Dev Cert.KvqIdeal.nD,
      r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
      ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
      ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
      ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
      ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4))
      ∧ r.2.sem = fun _ => 0)

def quiescent_KvqRefIdeal [hKvqRefIdeal : Cert.KvqRefIdeal.Facts] : Prop :=
  ∀ (m : (ℓ : Loc Cert.KvqRefIdeal.nD Cert.KvqRefIdeal.τ Cert.KvqRefIdeal.sig) → Buf (Elt Ideal) ℓ) (g : Dev Cert.KvqRefIdeal.nD → PrngReg), Pre_KvqRefIdeal m →
    θ_run (Cert.KvqRefIdeal.defs (F := Ideal)) (onTc (τ := Cert.KvqRefIdeal.τ) (Cert.KvqRefIdeal.main (F := Ideal))) ⟨m, fun _ => 0, g⟩ (fun r => (∀ c : Dev Cert.KvqRefIdeal.nD,
      r.2.mem ((c.tc : Thread Cert.KvqRefIdeal.nD Cert.KvqRefIdeal.τ).loc Cert.KvqRefIdeal.main_arg0) = m ((c.tc : Thread Cert.KvqRefIdeal.nD Cert.KvqRefIdeal.τ).loc Cert.KvqRefIdeal.main_arg0)
      ∧ r.2.mem ((c.tc : Thread Cert.KvqRefIdeal.nD Cert.KvqRefIdeal.τ).loc Cert.KvqRefIdeal.main_arg1) = m ((c.tc : Thread Cert.KvqRefIdeal.nD Cert.KvqRefIdeal.τ).loc Cert.KvqRefIdeal.main_arg1)
      ∧ r.2.mem ((c.tc : Thread Cert.KvqRefIdeal.nD Cert.KvqRefIdeal.τ).loc Cert.KvqRefIdeal.main_arg2) = m ((c.tc : Thread Cert.KvqRefIdeal.nD Cert.KvqRefIdeal.τ).loc Cert.KvqRefIdeal.main_arg2)
      ∧ r.2.mem ((c.tc : Thread Cert.KvqRefIdeal.nD Cert.KvqRefIdeal.τ).loc Cert.KvqRefIdeal.main_arg3) = m ((c.tc : Thread Cert.KvqRefIdeal.nD Cert.KvqRefIdeal.τ).loc Cert.KvqRefIdeal.main_arg3)
      ∧ r.2.mem ((c.tc : Thread Cert.KvqRefIdeal.nD Cert.KvqRefIdeal.τ).loc Cert.KvqRefIdeal.main_arg4) = m ((c.tc : Thread Cert.KvqRefIdeal.nD Cert.KvqRefIdeal.τ).loc Cert.KvqRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2))
      ∧ r.2.sem = fun _ => 0)

def quiescent_ConvMix [hConvMix : Cert.ConvMix.Facts] : Prop :=
  ∀ (m : (ℓ : Loc Cert.ConvMix.nD Cert.ConvMix.τ Cert.ConvMix.sig) → Buf (Elt Bits) ℓ) (g : Dev Cert.ConvMix.nD → PrngReg), Pre_ConvMix m →
    θ_run (Cert.ConvMix.defs (F := Bits)) (onTc (τ := Cert.ConvMix.τ) (Cert.ConvMix.main (F := Bits))) ⟨m, fun _ => 0, g⟩ (fun r => (∀ c : Dev Cert.ConvMix.nD,
      r.2.mem ((c.tc : Thread Cert.ConvMix.nD Cert.ConvMix.τ).loc Cert.ConvMix.main_arg0) = m ((c.tc : Thread Cert.ConvMix.nD Cert.ConvMix.τ).loc Cert.ConvMix.main_arg0)
      ∧ r.2.mem ((c.tc : Thread Cert.ConvMix.nD Cert.ConvMix.τ).loc Cert.ConvMix.main_arg1) = m ((c.tc : Thread Cert.ConvMix.nD Cert.ConvMix.τ).loc Cert.ConvMix.main_arg1)
      ∧ r.2.mem ((c.tc : Thread Cert.ConvMix.nD Cert.ConvMix.τ).loc Cert.ConvMix.main_arg2) = m ((c.tc : Thread Cert.ConvMix.nD Cert.ConvMix.τ).loc Cert.ConvMix.main_arg2)
      ∧ r.2.mem ((c.tc : Thread Cert.ConvMix.nD Cert.ConvMix.τ).loc Cert.ConvMix.main_arg3) = m ((c.tc : Thread Cert.ConvMix.nD Cert.ConvMix.τ).loc Cert.ConvMix.main_arg3)
      ∧ r.2.mem ((c.tc : Thread Cert.ConvMix.nD Cert.ConvMix.τ).loc Cert.ConvMix.main_arg4) = m ((c.tc : Thread Cert.ConvMix.nD Cert.ConvMix.τ).loc Cert.ConvMix.main_arg4))
      ∧ r.2.sem = fun _ => 0)

def quiescent_ConvMixIdeal [hConvMixIdeal : Cert.ConvMixIdeal.Facts] : Prop :=
  ∀ (m : (ℓ : Loc Cert.ConvMixIdeal.nD Cert.ConvMixIdeal.τ Cert.ConvMixIdeal.sig) → Buf (Elt Ideal) ℓ) (g : Dev Cert.ConvMixIdeal.nD → PrngReg), Pre_ConvMixIdeal m →
    θ_run (Cert.ConvMixIdeal.defs (F := Ideal)) (onTc (τ := Cert.ConvMixIdeal.τ) (Cert.ConvMixIdeal.main (F := Ideal))) ⟨m, fun _ => 0, g⟩ (fun r => (∀ c : Dev Cert.ConvMixIdeal.nD,
      r.2.mem ((c.tc : Thread Cert.ConvMixIdeal.nD Cert.ConvMixIdeal.τ).loc Cert.ConvMixIdeal.main_arg0) = m ((c.tc : Thread Cert.ConvMixIdeal.nD Cert.ConvMixIdeal.τ).loc Cert.ConvMixIdeal.main_arg0)
      ∧ r.2.mem ((c.tc : Thread Cert.ConvMixIdeal.nD Cert.ConvMixIdeal.τ).loc Cert.ConvMixIdeal.main_arg1) = m ((c.tc : Thread Cert.ConvMixIdeal.nD Cert.ConvMixIdeal.τ).loc Cert.ConvMixIdeal.main_arg1)
      ∧ r.2.mem ((c.tc : Thread Cert.ConvMixIdeal.nD Cert.ConvMixIdeal.τ).loc Cert.ConvMixIdeal.main_arg2) = m ((c.tc : Thread Cert.ConvMixIdeal.nD Cert.ConvMixIdeal.τ).loc Cert.ConvMixIdeal.main_arg2)
      ∧ r.2.mem ((c.tc : Thread Cert.ConvMixIdeal.nD Cert.ConvMixIdeal.τ).loc Cert.ConvMixIdeal.main_arg3) = m ((c.tc : Thread Cert.ConvMixIdeal.nD Cert.ConvMixIdeal.τ).loc Cert.ConvMixIdeal.main_arg3)
      ∧ r.2.mem ((c.tc : Thread Cert.ConvMixIdeal.nD Cert.ConvMixIdeal.τ).loc Cert.ConvMixIdeal.main_arg4) = m ((c.tc : Thread Cert.ConvMixIdeal.nD Cert.ConvMixIdeal.τ).loc Cert.ConvMixIdeal.main_arg4))
      ∧ r.2.sem = fun _ => 0)

def quiescent_ConvMixRefIdeal [hConvMixRefIdeal : Cert.ConvMixRefIdeal.Facts] : Prop :=
  ∀ (m : (ℓ : Loc Cert.ConvMixRefIdeal.nD Cert.ConvMixRefIdeal.τ Cert.ConvMixRefIdeal.sig) → Buf (Elt Ideal) ℓ) (g : Dev Cert.ConvMixRefIdeal.nD → PrngReg), Pre_ConvMixRefIdeal m →
    θ_run (Cert.ConvMixRefIdeal.defs (F := Ideal)) (onTc (τ := Cert.ConvMixRefIdeal.τ) (Cert.ConvMixRefIdeal.main (F := Ideal))) ⟨m, fun _ => 0, g⟩ (fun r => (∀ c : Dev Cert.ConvMixRefIdeal.nD,
      r.2.mem ((c.tc : Thread Cert.ConvMixRefIdeal.nD Cert.ConvMixRefIdeal.τ).loc Cert.ConvMixRefIdeal.main_arg0) = m ((c.tc : Thread Cert.ConvMixRefIdeal.nD Cert.ConvMixRefIdeal.τ).loc Cert.ConvMixRefIdeal.main_arg0)
      ∧ r.2.mem ((c.tc : Thread Cert.ConvMixRefIdeal.nD Cert.ConvMixRefIdeal.τ).loc Cert.ConvMixRefIdeal.main_arg1) = m ((c.tc : Thread Cert.ConvMixRefIdeal.nD Cert.ConvMixRefIdeal.τ).loc Cert.ConvMixRefIdeal.main_arg1)
      ∧ r.2.mem ((c.tc : Thread Cert.ConvMixRefIdeal.nD Cert.ConvMixRefIdeal.τ).loc Cert.ConvMixRefIdeal.main_arg2) = m ((c.tc : Thread Cert.ConvMixRefIdeal.nD Cert.ConvMixRefIdeal.τ).loc Cert.ConvMixRefIdeal.main_arg2)
      ∧ r.2.mem ((c.tc : Thread Cert.ConvMixRefIdeal.nD Cert.ConvMixRefIdeal.τ).loc Cert.ConvMixRefIdeal.main_arg3) = m ((c.tc : Thread Cert.ConvMixRefIdeal.nD Cert.ConvMixRefIdeal.τ).loc Cert.ConvMixRefIdeal.main_arg3)
      ∧ r.2.mem ((c.tc : Thread Cert.ConvMixRefIdeal.nD Cert.ConvMixRefIdeal.τ).loc Cert.ConvMixRefIdeal.main_arg4) = m ((c.tc : Thread Cert.ConvMixRefIdeal.nD Cert.ConvMixRefIdeal.τ).loc Cert.ConvMixRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_SmallSum [hSmallSum : Cert.SmallSum.Facts] [hPre_small_place : Cert.Pre_small_place.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0)
      ∧ r.2.mem ((c.tc : Thread Cert.SmallSum.nD Cert.SmallSum.τ).loc Cert.SmallSum.main_arg1) = m ((c.tc : Thread Cert.SmallSum.nD Cert.SmallSum.τ).loc Cert.SmallSum.main_arg1))
      ∧ r.2.sem = fun _ => 0)

def quiescent_SmallSumIdeal [hSmallSumIdeal : Cert.SmallSumIdeal.Facts] [hPre_small_place : Cert.Pre_small_place.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
      ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0)
      ∧ r.2.mem ((c.tc : Thread Cert.SmallSumRefIdeal.nD Cert.SmallSumRefIdeal.τ).loc Cert.SmallSumRefIdeal.main_arg1) = m ((c.tc : Thread Cert.SmallSumRefIdeal.nD Cert.SmallSumRefIdeal.τ).loc Cert.SmallSumRefIdeal.main_arg1))
      ∧ r.2.sem = fun _ => 0)

def quiescent_SmallSumRefIdeal_pre_small_place [hSmallSumRefIdeal : Cert.SmallSumRefIdeal.Facts] [hPre_small_place : Cert.Pre_small_place.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal_small_place m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0)
      ∧ r.2.mem ((c.tc : Thread Cert.SmallSumRefIdeal.nD Cert.SmallSumRefIdeal.τ).loc Cert.SmallSumRefIdeal.main_arg1) = m ((c.tc : Thread Cert.SmallSumRefIdeal.nD Cert.SmallSumRefIdeal.τ).loc Cert.SmallSumRefIdeal.main_arg1))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v68) = v0 c
          ∧ r.2.mem ((c.tc : Thread Cert.ConvRefIdeal.nD Cert.ConvRefIdeal.τ).loc Cert.ConvRefIdeal.main_v69) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_DwGu_DwGuIdeal : Prop :=
  True

def algebraic_DwGuIdeal_DwGuRefIdeal_pre_dwgu_finite [hDwGuIdeal : Cert.DwGuIdeal.Facts] [hDwGuRefIdeal : Cert.DwGuRefIdeal.Facts] [hPre_dwgu_finite : Cert.Pre_dwgu_finite.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.DwGuRefIdeal.nD Cert.DwGuRefIdeal.τ Cert.DwGuRefIdeal.sig) → Buf (Elt Ideal) ℓ) (g' : Dev Cert.DwGuRefIdeal.nD → PrngReg), Pre_DwGuIdeal_dwgu_finite m →
    (∀ c : Dev Cert.DwGuIdeal.nD,
      m' ((c.tc : Thread Cert.DwGuRefIdeal.nD Cert.DwGuRefIdeal.τ).loc Cert.DwGuRefIdeal.main_arg0) = m ((c.tc : Thread Cert.DwGuIdeal.nD Cert.DwGuIdeal.τ).loc Cert.DwGuIdeal.main_arg0)
      ∧ m' ((c.tc : Thread Cert.DwGuRefIdeal.nD Cert.DwGuRefIdeal.τ).loc Cert.DwGuRefIdeal.main_arg1) = m ((c.tc : Thread Cert.DwGuIdeal.nD Cert.DwGuIdeal.τ).loc Cert.DwGuIdeal.main_arg1)
      ∧ m' ((c.tc : Thread Cert.DwGuRefIdeal.nD Cert.DwGuRefIdeal.τ).loc Cert.DwGuRefIdeal.main_arg2) = m ((c.tc : Thread Cert.DwGuIdeal.nD Cert.DwGuIdeal.τ).loc Cert.DwGuIdeal.main_arg2)
      ∧ m' ((c.tc : Thread Cert.DwGuRefIdeal.nD Cert.DwGuRefIdeal.τ).loc Cert.DwGuRefIdeal.main_arg3) = m ((c.tc : Thread Cert.DwGuIdeal.nD Cert.DwGuIdeal.τ).loc Cert.DwGuIdeal.main_arg3)) →
    ∃ (v0 : (c : Dev Cert.DwGuIdeal.nD) → Buf (Elt Ideal) ((c.tc : Thread Cert.DwGuIdeal.nD Cert.DwGuIdeal.τ).loc Cert.DwGuIdeal.main_v35)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v35) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1)
          ∧ r.2.mem ((c.tc : Thread Cert.DwGuIdeal.nD Cert.DwGuIdeal.τ).loc Cert.DwGuIdeal.main_arg2) = m ((c.tc : Thread Cert.DwGuIdeal.nD Cert.DwGuIdeal.τ).loc Cert.DwGuIdeal.main_arg2)
          ∧ r.2.mem ((c.tc : Thread Cert.DwGuIdeal.nD Cert.DwGuIdeal.τ).loc Cert.DwGuIdeal.main_arg3) = m ((c.tc : Thread Cert.DwGuIdeal.nD Cert.DwGuIdeal.τ).loc Cert.DwGuIdeal.main_arg3))
      ∧ θ_run (Cert.DwGuRefIdeal.defs (F := Ideal)) (onTc (τ := Cert.DwGuRefIdeal.τ) (Cert.DwGuRefIdeal.main (F := Ideal))) ⟨m', fun _ => 0, g'⟩ (fun r => ∀ c : Dev Cert.DwGuRefIdeal.nD,
          r.2.mem ((c.tc : Thread Cert.DwGuRefIdeal.nD Cert.DwGuRefIdeal.τ).loc Cert.DwGuRefIdeal.main_v31) = v0 c
          ∧ r.2.mem ((c.tc : Thread Cert.DwGuRefIdeal.nD Cert.DwGuRefIdeal.τ).loc Cert.DwGuRefIdeal.main_arg0) = m' ((c.tc : Thread Cert.DwGuRefIdeal.nD Cert.DwGuRefIdeal.τ).loc Cert.DwGuRefIdeal.main_arg0)
          ∧ r.2.mem ((c.tc : Thread Cert.DwGuRefIdeal.nD Cert.DwGuRefIdeal.τ).loc Cert.DwGuRefIdeal.main_arg1) = m' ((c.tc : Thread Cert.DwGuRefIdeal.nD Cert.DwGuRefIdeal.τ).loc Cert.DwGuRefIdeal.main_arg1)
          ∧ r.2.mem ((c.tc : Thread Cert.DwGuRefIdeal.nD Cert.DwGuRefIdeal.τ).loc Cert.DwGuRefIdeal.main_arg2) = m' ((c.tc : Thread Cert.DwGuRefIdeal.nD Cert.DwGuRefIdeal.τ).loc Cert.DwGuRefIdeal.main_arg2)
          ∧ r.2.mem ((c.tc : Thread Cert.DwGuRefIdeal.nD Cert.DwGuRefIdeal.τ).loc Cert.DwGuRefIdeal.main_arg3) = m' ((c.tc : Thread Cert.DwGuRefIdeal.nD Cert.DwGuRefIdeal.τ).loc Cert.DwGuRefIdeal.main_arg3))

def preserves_NormBwd_NormBwdIdeal : Prop :=
  True

def algebraic_NormBwdIdeal_NormBwdRefIdeal_pre_ain_finite [hNormBwdIdeal : Cert.NormBwdIdeal.Facts] [hNormBwdRefIdeal : Cert.NormBwdRefIdeal.Facts] [hPre_ain_finite : Cert.Pre_ain_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_ain_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v42) = v0 c
          ∧ r.2.mem ((c.tc : Thread Cert.NormBwdRefIdeal.nD Cert.NormBwdRefIdeal.τ).loc Cert.NormBwdRefIdeal.main_v43) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)) (v4 : (c : Dev Cert.LossIdeal.nD) → Buf (Elt Ideal) ((c.tc : Thread Cert.LossIdeal.nD Cert.LossIdeal.τ).loc Cert.LossIdeal.main_v0_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_v0_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v58) = v0 c
          ∧ r.2.mem ((c.tc : Thread Cert.LossRefIdeal.nD Cert.LossRefIdeal.τ).loc Cert.LossRefIdeal.main_v59) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v61) = v3 c
          ∧ r.2.mem ((c.tc : Thread Cert.LossRefIdeal.nD Cert.LossRefIdeal.τ).loc Cert.LossRefIdeal.main_v62) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Qkv_QkvIdeal : Prop :=
  True

def algebraic_QkvIdeal_QkvRefIdeal_pre_qkv_finite [hQkvIdeal : Cert.QkvIdeal.Facts] [hQkvRefIdeal : Cert.QkvRefIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_qkv_finite m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)) →
    ∃ (v0 : (c : Dev Cert.QkvIdeal.nD) → Buf (Elt Ideal) ((c.tc : Thread Cert.QkvIdeal.nD Cert.QkvIdeal.τ).loc Cert.QkvIdeal.main_v19_0)) (v1 : (c : Dev Cert.QkvIdeal.nD) → Buf (Elt Ideal) ((c.tc : Thread Cert.QkvIdeal.nD Cert.QkvIdeal.τ).loc Cert.QkvIdeal.main_v19_1)) (v2 : (c : Dev Cert.QkvIdeal.nD) → Buf (Elt Ideal) ((c.tc : Thread Cert.QkvIdeal.nD Cert.QkvIdeal.τ).loc Cert.QkvIdeal.main_v19_2)) (v3 : (c : Dev Cert.QkvIdeal.nD) → Buf (Elt Ideal) ((c.tc : Thread Cert.QkvIdeal.nD Cert.QkvIdeal.τ).loc Cert.QkvIdeal.main_v19_3)) (v4 : (c : Dev Cert.QkvIdeal.nD) → Buf (Elt Ideal) ((c.tc : Thread Cert.QkvIdeal.nD Cert.QkvIdeal.τ).loc Cert.QkvIdeal.main_v19_4)) (v5 : (c : Dev Cert.QkvIdeal.nD) → Buf (Elt Ideal) ((c.tc : Thread Cert.QkvIdeal.nD Cert.QkvIdeal.τ).loc Cert.QkvIdeal.main_v19_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v19_0) = v0 c
          ∧ r.2.mem ((c.tc : Thread Cert.QkvIdeal.nD Cert.QkvIdeal.τ).loc Cert.QkvIdeal.main_v19_1) = v1 c
          ∧ r.2.mem ((c.tc : Thread Cert.QkvIdeal.nD Cert.QkvIdeal.τ).loc Cert.QkvIdeal.main_v19_2) = v2 c
          ∧ r.2.mem ((c.tc : Thread Cert.QkvIdeal.nD Cert.QkvIdeal.τ).loc Cert.QkvIdeal.main_v19_3) = v3 c
          ∧ r.2.mem ((c.tc : Thread Cert.QkvIdeal.nD Cert.QkvIdeal.τ).loc Cert.QkvIdeal.main_v19_4) = v4 c
          ∧ r.2.mem ((c.tc : Thread Cert.QkvIdeal.nD Cert.QkvIdeal.τ).loc Cert.QkvIdeal.main_v19_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v128) = v0 c
          ∧ r.2.mem ((c.tc : Thread Cert.QkvRefIdeal.nD Cert.QkvRefIdeal.τ).loc Cert.QkvRefIdeal.main_v129) = v1 c
          ∧ r.2.mem ((c.tc : Thread Cert.QkvRefIdeal.nD Cert.QkvRefIdeal.τ).loc Cert.QkvRefIdeal.main_v130) = v2 c
          ∧ r.2.mem ((c.tc : Thread Cert.QkvRefIdeal.nD Cert.QkvRefIdeal.τ).loc Cert.QkvRefIdeal.main_v131) = v3 c
          ∧ r.2.mem ((c.tc : Thread Cert.QkvRefIdeal.nD Cert.QkvRefIdeal.τ).loc Cert.QkvRefIdeal.main_v132) = v4 c
          ∧ r.2.mem ((c.tc : Thread Cert.QkvRefIdeal.nD Cert.QkvRefIdeal.τ).loc Cert.QkvRefIdeal.main_v133) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10))

def preserves_SwigluBwd_SwigluBwdIdeal : Prop :=
  True

def algebraic_SwigluBwdIdeal_SwigluBwdRefIdeal_pre_inb_finite [hSwigluBwdIdeal : Cert.SwigluBwdIdeal.Facts] [hSwigluBwdRefIdeal : Cert.SwigluBwdRefIdeal.Facts] [hPre_inb_finite : Cert.Pre_inb_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_inb_finite m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)
      ∧ m' ((c.tc : Thread Cert.SwigluBwdRefIdeal.nD Cert.SwigluBwdRefIdeal.τ).loc Cert.SwigluBwdRefIdeal.main_arg3) = m ((c.tc : Thread Cert.SwigluBwdIdeal.nD Cert.SwigluBwdIdeal.τ).loc Cert.SwigluBwdIdeal.main_arg3)
      ∧ m' ((c.tc : Thread Cert.SwigluBwdRefIdeal.nD Cert.SwigluBwdRefIdeal.τ).loc Cert.SwigluBwdRefIdeal.main_arg4) = m ((c.tc : Thread Cert.SwigluBwdIdeal.nD Cert.SwigluBwdIdeal.τ).loc Cert.SwigluBwdIdeal.main_arg4)
      ∧ m' ((c.tc : Thread Cert.SwigluBwdRefIdeal.nD Cert.SwigluBwdRefIdeal.τ).loc Cert.SwigluBwdRefIdeal.main_arg5) = m ((c.tc : Thread Cert.SwigluBwdIdeal.nD Cert.SwigluBwdIdeal.τ).loc Cert.SwigluBwdIdeal.main_arg5)
      ∧ m' ((c.tc : Thread Cert.SwigluBwdRefIdeal.nD Cert.SwigluBwdRefIdeal.τ).loc Cert.SwigluBwdRefIdeal.main_arg6) = m ((c.tc : Thread Cert.SwigluBwdIdeal.nD Cert.SwigluBwdIdeal.τ).loc Cert.SwigluBwdIdeal.main_arg6)
      ∧ m' ((c.tc : Thread Cert.SwigluBwdRefIdeal.nD Cert.SwigluBwdRefIdeal.τ).loc Cert.SwigluBwdRefIdeal.main_arg7) = m ((c.tc : Thread Cert.SwigluBwdIdeal.nD Cert.SwigluBwdIdeal.τ).loc Cert.SwigluBwdIdeal.main_arg7)) →
    ∃ (v0 : (c : Dev Cert.SwigluBwdIdeal.nD) → Buf (Elt Ideal) ((c.tc : Thread Cert.SwigluBwdIdeal.nD Cert.SwigluBwdIdeal.τ).loc Cert.SwigluBwdIdeal.main_v39_0)) (v1 : (c : Dev Cert.SwigluBwdIdeal.nD) → Buf (Elt Ideal) ((c.tc : Thread Cert.SwigluBwdIdeal.nD Cert.SwigluBwdIdeal.τ).loc Cert.SwigluBwdIdeal.main_v39_1)) (v2 : (c : Dev Cert.SwigluBwdIdeal.nD) → Buf (Elt Ideal) ((c.tc : Thread Cert.SwigluBwdIdeal.nD Cert.SwigluBwdIdeal.τ).loc Cert.SwigluBwdIdeal.main_v39_2)) (v3 : (c : Dev Cert.SwigluBwdIdeal.nD) → Buf (Elt Ideal) ((c.tc : Thread Cert.SwigluBwdIdeal.nD Cert.SwigluBwdIdeal.τ).loc Cert.SwigluBwdIdeal.main_v39_3)) (v4 : (c : Dev Cert.SwigluBwdIdeal.nD) → Buf (Elt Ideal) ((c.tc : Thread Cert.SwigluBwdIdeal.nD Cert.SwigluBwdIdeal.τ).loc Cert.SwigluBwdIdeal.main_v39_4)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v39_0) = v0 c
          ∧ r.2.mem ((c.tc : Thread Cert.SwigluBwdIdeal.nD Cert.SwigluBwdIdeal.τ).loc Cert.SwigluBwdIdeal.main_v39_1) = v1 c
          ∧ r.2.mem ((c.tc : Thread Cert.SwigluBwdIdeal.nD Cert.SwigluBwdIdeal.τ).loc Cert.SwigluBwdIdeal.main_v39_2) = v2 c
          ∧ r.2.mem ((c.tc : Thread Cert.SwigluBwdIdeal.nD Cert.SwigluBwdIdeal.τ).loc Cert.SwigluBwdIdeal.main_v39_3) = v3 c
          ∧ r.2.mem ((c.tc : Thread Cert.SwigluBwdIdeal.nD Cert.SwigluBwdIdeal.τ).loc Cert.SwigluBwdIdeal.main_v39_4) = v4 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3)
          ∧ r.2.mem ((c.tc : Thread Cert.SwigluBwdIdeal.nD Cert.SwigluBwdIdeal.τ).loc Cert.SwigluBwdIdeal.main_arg4) = m ((c.tc : Thread Cert.SwigluBwdIdeal.nD Cert.SwigluBwdIdeal.τ).loc Cert.SwigluBwdIdeal.main_arg4)
          ∧ r.2.mem ((c.tc : Thread Cert.SwigluBwdIdeal.nD Cert.SwigluBwdIdeal.τ).loc Cert.SwigluBwdIdeal.main_arg5) = m ((c.tc : Thread Cert.SwigluBwdIdeal.nD Cert.SwigluBwdIdeal.τ).loc Cert.SwigluBwdIdeal.main_arg5)
          ∧ r.2.mem ((c.tc : Thread Cert.SwigluBwdIdeal.nD Cert.SwigluBwdIdeal.τ).loc Cert.SwigluBwdIdeal.main_arg6) = m ((c.tc : Thread Cert.SwigluBwdIdeal.nD Cert.SwigluBwdIdeal.τ).loc Cert.SwigluBwdIdeal.main_arg6)
          ∧ r.2.mem ((c.tc : Thread Cert.SwigluBwdIdeal.nD Cert.SwigluBwdIdeal.τ).loc Cert.SwigluBwdIdeal.main_arg7) = m ((c.tc : Thread Cert.SwigluBwdIdeal.nD Cert.SwigluBwdIdeal.τ).loc Cert.SwigluBwdIdeal.main_arg7))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v94) = v0 c
          ∧ r.2.mem ((c.tc : Thread Cert.SwigluBwdRefIdeal.nD Cert.SwigluBwdRefIdeal.τ).loc Cert.SwigluBwdRefIdeal.main_v95) = v1 c
          ∧ r.2.mem ((c.tc : Thread Cert.SwigluBwdRefIdeal.nD Cert.SwigluBwdRefIdeal.τ).loc Cert.SwigluBwdRefIdeal.main_v96) = v2 c
          ∧ r.2.mem ((c.tc : Thread Cert.SwigluBwdRefIdeal.nD Cert.SwigluBwdRefIdeal.τ).loc Cert.SwigluBwdRefIdeal.main_v97) = v3 c
          ∧ r.2.mem ((c.tc : Thread Cert.SwigluBwdRefIdeal.nD Cert.SwigluBwdRefIdeal.τ).loc Cert.SwigluBwdRefIdeal.main_v98) = v4 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2)
          ∧ r.2.mem ((c.tc : Thread Cert.SwigluBwdRefIdeal.nD Cert.SwigluBwdRefIdeal.τ).loc Cert.SwigluBwdRefIdeal.main_arg3) = m' ((c.tc : Thread Cert.SwigluBwdRefIdeal.nD Cert.SwigluBwdRefIdeal.τ).loc Cert.SwigluBwdRefIdeal.main_arg3)
          ∧ r.2.mem ((c.tc : Thread Cert.SwigluBwdRefIdeal.nD Cert.SwigluBwdRefIdeal.τ).loc Cert.SwigluBwdRefIdeal.main_arg4) = m' ((c.tc : Thread Cert.SwigluBwdRefIdeal.nD Cert.SwigluBwdRefIdeal.τ).loc Cert.SwigluBwdRefIdeal.main_arg4)
          ∧ r.2.mem ((c.tc : Thread Cert.SwigluBwdRefIdeal.nD Cert.SwigluBwdRefIdeal.τ).loc Cert.SwigluBwdRefIdeal.main_arg5) = m' ((c.tc : Thread Cert.SwigluBwdRefIdeal.nD Cert.SwigluBwdRefIdeal.τ).loc Cert.SwigluBwdRefIdeal.main_arg5)
          ∧ r.2.mem ((c.tc : Thread Cert.SwigluBwdRefIdeal.nD Cert.SwigluBwdRefIdeal.τ).loc Cert.SwigluBwdRefIdeal.main_arg6) = m' ((c.tc : Thread Cert.SwigluBwdRefIdeal.nD Cert.SwigluBwdRefIdeal.τ).loc Cert.SwigluBwdRefIdeal.main_arg6)
          ∧ r.2.mem ((c.tc : Thread Cert.SwigluBwdRefIdeal.nD Cert.SwigluBwdRefIdeal.τ).loc Cert.SwigluBwdRefIdeal.main_arg7) = m' ((c.tc : Thread Cert.SwigluBwdRefIdeal.nD Cert.SwigluBwdRefIdeal.τ).loc Cert.SwigluBwdRefIdeal.main_arg7))

def preserves_AttnFwd_AttnFwdIdeal : Prop :=
  IdealRules.named_const.Statement Cert.AttnFwdIdeal.κ "mask" .f32 0xF149F2CA#32 ⊥

def algebraic_AttnFwdIdeal_AttnFwdRefIdeal_pre_fwd_finite [hAttnFwdIdeal : Cert.AttnFwdIdeal.Facts] [hAttnFwdRefIdeal : Cert.AttnFwdRefIdeal.Facts] [hPre_fwd_finite : Cert.Pre_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v30_0)) (v1 : (c : Dev Cert.AttnFwdIdeal.nD) → Buf (Elt Ideal) ((c.tc : Thread Cert.AttnFwdIdeal.nD Cert.AttnFwdIdeal.τ).loc Cert.AttnFwdIdeal.main_v30_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v30_0) = v0 c
          ∧ r.2.mem ((c.tc : Thread Cert.AttnFwdIdeal.nD Cert.AttnFwdIdeal.τ).loc Cert.AttnFwdIdeal.main_v30_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v140) = v0 c
          ∧ r.2.mem ((c.tc : Thread Cert.AttnFwdRefIdeal.nD Cert.AttnFwdRefIdeal.τ).loc Cert.AttnFwdRefIdeal.main_v149) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Kvq_KvqIdeal : Prop :=
  True

def algebraic_KvqIdeal_KvqRefIdeal [hKvqIdeal : Cert.KvqIdeal.Facts] [hKvqRefIdeal : Cert.KvqRefIdeal.Facts] : Prop :=
  ∀ (m : (ℓ : Loc Cert.KvqIdeal.nD Cert.KvqIdeal.τ Cert.KvqIdeal.sig) → Buf (Elt Ideal) ℓ) (g : Dev Cert.KvqIdeal.nD → PrngReg)
    (m' : (ℓ : Loc Cert.KvqRefIdeal.nD Cert.KvqRefIdeal.τ Cert.KvqRefIdeal.sig) → Buf (Elt Ideal) ℓ) (g' : Dev Cert.KvqRefIdeal.nD → PrngReg), Pre_KvqIdeal m →
    (∀ c : Dev Cert.KvqIdeal.nD,
      m' ((c.tc : Thread Cert.KvqRefIdeal.nD Cert.KvqRefIdeal.τ).loc Cert.KvqRefIdeal.main_arg0) = m ((c.tc : Thread Cert.KvqIdeal.nD Cert.KvqIdeal.τ).loc Cert.KvqIdeal.main_arg0)
      ∧ m' ((c.tc : Thread Cert.KvqRefIdeal.nD Cert.KvqRefIdeal.τ).loc Cert.KvqRefIdeal.main_arg1) = m ((c.tc : Thread Cert.KvqIdeal.nD Cert.KvqIdeal.τ).loc Cert.KvqIdeal.main_arg1)
      ∧ m' ((c.tc : Thread Cert.KvqRefIdeal.nD Cert.KvqRefIdeal.τ).loc Cert.KvqRefIdeal.main_arg2) = m ((c.tc : Thread Cert.KvqIdeal.nD Cert.KvqIdeal.τ).loc Cert.KvqIdeal.main_arg2)
      ∧ m' ((c.tc : Thread Cert.KvqRefIdeal.nD Cert.KvqRefIdeal.τ).loc Cert.KvqRefIdeal.main_arg3) = m ((c.tc : Thread Cert.KvqIdeal.nD Cert.KvqIdeal.τ).loc Cert.KvqIdeal.main_arg3)
      ∧ m' ((c.tc : Thread Cert.KvqRefIdeal.nD Cert.KvqRefIdeal.τ).loc Cert.KvqRefIdeal.main_arg4) = m ((c.tc : Thread Cert.KvqIdeal.nD Cert.KvqIdeal.τ).loc Cert.KvqIdeal.main_arg4)) →
    ∃ (v0 : (c : Dev Cert.KvqIdeal.nD) → Buf (Elt Ideal) ((c.tc : Thread Cert.KvqIdeal.nD Cert.KvqIdeal.τ).loc Cert.KvqIdeal.main_v0_0)) (v1 : (c : Dev Cert.KvqIdeal.nD) → Buf (Elt Ideal) ((c.tc : Thread Cert.KvqIdeal.nD Cert.KvqIdeal.τ).loc Cert.KvqIdeal.main_v0_1)) (v2 : (c : Dev Cert.KvqIdeal.nD) → Buf (Elt Ideal) ((c.tc : Thread Cert.KvqIdeal.nD Cert.KvqIdeal.τ).loc Cert.KvqIdeal.main_v0_2)) (v3 : (c : Dev Cert.KvqIdeal.nD) → Buf (Elt Ideal) ((c.tc : Thread Cert.KvqIdeal.nD Cert.KvqIdeal.τ).loc Cert.KvqIdeal.main_v0_3)),
      θ_run (Cert.KvqIdeal.defs (F := Ideal)) (onTc (τ := Cert.KvqIdeal.τ) (Cert.KvqIdeal.main (F := Ideal))) ⟨m, fun _ => 0, g⟩ (fun r => ∀ c : Dev Cert.KvqIdeal.nD,
          r.2.mem ((c.tc : Thread Cert.KvqIdeal.nD Cert.KvqIdeal.τ).loc Cert.KvqIdeal.main_v0_0) = v0 c
          ∧ r.2.mem ((c.tc : Thread Cert.KvqIdeal.nD Cert.KvqIdeal.τ).loc Cert.KvqIdeal.main_v0_1) = v1 c
          ∧ r.2.mem ((c.tc : Thread Cert.KvqIdeal.nD Cert.KvqIdeal.τ).loc Cert.KvqIdeal.main_v0_2) = v2 c
          ∧ r.2.mem ((c.tc : Thread Cert.KvqIdeal.nD Cert.KvqIdeal.τ).loc Cert.KvqIdeal.main_v0_3) = v3 c
          ∧ r.2.mem ((c.tc : Thread Cert.KvqIdeal.nD Cert.KvqIdeal.τ).loc Cert.KvqIdeal.main_arg0) = m ((c.tc : Thread Cert.KvqIdeal.nD Cert.KvqIdeal.τ).loc Cert.KvqIdeal.main_arg0)
          ∧ r.2.mem ((c.tc : Thread Cert.KvqIdeal.nD Cert.KvqIdeal.τ).loc Cert.KvqIdeal.main_arg1) = m ((c.tc : Thread Cert.KvqIdeal.nD Cert.KvqIdeal.τ).loc Cert.KvqIdeal.main_arg1)
          ∧ r.2.mem ((c.tc : Thread Cert.KvqIdeal.nD Cert.KvqIdeal.τ).loc Cert.KvqIdeal.main_arg2) = m ((c.tc : Thread Cert.KvqIdeal.nD Cert.KvqIdeal.τ).loc Cert.KvqIdeal.main_arg2)
          ∧ r.2.mem ((c.tc : Thread Cert.KvqIdeal.nD Cert.KvqIdeal.τ).loc Cert.KvqIdeal.main_arg3) = m ((c.tc : Thread Cert.KvqIdeal.nD Cert.KvqIdeal.τ).loc Cert.KvqIdeal.main_arg3)
          ∧ r.2.mem ((c.tc : Thread Cert.KvqIdeal.nD Cert.KvqIdeal.τ).loc Cert.KvqIdeal.main_arg4) = m ((c.tc : Thread Cert.KvqIdeal.nD Cert.KvqIdeal.τ).loc Cert.KvqIdeal.main_arg4))
      ∧ θ_run (Cert.KvqRefIdeal.defs (F := Ideal)) (onTc (τ := Cert.KvqRefIdeal.τ) (Cert.KvqRefIdeal.main (F := Ideal))) ⟨m', fun _ => 0, g'⟩ (fun r => ∀ c : Dev Cert.KvqRefIdeal.nD,
          r.2.mem ((c.tc : Thread Cert.KvqRefIdeal.nD Cert.KvqRefIdeal.τ).loc Cert.KvqRefIdeal.main_v15) = v0 c
          ∧ r.2.mem ((c.tc : Thread Cert.KvqRefIdeal.nD Cert.KvqRefIdeal.τ).loc Cert.KvqRefIdeal.main_v16) = v1 c
          ∧ r.2.mem ((c.tc : Thread Cert.KvqRefIdeal.nD Cert.KvqRefIdeal.τ).loc Cert.KvqRefIdeal.main_v32) = v2 c
          ∧ r.2.mem ((c.tc : Thread Cert.KvqRefIdeal.nD Cert.KvqRefIdeal.τ).loc Cert.KvqRefIdeal.main_v33) = v3 c
          ∧ r.2.mem ((c.tc : Thread Cert.KvqRefIdeal.nD Cert.KvqRefIdeal.τ).loc Cert.KvqRefIdeal.main_arg0) = m' ((c.tc : Thread Cert.KvqRefIdeal.nD Cert.KvqRefIdeal.τ).loc Cert.KvqRefIdeal.main_arg0)
          ∧ r.2.mem ((c.tc : Thread Cert.KvqRefIdeal.nD Cert.KvqRefIdeal.τ).loc Cert.KvqRefIdeal.main_arg1) = m' ((c.tc : Thread Cert.KvqRefIdeal.nD Cert.KvqRefIdeal.τ).loc Cert.KvqRefIdeal.main_arg1)
          ∧ r.2.mem ((c.tc : Thread Cert.KvqRefIdeal.nD Cert.KvqRefIdeal.τ).loc Cert.KvqRefIdeal.main_arg2) = m' ((c.tc : Thread Cert.KvqRefIdeal.nD Cert.KvqRefIdeal.τ).loc Cert.KvqRefIdeal.main_arg2)
          ∧ r.2.mem ((c.tc : Thread Cert.KvqRefIdeal.nD Cert.KvqRefIdeal.τ).loc Cert.KvqRefIdeal.main_arg3) = m' ((c.tc : Thread Cert.KvqRefIdeal.nD Cert.KvqRefIdeal.τ).loc Cert.KvqRefIdeal.main_arg3)
          ∧ r.2.mem ((c.tc : Thread Cert.KvqRefIdeal.nD Cert.KvqRefIdeal.τ).loc Cert.KvqRefIdeal.main_arg4) = m' ((c.tc : Thread Cert.KvqRefIdeal.nD Cert.KvqRefIdeal.τ).loc Cert.KvqRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v17) = v0 c
          ∧ r.2.mem ((c.tc : Thread Cert.MixOutRefIdeal.nD Cert.MixOutRefIdeal.τ).loc Cert.MixOutRefIdeal.main_v18) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v20) = v0 c
          ∧ r.2.mem ((c.tc : Thread Cert.GateRefIdeal.nD Cert.GateRefIdeal.τ).loc Cert.GateRefIdeal.main_v23) = v1 c
          ∧ r.2.mem ((c.tc : Thread Cert.GateRefIdeal.nD Cert.GateRefIdeal.τ).loc Cert.GateRefIdeal.main_v37) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v16) = v0 c
          ∧ r.2.mem ((c.tc : Thread Cert.NormInRefIdeal.nD Cert.NormInRefIdeal.τ).loc Cert.NormInRefIdeal.main_v15) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2))

def preserves_ConvMix_ConvMixIdeal : Prop :=
  True

def algebraic_ConvMixIdeal_ConvMixRefIdeal [hConvMixIdeal : Cert.ConvMixIdeal.Facts] [hConvMixRefIdeal : Cert.ConvMixRefIdeal.Facts] : Prop :=
  ∀ (m : (ℓ : Loc Cert.ConvMixIdeal.nD Cert.ConvMixIdeal.τ Cert.ConvMixIdeal.sig) → Buf (Elt Ideal) ℓ) (g : Dev Cert.ConvMixIdeal.nD → PrngReg)
    (m' : (ℓ : Loc Cert.ConvMixRefIdeal.nD Cert.ConvMixRefIdeal.τ Cert.ConvMixRefIdeal.sig) → Buf (Elt Ideal) ℓ) (g' : Dev Cert.ConvMixRefIdeal.nD → PrngReg), Pre_ConvMixIdeal m →
    (∀ c : Dev Cert.ConvMixIdeal.nD,
      m' ((c.tc : Thread Cert.ConvMixRefIdeal.nD Cert.ConvMixRefIdeal.τ).loc Cert.ConvMixRefIdeal.main_arg0) = m ((c.tc : Thread Cert.ConvMixIdeal.nD Cert.ConvMixIdeal.τ).loc Cert.ConvMixIdeal.main_arg0)
      ∧ m' ((c.tc : Thread Cert.ConvMixRefIdeal.nD Cert.ConvMixRefIdeal.τ).loc Cert.ConvMixRefIdeal.main_arg1) = m ((c.tc : Thread Cert.ConvMixIdeal.nD Cert.ConvMixIdeal.τ).loc Cert.ConvMixIdeal.main_arg1)
      ∧ m' ((c.tc : Thread Cert.ConvMixRefIdeal.nD Cert.ConvMixRefIdeal.τ).loc Cert.ConvMixRefIdeal.main_arg2) = m ((c.tc : Thread Cert.ConvMixIdeal.nD Cert.ConvMixIdeal.τ).loc Cert.ConvMixIdeal.main_arg2)
      ∧ m' ((c.tc : Thread Cert.ConvMixRefIdeal.nD Cert.ConvMixRefIdeal.τ).loc Cert.ConvMixRefIdeal.main_arg3) = m ((c.tc : Thread Cert.ConvMixIdeal.nD Cert.ConvMixIdeal.τ).loc Cert.ConvMixIdeal.main_arg3)
      ∧ m' ((c.tc : Thread Cert.ConvMixRefIdeal.nD Cert.ConvMixRefIdeal.τ).loc Cert.ConvMixRefIdeal.main_arg4) = m ((c.tc : Thread Cert.ConvMixIdeal.nD Cert.ConvMixIdeal.τ).loc Cert.ConvMixIdeal.main_arg4)) →
    ∃ (v0 : (c : Dev Cert.ConvMixIdeal.nD) → Buf (Elt Ideal) ((c.tc : Thread Cert.ConvMixIdeal.nD Cert.ConvMixIdeal.τ).loc Cert.ConvMixIdeal.main_v0_0)) (v1 : (c : Dev Cert.ConvMixIdeal.nD) → Buf (Elt Ideal) ((c.tc : Thread Cert.ConvMixIdeal.nD Cert.ConvMixIdeal.τ).loc Cert.ConvMixIdeal.main_v0_1)) (v2 : (c : Dev Cert.ConvMixIdeal.nD) → Buf (Elt Ideal) ((c.tc : Thread Cert.ConvMixIdeal.nD Cert.ConvMixIdeal.τ).loc Cert.ConvMixIdeal.main_v0_2)),
      θ_run (Cert.ConvMixIdeal.defs (F := Ideal)) (onTc (τ := Cert.ConvMixIdeal.τ) (Cert.ConvMixIdeal.main (F := Ideal))) ⟨m, fun _ => 0, g⟩ (fun r => ∀ c : Dev Cert.ConvMixIdeal.nD,
          r.2.mem ((c.tc : Thread Cert.ConvMixIdeal.nD Cert.ConvMixIdeal.τ).loc Cert.ConvMixIdeal.main_v0_0) = v0 c
          ∧ r.2.mem ((c.tc : Thread Cert.ConvMixIdeal.nD Cert.ConvMixIdeal.τ).loc Cert.ConvMixIdeal.main_v0_1) = v1 c
          ∧ r.2.mem ((c.tc : Thread Cert.ConvMixIdeal.nD Cert.ConvMixIdeal.τ).loc Cert.ConvMixIdeal.main_v0_2) = v2 c
          ∧ r.2.mem ((c.tc : Thread Cert.ConvMixIdeal.nD Cert.ConvMixIdeal.τ).loc Cert.ConvMixIdeal.main_arg0) = m ((c.tc : Thread Cert.ConvMixIdeal.nD Cert.ConvMixIdeal.τ).loc Cert.ConvMixIdeal.main_arg0)
          ∧ r.2.mem ((c.tc : Thread Cert.ConvMixIdeal.nD Cert.ConvMixIdeal.τ).loc Cert.ConvMixIdeal.main_arg1) = m ((c.tc : Thread Cert.ConvMixIdeal.nD Cert.ConvMixIdeal.τ).loc Cert.ConvMixIdeal.main_arg1)
          ∧ r.2.mem ((c.tc : Thread Cert.ConvMixIdeal.nD Cert.ConvMixIdeal.τ).loc Cert.ConvMixIdeal.main_arg2) = m ((c.tc : Thread Cert.ConvMixIdeal.nD Cert.ConvMixIdeal.τ).loc Cert.ConvMixIdeal.main_arg2)
          ∧ r.2.mem ((c.tc : Thread Cert.ConvMixIdeal.nD Cert.ConvMixIdeal.τ).loc Cert.ConvMixIdeal.main_arg3) = m ((c.tc : Thread Cert.ConvMixIdeal.nD Cert.ConvMixIdeal.τ).loc Cert.ConvMixIdeal.main_arg3)
          ∧ r.2.mem ((c.tc : Thread Cert.ConvMixIdeal.nD Cert.ConvMixIdeal.τ).loc Cert.ConvMixIdeal.main_arg4) = m ((c.tc : Thread Cert.ConvMixIdeal.nD Cert.ConvMixIdeal.τ).loc Cert.ConvMixIdeal.main_arg4))
      ∧ θ_run (Cert.ConvMixRefIdeal.defs (F := Ideal)) (onTc (τ := Cert.ConvMixRefIdeal.τ) (Cert.ConvMixRefIdeal.main (F := Ideal))) ⟨m', fun _ => 0, g'⟩ (fun r => ∀ c : Dev Cert.ConvMixRefIdeal.nD,
          r.2.mem ((c.tc : Thread Cert.ConvMixRefIdeal.nD Cert.ConvMixRefIdeal.τ).loc Cert.ConvMixRefIdeal.main_v43) = v0 c
          ∧ r.2.mem ((c.tc : Thread Cert.ConvMixRefIdeal.nD Cert.ConvMixRefIdeal.τ).loc Cert.ConvMixRefIdeal.main_v44) = v1 c
          ∧ r.2.mem ((c.tc : Thread Cert.ConvMixRefIdeal.nD Cert.ConvMixRefIdeal.τ).loc Cert.ConvMixRefIdeal.main_v45) = v2 c
          ∧ r.2.mem ((c.tc : Thread Cert.ConvMixRefIdeal.nD Cert.ConvMixRefIdeal.τ).loc Cert.ConvMixRefIdeal.main_arg0) = m' ((c.tc : Thread Cert.ConvMixRefIdeal.nD Cert.ConvMixRefIdeal.τ).loc Cert.ConvMixRefIdeal.main_arg0)
          ∧ r.2.mem ((c.tc : Thread Cert.ConvMixRefIdeal.nD Cert.ConvMixRefIdeal.τ).loc Cert.ConvMixRefIdeal.main_arg1) = m' ((c.tc : Thread Cert.ConvMixRefIdeal.nD Cert.ConvMixRefIdeal.τ).loc Cert.ConvMixRefIdeal.main_arg1)
          ∧ r.2.mem ((c.tc : Thread Cert.ConvMixRefIdeal.nD Cert.ConvMixRefIdeal.τ).loc Cert.ConvMixRefIdeal.main_arg2) = m' ((c.tc : Thread Cert.ConvMixRefIdeal.nD Cert.ConvMixRefIdeal.τ).loc Cert.ConvMixRefIdeal.main_arg2)
          ∧ r.2.mem ((c.tc : Thread Cert.ConvMixRefIdeal.nD Cert.ConvMixRefIdeal.τ).loc Cert.ConvMixRefIdeal.main_arg3) = m' ((c.tc : Thread Cert.ConvMixRefIdeal.nD Cert.ConvMixRefIdeal.τ).loc Cert.ConvMixRefIdeal.main_arg3)
          ∧ r.2.mem ((c.tc : Thread Cert.ConvMixRefIdeal.nD Cert.ConvMixRefIdeal.τ).loc Cert.ConvMixRefIdeal.main_arg4) = m' ((c.tc : Thread Cert.ConvMixRefIdeal.nD Cert.ConvMixRefIdeal.τ).loc Cert.ConvMixRefIdeal.main_arg4))

def preserves_Attn_AttnIdeal : Prop :=
  IdealRules.named_const.Statement Cert.AttnIdeal.κ "mask" .f32 0xF149F2CA#32 ⊥

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v26) = v1 c
          ∧ r.2.mem ((c.tc : Thread Cert.AdamRefIdeal.nD Cert.AdamRefIdeal.τ).loc Cert.AdamRefIdeal.main_v7) = v2 c
          ∧ r.2.mem ((c.tc : Thread Cert.AdamRefIdeal.nD Cert.AdamRefIdeal.τ).loc Cert.AdamRefIdeal.main_v13) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v1)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v1) = v0 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v6) = v0 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_SmallSum_SmallSumIdeal : Prop :=
  True

def algebraic_SmallSumIdeal_SmallSumRefIdeal [hSmallSumIdeal : Cert.SmallSumIdeal.Facts] [hSmallSumRefIdeal : Cert.SmallSumRefIdeal.Facts] [hPre_small_place : Cert.Pre_small_place.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)
      ∧ m' ((c.tc : Thread Cert.SmallSumRefIdeal.nD Cert.SmallSumRefIdeal.τ).loc Cert.SmallSumRefIdeal.main_arg1) = m ((c.tc : Thread Cert.SmallSumIdeal.nD Cert.SmallSumIdeal.τ).loc Cert.SmallSumIdeal.main_arg1)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0)
          ∧ r.2.mem ((c.tc : Thread Cert.SmallSumIdeal.nD Cert.SmallSumIdeal.τ).loc Cert.SmallSumIdeal.main_arg1) = m ((c.tc : Thread Cert.SmallSumIdeal.nD Cert.SmallSumIdeal.τ).loc Cert.SmallSumIdeal.main_arg1))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0)
          ∧ r.2.mem ((c.tc : Thread Cert.SmallSumRefIdeal.nD Cert.SmallSumRefIdeal.τ).loc Cert.SmallSumRefIdeal.main_arg1) = m' ((c.tc : Thread Cert.SmallSumRefIdeal.nD Cert.SmallSumRefIdeal.τ).loc Cert.SmallSumRefIdeal.main_arg1))

def Claim : Prop :=
  ∃ (hConv : Cert.Conv.Facts) (hConvIdeal : Cert.ConvIdeal.Facts) (hConvRefIdeal : Cert.ConvRefIdeal.Facts) (hDwGu : Cert.DwGu.Facts) (hDwGuIdeal : Cert.DwGuIdeal.Facts) (hDwGuRefIdeal : Cert.DwGuRefIdeal.Facts) (hNormBwd : Cert.NormBwd.Facts) (hNormBwdIdeal : Cert.NormBwdIdeal.Facts) (hNormBwdRefIdeal : Cert.NormBwdRefIdeal.Facts) (hLoss : Cert.Loss.Facts) (hLossIdeal : Cert.LossIdeal.Facts) (hLossRefIdeal : Cert.LossRefIdeal.Facts) (hQkv : Cert.Qkv.Facts) (hQkvIdeal : Cert.QkvIdeal.Facts) (hQkvRefIdeal : Cert.QkvRefIdeal.Facts) (hSwigluBwd : Cert.SwigluBwd.Facts) (hSwigluBwdIdeal : Cert.SwigluBwdIdeal.Facts) (hSwigluBwdRefIdeal : Cert.SwigluBwdRefIdeal.Facts) (hAttnFwd : Cert.AttnFwd.Facts) (hAttnFwdIdeal : Cert.AttnFwdIdeal.Facts) (hAttnFwdRefIdeal : Cert.AttnFwdRefIdeal.Facts) (hKvq : Cert.Kvq.Facts) (hKvqIdeal : Cert.KvqIdeal.Facts) (hKvqRefIdeal : Cert.KvqRefIdeal.Facts) (hMixOut : Cert.MixOut.Facts) (hMixOutIdeal : Cert.MixOutIdeal.Facts) (hMixOutRefIdeal : Cert.MixOutRefIdeal.Facts) (hGate : Cert.Gate.Facts) (hGateIdeal : Cert.GateIdeal.Facts) (hGateRefIdeal : Cert.GateRefIdeal.Facts) (hNormIn : Cert.NormIn.Facts) (hNormInIdeal : Cert.NormInIdeal.Facts) (hNormInRefIdeal : Cert.NormInRefIdeal.Facts) (hConvMix : Cert.ConvMix.Facts) (hConvMixIdeal : Cert.ConvMixIdeal.Facts) (hConvMixRefIdeal : Cert.ConvMixRefIdeal.Facts) (hAttn : Cert.Attn.Facts) (hAttnIdeal : Cert.AttnIdeal.Facts) (hAttnRefIdeal : Cert.AttnRefIdeal.Facts) (hAdam : Cert.Adam.Facts) (hAdamIdeal : Cert.AdamIdeal.Facts) (hAdamRefIdeal : Cert.AdamRefIdeal.Facts) (hWGrad : Cert.WGrad.Facts) (hWGradIdeal : Cert.WGradIdeal.Facts) (hWGradRefIdeal : Cert.WGradRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hSmallSum : Cert.SmallSum.Facts) (hSmallSumIdeal : Cert.SmallSumIdeal.Facts) (hSmallSumRefIdeal : Cert.SmallSumRefIdeal.Facts) (hPre_dwgu_finite : Cert.Pre_dwgu_finite.Facts) (hPre_ain_finite : Cert.Pre_ain_finite.Facts) (hPre_loss_finite : Cert.Pre_loss_finite.Facts) (hPre_qkv_finite : Cert.Pre_qkv_finite.Facts) (hPre_inb_finite : Cert.Pre_inb_finite.Facts) (hPre_fwd_finite : Cert.Pre_fwd_finite.Facts) (hPre_small_place : Cert.Pre_small_place.Facts),
    quiescent_Conv (hConv := hConv)
    ∧ quiescent_ConvIdeal (hConvIdeal := hConvIdeal)
    ∧ quiescent_ConvRefIdeal (hConvRefIdeal := hConvRefIdeal)
    ∧ quiescent_DwGu (hDwGu := hDwGu)
    ∧ quiescent_DwGuIdeal (hDwGuIdeal := hDwGuIdeal)
    ∧ quiescent_DwGuIdeal_pre_dwgu_finite (hDwGuIdeal := hDwGuIdeal) (hPre_dwgu_finite := hPre_dwgu_finite)
    ∧ quiescent_DwGuRefIdeal (hDwGuRefIdeal := hDwGuRefIdeal)
    ∧ quiescent_DwGuRefIdeal_pre_dwgu_finite (hDwGuRefIdeal := hDwGuRefIdeal) (hPre_dwgu_finite := hPre_dwgu_finite)
    ∧ quiescent_NormBwd (hNormBwd := hNormBwd)
    ∧ quiescent_NormBwdIdeal (hNormBwdIdeal := hNormBwdIdeal)
    ∧ quiescent_NormBwdIdeal_pre_ain_finite (hNormBwdIdeal := hNormBwdIdeal) (hPre_ain_finite := hPre_ain_finite)
    ∧ quiescent_NormBwdRefIdeal (hNormBwdRefIdeal := hNormBwdRefIdeal)
    ∧ quiescent_NormBwdRefIdeal_pre_ain_finite (hNormBwdRefIdeal := hNormBwdRefIdeal) (hPre_ain_finite := hPre_ain_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Qkv (hQkv := hQkv)
    ∧ quiescent_QkvIdeal (hQkvIdeal := hQkvIdeal)
    ∧ quiescent_QkvIdeal_pre_qkv_finite (hQkvIdeal := hQkvIdeal) (hPre_qkv_finite := hPre_qkv_finite)
    ∧ quiescent_QkvRefIdeal (hQkvRefIdeal := hQkvRefIdeal)
    ∧ quiescent_QkvRefIdeal_pre_qkv_finite (hQkvRefIdeal := hQkvRefIdeal) (hPre_qkv_finite := hPre_qkv_finite)
    ∧ quiescent_SwigluBwd (hSwigluBwd := hSwigluBwd)
    ∧ quiescent_SwigluBwdIdeal (hSwigluBwdIdeal := hSwigluBwdIdeal)
    ∧ quiescent_SwigluBwdIdeal_pre_inb_finite (hSwigluBwdIdeal := hSwigluBwdIdeal) (hPre_inb_finite := hPre_inb_finite)
    ∧ quiescent_SwigluBwdRefIdeal (hSwigluBwdRefIdeal := hSwigluBwdRefIdeal)
    ∧ quiescent_SwigluBwdRefIdeal_pre_inb_finite (hSwigluBwdRefIdeal := hSwigluBwdRefIdeal) (hPre_inb_finite := hPre_inb_finite)
    ∧ quiescent_AttnFwd (hAttnFwd := hAttnFwd)
    ∧ quiescent_AttnFwdIdeal (hAttnFwdIdeal := hAttnFwdIdeal)
    ∧ quiescent_AttnFwdIdeal_pre_fwd_finite (hAttnFwdIdeal := hAttnFwdIdeal) (hPre_fwd_finite := hPre_fwd_finite)
    ∧ quiescent_AttnFwdRefIdeal (hAttnFwdRefIdeal := hAttnFwdRefIdeal)
    ∧ quiescent_AttnFwdRefIdeal_pre_fwd_finite (hAttnFwdRefIdeal := hAttnFwdRefIdeal) (hPre_fwd_finite := hPre_fwd_finite)
    ∧ quiescent_Kvq (hKvq := hKvq)
    ∧ quiescent_KvqIdeal (hKvqIdeal := hKvqIdeal)
    ∧ quiescent_KvqRefIdeal (hKvqRefIdeal := hKvqRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Gate (hGate := hGate)
    ∧ quiescent_GateIdeal (hGateIdeal := hGateIdeal)
    ∧ quiescent_GateRefIdeal (hGateRefIdeal := hGateRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_ConvMix (hConvMix := hConvMix)
    ∧ quiescent_ConvMixIdeal (hConvMixIdeal := hConvMixIdeal)
    ∧ quiescent_ConvMixRefIdeal (hConvMixRefIdeal := hConvMixRefIdeal)
    ∧ quiescent_Attn (hAttn := hAttn)
    ∧ quiescent_AttnIdeal (hAttnIdeal := hAttnIdeal)
    ∧ quiescent_AttnRefIdeal (hAttnRefIdeal := hAttnRefIdeal)
    ∧ quiescent_Adam (hAdam := hAdam)
    ∧ quiescent_AdamIdeal (hAdamIdeal := hAdamIdeal)
    ∧ quiescent_AdamRefIdeal (hAdamRefIdeal := hAdamRefIdeal)
    ∧ quiescent_WGrad (hWGrad := hWGrad)
    ∧ quiescent_WGradIdeal (hWGradIdeal := hWGradIdeal)
    ∧ quiescent_WGradRefIdeal (hWGradRefIdeal := hWGradRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_SmallSum (hSmallSum := hSmallSum) (hPre_small_place := hPre_small_place)
    ∧ quiescent_SmallSumIdeal (hSmallSumIdeal := hSmallSumIdeal) (hPre_small_place := hPre_small_place)
    ∧ quiescent_SmallSumRefIdeal (hSmallSumRefIdeal := hSmallSumRefIdeal)
    ∧ quiescent_SmallSumRefIdeal_pre_small_place (hSmallSumRefIdeal := hSmallSumRefIdeal) (hPre_small_place := hPre_small_place)
    ∧ preserves_Conv_ConvIdeal
    ∧ algebraic_ConvIdeal_ConvRefIdeal (hConvIdeal := hConvIdeal) (hConvRefIdeal := hConvRefIdeal)
    ∧ preserves_DwGu_DwGuIdeal
    ∧ algebraic_DwGuIdeal_DwGuRefIdeal_pre_dwgu_finite (hDwGuIdeal := hDwGuIdeal) (hDwGuRefIdeal := hDwGuRefIdeal) (hPre_dwgu_finite := hPre_dwgu_finite)
    ∧ preserves_NormBwd_NormBwdIdeal
    ∧ algebraic_NormBwdIdeal_NormBwdRefIdeal_pre_ain_finite (hNormBwdIdeal := hNormBwdIdeal) (hNormBwdRefIdeal := hNormBwdRefIdeal) (hPre_ain_finite := hPre_ain_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Qkv_QkvIdeal
    ∧ algebraic_QkvIdeal_QkvRefIdeal_pre_qkv_finite (hQkvIdeal := hQkvIdeal) (hQkvRefIdeal := hQkvRefIdeal) (hPre_qkv_finite := hPre_qkv_finite)
    ∧ preserves_SwigluBwd_SwigluBwdIdeal
    ∧ algebraic_SwigluBwdIdeal_SwigluBwdRefIdeal_pre_inb_finite (hSwigluBwdIdeal := hSwigluBwdIdeal) (hSwigluBwdRefIdeal := hSwigluBwdRefIdeal) (hPre_inb_finite := hPre_inb_finite)
    ∧ preserves_AttnFwd_AttnFwdIdeal
    ∧ algebraic_AttnFwdIdeal_AttnFwdRefIdeal_pre_fwd_finite (hAttnFwdIdeal := hAttnFwdIdeal) (hAttnFwdRefIdeal := hAttnFwdRefIdeal) (hPre_fwd_finite := hPre_fwd_finite)
    ∧ preserves_Kvq_KvqIdeal
    ∧ algebraic_KvqIdeal_KvqRefIdeal (hKvqIdeal := hKvqIdeal) (hKvqRefIdeal := hKvqRefIdeal)
    ∧ preserves_MixOut_MixOutIdeal
    ∧ algebraic_MixOutIdeal_MixOutRefIdeal (hMixOutIdeal := hMixOutIdeal) (hMixOutRefIdeal := hMixOutRefIdeal)
    ∧ preserves_Gate_GateIdeal
    ∧ algebraic_GateIdeal_GateRefIdeal (hGateIdeal := hGateIdeal) (hGateRefIdeal := hGateRefIdeal)
    ∧ preserves_NormIn_NormInIdeal
    ∧ algebraic_NormInIdeal_NormInRefIdeal (hNormInIdeal := hNormInIdeal) (hNormInRefIdeal := hNormInRefIdeal)
    ∧ preserves_ConvMix_ConvMixIdeal
    ∧ algebraic_ConvMixIdeal_ConvMixRefIdeal (hConvMixIdeal := hConvMixIdeal) (hConvMixRefIdeal := hConvMixRefIdeal)
    ∧ preserves_Attn_AttnIdeal
    ∧ preserves_Adam_AdamIdeal
    ∧ algebraic_AdamIdeal_AdamRefIdeal (hAdamIdeal := hAdamIdeal) (hAdamRefIdeal := hAdamRefIdeal)
    ∧ preserves_WGrad_WGradIdeal
    ∧ algebraic_WGradIdeal_WGradRefIdeal (hWGradIdeal := hWGradIdeal) (hWGradRefIdeal := hWGradRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_SmallSum_SmallSumIdeal
    ∧ algebraic_SmallSumIdeal_SmallSumRefIdeal (hSmallSumIdeal := hSmallSumIdeal) (hSmallSumRefIdeal := hSmallSumRefIdeal) (hPre_small_place := hPre_small_place)
-- ==== Pre_ain_finite.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x3072 .bf16) (main_arg1 : FVec F S1024x3072 .bf16) (main_arg2 : FVec F S4096x1024 .f32) (main_arg3 : FVec F S1x1024 .f32) (main_arg4 : FVec F S4096x1024 .bf16) : IVec S_ 1 :=
  let main_v0 : FVec F S4096x3072 .bf16 := Host.absf main_arg0
  let main_cst : FVec F S_ .bf16 := constant S_ .bf16 0x7F80#16
  let main_v1 : FVec F S4096x3072 .bf16 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S1024x3072 .bf16 := Host.absf main_arg1
  let main_cst_0 : FVec F S_ .bf16 := constant S_ .bf16 0x7F80#16
  let main_v5 : FVec F S1024x3072 .bf16 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_v3 main_v7 main_v11 main_v15
-- ==== Pre_dwgu_finite.lean ====
abbrev S4096x2816 : Shape := ⟨2, ![4096, 2816]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x2816 .bf16) (main_arg1 : FVec F S4096x1024 .bf16) (main_arg2 : FVec F S1x1024 .f32) (main_arg3 : FVec F S1024x5632 .bf16) : IVec S_ 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x1024 .bf16 := Host.absf main_arg1
  let main_cst_0 : FVec F S_ .bf16 := constant S_ .bf16 0x7F80#16
  let main_v5 : FVec F S4096x1024 .bf16 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x5632 .bf16 := Host.absf main_arg3
  let main_cst_4 : FVec F S_ .bf16 := constant S_ .bf16 0x7F80#16
  let main_v13 : FVec F S1024x5632 .bf16 := broadcastInDim S1024x5632 ![] bcast_S_S1024x5632 main_cst_4
  let main_v14 : IVec S1024x5632 1 := cmpf .olt main_v12 main_v13
  let main_c_5 : IVec S_ 1 := constantI S_ 1 1#1
  let main_v15 : IVec S_ 1 := (fun x v => Host.reduce IntOp.andi x v reducesTo_S1024x5632_S_d0_1 h_S_) main_v14 main_c_5
  fn_part1 (F := F) main_v3 main_v7 main_v11 main_v15
-- ==== Pre_fwd_finite.lean ====
abbrev S4096x1024 : Shape := ⟨2, ![4096, 1024]⟩
abbrev S4096x512 : Shape := ⟨2, ![4096, 512]⟩
abbrev S1x16 : Shape := ⟨2, ![1, 16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4096x1024 .bf16) (main_arg1 : FVec F S4096x512 .bf16) (main_arg2 : FVec F S1x16 .f32) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S1x16 .f32 := Host.absf main_arg2
  let main_cst_2 : FVec F S_ .f32 := constant S_ .f32 0x7F800000#32
  let main_v9 : FVec F S1x16 .f32 := broadcastInDim S1x16 ![] bcast_S_S1x16 main_cst_2
  let main_v10 : IVec S1x16 1 := cmpf .olt main_v8 main_v9
  let main_c_3 : IVec S_ 1 := constantI S_ 1 1#1
  let main_v11 : IVec S_ 1 := (fun x v => Host.reduce IntOp.andi x v reducesTo_S1x16_S_d0_1 h_S_) main_v10 main_c_3
  let main_v12 : IVec S_ 1 := andi main_v3 main_v7
  let main_v13 : IVec S_ 1 := andi main_v12 main_v11
  main_v13
-- ==== Pre_inb_finite.lean ====
abbrev S4096x2816 : Shape := ⟨2, ![4096, 2816]⟩
abbrev S1024x5632 : Shape := ⟨2, ![1024, 5632]⟩
abbrev S1x1024 : Shape := ⟨2, ![1, 1024]⟩
abbrev S4096x1024 : Shape := ⟨2, ![4096, 1024]⟩
abbrev S1024x1024 : Shape := ⟨2, ![1024, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S1x1024 : S_.BroadcastsInDim S1x1024 (![] : Fin 0 → Fin S1x1024.rank)
  reducesTo_S1x1024_S_d0_1 : S1x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S4096x1024 .bf16) (main_arg5 : FVec F S1024x1024 .bf16) (main_arg6 : FVec F S4096x1024 .bf16) (main_arg7 : FVec F S1x1024 .f32) (main_v3 : IVec S_ 1) (main_v7 : IVec S_ 1) (main_v11 : IVec S_ 1) (main_v15 : IVec S_ 1) : IVec S_ 1 :=
  let main_v16 : FVec F S4096x1024 .bf16 := Host.absf main_arg4
  let main_cst_6 : FVec F S_ .bf16 := constant S_ .bf16 0x7F80#16
  let main_v17 : FVec F S4096x1024 .bf16 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S1024x1024 .bf16 := Host.absf main_arg5
  let main_cst_8 : FVec F S_ .bf16 := constant S_ .bf16 0x7F80#16
  let main_v21 : FVec F S1024x1024 .bf16 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : FVec F S4096x1024 .bf16 := Host.absf main_arg6
  let main_cst_10 : FVec F S_ .bf16 := constant S_ .bf16 0x7F80#16
  let main_v25 : FVec F S4096x1024 .bf16 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_v3 main_v7 main_v11 main_v15 main_v19 main_v23 main_v27 main_v31

def fn {F : FTy → Type} [FloatOps F] (main_arg0 : FVec F S4096x2816 .bf16) (main_arg1 : FVec F S1024x5632 .bf16) (main_arg2 : FVec F S1x1024 .f32) (main_arg3 : FVec F S4096x1024 .bf16) (main_arg4 : FVec F S4096x1024 .bf16) (main_arg5 : FVec F S1024x1024 .bf16) (main_arg6 : FVec F S4096x1024 .bf16) (main_arg7 : FVec F S1x1024 .f32) : IVec S_ 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S1024x5632 .bf16 := Host.absf main_arg1
  let main_cst_0 : FVec F S_ .bf16 := constant S_ .bf16 0x7F80#16
  let main_v5 : FVec F S1024x5632 .bf16 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S4096x1024 .bf16 := Host.absf main_arg3
  let main_cst_4 : FVec F S_ .bf16 := constant S_ .bf16 0x7F80#16
  let main_v13 : FVec F S4096x1024 .bf16 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_arg7 main_v3 main_v7 main_v11 main_v15
-- ==== Pre_loss_finite.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x2816 .bf16) (main_arg1 : FVec F S2816x1024 .bf16) (main_arg2 : FVec F S1x1024 .f32) (main_arg3 : FVec F S4096x1024 .bf16) (main_arg4 : FVec F S4096x1024 .f32) : IVec S_ 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S4096x1024 .bf16 := Host.absf main_arg3
  let main_cst_4 : FVec F S_ .bf16 := constant S_ .bf16 0x7F80#16
  let main_v13 : FVec F S4096x1024 .bf16 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_v3 main_v7 main_v11 main_v15
-- ==== Pre_qkv_finite.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S1x1024 : Shape := ⟨2, ![1, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1x1024 : S_.BroadcastsInDim S1x1024 (![] : Fin 0 → Fin S1x1024.rank)
  reducesTo_S1x1024_S_d0_1 : S1x1024.ReducesTo [0, 1] S_
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S2816x1024 .bf16) (main_arg9 : FVec F S4096x1024 .bf16) (main_arg10 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2816x1024 .bf16 := Host.absf main_arg8
  let main_cst_14 : FVec F S_ .bf16 := constant S_ .bf16 0x7F80#16
  let main_v33 : FVec F S2816x1024 .bf16 := broadcastInDim S2816x1024 ![] bcast_S_S2816x1024 main_cst_14
  let main_v34 : IVec S2816x1024 1 := cmpf .olt main_v32 main_v33
  let main_c_15 : IVec S_ 1 := constantI S_ 1 1#1
  let main_v35 : IVec S_ 1 := (fun x v => Host.reduce IntOp.andi x v reducesTo_S2816x1024_S_d0_1 h_S_) main_v34 main_c_15
  let main_v36 : FVec F S4096x1024 .bf16 := Host.absf main_arg9
  let main_cst_16 : FVec F S_ .bf16 := constant S_ .bf16 0x7F80#16
  let main_v37 : FVec F S4096x1024 .bf16 := broadcastInDim S4096x1024 ![] bcast_S_S4096x1024 main_cst_16
  let main_v38 : IVec S4096x1024 1 := cmpf .olt main_v36 main_v37
  let main_c_17 : IVec S_ 1 := constantI S_ 1 1#1
  let main_v39 : IVec S_ 1 := (fun x v => Host.reduce IntOp.andi x v reducesTo_S4096x1024_S_d0_1 h_S_) main_v38 main_c_17
  let main_v40 : FVec F S1x1024 .f32 := Host.absf main_arg10
  let main_cst_18 : FVec F S_ .f32 := constant S_ .f32 0x7F800000#32
  let main_v41 : FVec F S1x1024 .f32 := broadcastInDim S1x1024 ![] bcast_S_S1x1024 main_cst_18
  let main_v42 : IVec S1x1024 1 := cmpf .olt main_v40 main_v41
  let main_c_19 : IVec S_ 1 := constantI S_ 1 1#1
  let main_v43 : IVec S_ 1 := (fun x v => Host.reduce IntOp.andi x v reducesTo_S1x1024_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x1024 .f32) (main_arg5 : FVec F S1x1024 .f32) (main_arg6 : FVec F S4096x1024 .bf16) (main_arg7 : FVec F S4096x2816 .bf16) (main_arg8 : FVec F S2816x1024 .bf16) (main_arg9 : FVec F S4096x1024 .bf16) (main_arg10 : FVec F S1x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S4096x1024 .bf16 := Host.absf main_arg6
  let main_cst_10 : FVec F S_ .bf16 := constant S_ .bf16 0x7F80#16
  let main_v25 : FVec F S4096x1024 .bf16 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : FVec F S4096x2816 .bf16 := Host.absf main_arg7
  let main_cst_12 : FVec F S_ .bf16 := constant S_ .bf16 0x7F80#16
  let main_v29 : FVec F S4096x2816 .bf16 := broadcastInDim S4096x2816 ![] bcast_S_S4096x2816 main_cst_12
  let main_v30 : IVec S4096x2816 1 := cmpf .olt main_v28 main_v29
  let main_c_13 : IVec S_ 1 := constantI S_ 1 1#1
  let main_v31 : IVec S_ 1 := (fun x v => Host.reduce IntOp.andi x v reducesTo_S4096x2816_S_d0_1 h_S_) main_v30 main_c_13
  fn_part2 (F := F) main_arg8 main_arg9 main_arg10 main_v3 main_v7 main_v11 main_v15 main_v19 main_v23 main_v27 main_v31

def fn {F : FTy → Type} [FloatOps F] (main_arg0 : FVec F S4096x1024 .bf16) (main_arg1 : FVec F S4096x512 .bf16) (main_arg2 : FVec F S1024x1024 .bf16) (main_arg3 : FVec F S1024x512 .bf16) (main_arg4 : FVec F S1x1024 .f32) (main_arg5 : FVec F S1x1024 .f32) (main_arg6 : FVec F S4096x1024 .bf16) (main_arg7 : FVec F S4096x2816 .bf16) (main_arg8 : FVec F S2816x1024 .bf16) (main_arg9 : FVec F S4096x1024 .bf16) (main_arg10 : FVec F S1x1024 .f32) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .bf16 := Host.absf main_arg1
  let main_cst_0 : FVec F S_ .bf16 := constant S_ .bf16 0x7F80#16
  let main_v5 : FVec F S4096x512 .bf16 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S1024x1024 .bf16 := Host.absf main_arg2
  let main_cst_2 : FVec F S_ .bf16 := constant S_ .bf16 0x7F80#16
  let main_v9 : FVec F S1024x1024 .bf16 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1024x512 .bf16 := Host.absf main_arg3
  let main_cst_4 : FVec F S_ .bf16 := constant S_ .bf16 0x7F80#16
  let main_v13 : FVec F S1024x512 .bf16 := broadcastInDim S1024x512 ![] bcast_S_S1024x512 main_cst_4
  let main_v14 : IVec S1024x512 1 := cmpf .olt main_v12 main_v13
  let main_c_5 : IVec S_ 1 := constantI S_ 1 1#1
  let main_v15 : IVec S_ 1 := (fun x v => Host.reduce IntOp.andi x v reducesTo_S1024x512_S_d0_1 h_S_) main_v14 main_c_5
  fn_part1 (F := F) main_arg4 main_arg5 main_arg6 main_arg7 main_arg8 main_arg9 main_arg10 main_v3 main_v7 main_v11 main_v15
-- ==== Pre_small_place.lean ====
abbrev S8x16x1024 : Shape := ⟨3, ![8, 16, 1024]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S8x16x1024 .f32) (main_arg1 : IVec S1 32) : IVec S_ 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 8#32
  let main_v2 : IVec S1 32 := broadcastInDim S1 ![] bcast_S_S1 main_c_0
  let main_v3 : IVec S1 1 := cmpi .slt main_arg1 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Conv.lean ====
abbrev S4096x1024 : Shape := ⟨2, ![4096, 1024]⟩
abbrev S4096x3072 : Shape := ⟨2, ![4096, 3072]⟩
abbrev S3x1024 : Shape := ⟨2, ![3, 1024]⟩
abbrev S8x1024 : Shape := ⟨2, ![8, 1024]⟩
abbrev S512x1024 : Shape := ⟨2, ![512, 1024]⟩
abbrev S16x1024 : Shape := ⟨2, ![16, 1024]⟩
abbrev S512x3072 : Shape := ⟨2, ![512, 3072]⟩
abbrev S528x1024 : Shape := ⟨2, ![528, 1024]⟩
abbrev S1x1024 : Shape := ⟨2, ![1, 1024]⟩
abbrev S1024 : Shape := ⟨1, ![1024]⟩

abbrev nBuf : Space → Nat
  | .hbm => 5
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .bf16⟩
  | .hbm, ⟨4, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S3x1024, .f32⟩
  | .local _ .vmem, ⟨17, _⟩ => ⟨S512x3072, .bf16⟩
  | .local _ .vmem, ⟨18, _⟩ => ⟨S512x3072, .bf16⟩
  | .local _ .vmem, ⟨19, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_31 : BitVec 32 := 0#32
  let v92 : BitVec 1 := Scalar.cmpi .eq arg0 c0_i32_31
  let v93 : BitVec 32 := Scalar.extui v92
  let c0_i32_32 : BitVec 32 := 0#32
  let v94 : BitVec 1 := Scalar.cmpi .ne v93 c0_i32_32
  v94

def k0_cond2 (i : grid0.Coords) : BitVec 1 :=
  let arg0 : BitVec 32 := BitVec.ofNat 32 (i 0).val
  let c0_i32_31 : BitVec 32 := 0#32
  let v92 : BitVec 1 := Scalar.cmpi .eq arg0 c0_i32_31
  let v_true : BitVec 1 := 1#1
  let v95 : BitVec 1 := Scalar.xori v92 v_true
  let v96 : BitVec 32 := Scalar.extui v95
  let c0_i32_33 : BitVec 32 := 0#32
  let v97 : BitVec 1 := Scalar.cmpi .ne v96 c0_i32_33
  v97

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRefIdeal.lean ====
abbrev S4096x1024 : Shape := ⟨2, ![4096, 1024]⟩
abbrev S4096x3072 : Shape := ⟨2, ![4096, 3072]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S_, .f32⟩
  | .hbm, ⟨49, _⟩ => ⟨S4098x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S3x1024, .f32⟩
  | .hbm, ⟨61, _⟩ => ⟨S3x1024, .f32⟩
  | .hbm, ⟨62, _⟩ => ⟨S_, .f32⟩
  | .hbm, ⟨63, _⟩ => ⟨S4098x1024, .f32⟩
  | .hbm, ⟨64, _⟩ => ⟨S4098x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S3x1024, .f32⟩
  | .hbm, ⟨76, _⟩ => ⟨S3x1024, .f32⟩
  | .hbm, ⟨77, _⟩ => ⟨S_, .f32⟩
  | .hbm, ⟨78, _⟩ => ⟨S4098x1024, .f32⟩
  | .hbm, ⟨79, _⟩ => ⟨S4098x1024, .f32⟩
  | .hbm, ⟨80, _⟩ => ⟨S2x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x3072, .f32⟩
  | .hbm, ⟨85, _⟩ => ⟨S4096x3072, .bf16⟩
  | .hbm, ⟨86, _⟩ => ⟨S_, .i32⟩
  | .hbm, ⟨87, _⟩ => ⟨S_, .f32⟩
  | .hbm, ⟨88, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c : Ref sig .tc := ⟨.hbm, 86, rfl⟩
abbrev main_call0_v0 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== DwGu.lean ====
abbrev S4096x2816 : Shape := ⟨2, ![4096, 2816]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024x4096 : Shape := ⟨2, ![1024, 4096]⟩
abbrev S1x4096x2816 : Shape := ⟨3, ![1, 4096, 2816]⟩
abbrev S2x4096x2816 : Shape := ⟨3, ![2, 4096, 2816]⟩
abbrev S2x1024x2816 : Shape := ⟨3, ![2, 1024, 2816]⟩
abbrev S4096x256 : Shape := ⟨2, ![4096, 256]⟩
abbrev S1x4096x256 : Shape := ⟨3, ![1, 4096, 256]⟩
abbrev S2x1024x256 : Shape := ⟨3, ![2, 1024, 256]⟩
abbrev S1024x256 : Shape := ⟨2, ![1024, 256]⟩
abbrev S1x1024x256 : Shape := ⟨3, ![1, 1024, 256]⟩

abbrev nBuf : Space → Nat
  | .hbm => 46
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x1024, .f32⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1024x4096, .f32⟩
  | .hbm, ⟨40, _⟩ => ⟨S1024x4096, .bf16⟩
  | .hbm, ⟨41, _⟩ => ⟨S1x4096x2816, .f32⟩
  | .hbm, ⟨42, _⟩ => ⟨S1x4096x2816, .f32⟩
  | .hbm, ⟨43, _⟩ => ⟨S2x4096x2816, .f32⟩
  | .hbm, ⟨44, _⟩ => ⟨S2x4096x2816, .bf16⟩
  | .hbm, ⟨45, _⟩ => ⟨S2x1024x2816, .bf16⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S2x1024x256, .bf16⟩
  | .local _ .vmem, ⟨8, _⟩ => ⟨S2x1024x256, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DwGuRefIdeal.lean ====
abbrev S4096x2816 : Shape := ⟨2, ![4096, 2816]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S5632x1024 : Shape := ⟨2, ![5632, 1024]⟩
abbrev S1024x2816 : Shape := ⟨2, ![1024, 2816]⟩
abbrev S1x1024x2816 : Shape := ⟨3, ![1, 1024, 2816]⟩
abbrev S2x1024x2816 : Shape := ⟨3, ![2, 1024, 2816]⟩

abbrev nBuf : Space → Nat
  | .hbm => 54
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S1x1024, .f32⟩
  | .hbm, ⟨3, _⟩ => ⟨S1024x5632, .bf16⟩
  | .hbm, ⟨4, _⟩ => ⟨S1024x5632, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x5632, .f32⟩
  | .hbm, ⟨46, _⟩ => ⟨S5632x1024, .f32⟩
  | .hbm, ⟨47, _⟩ => ⟨S1024x5632, .f32⟩
  | .hbm, ⟨48, _⟩ => ⟨S1024x2816, .f32⟩
  | .hbm, ⟨49, _⟩ => ⟨S1024x2816, .f32⟩
  | .hbm, ⟨50, _⟩ => ⟨S1x1024x2816, .f32⟩
  | .hbm, ⟨51, _⟩ => ⟨S1x1024x2816, .f32⟩
  | .hbm, ⟨52, _⟩ => ⟨S2x1024x2816, .f32⟩
  | .hbm, ⟨53, _⟩ => ⟨S2x1024x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v17_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v17_1 : Ref sig .tc := ⟨.hbm, 35, rfl⟩
abbrev main_v17_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== NormBwd.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S1x4096x3072 : Shape := ⟨3, ![1, 4096, 3072]⟩
abbrev S1x512x3072 : Shape := ⟨3, ![1, 512, 3072]⟩
abbrev S512x1024 : Shape := ⟨2, ![512, 1024]⟩
abbrev S1x256x3072 : Shape := ⟨3, ![1, 256, 3072]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1x4096x3072, .bf16⟩
  | .hbm, ⟨6, _⟩ => ⟨S4096x1024, .f32⟩
  | .hbm, ⟨7, _⟩ => ⟨S1x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_38 : BitVec 32 := 0#32
  let v75 : BitVec 1 := Scalar.cmpi .ne v74 c0_i32_38
  v75

def k0_cond2 (i : grid0.Coords) : BitVec 1 :=
  let arg0 : BitVec 32 := BitVec.ofNat 32 (i 0).val
  let c0_i32 : BitVec 32 := 0#32
  let v73 : BitVec 1 := Scalar.cmpi .eq arg0 c0_i32
  let v_true : BitVec 1 := 1#1
  let v76 : BitVec 1 := Scalar.xori v73 v_true
  let v77 : BitVec 32 := Scalar.extui v76
  let c0_i32_39 : BitVec 32 := 0#32
  let v78 : BitVec 1 := Scalar.cmpi .ne v77 c0_i32_39
  v78

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024, .f32⟩
  | .hbm, ⟨6, _⟩ => ⟨S1024x3072, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x3072, .f32⟩
  | .hbm, ⟨28, _⟩ => ⟨S4096x3072, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S8x128 : Shape := ⟨2, ![8, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S1x1024, .f32⟩
  | .hbm, ⟨8, _⟩ => ⟨S4096x2816, .bf16⟩
  | .hbm, ⟨9, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x2816, .bf16⟩
  | .local _ .vmem, ⟨14, _⟩ => ⟨S512x2816, .bf16⟩
  | .local _ .vmem, ⟨15, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32 : BitVec 32 := 0#32
  let v6 : BitVec 1 := Scalar.cmpi .eq arg0 c0_i32
  let v138 : BitVec 32 := Scalar.extui v6
  let c0_i32_68 : BitVec 32 := 0#32
  let v139 : BitVec 1 := Scalar.cmpi .ne v138 c0_i32_68
  v139

def k0_cond4 (i : grid0.Coords) : BitVec 1 :=
  let arg0 : BitVec 32 := BitVec.ofNat 32 (i 0).val
  let c0_i32 : BitVec 32 := 0#32
  let v6 : BitVec 1 := Scalar.cmpi .eq arg0 c0_i32
  let true_69 : BitVec 1 := 1#1
  let v140 : BitVec 1 := Scalar.xori v6 true_69
  let v141 : BitVec 32 := Scalar.extui v140
  let c0_i32_70 : BitVec 32 := 0#32
  let v142 : BitVec 1 := Scalar.cmpi .ne v141 c0_i32_70
  v142

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v133 : BitVec 32 := Scalar.extui v6
  let c0_i32_66 : BitVec 32 := 0#32
  let v134 : BitVec 1 := Scalar.cmpi .ne v133 c0_i32_66
  v134

def k0_cond2 (i : grid0.Coords) : BitVec 1 :=
  let arg0 : BitVec 32 := BitVec.ofNat 32 (i 0).val
  let c0_i32 : BitVec 32 := 0#32
  let v6 : BitVec 1 := Scalar.cmpi .eq arg0 c0_i32
  let v_true : BitVec 1 := 1#1
  let v135 : BitVec 1 := Scalar.xori v6 v_true
  let v136 : BitVec 32 := Scalar.extui v135
  let c0_i32_67 : BitVec 32 := 0#32
  let v137 : BitVec 1 := Scalar.cmpi .ne v136 c0_i32_67
  v137

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 85
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x2816, .f32⟩
  | .hbm, ⟨80, _⟩ => ⟨S4096x1024, .bf16⟩
  | .hbm, ⟨81, _⟩ => ⟨S4096x1024, .bf16⟩
  | .hbm, ⟨82, _⟩ => ⟨S1x1024, .f32⟩
  | .hbm, ⟨83, _⟩ => ⟨S4096x2816, .bf16⟩
  | .hbm, ⟨84, _⟩ => ⟨S8x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Qkv.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S1x1024 : Shape := ⟨2, ![1, 1024]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x512 : Shape := ⟨2, ![512, 512]⟩
abbrev S512x2816 : Shape := ⟨2, ![512, 2816]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S256x2816 : Shape := ⟨2, ![256, 2816]⟩

abbrev nBuf : Space → Nat
  | .hbm => 39
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x1024, .bf16⟩
  | .hbm, ⟨3, _⟩ => ⟨S1024x512, .bf16⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x2816, .bf16⟩
  | .hbm, ⟨8, _⟩ => ⟨S2816x1024, .bf16⟩
  | .hbm, ⟨9, _⟩ => ⟨S4096x1024, .bf16⟩
  | .hbm, ⟨10, _⟩ => ⟨S1x1024, .f32⟩
  | .hbm, ⟨11, _⟩ => ⟨S4096x2816, .f32⟩
  | .hbm, ⟨12, _⟩ => ⟨S2816x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .bf16⟩
  | .hbm, ⟨33, _⟩ => ⟨S4096x1024, .bf16⟩
  | .hbm, ⟨34, _⟩ => ⟨S1x1024, .f32⟩
  | .hbm, ⟨35, _⟩ => ⟨S1x1024, .f32⟩
  | .hbm, ⟨36, _⟩ => ⟨S4096x1024, .bf16⟩
  | .hbm, ⟨37, _⟩ => ⟨S1x1024, .f32⟩
  | .hbm, ⟨38, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S1024x512, .bf16⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S2816x1024, .bf16⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S512x2816, .bf16⟩
  | .local _ .vmem, ⟨24, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v19_2 : Ref sig .tc := ⟨.hbm, 35, rfl⟩
abbrev main_v19_3 : Ref sig .tc := ⟨.hbm, 36, rfl⟩
abbrev main_v19_4 : Ref sig .tc := ⟨.hbm, 37, rfl⟩
abbrev main_v19_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v194 : BitVec 32 := Scalar.extui v0
  let c0_i32_92 : BitVec 32 := 0#32
  let v195 : BitVec 1 := Scalar.cmpi .ne v194 c0_i32_92
  v195

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v196 : BitVec 1 := Scalar.xori v0 v_true
  let v197 : BitVec 32 := Scalar.extui v196
  let c0_i32_93 : BitVec 32 := 0#32
  let v198 : BitVec 1 := Scalar.cmpi .ne v197 c0_i32_93
  v198

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v199 : BitVec 32 := Scalar.extui v0
  let c0_i32_94 : BitVec 32 := 0#32
  let v200 : BitVec 1 := Scalar.cmpi .ne v199 c0_i32_94
  v200

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_95 : BitVec 1 := 1#1
  let v201 : BitVec 1 := Scalar.xori v0 true_95
  let v202 : BitVec 32 := Scalar.extui v201
  let c0_i32_96 : BitVec 32 := 0#32
  let v203 : BitVec 1 := Scalar.cmpi .ne v202 c0_i32_96
  v203

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v204 : BitVec 32 := Scalar.extui v0
  let c0_i32_97 : BitVec 32 := 0#32
  let v205 : BitVec 1 := Scalar.cmpi .ne v204 c0_i32_97
  v205

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_98 : BitVec 1 := 1#1
  let v206 : BitVec 1 := Scalar.xori v0 true_98
  let v207 : BitVec 32 := Scalar.extui v206
  let c0_i32_99 : BitVec 32 := 0#32
  let v208 : BitVec 1 := Scalar.cmpi .ne v207 c0_i32_99
  v208

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== QkvRefIdeal.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S1x1024 : Shape := ⟨2, ![1, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 172
  | .vmem => 0
  | .smem => 0
  | _ => 0

abbrev hbmTy0_0 (i : Nat) : BufTy := match i % 128 with
  | 0 => ⟨S4096x1024, .bf16⟩
  | 1 => ⟨S4096x512, .bf16⟩
  | 2 => ⟨S1024x1024, .bf16⟩
  | 3 => ⟨S1024x512, .bf16⟩
  | 4 => ⟨S1x1024, .f32⟩
  | 5 => ⟨S1x1024, .f32⟩
  | 6 => ⟨S4096x1024, .bf16⟩
  | 7 => ⟨S4096x2816, .bf16⟩
  | 8 => ⟨S2816x1024, .bf16⟩
  | 9 => ⟨S4096x1024, .bf16⟩
  | 10 => ⟨S1x1024, .f32⟩
  | 11 => ⟨S4096x2816, .f32⟩
  | 12 => ⟨S2816x1024, .f32⟩
  | 13 => ⟨S4096x1024, .f32⟩
  | 14 => ⟨S4096x1024, .f32⟩
  | 15 => ⟨S1024, .f32⟩
  | 16 => ⟨S1024, .f32⟩
  | 17 => ⟨S1024, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S1024x1024, .f32⟩
  | 60 => ⟨S4096x1024, .f32⟩
  | 61 => ⟨S4096x1024, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S1x1024, .f32⟩
  | 79 => ⟨S4096x1024, .f32⟩
  | 80 => ⟨S4096x1024, .f32⟩
  | 81 => ⟨S1024x512, .f32⟩
  | 82 => ⟨S4096x512, .f32⟩
  | 83 => ⟨S4096x1024, .f32⟩
  | 84 => ⟨S4096x512, .f32⟩
  | 85 => ⟨S4096x1024, .f32⟩
  | 86 => ⟨S4096x1024, .f32⟩
  | 87 => ⟨S4096x1024, .f32⟩
  | 88 => ⟨S_, .f32⟩
  | 89 => ⟨S1024, .f32⟩
  | 90 => ⟨S1x1024, .f32⟩
  | 91 => ⟨S4096x1024, .f32⟩
  | 92 => ⟨S4096x1024, .f32⟩
  | 93 => ⟨S_, .f32⟩
  | 94 => ⟨S1024, .f32⟩
  | 95 => ⟨S4096x1024, .f32⟩
  | 96 => ⟨S_, .f32⟩
  | 97 => ⟨S4096, .f32⟩
  | 98 => ⟨S4096x1, .f32⟩
  | 99 => ⟨S4096x1024, .f32⟩
  | 100 => ⟨S4096x1024, .f32⟩
  | 101 => ⟨S4096x1024, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S_, .f32⟩
  | 116 => ⟨S1024, .f32⟩
  | 117 => ⟨S1x1024, .f32⟩
  | 118 => ⟨S4096x1024, .f32⟩
  | 119 => ⟨S4096x1024, .f32⟩
  | 120 => ⟨S_, .f32⟩
  | 121 => ⟨S1024, .f32⟩
  | 122 => ⟨S4096x1024, .f32⟩
  | 123 => ⟨S_, .f32⟩
  | 124 => ⟨S4096, .f32⟩
  | 125 => ⟨S4096x1, .f32⟩
  | 126 => ⟨S4096x1024, .f32⟩
  | 127 => ⟨S4096x1024, .f32⟩
  | _ => ⟨S4096x1024, .bf16⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S1024, .f32⟩
  | 15 => ⟨S1x1024, .f32⟩
  | 16 => ⟨S4096x1024, .f32⟩
  | 17 => ⟨S4096x1024, .f32⟩
  | 18 => ⟨S_, .f32⟩
  | 19 => ⟨S1024, .f32⟩
  | 20 => ⟨S4096x1024, .f32⟩
  | 21 => ⟨S_, .f32⟩
  | 22 => ⟨S4096, .f32⟩
  | 23 => ⟨S4096x1, .f32⟩
  | 24 => ⟨S4096x1024, .f32⟩
  | 25 => ⟨S4096x1024, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x2816, .f32⟩
  | 38 => ⟨S4096x1024, .bf16⟩
  | 39 => ⟨S1x1024, .f32⟩
  | 40 => ⟨S1x1024, .f32⟩
  | 41 => ⟨S4096x1024, .bf16⟩
  | 42 => ⟨S1x1024, .f32⟩
  | 43 => ⟨S4096x2816, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_cst_20 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_21 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_22 : Ref sig .tc := ⟨.hbm, 146, rfl⟩
abbrev main_v112 : Ref sig .tc := ⟨.hbm, 147, rfl⟩
abbrev main_v113 : Ref sig .tc := ⟨.hbm, 148, rfl⟩
abbrev main_cst_23 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_24 : Ref sig .tc := ⟨.hbm, 155, rfl⟩
abbrev main_v119 : Ref sig .tc := ⟨.hbm, 156, rfl⟩
abbrev main_v120 : Ref sig .tc := ⟨.hbm, 157, rfl⟩
abbrev main_cst_25 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩

abbrev nD : Nat := 1
abbrev τ : Topo := Topo.v7x

variable {F : FTy → Type} [FloatOps F]
-- ==== SwigluBwd.lean ====
abbrev S4096x2816 : Shape := ⟨2, ![4096, 2816]⟩
abbrev S1024x5632 : Shape := ⟨2, ![1024, 5632]⟩
abbrev S1x1024 : Shape := ⟨2, ![1, 1024]⟩
abbrev S4096x1024 : Shape := ⟨2, ![4096, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1x4096x2816 : Shape := ⟨3, ![1, 4096, 2816]⟩
abbrev S2x4096x2816 : Shape := ⟨3, ![2, 4096, 2816]⟩
abbrev S512x2816 : Shape := ⟨2, ![512, 2816]⟩
abbrev S1x512x2816 : Shape := ⟨3, ![1, 512, 2816]⟩
abbrev S1024x2816 : Shape := ⟨2, ![1024, 2816]⟩
abbrev S512x1024 : Shape := ⟨2, ![512, 1024]⟩
abbrev S256x2816 : Shape := ⟨2, ![256, 2816]⟩
abbrev S1x256x2816 : Shape := ⟨3, ![1, 256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 58
  | .vmem => 25
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S1024x1024, .bf16⟩
  | .hbm, ⟨6, _⟩ => ⟨S4096x1024, .bf16⟩
  | .hbm, ⟨7, _⟩ => ⟨S1x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1024x5632, .f32⟩
  | .hbm, ⟨44, _⟩ => ⟨S4096x5632, .f32⟩
  | .hbm, ⟨45, _⟩ => ⟨S4096x2816, .f32⟩
  | .hbm, ⟨46, _⟩ => ⟨S4096x2816, .f32⟩
  | .hbm, ⟨47, _⟩ => ⟨S1x4096x2816, .f32⟩
  | .hbm, ⟨48, _⟩ => ⟨S1x4096x2816, .f32⟩
  | .hbm, ⟨49, _⟩ => ⟨S2x4096x2816, .f32⟩
  | .hbm, ⟨50, _⟩ => ⟨S2x4096x2816, .bf16⟩
  | .hbm, ⟨51, _⟩ => ⟨S4096x1024, .bf16⟩
  | .hbm, ⟨52, _⟩ => ⟨S4096x1024, .bf16⟩
  | .hbm, ⟨53, _⟩ => ⟨S4096x1024, .bf16⟩
  | .hbm, ⟨54, _⟩ => ⟨S1x1024, .f32⟩
  | .hbm, ⟨55, _⟩ => ⟨S4096x1024, .bf16⟩
  | .hbm, ⟨56, _⟩ => ⟨S1x1024, .f32⟩
  | .hbm, ⟨57, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x512x2816, .bf16⟩
  | .local _ .vmem, ⟨5, _⟩ => ⟨S1x512x2816, .bf16⟩
  | .local _ .vmem, ⟨6, _⟩ => ⟨S1024x2816, .bf16⟩
  | .local _ .vmem, ⟨7, _⟩ => ⟨S1024x2816, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v39_2 : Ref sig .tc := ⟨.hbm, 55, rfl⟩
abbrev main_v39_3 : Ref sig .tc := ⟨.hbm, 56, rfl⟩
abbrev main_v39_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v187 : BitVec 32 := Scalar.extui v0
  let c0_i32_93 : BitVec 32 := 0#32
  let v188 : BitVec 1 := Scalar.cmpi .ne v187 c0_i32_93
  v188

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v189 : BitVec 1 := Scalar.xori v0 v_true
  let v190 : BitVec 32 := Scalar.extui v189
  let c0_i32_94 : BitVec 32 := 0#32
  let v191 : BitVec 1 := Scalar.cmpi .ne v190 c0_i32_94
  v191

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v192 : BitVec 32 := Scalar.extui v0
  let c0_i32_95 : BitVec 32 := 0#32
  let v193 : BitVec 1 := Scalar.cmpi .ne v192 c0_i32_95
  v193

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_96 : BitVec 1 := 1#1
  let v194 : BitVec 1 := Scalar.xori v0 true_96
  let v195 : BitVec 32 := Scalar.extui v194
  let c0_i32_97 : BitVec 32 := 0#32
  let v196 : BitVec 1 := Scalar.cmpi .ne v195 c0_i32_97
  v196

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SwigluBwdRefIdeal.lean ====
abbrev S4096x2816 : Shape := ⟨2, ![4096, 2816]⟩
abbrev S1024x5632 : Shape := ⟨2, ![1024, 5632]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 140
  | .vmem => 0
  | .smem => 0
  | _ => 0

abbrev hbmTy0_0 (i : Nat) : BufTy := match i % 128 with
  | 0 => ⟨S4096x2816, .bf16⟩
  | 1 => ⟨S1024x5632, .bf16⟩
  | 2 => ⟨S1x1024, .f32⟩
  | 3 => ⟨S4096x1024, .bf16⟩
  | 4 => ⟨S4096x1024, .bf16⟩
  | 5 => ⟨S1024x1024, .bf16⟩
  | 6 => ⟨S4096x1024, .bf16⟩
  | 7 => ⟨S1x1024, .f32⟩
  | 8 => ⟨S4096x1024, .f32⟩
  | 9 => ⟨S1024x1024, .f32⟩
  | 10 => ⟨S4096x1024, .f32⟩
  | 11 => ⟨S4096x1024, .f32⟩
  | 12 => ⟨S1024, .f32⟩
  | 13 => ⟨S1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S1x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S1024x5632, .f32⟩
  | 56 => ⟨S4096x5632, .f32⟩
  | 57 => ⟨S4096x2816, .f32⟩
  | 58 => ⟨S4096x2816, .f32⟩
  | 59 => ⟨S4096x2816, .f32⟩
  | 60 => ⟨S4096x2816, .f32⟩
  | 61 => ⟨S_, .f32⟩
  | 62 => ⟨S4096x2816, .f32⟩
  | 63 => ⟨S4096x2816, .f32⟩
  | 64 => ⟨S_, .f32⟩
  | 65 => ⟨S4096x2816, .f32⟩
  | 66 => ⟨S4096x2816, .f32⟩
  | 67 => ⟨S_, .f32⟩
  | 68 => ⟨S4096x2816, .f32⟩
  | 69 => ⟨S4096x2816, .f32⟩
  | 70 => ⟨S4096x2816, .f32⟩
  | 71 => ⟨S4096x2816, .f32⟩
  | 72 => ⟨S4096x2816, .f32⟩
  | 73 => ⟨S4096x2816, .f32⟩
  | 74 => ⟨S4096x1024, .f32⟩
  | 75 => ⟨S4096x2816, .f32⟩
  | 76 => ⟨S4096x2816, .f32⟩
  | 77 => ⟨S4096x2816, .f32⟩
  | 78 => ⟨S4096x2816, .f32⟩
  | 79 => ⟨S4096x2816, .f32⟩
  | 80 => ⟨S4096x2816, .f32⟩
  | 81 => ⟨S4096x5632, .f32⟩
  | 82 => ⟨S4096x1024, .f32⟩
  | 83 => ⟨S4096x1024, .f32⟩
  | 84 => ⟨S_, .f32⟩
  | 85 => ⟨S1024, .f32⟩
  | 86 => ⟨S1x1024, .f32⟩
  | 87 => ⟨S4096x1024, .f32⟩
  | 88 => ⟨S4096x1024, .f32⟩
  | 89 => ⟨S_, .f32⟩
  | 90 => ⟨S1024, .f32⟩
  | 91 => ⟨S4096x1024, .f32⟩
  | 92 => ⟨S_, .f32⟩
  | 93 => ⟨S4096, .f32⟩
  | 94 => ⟨S4096x1, .f32⟩
  | 95 => ⟨S4096x1024, .f32⟩
  | 96 => ⟨S4096x1024, .f32⟩
  | 97 => ⟨S4096x1024, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S_, .f32⟩
  | 111 => ⟨S1024, .f32⟩
  | 112 => ⟨S1x1024, .f32⟩
  | 113 => ⟨S4096x1024, .f32⟩
  | 114 => ⟨S4096x1024, .f32⟩
  | 115 => ⟨S_, .f32⟩
  | 116 => ⟨S1024, .f32⟩
  | 117 => ⟨S4096x1024, .f32⟩
  | 118 => ⟨S_, .f32⟩
  | 119 => ⟨S4096, .f32⟩
  | 120 => ⟨S4096x1, .f32⟩
  | 121 => ⟨S4096x1024, .f32⟩
  | 122 => ⟨S4096x1024, .f32⟩
  | 123 => ⟨S4096x1, .f32⟩
  | 124 => ⟨S_, .f32⟩
  | 125 => ⟨S4096x1, .f32⟩
  | 126 => ⟨S4096x1, .f32⟩
  | 127 => ⟨S_, .f32⟩
  | _ => ⟨S4096x2816, .bf16⟩

abbrev hbmTy0_1 (i : Nat) : BufTy := match i % 128 with
  | 0 => ⟨S4096, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .bf16⟩
  | 8 => ⟨S1x1024, .f32⟩
  | 9 => ⟨S4096x1024, .bf16⟩
  | 10 => ⟨S1x1024, .f32⟩
  | 11 => ⟨S4096x1024, .bf16⟩
  | _ => ⟨S4096x2816, .bf16⟩

abbrev hbmTy (i : Nat) : BufTy := match i / 128 with
  | 0 => hbmTy0_0 i
  | 1 => hbmTy0_1 i
  | _ => ⟨S4096x2816, .bf16⟩

abbrev bufTy : (tb : Table) → Fin (tcTables nBuf tb) → BufTy
  | .hbm, ⟨i, _⟩ => hbmTy i
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v43_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v43_1 : Ref sig .tc := ⟨.hbm, 70, rfl⟩
abbrev main_v43_0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_7 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_8 : Ref sig .tc := ⟨.hbm, 89, rfl⟩
abbrev main_v57 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_10 : Ref sig .tc := ⟨.hbm, 99, rfl⟩
abbrev main_v65 : Ref sig .tc := ⟨.hbm, 100, rfl⟩
abbrev main_v66 : Ref sig .tc := ⟨.hbm, 101, rfl⟩
abbrev main_cst_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_12 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_13 : Ref sig .tc := ⟨.hbm, 115, rfl⟩
abbrev main_v78 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_15 : Ref sig .tc := ⟨.hbm, 124, rfl⟩
abbrev main_v85 : Ref sig .tc := ⟨.hbm, 125, rfl⟩
abbrev main_v86 : Ref sig .tc := ⟨.hbm, 126, rfl⟩
abbrev main_cst_16 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]
-- ==== AttnFwd.lean ====
abbrev S4096x1024 : Shape := ⟨2, ![4096, 1024]⟩
abbrev S4096x512 : Shape := ⟨2, ![4096, 512]⟩
abbrev S1x16 : Shape := ⟨2, ![1, 16]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S8x4096 : Shape := ⟨2, ![8, 4096]⟩
abbrev S48x4096 : Shape := ⟨2, ![48, 4096]⟩
abbrev S64x4096 : Shape := ⟨2, ![64, 4096]⟩
abbrev S1x64x4096 : Shape := ⟨3, ![1, 64, 4096]⟩
abbrev S3x64x4096 : Shape := ⟨3, ![3, 64, 4096]⟩
abbrev S2x16x4096 : Shape := ⟨3, ![2, 16, 4096]⟩
abbrev S128x1024 : Shape := ⟨2, ![128, 1024]⟩
abbrev S128x256 : Shape := ⟨2, ![128, 256]⟩
abbrev S3x64x128 : Shape := ⟨3, ![3, 64, 128]⟩
abbrev S2x16x128 : Shape := ⟨3, ![2, 16, 128]⟩
abbrev S256x128 : Shape := ⟨2, ![256, 128]⟩
abbrev S256x512 : Shape := ⟨2, ![256, 512]⟩
abbrev S256x256 : Shape := ⟨2, ![256, 256]⟩
abbrev S1024x128 : Shape := ⟨2, ![1024, 128]⟩
abbrev S3x64x256 : Shape := ⟨3, ![3, 64, 256]⟩
abbrev S64x256 : Shape := ⟨2, ![64, 256]⟩
abbrev S1x64x256 : Shape := ⟨3, ![1, 64, 256]⟩
abbrev S64x128 : Shape := ⟨2, ![64, 128]⟩
abbrev S1x64x128 : Shape := ⟨3, ![1, 64, 128]⟩
abbrev S64x512 : Shape := ⟨2, ![64, 512]⟩
abbrev S1x512 : Shape := ⟨2, ![1, 512]⟩
abbrev S1x1 : Shape := ⟨2, ![1, 1]⟩
abbrev S512 : Shape := ⟨1, ![512]⟩
abbrev S8x256 : Shape := ⟨2, ![8, 256]⟩
abbrev S8x512 : Shape := ⟨2, ![8, 512]⟩
abbrev S1x128 : Shape := ⟨2, ![1, 128]⟩
abbrev S16x128 : Shape := ⟨2, ![16, 128]⟩
abbrev S1x16x128 : Shape := ⟨3, ![1, 16, 128]⟩

abbrev nBuf : Space → Nat
  | .hbm => 42
  | .vmem => 18
  | .smem => 1
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1x16, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S8x4096, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S48x4096, .f32⟩
  | .hbm, ⟨28, _⟩ => ⟨S_, .f32⟩
  | .hbm, ⟨29, _⟩ => ⟨S48x4096, .f32⟩
  | .hbm, ⟨30, _⟩ => ⟨S_, .f32⟩
  | .hbm, ⟨31, _⟩ => ⟨S8x4096, .f32⟩
  | .hbm, ⟨32, _⟩ => ⟨S64x4096, .f32⟩
  | .hbm, ⟨33, _⟩ => ⟨S8x4096, .f32⟩
  | .hbm, ⟨34, _⟩ => ⟨S64x4096, .f32⟩
  | .hbm, ⟨35, _⟩ => ⟨S64x4096, .f32⟩
  | .hbm, ⟨36, _⟩ => ⟨S1x64x4096, .f32⟩
  | .hbm, ⟨37, _⟩ => ⟨S1x64x4096, .f32⟩
  | .hbm, ⟨38, _⟩ => ⟨S1x64x4096, .f32⟩
  | .hbm, ⟨39, _⟩ => ⟨S3x64x4096, .f32⟩
  | .hbm, ⟨40, _⟩ => ⟨S4096x1024, .bf16⟩
  | .hbm, ⟨41, _⟩ => ⟨S2x16x4096, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S3x64x128, .f32⟩
  | .local _ .vmem, ⟨11, _⟩ => ⟨S3x64x128, .f32⟩
  | .local _ .vmem, ⟨12, _⟩ => ⟨S3x64x128, .f32⟩
  | .local _ .vmem, ⟨13, _⟩ => ⟨S3x64x128, .f32⟩
  | .local _ .vmem, ⟨14, _⟩ => ⟨S128x1024, .bf16⟩
  | .local _ .vmem, ⟨15, _⟩ => ⟨S128x1024, .bf16⟩
  | .local _ .vmem, ⟨16, _⟩ => ⟨S2x16x128, .f32⟩
  | .local _ .vmem, ⟨17, _⟩ => ⟨S2x16x128, .f32⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, c0_i32_1.toNat, v2.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4096x1024 : Shape := ⟨2, ![4096, 1024]⟩
abbrev S4096x512 : Shape := ⟨2, ![4096, 512]⟩
abbrev S1x16 : Shape := ⟨2, ![1, 16]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x256 : Shape := ⟨2, ![4096, 256]⟩
abbrev S4096x16x64 : Shape := ⟨3, ![4096, 16, 64]⟩
abbrev S4096x16x8 : Shape := ⟨3, ![4096, 16, 8]⟩
abbrev S4096x16x48 : Shape := ⟨3, ![4096, 16, 48]⟩
abbrev S4096x4x64 : Shape := ⟨3, ![4096, 4, 64]⟩
abbrev S4096x4x8 : Shape := ⟨3, ![4096, 4, 8]⟩
abbrev S4096x4x48 : Shape := ⟨3, ![4096, 4, 48]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S16 : Shape := ⟨1, ![16]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x4x128x257 : Shape := ⟨5, ![32, 4, 4, 128, 257]⟩
abbrev S32x4x64x4x128 : Shape := ⟨5, ![32, 4, 64, 4, 128]⟩
abbrev S4x4x32x128 : Shape := ⟨4, ![4, 4, 32, 128]⟩
abbrev S16x4096 : Shape := ⟨2, ![16, 4096]⟩
abbrev S1x16x4096 : Shape := ⟨3, ![1, 16, 4096]⟩
abbrev S2x16x4096 : Shape := ⟨3, ![2, 16, 4096]⟩

abbrev nBuf : Space → Nat
  | .hbm => 175
  | .vmem => 0
  | .smem => 0
  | _ => 0

abbrev hbmTy0_0 (i : Nat) : BufTy := match i % 128 with
  | 0 => ⟨S4096x1024, .bf16⟩
  | 1 => ⟨S4096x512, .bf16⟩
  | 2 => ⟨S1x16, .f32⟩
  | 3 => ⟨S4096x1024, .f32⟩
  | 4 => ⟨S4096x512, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S4096, .f32⟩
  | 20 => ⟨S4096x1, .f32⟩
  | 21 => ⟨S1x8, .f32⟩
  | 22 => ⟨S4096x8, .f32⟩
  | 23 => ⟨S4096x8, .f32⟩
  | 24 => ⟨S4096x8, .f32⟩
  | 25 => ⟨S4096x8, .f32⟩
  | 26 => ⟨S4096x1x8, .f32⟩
  | 27 => ⟨S4096x8, .f32⟩
  | 28 => ⟨S4096x1x8, .f32⟩
  | 29 => ⟨S4096x256, .f32⟩
  | 30 => ⟨S4096x256, .f32⟩
  | 31 => ⟨S4096x16x64, .f32⟩
  | 32 => ⟨S4096x16x8, .f32⟩
  | 33 => ⟨S4096x16x8, .f32⟩
  | 34 => ⟨S4096x16x48, .f32⟩
  | 35 => ⟨S4096x16x8, .f32⟩
  | 36 => ⟨S4096x16x8, .f32⟩
  | 37 => ⟨S4096x16x8, .f32⟩
  | 38 => ⟨S4096x16x8, .f32⟩
  | 39 => ⟨S4096x16x8, .f32⟩
  | 40 => ⟨S4096x16x8, .f32⟩
  | 41 => ⟨S4096x16x8, .f32⟩
  | 42 => ⟨S4096x16x8, .f32⟩
  | 43 => ⟨S4096x16x8, .f32⟩
  | 44 => ⟨S4096x16x8, .f32⟩
  | 45 => ⟨S4096x16x64, .f32⟩
  | 46 => ⟨S4096x4x64, .f32⟩
  | 47 => ⟨S4096x4x8, .f32⟩
  | 48 => ⟨S4096x4x8, .f32⟩
  | 49 => ⟨S4096x4x48, .f32⟩
  | 50 => ⟨S4096x4x8, .f32⟩
  | 51 => ⟨S4096x4x8, .f32⟩
  | 52 => ⟨S4096x4x8, .f32⟩
  | 53 => ⟨S4096x4x8, .f32⟩
  | 54 => ⟨S4096x4x8, .f32⟩
  | 55 => ⟨S4096x4x8, .f32⟩
  | 56 => ⟨S4096x4x8, .f32⟩
  | 57 => ⟨S4096x4x8, .f32⟩
  | 58 => ⟨S4096x4x8, .f32⟩
  | 59 => ⟨S4096x4x8, .f32⟩
  | 60 => ⟨S4096x4x64, .f32⟩
  | 61 => ⟨S4096x4x64, .f32⟩
  | 62 => ⟨S32x128x4x4x64, .f32⟩
  | 63 => ⟨S32x128x4x64, .f32⟩
  | 64 => ⟨S1x128x4x64, .f32⟩
  | 65 => ⟨S_, .f32⟩
  | 66 => ⟨S1x128x4x64, .f32⟩
  | 67 => ⟨S31x128x4x64, .f32⟩
  | 68 => ⟨S32x128x4x64, .f32⟩
  | 69 => ⟨S32x256x4x64, .f32⟩
  | 70 => ⟨S32x4x256x128x4, .f32⟩
  | 71 => ⟨S32x4x4x128x256, .f32⟩
  | 72 => ⟨S_, .f32⟩
  | 73 => ⟨S32x4x4x128x256, .f32⟩
  | 74 => ⟨S32x4x4x128x256, .f32⟩
  | 75 => ⟨S128, .i32⟩
  | 76 => ⟨S128x1, .i32⟩
  | 77 => ⟨S256, .i32⟩
  | 78 => ⟨S1x256, .i32⟩
  | 79 => ⟨S_, .i32⟩
  | 80 => ⟨S128x1, .i32⟩
  | 81 => ⟨S128x1, .i32⟩
  | 82 => ⟨S128x256, .i32⟩
  | 83 => ⟨S128x256, .i32⟩
  | 84 => ⟨S128x256, .i32⟩
  | 85 => ⟨S_, .i32⟩
  | 86 => ⟨S128x256, .i32⟩
  | 87 => ⟨S128x256, .i1⟩
  | 88 => ⟨S_, .i32⟩
  | 89 => ⟨S128x256, .i32⟩
  | 90 => ⟨S128x256, .i1⟩
  | 91 => ⟨S128x256, .i1⟩
  | 92 => ⟨S32, .i32⟩
  | 93 => ⟨S32x1x1, .i32⟩
  | 94 => ⟨S_, .i32⟩
  | 95 => ⟨S32x1x1, .i32⟩
  | 96 => ⟨S32x1x1, .i1⟩
  | 97 => ⟨S1x1x256, .i32⟩
  | 98 => ⟨S_, .i32⟩
  | 99 => ⟨S1x1x256, .i32⟩
  | 100 => ⟨S1x1x256, .i1⟩
  | 101 => ⟨S32x1x256, .i1⟩
  | 102 => ⟨S32x1x256, .i1⟩
  | 103 => ⟨S32x1x256, .i1⟩
  | 104 => ⟨S1x128x256, .i1⟩
  | 105 => ⟨S32x128x256, .i1⟩
  | 106 => ⟨S32x128x256, .i1⟩
  | 107 => ⟨S32x128x256, .i1⟩
  | 108 => ⟨S32x1x1x128x256, .i1⟩
  | 109 => ⟨S_, .f32⟩
  | 110 => ⟨S_, .f32⟩
  | 111 => ⟨S32x4x4x128x256, .i1⟩
  | 112 => ⟨S32x4x4x128x256, .f32⟩
  | 113 => ⟨S32x4x4x128x256, .f32⟩
  | 114 => ⟨S16, .f32⟩
  | 115 => ⟨S4x4, .f32⟩
  | 116 => ⟨S1x4x4x1x1, .f32⟩
  | 117 => ⟨S_, .f32⟩
  | 118 => ⟨S32x4x4x128, .f32⟩
  | 119 => ⟨S32x4x4x128x1, .f32⟩
  | 120 => ⟨S32x4x4x128x1, .f32⟩
  | 121 => ⟨S32x4x4x128x1, .f32⟩
  | 122 => ⟨S32x4x4x128x256, .f32⟩
  | 123 => ⟨S32x4x4x128x256, .f32⟩
  | 124 => ⟨S32x4x4x128x256, .f32⟩
  | 125 => ⟨S_, .f32⟩
  | 126 => ⟨S32x4x4x128, .f32⟩
  | 127 => ⟨S32x4x4x128x1, .f32⟩
  | _ => ⟨S4096x1024, .bf16⟩

abbrev hbmTy0_1 (i : Nat) : BufTy := match i % 128 with
  | 0 => ⟨S32x4x4x128x1, .f32⟩
  | 1 => ⟨S32x4x4x128x1, .f32⟩
  | 2 => ⟨S32x4x4x128x1, .f32⟩
  | 3 => ⟨S32x4x4x128x1, .f32⟩
  | 4 => ⟨S_, .f32⟩
  | 5 => ⟨S32x4x4x128x1, .f32⟩
  | 6 => ⟨S32x4x4x128x1, .f32⟩
  | 7 => ⟨S16, .f32⟩
  | 8 => ⟨S4x4, .f32⟩
  | 9 => ⟨S1x4x4x1x1, .f32⟩
  | 10 => ⟨S32x4x4x128x1, .f32⟩
  | 11 => ⟨S32x4x4x128x257, .f32⟩
  | 12 => ⟨S_, .f32⟩
  | 13 => ⟨S32x4x4x128, .f32⟩
  | 14 => ⟨S_, .f32⟩
  | 15 => ⟨S32x4x4x128, .f32⟩
  | 16 => ⟨S32x4x4x128, .f32⟩
  | 17 => ⟨S32x4x4x128x1, .f32⟩
  | 18 => ⟨S32x4x4x128x257, .f32⟩
  | 19 => ⟨S32x4x4x128x257, .f32⟩
  | 20 => ⟨S32x4x4x128x257, .f32⟩
  | 21 => ⟨S_, .f32⟩
  | 22 => ⟨S32x4x4x128, .f32⟩
  | 23 => ⟨S32x4x4x128x1, .f32⟩
  | 24 => ⟨S32x4x4x128x257, .f32⟩
  | 25 => ⟨S32x4x4x128x257, .f32⟩
  | 26 => ⟨S32x4x4x128x256, .f32⟩
  | 27 => ⟨S32x128x4x64, .f32⟩
  | 28 => ⟨S1x128x4x64, .f32⟩
  | 29 => ⟨S_, .f32⟩
  | 30 => ⟨S1x128x4x64, .f32⟩
  | 31 => ⟨S31x128x4x64, .f32⟩
  | 32 => ⟨S32x128x4x64, .f32⟩
  | 33 => ⟨S32x256x4x64, .f32⟩
  | 34 => ⟨S32x4x64x4x128, .f32⟩
  | 35 => ⟨S32x128x4x4x64, .f32⟩
  | 36 => ⟨S4096x1024, .f32⟩
  | 37 => ⟨S4096x1024, .bf16⟩
  | 38 => ⟨S32x4x4x128, .f32⟩
  | 39 => ⟨S4x4x32x128, .f32⟩
  | 40 => ⟨S16x4096, .f32⟩
  | 41 => ⟨S32x4x4x128, .f32⟩
  | 42 => ⟨S4x4x32x128, .f32⟩
  | 43 => ⟨S16x4096, .f32⟩
  | 44 => ⟨S1x16x4096, .f32⟩
  | 45 => ⟨S1x16x4096, .f32⟩
  | 46 => ⟨S2x16x4096, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_cst_3 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_4 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_c : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_c_5 : Ref sig .tc := ⟨.hbm, 85, rfl⟩
abbrev main_v75 : Ref sig .tc := ⟨.hbm, 86, rfl⟩
abbrev main_v76 : Ref sig .tc := ⟨.hbm, 87, rfl⟩
abbrev main_c_6 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_c_7 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_c_8 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_9 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_10 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_11 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_12 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_cst_13 : Ref sig .tc := ⟨.hbm, 140, rfl⟩
abbrev main_v119 : Ref sig .tc := ⟨.hbm, 141, rfl⟩
abbrev main_cst_14 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_15 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_cst_16 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩

abbrev nD : Nat := 1
abbrev τ : Topo := Topo.v7x

variable {F : FTy → Type} [FloatOps F]

def κ : String → Option EReal := fun
  | "mask" => some ⊥
  | _ => none
-- ==== Kvq.lean ====
abbrev S4096x1024 : Shape := ⟨2, ![4096, 1024]⟩
abbrev S1x1024 : Shape := ⟨2, ![1, 1024]⟩
abbrev S1024x512 : Shape := ⟨2, ![1024, 512]⟩
abbrev S1024x1024 : Shape := ⟨2, ![1024, 1024]⟩
abbrev S4096x512 : Shape := ⟨2, ![4096, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S1024x512, .bf16⟩
  | .hbm, ⟨4, _⟩ => ⟨S1024x1024, .bf16⟩
  | .hbm, ⟨5, _⟩ => ⟨S4096x512, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KvqRefIdeal.lean ====
abbrev S4096x1024 : Shape := ⟨2, ![4096, 1024]⟩
abbrev S1x1024 : Shape := ⟨2, ![1, 1024]⟩
abbrev S1024x512 : Shape := ⟨2, ![1024, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1x1024, .f32⟩
  | .hbm, ⟨3, _⟩ => ⟨S1024x512, .bf16⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x512, .f32⟩
  | .hbm, ⟨22, _⟩ => ⟨S4096x512, .f32⟩
  | .hbm, ⟨23, _⟩ => ⟨S4096x512, .bf16⟩
  | .hbm, ⟨24, _⟩ => ⟨S4096x1024, .bf16⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S4096x1024, .f32⟩
  | .hbm, ⟨43, _⟩ => ⟨S4096x1024, .bf16⟩
  | .hbm, ⟨44, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== MixOut.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixOutRefIdeal.lean ====
abbrev S4096x2816 : Shape := ⟨2, ![4096, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S1x1024, .f32⟩
  | .hbm, ⟨3, _⟩ => ⟨S4096x1024, .bf16⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Gate.lean ====
abbrev S4096x1024 : Shape := ⟨2, ![4096, 1024]⟩
abbrev S1x1024 : Shape := ⟨2, ![1, 1024]⟩
abbrev S1024x5632 : Shape := ⟨2, ![1024, 5632]⟩
abbrev S2x4096x2816 : Shape := ⟨3, ![2, 4096, 2816]⟩
abbrev S4096x2816 : Shape := ⟨2, ![4096, 2816]⟩
abbrev S1024x4096 : Shape := ⟨2, ![1024, 4096]⟩
abbrev S512x1024 : Shape := ⟨2, ![512, 1024]⟩
abbrev S1024x2816 : Shape := ⟨2, ![1024, 2816]⟩
abbrev S2x512x2816 : Shape := ⟨3, ![2, 512, 2816]⟩
abbrev S512x2816 : Shape := ⟨2, ![512, 2816]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S1x256x2816 : Shape := ⟨3, ![1, 256, 2816]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1024x5632, .bf16⟩
  | .hbm, ⟨3, _⟩ => ⟨S2x4096x2816, .bf16⟩
  | .hbm, ⟨4, _⟩ => ⟨S4096x2816, .bf16⟩
  | .hbm, ⟨5, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2x512x2816, .bf16⟩
  | .local _ .vmem, ⟨6, _⟩ => ⟨S2x512x2816, .bf16⟩
  | .local _ .vmem, ⟨7, _⟩ => ⟨S512x2816, .bf16⟩
  | .local _ .vmem, ⟨8, _⟩ => ⟨S512x2816, .bf16⟩
  | .local _ .vmem, ⟨9, _⟩ => ⟨S1024x512, .bf16⟩
  | .local _ .vmem, ⟨10, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x4096 : Shape := ⟨2, ![1024, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .hbm, ⟨2, _⟩ => ⟨S1024x5632, .bf16⟩
  | .hbm, ⟨3, _⟩ => ⟨S4096x1024, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S1x4096x2816, .f32⟩
  | .hbm, ⟨24, _⟩ => ⟨S1x4096x2816, .f32⟩
  | .hbm, ⟨25, _⟩ => ⟨S2x4096x2816, .f32⟩
  | .hbm, ⟨26, _⟩ => ⟨S2x4096x2816, .bf16⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1024x4096, .f32⟩
  | .hbm, ⟨54, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== NormIn.lean ====
abbrev S4096x1024 : Shape := ⟨2, ![4096, 1024]⟩
abbrev S1x1024 : Shape := ⟨2, ![1, 1024]⟩
abbrev S1024x3072 : Shape := ⟨2, ![1024, 3072]⟩
abbrev S1x4096x3072 : Shape := ⟨3, ![1, 4096, 3072]⟩
abbrev S512x1024 : Shape := ⟨2, ![512, 1024]⟩
abbrev S1x512x3072 : Shape := ⟨3, ![1, 512, 3072]⟩
abbrev S512 : Shape := ⟨1, ![512]⟩
abbrev S512x1 : Shape := ⟨2, ![512, 1]⟩
abbrev S512x3072 : Shape := ⟨2, ![512, 3072]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .bf16⟩
  | .hbm, ⟨3, _⟩ => ⟨S1x4096x3072, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512x3072, .bf16⟩
  | .local _ .vmem, ⟨5, _⟩ => ⟨S1x512x3072, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormInRefIdeal.lean ====
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S1x4096x3072 : Shape := ⟨3, ![1, 4096, 3072]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x3072, .f32⟩
  | .hbm, ⟨19, _⟩ => ⟨S4096x3072, .f32⟩
  | .hbm, ⟨20, _⟩ => ⟨S4096x3072, .bf16⟩
  | .hbm, ⟨21, _⟩ => ⟨S4096x1024, .bf16⟩
  | .hbm, ⟨22, _⟩ => ⟨S1x4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ConvMix.lean ====
abbrev S4096x3072 : Shape := ⟨2, ![4096, 3072]⟩
abbrev S3x1024 : Shape := ⟨2, ![3, 1024]⟩
abbrev S1024x1024 : Shape := ⟨2, ![1024, 1024]⟩
abbrev S1x1024 : Shape := ⟨2, ![1, 1024]⟩
abbrev S4096x1024 : Shape := ⟨2, ![4096, 1024]⟩
abbrev S512x1024 : Shape := ⟨2, ![512, 1024]⟩
abbrev S16x1024 : Shape := ⟨2, ![16, 1024]⟩
abbrev S528x1024 : Shape := ⟨2, ![528, 1024]⟩
abbrev S512 : Shape := ⟨1, ![512]⟩
abbrev S512x1 : Shape := ⟨2, ![512, 1]⟩

abbrev nBuf : Space → Nat
  | .hbm => 8
  | .vmem => 21
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ConvMixRefIdeal.lean ====
abbrev S4096x3072 : Shape := ⟨2, ![4096, 3072]⟩
abbrev S3x1024 : Shape := ⟨2, ![3, 1024]⟩
abbrev S1024x1024 : Shape := ⟨2, ![1024, 1024]⟩
abbrev S1x1024 : Shape := ⟨2, ![1, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S1024x1024, .bf16⟩
  | .hbm, ⟨3, _⟩ => ⟨S1x1024, .f32⟩
  | .hbm, ⟨4, _⟩ => ⟨S4096x1024, .f32⟩
  | .hbm, ⟨5, _⟩ => ⟨S4096x3072, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S2x1024, .f32⟩
  | .hbm, ⟨12, _⟩ => ⟨S4098x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | .hbm, ⟨53, _⟩ => ⟨S4096x1024, .bf16⟩
  | .hbm, ⟨54, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Attn.lean ====
abbrev S4096x1024 : Shape := ⟨2, ![4096, 1024]⟩
abbrev S4096x512 : Shape := ⟨2, ![4096, 512]⟩
abbrev S1x16 : Shape := ⟨2, ![1, 16]⟩
abbrev S16 : Shape := ⟨1, ![16]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x256 : Shape := ⟨2, ![4096, 256]⟩
abbrev S4096x16x64 : Shape := ⟨3, ![4096, 16, 64]⟩
abbrev S4096x16x8 : Shape := ⟨3, ![4096, 16, 8]⟩
abbrev S4096x16x48 : Shape := ⟨3, ![4096, 16, 48]⟩
abbrev S4096x4x64 : Shape := ⟨3, ![4096, 4, 64]⟩
abbrev S4096x4x8 : Shape := ⟨3, ![4096, 4, 8]⟩
abbrev S4096x4x48 : Shape := ⟨3, ![4096, 4, 48]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S4x4x32x128 : Shape := ⟨4, ![4, 4, 32, 128]⟩
abbrev S16x4096 : Shape := ⟨2, ![16, 4096]⟩
abbrev S1x16x4096 : Shape := ⟨3, ![1, 16, 4096]⟩
abbrev S2x16x4096 : Shape := ⟨3, ![2, 16, 4096]⟩
abbrev S8x4096 : Shape := ⟨2, ![8, 4096]⟩
abbrev S48x4096 : Shape := ⟨2, ![48, 4096]⟩
abbrev S64x4096 : Shape := ⟨2, ![64, 4096]⟩
abbrev S1x64x4096 : Shape := ⟨3, ![1, 64, 4096]⟩
abbrev S3x64x4096 : Shape := ⟨3, ![3, 64, 4096]⟩
abbrev S8x128 : Shape := ⟨2, ![8, 128]⟩
abbrev S128x1024 : Shape := ⟨2, ![128, 1024]⟩
abbrev S3x64x128 : Shape := ⟨3, ![3, 64, 128]⟩
abbrev S2x16x128 : Shape := ⟨3, ![2, 16, 128]⟩
abbrev S128x512 : Shape := ⟨2, ![128, 512]⟩
abbrev S256x128 : Shape := ⟨2, ![256, 128]⟩
abbrev S256x512 : Shape := ⟨2, ![256, 512]⟩
abbrev S256x256 : Shape := ⟨2, ![256, 256]⟩
abbrev S1024x128 : Shape := ⟨2, ![1024, 128]⟩
abbrev S3x64x256 : Shape := ⟨3, ![3, 64, 256]⟩
abbrev S64x128 : Shape := ⟨2, ![64, 128]⟩
abbrev S1x128 : Shape := ⟨2, ![1, 128]⟩
abbrev S16x128 : Shape := ⟨2, ![16, 128]⟩
abbrev S1x16x128 : Shape := ⟨3, ![1, 16, 128]⟩
abbrev S64x256 : Shape := ⟨2, ![64, 256]⟩
abbrev S1x64x256 : Shape := ⟨3, ![1, 64, 256]⟩
abbrev S1x64x128 : Shape := ⟨3, ![1, 64, 128]⟩
abbrev S64x512 : Shape := ⟨2, ![64, 512]⟩
abbrev S1x512 : Shape := ⟨2, ![1, 512]⟩
abbrev S1x1 : Shape := ⟨2, ![1, 1]⟩
abbrev S1x1x128 : Shape := ⟨3, ![1, 1, 128]⟩
abbrev S1 : Shape := ⟨1, ![1]⟩
abbrev S1x1x1 : Shape := ⟨3, ![1, 1, 1]⟩
abbrev S512x256 : Shape := ⟨2, ![512, 256]⟩
abbrev S512x128 : Shape := ⟨2, ![512, 128]⟩

abbrev nBuf : Space → Nat
  | .hbm => 198
  | .vmem => 26
  | .smem => 1
  | _ => 0

abbrev hbmTy0_0 (i : Nat) : BufTy := match i % 128 with
  | 0 => ⟨S4096x1024, .bf16⟩
  | 1 => ⟨S4096x512, .bf16⟩
  | 2 => ⟨S1x16, .f32⟩
  | 3 => ⟨S4096x1024, .bf16⟩
  | 4 => ⟨S4096x1024, .f32⟩
  | 5 => ⟨S4096x512, .f32⟩
  | 6 => ⟨S16, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4096, .f32⟩
  | 22 => ⟨S4096x1, .f32⟩
  | 23 => ⟨S1x8, .f32⟩
  | 24 => ⟨S4096x8, .f32⟩
  | 25 => ⟨S4096x8, .f32⟩
  | 26 => ⟨S4096x8, .f32⟩
  | 27 => ⟨S4096x8, .f32⟩
  | 28 => ⟨S4096x1x8, .f32⟩
  | 29 => ⟨S4096x8, .f32⟩
  | 30 => ⟨S4096x1x8, .f32⟩
  | 31 => ⟨S4096x256, .f32⟩
  | 32 => ⟨S4096x256, .f32⟩
  | 33 => ⟨S4096x16x64, .f32⟩
  | 34 => ⟨S4096x16x8, .f32⟩
  | 35 => ⟨S4096x16x8, .f32⟩
  | 36 => ⟨S4096x16x48, .f32⟩
  | 37 => ⟨S4096x16x8, .f32⟩
  | 38 => ⟨S4096x16x8, .f32⟩
  | 39 => ⟨S4096x16x8, .f32⟩
  | 40 => ⟨S4096x16x8, .f32⟩
  | 41 => ⟨S4096x16x8, .f32⟩
  | 42 => ⟨S4096x16x8, .f32⟩
  | 43 => ⟨S4096x16x8, .f32⟩
  | 44 => ⟨S4096x16x8, .f32⟩
  | 45 => ⟨S4096x16x8, .f32⟩
  | 46 => ⟨S4096x16x8, .f32⟩
  | 47 => ⟨S4096x16x64, .f32⟩
  | 48 => ⟨S4096x4x64, .f32⟩
  | 49 => ⟨S4096x4x8, .f32⟩
  | 50 => ⟨S4096x4x8, .f32⟩
  | 51 => ⟨S4096x4x48, .f32⟩
  | 52 => ⟨S4096x4x8, .f32⟩
  | 53 => ⟨S4096x4x8, .f32⟩
  | 54 => ⟨S4096x4x8, .f32⟩
  | 55 => ⟨S4096x4x8, .f32⟩
  | 56 => ⟨S4096x4x8, .f32⟩
  | 57 => ⟨S4096x4x8, .f32⟩
  | 58 => ⟨S4096x4x8, .f32⟩
  | 59 => ⟨S4096x4x8, .f32⟩
  | 60 => ⟨S4096x4x8, .f32⟩
  | 61 => ⟨S4096x4x8, .f32⟩
  | 62 => ⟨S4096x4x64, .f32⟩
  | 63 => ⟨S4096x4x64, .f32⟩
  | 64 => ⟨S32x128x4x4x64, .f32⟩
  | 65 => ⟨S32x128x4x64, .f32⟩
  | 66 => ⟨S1x128x4x64, .f32⟩
  | 67 => ⟨S_, .f32⟩
  | 68 => ⟨S1x128x4x64, .f32⟩
  | 69 => ⟨S31x128x4x64, .f32⟩
  | 70 => ⟨S32x128x4x64, .f32⟩
  | 71 => ⟨S32x256x4x64, .f32⟩
  | 72 => ⟨S32x4x256x128x4, .f32⟩
  | 73 => ⟨S32x4x4x128x256, .f32⟩
  | 74 => ⟨S_, .f32⟩
  | 75 => ⟨S32x4x4x128x256, .f32⟩
  | 76 => ⟨S32x4x4x128x256, .f32⟩
  | 77 => ⟨S128, .i32⟩
  | 78 => ⟨S128x1, .i32⟩
  | 79 => ⟨S256, .i32⟩
  | 80 => ⟨S1x256, .i32⟩
  | 81 => ⟨S_, .i32⟩
  | 82 => ⟨S128x1, .i32⟩
  | 83 => ⟨S128x1, .i32⟩
  | 84 => ⟨S128x256, .i32⟩
  | 85 => ⟨S128x256, .i32⟩
  | 86 => ⟨S128x256, .i32⟩
  | 87 => ⟨S_, .i32⟩
  | 88 => ⟨S128x256, .i32⟩
  | 89 => ⟨S128x256, .i1⟩
  | 90 => ⟨S_, .i32⟩
  | 91 => ⟨S128x256, .i32⟩
  | 92 => ⟨S128x256, .i1⟩
  | 93 => ⟨S128x256, .i1⟩
  | 94 => ⟨S32, .i32⟩
  | 95 => ⟨S32x1x1, .i32⟩
  | 96 => ⟨S_, .i32⟩
  | 97 => ⟨S32x1x1, .i32⟩
  | 98 => ⟨S32x1x1, .i1⟩
  | 99 => ⟨S1x1x256, .i32⟩
  | 100 => ⟨S_, .i32⟩
  | 101 => ⟨S1x1x256, .i32⟩
  | 102 => ⟨S1x1x256, .i1⟩
  | 103 => ⟨S32x1x256, .i1⟩
  | 104 => ⟨S32x1x256, .i1⟩
  | 105 => ⟨S32x1x256, .i1⟩
  | 106 => ⟨S1x128x256, .i1⟩
  | 107 => ⟨S32x128x256, .i1⟩
  | 108 => ⟨S32x128x256, .i1⟩
  | 109 => ⟨S32x128x256, .i1⟩
  | 110 => ⟨S32x1x1x128x256, .i1⟩
  | 111 => ⟨S_, .f32⟩
  | 112 => ⟨S_, .f32⟩
  | 113 => ⟨S32x4x4x128x256, .i1⟩
  | 114 => ⟨S32x4x4x128x256, .f32⟩
  | 115 => ⟨S32x4x4x128x256, .f32⟩
  | 116 => ⟨S4x4, .f32⟩
  | 117 => ⟨S1x4x4x1x1, .f32⟩
  | 118 => ⟨S_, .f32⟩
  | 119 => ⟨S32x4x4x128, .f32⟩
  | 120 => ⟨S32x4x4x128x1, .f32⟩
  | 121 => ⟨S32x4x4x128x1, .f32⟩
  | 122 => ⟨S32x4x4x128x1, .f32⟩
  | 123 => ⟨S32x4x4x128x256, .f32⟩
  | 124 => ⟨S32x4x4x128x256, .f32⟩
  | 125 => ⟨S32x4x4x128x256, .f32⟩
  | 126 => ⟨S_, .f32⟩
  | 127 => ⟨S32x4x4x128, .f32⟩
  | _ => ⟨S4096x1024, .bf16⟩

abbrev hbmTy0_1 (i : Nat) : BufTy := match i % 128 with
  | 0 => ⟨S32x4x4x128x1, .f32⟩
  | 1 => ⟨S32x4x4x128x1, .f32⟩
  | 2 => ⟨S32x4x4x128x1, .f32⟩
  | 3 => ⟨S32x4x4x128x1, .f32⟩
  | 4 => ⟨S32x4x4x128x1, .f32⟩
  | 5 => ⟨S_, .f32⟩
  | 6 => ⟨S32x4x4x128x1, .f32⟩
  | 7 => ⟨S32x4x4x128x1, .f32⟩
  | 8 => ⟨S32x4x4x128x256, .f32⟩
  | 9 => ⟨S32x4x4x128x256, .f32⟩
  | 10 => ⟨S32x128x4x64, .f32⟩
  | 11 => ⟨S1x128x4x64, .f32⟩
  | 12 => ⟨S_, .f32⟩
  | 13 => ⟨S1x128x4x64, .f32⟩
  | 14 => ⟨S31x128x4x64, .f32⟩
  | 15 => ⟨S32x128x4x64, .f32⟩
  | 16 => ⟨S32x256x4x64, .f32⟩
  | 17 => ⟨S32x4x64x4x128, .f32⟩
  | 18 => ⟨S32x128x4x4x64, .f32⟩
  | 19 => ⟨S4096x1024, .f32⟩
  | 20 => ⟨S32x4x4x128, .f32⟩
  | 21 => ⟨S4x4x32x128, .f32⟩
  | 22 => ⟨S16x4096, .f32⟩
  | 23 => ⟨S32x4x4x128, .f32⟩
  | 24 => ⟨S4x4x32x128, .f32⟩
  | 25 => ⟨S16x4096, .f32⟩
  | 26 => ⟨S1x16x4096, .f32⟩
  | 27 => ⟨S1x16x4096, .f32⟩
  | 28 => ⟨S2x16x4096, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S4096, .f32⟩
  | 44 => ⟨S4096x1, .f32⟩
  | 45 => ⟨S1x8, .f32⟩
  | 46 => ⟨S4096x8, .f32⟩
  | 47 => ⟨S4096x8, .f32⟩
  | 48 => ⟨S4096x8, .f32⟩
  | 49 => ⟨S8x4096, .f32⟩
  | 50 => ⟨S8x4096, .f32⟩
  | 51 => ⟨S8x4096, .f32⟩
  | 52 => ⟨S_, .f32⟩
  | 53 => ⟨S48x4096, .f32⟩
  | 54 => ⟨S_, .f32⟩
  | 55 => ⟨S48x4096, .f32⟩
  | 56 => ⟨S_, .f32⟩
  | 57 => ⟨S8x4096, .f32⟩
  | 58 => ⟨S64x4096, .f32⟩
  | 59 => ⟨S8x4096, .f32⟩
  | 60 => ⟨S64x4096, .f32⟩
  | 61 => ⟨S64x4096, .f32⟩
  | 62 => ⟨S1x64x4096, .f32⟩
  | 63 => ⟨S1x64x4096, .f32⟩
  | 64 => ⟨S1x64x4096, .f32⟩
  | 65 => ⟨S3x64x4096, .f32⟩
  | 66 => ⟨S4096x1024, .bf16⟩
  | 67 => ⟨S4096x1024, .bf16⟩
  | 68 => ⟨S4096x512, .bf16⟩
  | 69 => ⟨S8x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S3x64x128, .f32⟩
  | .local _ .vmem, ⟨11, _⟩ => ⟨S3x64x128, .f32⟩
  | .local _ .vmem, ⟨12, _⟩ => ⟨S3x64x128, .f32⟩
  | .local _ .vmem, ⟨13, _⟩ => ⟨S3x64x128, .f32⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S2x16x128, .f32⟩
  | .local _ .vmem, ⟨19, _⟩ => ⟨S2x16x128, .f32⟩
  | .local _ .vmem, ⟨20, _⟩ => ⟨S128x1024, .bf16⟩
  | .local _ .vmem, ⟨21, _⟩ => ⟨S128x1024, .bf16⟩
  | .local _ .vmem, ⟨22, _⟩ => ⟨S128x512, .bf16⟩
  | .local _ .vmem, ⟨23, _⟩ => ⟨S128x512, .bf16⟩
  | .local _ .vmem, ⟨24, _⟩ => ⟨S8x128, .f32⟩
  | .local _ .vmem, ⟨25, _⟩ => ⟨S128x512, .f32⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_4 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_c : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_c_5 : Ref sig .tc := ⟨.hbm, 87, rfl⟩
abbrev main_v76 : Ref sig .tc := ⟨.hbm, 88, rfl⟩
abbrev main_v77 : Ref sig .tc := ⟨.hbm, 89, rfl⟩
abbrev main_c_6 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_c_7 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_c_8 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_9 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_10 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_11 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_12 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_13 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_cst_14 : Ref sig .tc := ⟨.hbm, 158, rfl⟩
abbrev main_v135 : Ref sig .tc := ⟨.hbm, 159, rfl⟩
abbrev main_v136 : Ref sig .tc := ⟨.hbm, 160, rfl⟩
abbrev main_cst_15 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_16 : Ref sig .tc := ⟨.hbm, 165, rfl⟩
abbrev main_v140 : Ref sig .tc := ⟨.hbm, 166, rfl⟩
abbrev main_v141 : Ref sig .tc := ⟨.hbm, 167, rfl⟩
abbrev main_cst_17 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_cst_18 : Ref sig .tc := ⟨.hbm, 180, rfl⟩
abbrev main_v153 : Ref sig .tc := ⟨.hbm, 181, rfl⟩
abbrev main_cst_19 : Ref sig .tc := ⟨.hbm, 182, rfl⟩
abbrev main_v154 : Ref sig .tc := ⟨.hbm, 183, rfl⟩
abbrev main_cst_20 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165_0 : Ref sig .tc := ⟨.hbm, 195, rfl⟩
abbrev main_v165_1 : Ref sig .tc := ⟨.hbm, 196, rfl⟩
abbrev main_v165_2 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond5 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond3 (i : grid0.Coords) : BitVec 1 :=
  let arg0 : BitVec 32 := BitVec.ofNat 32 (i 0).val
  let c0_i32_284 : BitVec 32 := 0#32
  let v1300 : BitVec 1 := Scalar.cmpi .eq arg0 c0_i32_284
  let v1301 : BitVec 32 := Scalar.extui v1300
  let c0_i32_285 : BitVec 32 := 0#32
  let v1302 : BitVec 1 := Scalar.cmpi .ne v1301 c0_i32_285
  v1302

def k0_cond4 (i : grid0.Coords) : BitVec 1 :=
  let arg0 : BitVec 32 := BitVec.ofNat 32 (i 0).val
  let c0_i32_284 : BitVec 32 := 0#32
  let v1300 : BitVec 1 := Scalar.cmpi .eq arg0 c0_i32_284
  let v_true : BitVec 1 := 1#1
  let v1303 : BitVec 1 := Scalar.xori v1300 v_true
  let v1304 : BitVec 32 := Scalar.extui v1303
  let c0_i32_286 : BitVec 32 := 0#32
  let v1305 : BitVec 1 := Scalar.cmpi .ne v1304 c0_i32_286
  v1305

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, c0_i32_1.toNat, v2.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, c0_i32_0.toNat, v0.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S4096x1024 : Shape := ⟨2, ![4096, 1024]⟩
abbrev S4096x512 : Shape := ⟨2, ![4096, 512]⟩
abbrev S1x16 : Shape := ⟨2, ![1, 16]⟩
abbrev S16 : Shape := ⟨1, ![16]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4096x256 : Shape := ⟨2, ![4096, 256]⟩
abbrev S4096x16x64 : Shape := ⟨3, ![4096, 16, 64]⟩
abbrev S4096x16x8 : Shape := ⟨3, ![4096, 16, 8]⟩
abbrev S4096x16x48 : Shape := ⟨3, ![4096, 16, 48]⟩
abbrev S4096x4x64 : Shape := ⟨3, ![4096, 4, 64]⟩
abbrev S4096x4x8 : Shape := ⟨3, ![4096, 4, 8]⟩
abbrev S4096x4x48 : Shape := ⟨3, ![4096, 4, 48]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S4x4 : Shape := ⟨2, ![4, 4]⟩
abbrev S1x4x4x1x1 : Shape := ⟨5, ![1, 4, 4, 1, 1]⟩
abbrev S32x4x4x128x1 : Shape := ⟨5, ![32, 4, 4, 128, 1]⟩
abbrev S32x4x4x128x257 : Shape := ⟨5, ![32, 4, 4, 128, 257]⟩
abbrev S32x4x4x128 : Shape := ⟨4, ![32, 4, 4, 128]⟩
abbrev S32x4x64x4x128 : Shape := ⟨5, ![32, 4, 64, 4, 128]⟩
abbrev S32x4x64x256 : Shape := ⟨4, ![32, 4, 64, 256]⟩
abbrev S32x4x128x4x64 : Shape := ⟨5, ![32, 4, 128, 4, 64]⟩
abbrev S32x4x256x64 : Shape := ⟨4, ![32, 4, 256, 64]⟩
abbrev S8x128 : Shape := ⟨2, ![8, 128]⟩

abbrev nBuf : Space → Nat
  | .hbm => 287
  | .vmem => 0
  | .smem => 0
  | _ => 0

abbrev hbmTy0_0 (i : Nat) : BufTy := match i % 128 with
  | 0 => ⟨S4096x1024, .bf16⟩
  | 1 => ⟨S4096x512, .bf16⟩
  | 2 => ⟨S1x16, .f32⟩
  | 3 => ⟨S4096x1024, .bf16⟩
  | 4 => ⟨S4096x1024, .f32⟩
  | 5 => ⟨S4096x512, .f32⟩
  | 6 => ⟨S16, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4096, .f32⟩
  | 22 => ⟨S4096x1, .f32⟩
  | 23 => ⟨S1x8, .f32⟩
  | 24 => ⟨S4096x8, .f32⟩
  | 25 => ⟨S4096x8, .f32⟩
  | 26 => ⟨S4096x8, .f32⟩
  | 27 => ⟨S4096x8, .f32⟩
  | 28 => ⟨S4096x1x8, .f32⟩
  | 29 => ⟨S4096x8, .f32⟩
  | 30 => ⟨S4096x1x8, .f32⟩
  | 31 => ⟨S4096x256, .f32⟩
  | 32 => ⟨S4096x256, .f32⟩
  | 33 => ⟨S4096x16x64, .f32⟩
  | 34 => ⟨S4096x16x8, .f32⟩
  | 35 => ⟨S4096x16x8, .f32⟩
  | 36 => ⟨S4096x16x48, .f32⟩
  | 37 => ⟨S4096x16x8, .f32⟩
  | 38 => ⟨S4096x16x8, .f32⟩
  | 39 => ⟨S4096x16x8, .f32⟩
  | 40 => ⟨S4096x16x8, .f32⟩
  | 41 => ⟨S4096x16x8, .f32⟩
  | 42 => ⟨S4096x16x8, .f32⟩
  | 43 => ⟨S4096x16x8, .f32⟩
  | 44 => ⟨S4096x16x8, .f32⟩
  | 45 => ⟨S4096x16x8, .f32⟩
  | 46 => ⟨S4096x16x8, .f32⟩
  | 47 => ⟨S4096x16x64, .f32⟩
  | 48 => ⟨S4096x4x64, .f32⟩
  | 49 => ⟨S4096x4x8, .f32⟩
  | 50 => ⟨S4096x4x8, .f32⟩
  | 51 => ⟨S4096x4x48, .f32⟩
  | 52 => ⟨S4096x4x8, .f32⟩
  | 53 => ⟨S4096x4x8, .f32⟩
  | 54 => ⟨S4096x4x8, .f32⟩
  | 55 => ⟨S4096x4x8, .f32⟩
  | 56 => ⟨S4096x4x8, .f32⟩
  | 57 => ⟨S4096x4x8, .f32⟩
  | 58 => ⟨S4096x4x8, .f32⟩
  | 59 => ⟨S4096x4x8, .f32⟩
  | 60 => ⟨S4096x4x8, .f32⟩
  | 61 => ⟨S4096x4x8, .f32⟩
  | 62 => ⟨S4096x4x64, .f32⟩
  | 63 => ⟨S4096x4x64, .f32⟩
  | 64 => ⟨S32x128x4x4x64, .f32⟩
  | 65 => ⟨S32x128x4x64, .f32⟩
  | 66 => ⟨S1x128x4x64, .f32⟩
  | 67 => ⟨S_, .f32⟩
  | 68 => ⟨S1x128x4x64, .f32⟩
  | 69 => ⟨S31x128x4x64, .f32⟩
  | 70 => ⟨S32x128x4x64, .f32⟩
  | 71 => ⟨S_, .f32⟩
  | 72 => ⟨S1x128x4x64, .f32⟩
  | 73 => ⟨S32x256x4x64, .f32⟩
  | 74 => ⟨S32x4x256x128x4, .f32⟩
  | 75 => ⟨S32x4x4x128x256, .f32⟩
  | 76 => ⟨S_, .f32⟩
  | 77 => ⟨S32x4x4x128x256, .f32⟩
  | 78 => ⟨S32x4x4x128x256, .f32⟩
  | 79 => ⟨S128, .i32⟩
  | 80 => ⟨S128x1, .i32⟩
  | 81 => ⟨S256, .i32⟩
  | 82 => ⟨S1x256, .i32⟩
  | 83 => ⟨S_, .i32⟩
  | 84 => ⟨S128x1, .i32⟩
  | 85 => ⟨S128x1, .i32⟩
  | 86 => ⟨S128x256, .i32⟩
  | 87 => ⟨S128x256, .i32⟩
  | 88 => ⟨S128x256, .i32⟩
  | 89 => ⟨S_, .i32⟩
  | 90 => ⟨S128x256, .i32⟩
  | 91 => ⟨S128x256, .i1⟩
  | 92 => ⟨S_, .i32⟩
  | 93 => ⟨S128x256, .i32⟩
  | 94 => ⟨S128x256, .i1⟩
  | 95 => ⟨S128x256, .i1⟩
  | 96 => ⟨S32, .i32⟩
  | 97 => ⟨S32x1x1, .i32⟩
  | 98 => ⟨S_, .i32⟩
  | 99 => ⟨S32x1x1, .i32⟩
  | 100 => ⟨S32x1x1, .i1⟩
  | 101 => ⟨S1x1x256, .i32⟩
  | 102 => ⟨S_, .i32⟩
  | 103 => ⟨S1x1x256, .i32⟩
  | 104 => ⟨S1x1x256, .i1⟩
  | 105 => ⟨S32x1x256, .i1⟩
  | 106 => ⟨S32x1x256, .i1⟩
  | 107 => ⟨S32x1x256, .i1⟩
  | 108 => ⟨S1x128x256, .i1⟩
  | 109 => ⟨S32x128x256, .i1⟩
  | 110 => ⟨S32x128x256, .i1⟩
  | 111 => ⟨S32x128x256, .i1⟩
  | 112 => ⟨S32x1x1x128x256, .i1⟩
  | 113 => ⟨S_, .f32⟩
  | 114 => ⟨S_, .f32⟩
  | 115 => ⟨S32x4x4x128x256, .i1⟩
  | 116 => ⟨S32x4x4x128x256, .f32⟩
  | 117 => ⟨S32x4x4x128x256, .f32⟩
  | 118 => ⟨S_, .f32⟩
  | 119 => ⟨S32x4x4x128x256, .f32⟩
  | 120 => ⟨S4x4, .f32⟩
  | 121 => ⟨S1x4x4x1x1, .f32⟩
  | 122 => ⟨S32x4x4x128x1, .f32⟩
  | 123 => ⟨S32x4x4x128x257, .f32⟩
  | 124 => ⟨S_, .f32⟩
  | 125 => ⟨S32x4x4x128, .f32⟩
  | 126 => ⟨S32x4x4x128x1, .f32⟩
  | 127 => ⟨S32x4x4x128x257, .f32⟩
  | _ => ⟨S4096x1024, .bf16⟩

abbrev hbmTy0_1 (i : Nat) : BufTy := match i % 128 with
  | 0 => ⟨S32x4x4x128x257, .i1⟩
  | 1 => ⟨S32x4x4x128x257, .f32⟩
  | 2 => ⟨S_, .f32⟩
  | 3 => ⟨S32x4x4x128, .f32⟩
  | 4 => ⟨S_, .f32⟩
  | 5 => ⟨S32x4x4x128, .f32⟩
  | 6 => ⟨S32x4x4x128, .f32⟩
  | 7 => ⟨S_, .f32⟩
  | 8 => ⟨S32x4x4x128, .f32⟩
  | 9 => ⟨S32x4x4x128, .i1⟩
  | 10 => ⟨S_, .f32⟩
  | 11 => ⟨S32x4x4x128, .f32⟩
  | 12 => ⟨S32x4x4x128, .i1⟩
  | 13 => ⟨S_, .f32⟩
  | 14 => ⟨S32x4x4x128, .f32⟩
  | 15 => ⟨S_, .f32⟩
  | 16 => ⟨S32x4x4x128, .f32⟩
  | 17 => ⟨S_, .f32⟩
  | 18 => ⟨S32x4x4x128, .f32⟩
  | 19 => ⟨S32x4x4x128, .f32⟩
  | 20 => ⟨S32x4x4x128, .f32⟩
  | 21 => ⟨S32x4x4x128x1, .f32⟩
  | 22 => ⟨S32x4x4x128x257, .f32⟩
  | 23 => ⟨S32x4x4x128x257, .f32⟩
  | 24 => ⟨S32x4x4x128x257, .f32⟩
  | 25 => ⟨S_, .f32⟩
  | 26 => ⟨S32x4x4x128, .f32⟩
  | 27 => ⟨S32x4x4x128x1, .f32⟩
  | 28 => ⟨S32x4x4x128x257, .f32⟩
  | 29 => ⟨S32x4x4x128x257, .f32⟩
  | 30 => ⟨S32x4x4x128x1, .f32⟩
  | 31 => ⟨S_, .f32⟩
  | 32 => ⟨S32x4x4x128x1, .f32⟩
  | 33 => ⟨S32x4x4x128x1, .f32⟩
  | 34 => ⟨S32x4x4x128x256, .f32⟩
  | 35 => ⟨S32x128x4x64, .f32⟩
  | 36 => ⟨S1x128x4x64, .f32⟩
  | 37 => ⟨S_, .f32⟩
  | 38 => ⟨S1x128x4x64, .f32⟩
  | 39 => ⟨S31x128x4x64, .f32⟩
  | 40 => ⟨S32x128x4x64, .f32⟩
  | 41 => ⟨S_, .f32⟩
  | 42 => ⟨S1x128x4x64, .f32⟩
  | 43 => ⟨S32x256x4x64, .f32⟩
  | 44 => ⟨S32x4x64x4x128, .f32⟩
  | 45 => ⟨S32x128x4x4x64, .f32⟩
  | 46 => ⟨S4096x1024, .f32⟩
  | 47 => ⟨S4096x1024, .f32⟩
  | 48 => ⟨S32x128x4x4x64, .f32⟩
  | 49 => ⟨S32x4x64x4x128, .f32⟩
  | 50 => ⟨S32x4x4x128x256, .f32⟩
  | 51 => ⟨S32x4x64x256, .f32⟩
  | 52 => ⟨S32x256x4x64, .f32⟩
  | 53 => ⟨S32x128x4x64, .f32⟩
  | 54 => ⟨S32x128x4x64, .f32⟩
  | 55 => ⟨S1x128x4x64, .f32⟩
  | 56 => ⟨S31x128x4x64, .f32⟩
  | 57 => ⟨S_, .f32⟩
  | 58 => ⟨S32x128x4x64, .f32⟩
  | 59 => ⟨S32x128x4x64, .f32⟩
  | 60 => ⟨S4096x4x64, .f32⟩
  | 61 => ⟨S_, .f32⟩
  | 62 => ⟨S32x4x4x128x257, .f32⟩
  | 63 => ⟨S32x4x4x128x257, .f32⟩
  | 64 => ⟨S32x4x4x128x257, .f32⟩
  | 65 => ⟨S32x4x4x128x257, .f32⟩
  | 66 => ⟨S_, .f32⟩
  | 67 => ⟨S32x4x4x128, .f32⟩
  | 68 => ⟨S32x4x4x128x1, .f32⟩
  | 69 => ⟨S32x4x4x128x1, .f32⟩
  | 70 => ⟨S32x4x4x128x257, .f32⟩
  | 71 => ⟨S32x4x4x128x257, .f32⟩
  | 72 => ⟨S_, .f32⟩
  | 73 => ⟨S32x4x4x128, .f32⟩
  | 74 => ⟨S32x4x4x128x257, .f32⟩
  | 75 => ⟨S32x4x4x128x257, .f32⟩
  | 76 => ⟨S32x4x4x128x257, .f32⟩
  | 77 => ⟨S32x4x4x128x256, .f32⟩
  | 78 => ⟨S32x4x4x128x1, .f32⟩
  | 79 => ⟨S_, .f32⟩
  | 80 => ⟨S4x4, .f32⟩
  | 81 => ⟨S1x4x4x1x1, .f32⟩
  | 82 => ⟨S_, .f32⟩
  | 83 => ⟨S4x4, .f32⟩
  | 84 => ⟨S16, .f32⟩
  | 85 => ⟨S_, .f32⟩
  | 86 => ⟨S32x4x4x128x256, .f32⟩
  | 87 => ⟨S32x4x4x128x256, .f32⟩
  | 88 => ⟨S_, .f32⟩
  | 89 => ⟨S32x4x4x128x256, .f32⟩
  | 90 => ⟨S32x4x4x128x256, .f32⟩
  | 91 => ⟨S32x4x256x128x4, .f32⟩
  | 92 => ⟨S32x4x128x4x64, .f32⟩
  | 93 => ⟨S32x128x4x4x64, .f32⟩
  | 94 => ⟨S32x4x256x64, .f32⟩
  | 95 => ⟨S32x256x4x64, .f32⟩
  | 96 => ⟨S32x128x4x64, .f32⟩
  | 97 => ⟨S32x128x4x64, .f32⟩
  | 98 => ⟨S1x128x4x64, .f32⟩
  | 99 => ⟨S31x128x4x64, .f32⟩
  | 100 => ⟨S_, .f32⟩
  | 101 => ⟨S32x128x4x64, .f32⟩
  | 102 => ⟨S32x128x4x64, .f32⟩
  | 103 => ⟨S4096x4x64, .f32⟩
  | 104 => ⟨S4096x16x64, .f32⟩
  | 105 => ⟨S4096x256, .f32⟩
  | 106 => ⟨S4096x4x8, .f32⟩
  | 107 => ⟨S4096x4x8, .f32⟩
  | 108 => ⟨S4096x4x48, .f32⟩
  | 109 => ⟨S4096x4x8, .f32⟩
  | 110 => ⟨S4096x4x8, .f32⟩
  | 111 => ⟨S4096x4x8, .f32⟩
  | 112 => ⟨S4096x4x8, .f32⟩
  | 113 => ⟨S4096x4x8, .f32⟩
  | 114 => ⟨S4096x4x8, .f32⟩
  | 115 => ⟨S4096x4x8, .f32⟩
  | 116 => ⟨S4096x4x8, .f32⟩
  | 117 => ⟨S4096x4x8, .f32⟩
  | 118 => ⟨S4096x4x8, .f32⟩
  | 119 => ⟨S4096x4x8, .f32⟩
  | 120 => ⟨S_, .f32⟩
  | 121 => ⟨S4096x4x64, .f32⟩
  | 122 => ⟨S_, .f32⟩
  | 123 => ⟨S4096x4x64, .f32⟩
  | 124 => ⟨S4096x4x64, .f32⟩
  | 125 => ⟨S_, .f32⟩
  | 126 => ⟨S4096x4x64, .f32⟩
  | 127 => ⟨S4096x4x64, .f32⟩
  | _ => ⟨S4096x1024, .bf16⟩

abbrev hbmTy0_2 (i : Nat) : BufTy := match i % 128 with
  | 0 => ⟨S4096x256, .f32⟩
  | 1 => ⟨S4096x16x8, .f32⟩
  | 2 => ⟨S4096x16x8, .f32⟩
  | 3 => ⟨S4096x16x48, .f32⟩
  | 4 => ⟨S4096x16x8, .f32⟩
  | 5 => ⟨S4096x16x8, .f32⟩
  | 6 => ⟨S4096x16x8, .f32⟩
  | 7 => ⟨S4096x16x8, .f32⟩
  | 8 => ⟨S4096x16x8, .f32⟩
  | 9 => ⟨S4096x16x8, .f32⟩
  | 10 => ⟨S4096x16x8, .f32⟩
  | 11 => ⟨S4096x16x8, .f32⟩
  | 12 => ⟨S4096x16x8, .f32⟩
  | 13 => ⟨S4096x16x8, .f32⟩
  | 14 => ⟨S4096x16x8, .f32⟩
  | 15 => ⟨S_, .f32⟩
  | 16 => ⟨S4096x16x64, .f32⟩
  | 17 => ⟨S_, .f32⟩
  | 18 => ⟨S4096x16x64, .f32⟩
  | 19 => ⟨S4096x16x64, .f32⟩
  | 20 => ⟨S_, .f32⟩
  | 21 => ⟨S4096x16x64, .f32⟩
  | 22 => ⟨S4096x16x64, .f32⟩
  | 23 => ⟨S4096x1024, .f32⟩
  | 24 => ⟨S4096x512, .f32⟩
  | 25 => ⟨S4096x1024, .bf16⟩
  | 26 => ⟨S4096x512, .bf16⟩
  | 27 => ⟨S_, .i32⟩
  | 28 => ⟨S_, .f32⟩
  | 29 => ⟨S128, .f32⟩
  | 30 => ⟨S8x128, .f32⟩
  | _ => ⟨S4096x1024, .bf16⟩

abbrev hbmTy (i : Nat) : BufTy := match i / 128 with
  | 0 => hbmTy0_0 i
  | 1 => hbmTy0_1 i
  | 2 => hbmTy0_2 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_4 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_c : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_c_6 : Ref sig .tc := ⟨.hbm, 89, rfl⟩
abbrev main_v77 : Ref sig .tc := ⟨.hbm, 90, rfl⟩
abbrev main_v78 : Ref sig .tc := ⟨.hbm, 91, rfl⟩
abbrev main_c_7 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_c_8 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_c_9 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_10 : Ref sig .tc := ⟨.hbm, 113, rfl⟩
abbrev main_call0_v0 : Ref sig .tc := ⟨.hbm, 114, rfl⟩
abbrev main_v97_1 : Ref sig .tc := ⟨.hbm, 115, rfl⟩
abbrev main_call0_v2 : Ref sig .tc := ⟨.hbm, 116, rfl⟩
abbrev main_v97_0 : Ref sig .tc := ⟨.hbm, 117, rfl⟩
abbrev main_call0_cst : Ref sig .tc := ⟨.hbm, 118, rfl⟩
abbrev main_v97_2 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_11 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_12 : Ref sig .tc := ⟨.hbm, 130, rfl⟩
abbrev main_v107 : Ref sig .tc := ⟨.hbm, 131, rfl⟩
abbrev main_cst_13 : Ref sig .tc := ⟨.hbm, 132, rfl⟩
abbrev main_v108 : Ref sig .tc := ⟨.hbm, 133, rfl⟩
abbrev main_v109 : Ref sig .tc := ⟨.hbm, 134, rfl⟩
abbrev main_cst_14 : Ref sig .tc := ⟨.hbm, 135, rfl⟩
abbrev main_v110 : Ref sig .tc := ⟨.hbm, 136, rfl⟩
abbrev main_v111 : Ref sig .tc := ⟨.hbm, 137, rfl⟩
abbrev main_cst_15 : Ref sig .tc := ⟨.hbm, 138, rfl⟩
abbrev main_v112 : Ref sig .tc := ⟨.hbm, 139, rfl⟩
abbrev main_v113 : Ref sig .tc := ⟨.hbm, 140, rfl⟩
abbrev main_cst_16 : Ref sig .tc := ⟨.hbm, 141, rfl⟩
abbrev main_v114 : Ref sig .tc := ⟨.hbm, 142, rfl⟩
abbrev main_cst_17 : Ref sig .tc := ⟨.hbm, 143, rfl⟩
abbrev main_v115 : Ref sig .tc := ⟨.hbm, 144, rfl⟩
abbrev main_cst_18 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_19 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_cst_20 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_21 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_22 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_cst_23 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_24 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_cst_25 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_26 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_27 : Ref sig .tc := ⟨.hbm, 207, rfl⟩
abbrev main_v169 : Ref sig .tc := ⟨.hbm, 208, rfl⟩
abbrev main_v170 : Ref sig .tc := ⟨.hbm, 209, rfl⟩
abbrev main_cst_28 : Ref sig .tc := ⟨.hbm, 210, rfl⟩
abbrev main_v171 : Ref sig .tc := ⟨.hbm, 211, rfl⟩
abbrev main_v172 : Ref sig .tc := ⟨.hbm, 212, rfl⟩
abbrev main_call1_cst : Ref sig .tc := ⟨.hbm, 213, rfl⟩
abbrev main_call1_v0 : Ref sig .tc := ⟨.hbm, 214, rfl⟩
abbrev main_v173 : Ref sig .tc := ⟨.hbm, 215, rfl⟩
abbrev main_cst_29 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_30 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_cst_31 : Ref sig .tc := ⟨.hbm, 248, rfl⟩
abbrev main_v204 : Ref sig .tc := ⟨.hbm, 249, rfl⟩
abbrev main_cst_32 : Ref sig .tc := ⟨.hbm, 250, rfl⟩
abbrev main_v205 : Ref sig .tc := ⟨.hbm, 251, rfl⟩
abbrev main_v206 : Ref sig .tc := ⟨.hbm, 252, rfl⟩
abbrev main_cst_33 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_cst_34 : Ref sig .tc := ⟨.hbm, 271, rfl⟩
abbrev main_v224 : Ref sig .tc := ⟨.hbm, 272, rfl⟩
abbrev main_cst_35 : Ref sig .tc := ⟨.hbm, 273, rfl⟩
abbrev main_v225 : Ref sig .tc := ⟨.hbm, 274, rfl⟩
abbrev main_v226 : Ref sig .tc := ⟨.hbm, 275, rfl⟩
abbrev main_cst_36 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_c_37 : Ref sig .tc := ⟨.hbm, 283, rfl⟩
abbrev main_call2_v0 : Ref sig .tc := ⟨.hbm, 284, rfl⟩
abbrev main_v233 : Ref sig .tc := ⟨.hbm, 285, rfl⟩
abbrev main_v234 : Ref sig .tc := ⟨.hbm, 286, rfl⟩

abbrev nD : Nat := 1
abbrev τ : Topo := Topo.v7x

variable {F : FTy → Type} [FloatOps F]

def κ : String → Option EReal := fun
  | "mask" => some ⊥
  | _ => none
-- ==== Adam.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamRefIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== WGrad.lean ====
abbrev S4096x1024 : Shape := ⟨2, ![4096, 1024]⟩
abbrev S4096x3072 : Shape := ⟨2, ![4096, 3072]⟩
abbrev S1x4096x3072 : Shape := ⟨3, ![1, 4096, 3072]⟩
abbrev S1024x3072 : Shape := ⟨2, ![1024, 3072]⟩
abbrev S4096x256 : Shape := ⟨2, ![4096, 256]⟩
abbrev S1x4096x1536 : Shape := ⟨3, ![1, 4096, 1536]⟩
abbrev S256x1536 : Shape := ⟨2, ![256, 1536]⟩
abbrev S4096x1536 : Shape := ⟨2, ![4096, 1536]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1x4096x3072, .bf16⟩
  | .hbm, ⟨3, _⟩ => ⟨S1024x3072, .bf16⟩
  | .local _ .vmem, ⟨0, _⟩ => ⟨S4096x256, .bf16⟩
  | .local _ .vmem, ⟨1, _⟩ => ⟨S4096x256, .bf16⟩
  | .local _ .vmem, ⟨2, _⟩ => ⟨S1x4096x1536, .bf16⟩
  | .local _ .vmem, ⟨3, _⟩ => ⟨S1x4096x1536, .bf16⟩
  | .local _ .vmem, ⟨4, _⟩ => ⟨S256x1536, .bf16⟩
  | .local _ .vmem, ⟨5, _⟩ => ⟨S256x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WGradRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamDown.lean ====
abbrev S2x704x1024 : Shape := ⟨3, ![2, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamIn.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S_, .f32⟩
  | .hbm, ⟨6, _⟩ => ⟨S1x1024x768, .f32⟩
  | .hbm, ⟨7, _⟩ => ⟨S1x1024x768, .f32⟩
  | .hbm, ⟨8, _⟩ => ⟨S_, .f32⟩
  | .hbm, ⟨9, _⟩ => ⟨S1x1024x768, .f32⟩
  | .hbm, ⟨10, _⟩ => ⟨S1x1024x768, .f32⟩
  | .hbm, ⟨11, _⟩ => ⟨S1x1024x768, .f32⟩
  | .hbm, ⟨12, _⟩ => ⟨S_, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S_, .f32⟩
  | .hbm, ⟨17, _⟩ => ⟨S1x1024x768, .f32⟩
  | .hbm, ⟨18, _⟩ => ⟨S1x1024x768, .f32⟩
  | .hbm, ⟨19, _⟩ => ⟨S1x1024x768, .f32⟩
  | .hbm, ⟨20, _⟩ => ⟨S_, .f32⟩
  | .hbm, ⟨21, _⟩ => ⟨S1x1024x768, .f32⟩
  | .hbm, ⟨22, _⟩ => ⟨S1x1024x768, .f32⟩
  | .hbm, ⟨23, _⟩ => ⟨S_, .f32⟩
  | .hbm, ⟨24, _⟩ => ⟨S1x1024x768, .f32⟩
  | .hbm, ⟨25, _⟩ => ⟨S1x1024x768, .f32⟩
  | .hbm, ⟨26, _⟩ => ⟨S1x1024x768, .f32⟩
  | .hbm, ⟨27, _⟩ => ⟨S_, .f32⟩
  | .hbm, ⟨28, _⟩ => ⟨S1x1024x768, .f32⟩
  | .hbm, ⟨29, _⟩ => ⟨S1x1024x768, .f32⟩
  | .hbm, ⟨30, _⟩ => ⟨S1x1024x768, .f32⟩
  | .hbm, ⟨31, _⟩ => ⟨S_, .f32⟩
  | .hbm, ⟨32, _⟩ => ⟨S1x1024x768, .f32⟩
  | .hbm, ⟨33, _⟩ => ⟨S1x1024x768, .f32⟩
  | .hbm, ⟨34, _⟩ => ⟨S1x1024x768, .f32⟩
  | .hbm, ⟨35, _⟩ => ⟨S_, .f32⟩
  | .hbm, ⟨36, _⟩ => ⟨S1x1024x768, .f32⟩
  | .hbm, ⟨37, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== SmallSum.lean ====
abbrev S8x16x1024 : Shape := ⟨3, ![8, 16, 1024]⟩
abbrev S1 : Shape := ⟨1, ![1]⟩
abbrev S16x1024 : Shape := ⟨2, ![16, 1024]⟩
abbrev S1x16x1024 : Shape := ⟨3, ![1, 16, 1024]⟩

abbrev nBuf : Space → Nat
  | .hbm => 2
  | .vmem => 2
  | .smem => 1
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | .local _ .smem, ⟨0, _⟩ => ⟨S1, .i32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let v1 : Index := Scalar.indexCast v0
  let c0_0 : Index := 0#32
  let c0_1 : Index := 0#32
  ![v1.toNat, 0, 0]

def k0_off2 (v0 : BitVec 32) (c1_i32 : BitVec 32) : Fin 3 → Nat :=
  let v4 : BitVec 32 := Scalar.xori c1_i32 v0
  let v5 : Index := Scalar.indexCast v4
  let c0_2 : Index := 0#32
  let c0_3 : Index := 0#32
  ![v5.toNat, 0, 0]

def k0_chk1 (v0 : BitVec 32) : Prop :=
  (∀ a, (k0_off1 v0) a + S1x16x1024.size a ≤ S8x16x1024.size a) ∧
  (∀ (r : Fin 7), ∀ a, (k0_off2 v0 (BitVec.ofNat 32 (1 + r.val))) a + S1x16x1024.size a ≤ S8x16x1024.size a)
theorem k0_off1_inb : ∀ (v0 : BitVec 32) (k0_hw1 : k0_chk1 v0), ∀ a, (k0_off1 v0) a + S1x16x1024.size a ≤ S8x16x1024.size a := fun v0 k0_hw1 => k0_hw1.1
theorem k0_off2_inb : ∀ (v0 : BitVec 32) (k0_hw1 : k0_chk1 v0), ∀ (r : Fin 7), ∀ a, (k0_off2 v0 (BitVec.ofNat 32 (1 + r.val))) a + S1x16x1024.size a ≤ S8x16x1024.size a := fun v0 k0_hw1 r => k0_hw1.2 r

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SmallSumRefIdeal.lean ====
abbrev S8x16x1024 : Shape := ⟨3, ![8, 16, 1024]⟩
abbrev S1 : Shape := ⟨1, ![1]⟩
abbrev S_ : Shape := ⟨0, ![]⟩
abbrev S16x1024 : Shape := ⟨2, ![16, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S1, .i32⟩
  | .hbm, ⟨2, _⟩ => ⟨S_, .f32⟩
  | .hbm, ⟨3, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.ConvValue.lean ====
module

public import proofs.«01_k».proof.Proof.Gen.ConvIdeal.Value
public import proofs.«01_k».proof.Proof.Gen.ConvRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

/-! The gradient of the gated convolution, written out at one row and lane. -/

section Formulas

variable (x0 : FVec Ideal S4096x1024 .bf16) (x1 : FVec Ideal S4096x3072 .bf16) (x2 : FVec Ideal S3x1024 .f32)

/-- The convolution's input `C * X` at row `r`, zero past the last row. -/
def U (r : ℕ) (l : Fin 1024) : EReal :=
  if h : r < 4096 then x1 (ix2 ⟨r, h⟩ ⟨1024 + l.val, by omega⟩) * x1 (ix2 ⟨r, h⟩ ⟨2048 + l.val, by omega⟩) else 0

/-- The convolution's input `k` rows before row `r`, zero before the first row. -/
def Up (k r : ℕ) (l : Fin 1024) : EReal := if k ≤ r then U x1 (r - k) l else 0

/-- The gradient that reaches the convolution's output, `dy * B`, at row `r`, zero past the last row. -/
def G (r : ℕ) (l : Fin 1024) : EReal :=
  if h : r < 4096 then x0 (ix2 ⟨r, h⟩ l) * x1 (ix2 ⟨r, h⟩ ⟨l.val, by omega⟩) else 0

/-- The convolution's output at row `r`. -/
def conv (r : ℕ) (l : Fin 1024) : EReal :=
  (x2 (ix2 0 l) * Up x1 2 r l + x2 (ix2 1 l) * Up x1 1 r l) + x2 (ix2 2 l) * U x1 r l

/-- The gradient of the convolution's input at row `r`. -/
def dconv (r : ℕ) (l : Fin 1024) : EReal :=
  (x2 (ix2 2 l) * G x0 x1 r l + x2 (ix2 1 l) * G x0 x1 (r + 1) l) + x2 (ix2 0 l) * G x0 x1 (r + 2) l

end Formulas

section Pure

/-- A selection whose condition is decided by `p` is the branch that `p` chooses. -/
theorem sel {p : Prop} [Decidable p] {b : BitVec 1} (hb : b = if p then 1#1 else 0#1) {x y z : EReal}
    (h1 : p → x = z) (h0 : ¬ p → y = z) : Scalar.select b x y = z := by
  subst hb
  by_cases hp : p
  · rw [if_pos hp, ← h1 hp]; rfl
  · rw [if_neg hp, ← h0 hp]; rfl

variable (x0 : FVec Ideal S4096x1024 .bf16) (x1 : FVec Ideal S4096x3072 .bf16) (x2 : FVec Ideal S3x1024 .f32) (T : ℕ)

section Past

variable (i : grid0.Coords) (v0 v2 : Vec Ideal S512x1024 .bf16) (v6 v8 : Vec Ideal S16x1024 .bf16)
    (hi : Scalar.cmpi .eq (BitVec.ofNat 32 (i 0).val) 0#32 = if T = 0 then 1#1 else 0#1)
    (hU : ∀ (r : Fin 512) (l : Fin 1024), v0 (ix2 r l) * v2 (ix2 r l) = U x1 (512 * T + r.val) l)
    (hP : T ≠ 0 → ∀ (r : Fin 16) (l : Fin 1024), v6 (ix2 r l) * v8 (ix2 r l) = U x1 (512 * T - 16 + r.val) l)
    (r : Fin 512) (l : Fin 1024)
include hi hU hP

/-- The block of the convolution's input, one row earlier. -/
theorem pay7 : k0_pay7 (F := Ideal) i v0 v2 v6 v8 (ix2 r l) = Up x1 1 (512 * T + r.val) l := by
  pointwise [k0_pay7, k0_pay3, k0_pay4, k0_pay5, k0_pay6, hU]
  unfold Up
  by_cases h : (16 + r.val + 528 - 1) % 528 < 16
  · rw [dif_pos h]
    refine sel hi (fun h0 => by rw [if_neg (by omega)]) fun h0 => (hP h0 _ l).trans ?_
    rw [if_pos (by omega)]
    refine congrArg (fun n => U x1 n l) ?_
    show 512 * T - 16 + (16 + r.val + 528 - 1) % 528 = _
    omega
  · rw [dif_neg h, if_pos (by omega)]
    congr 1; omega

/-- The block of the convolution's input, two rows earlier. -/
theorem pay8 : k0_pay8 (F := Ideal) i v0 v2 v6 v8 (ix2 r l) = Up x1 2 (512 * T + r.val) l := by
  pointwise [k0_pay8, k0_pay3, k0_pay4, k0_pay5, k0_pay6, hU]
  unfold Up
  by_cases h : (16 + r.val + 528 - 2) % 528 < 16
  · rw [dif_pos h]
    refine sel hi (fun h0 => by rw [if_neg (by omega)]) fun h0 => (hP h0 _ l).trans ?_
    rw [if_pos (by omega)]
    refine congrArg (fun n => U x1 n l) ?_
    show 512 * T - 16 + (16 + r.val + 528 - 2) % 528 = _
    omega
  · rw [dif_neg h, if_pos (by omega)]
    congr 1; omega

/-- Block `T` of the convolution's output, times `dy`. -/
theorem pay10 (v22 : Vec Ideal S512x1024 .bf16) (v19 v20 v21 : Vec Ideal S1x1024 .f32)
    (h19 : v19 (ix2 0 l) = x2 (ix2 0 l)) (h20 : v20 (ix2 0 l) = x2 (ix2 1 l)) (h21 : v21 (ix2 0 l) = x2 (ix2 2 l)) :
    k0_pay10 (F := Ideal) i v0 v2 v6 v8 v19 v20 v21 v22 (ix2 r l) = v22 (ix2 r l) * conv x1 x2 (512 * T + r.val) l := by
  pointwise [k0_pay10, k0_pay3, k0_pay4, k0_pay5, k0_pay9, hU]
  rw [h19, h20, h21, pay7 x1 T i v0 v2 v6 v8 hi hU hP, pay8 x1 T i v0 v2 v6 v8 hi hU hP]
  rfl

end Past

section Future

variable (a0 : BitVec 32) (v23 : FVec Ideal S512x1024 .f32) (v35 : Vec Ideal S512x1024 .bf16) (v39 v41 : Vec Ideal S16x1024 .bf16)
    (v19 v20 v21 : Vec Ideal S1x1024 .f32)
    (hi : Scalar.cmpi .eq a0 7#32 = if T = 7 then 1#1 else 0#1)
    (hG : ∀ (r : Fin 512) (l : Fin 1024), v23 (ix2 r l) * v35 (ix2 r l) = G x0 x1 (512 * T + r.val) l)
    (hN : T ≠ 7 → ∀ (r : Fin 16) (l : Fin 1024), v39 (ix2 r l) * v41 (ix2 r l) = G x0 x1 (512 * T + 512 + r.val) l)
    (r : Fin 512) (l : Fin 1024)
    (h19 : v19 (ix2 0 l) = x2 (ix2 0 l)) (h20 : v20 (ix2 0 l) = x2 (ix2 1 l)) (h21 : v21 (ix2 0 l) = x2 (ix2 2 l))
include hi hG hN h19 h20 h21

/-- Block `T` of the gradient of the convolution's input. -/
theorem pay12 : k0_pay12 (F := Ideal) a0 v19 v20 v21 v23 v35 v39 v41 (ix2 r l) = dconv x0 x1 x2 (512 * T + r.val) l := by
  pointwise [k0_pay12, k0_pay11, hG]
  rw [h19, h20, h21]
  unfold dconv
  have past : ∀ n, 4096 ≤ n → G x0 x1 n l = 0 := fun n hn => by unfold G; rw [dif_neg (by omega)]
  refine congrArg₂ (fun a b : EReal => a + b) (congrArg₂ (fun a b : EReal => a + b) rfl (congrArg (fun a : EReal => _ * a) ?_))
    (congrArg (fun a : EReal => _ * a) ?_)
  · by_cases h : (r.val + 528 - 527) % 528 < 512
    · rw [dif_pos h]; congr 1; omega
    · rw [dif_neg h]
      refine sel hi (fun h0 => (past _ (by omega)).symm) fun h0 => (hN h0 _ l).trans ?_
      refine congrArg (fun n => G x0 x1 n l) ?_
      show 512 * T + 512 + ((r.val + 528 - 527) % 528 - 512) = _
      omega
  · by_cases h : (r.val + 528 - 526) % 528 < 512
    · rw [dif_pos h]; congr 1; omega
    · rw [dif_neg h]
      refine sel hi (fun h0 => (past _ (by omega)).symm) fun h0 => (hN h0 _ l).trans ?_
      refine congrArg (fun n => G x0 x1 n l) ?_
      show 512 * T + 512 + ((r.val + 528 - 526) % 528 - 512) = _
      omega

end Future

end Pure

/-- The accumulated row sums: what was held plus the point's share. -/
theorem pay2 (v4 v15 v37 : FVec Ideal S512x1024 .f32) (v66 : Vec Ideal S8x1024 .i32) (v71 : FVec Ideal S8x1024 .f32) (n : BitVec 32)
    (v98 : Vec Ideal S8x1024 .f32) (j : S8x1024.Idx) :
    k0_pay2 (F := Ideal) v4 v15 v37 v66 v71 n v98 j = (v98 j + k0_pay1 (F := Ideal) v4 v15 v37 v66 v71 n j : EReal) := by
  idx_vars j
  pointwise [k0_pay2]

section Points

variable (m : (ℓ : Loc nD τ sig) → Buf (Elt Ideal) ℓ) (c : Dev nD)

/-- The argument `dy`. -/
abbrev X0 : FVec Ideal S4096x1024 .bf16 := m ((c : Thread nD τ).loc main_arg0)
/-- The argument `bcx`. -/
abbrev X1 : FVec Ideal S4096x3072 .bf16 := m ((c : Thread nD τ).loc main_arg1)
/-- The argument `conv_w`. -/
abbrev X2 : FVec Ideal S3x1024 .f32 := m ((c : Thread nD τ).loc main_arg2)

/-- Which block each window stages at grid point `t`. -/
theorem idx : ∀ t : Fin cfg0.N, win0_0.index t = ![t.val, 0] ∧ win0_1.index t = ![min (32 * t.val + 32) 255, 0]
    ∧ win0_2.index t = ![t.val, 0] ∧ win0_3.index t = ![min (32 * t.val + 32) 255, 0]
    ∧ win0_4.index t = ![t.val, 1] ∧ win0_5.index t = ![t.val, 2] ∧ win0_6.index t = ![32 * t.val - 1, 1]
    ∧ win0_7.index t = ![32 * t.val - 1, 2] ∧ win0_8.index t = ![0, 0] ∧ win0_9.index t = ![t.val, 0]
    ∧ win0_10.index t = ![0, 0] ∧ t.val < 8 :=
  (by decide +kernel : ∀ t : Fin grid0.N, _)

/-- The grid has eight points. -/
theorem tlt (t : Fin cfg0.N) : t.val < 8 := (idx t).2.2.2.2.2.2.2.2.2.2.2

/-- The test for the first point. -/
theorem first : ∀ t : Fin cfg0.N, Scalar.cmpi .eq (BitVec.ofNat 32 (grid0.coords t 0).val) 0#32
    = if t.val = 0 then 1#1 else 0#1 := (by decide +kernel : ∀ t : Fin grid0.N, _)

/-- The test for the last point. -/
theorem last : ∀ t : Fin cfg0.N, Scalar.cmpi .eq (BitVec.ofNat 32 (grid0.coords t 0).val) 7#32
    = if t.val = 7 then 1#1 else 0#1 := (by decide +kernel : ∀ t : Fin grid0.N, _)

variable (t : Fin cfg0.N)

/-- The blocks of the arguments, read at a row and lane. -/
theorem rd0 (r : Fin 512) (l : Fin 1024) : (iblk m c 0 t : FVec Ideal S512x1024 .bf16) (ix2 r l)
    = X0 m c (ix2 ⟨512 * t.val + r.val, by have := tlt t; omega⟩ l) := by blk_ext [iblk, V, idx t]
theorem rd2 (r : Fin 512) (l : Fin 1024) : (iblk m c 2 t : FVec Ideal S512x1024 .bf16) (ix2 r l)
    = X1 m c (ix2 ⟨512 * t.val + r.val, by have := tlt t; omega⟩ ⟨l.val, by omega⟩) := by blk_ext [iblk, V, idx t]
theorem rd4 (r : Fin 512) (l : Fin 1024) : (iblk m c 4 t : FVec Ideal S512x1024 .bf16) (ix2 r l)
    = X1 m c (ix2 ⟨512 * t.val + r.val, by have := tlt t; omega⟩ ⟨1024 + l.val, by omega⟩) := by blk_ext [iblk, V, idx t]
theorem rd5 (r : Fin 512) (l : Fin 1024) : (iblk m c 5 t : FVec Ideal S512x1024 .bf16) (ix2 r l)
    = X1 m c (ix2 ⟨512 * t.val + r.val, by have := tlt t; omega⟩ ⟨2048 + l.val, by omega⟩) := by blk_ext [iblk, V, idx t]

/-- The block of `C * X`. -/
theorem hU (r : Fin 512) (l : Fin 1024) :
    (fun a b : EReal => a * b) ((iblk m c 4 t : FVec Ideal S512x1024 .bf16) (ix2 r l)) ((iblk m c 5 t : FVec Ideal S512x1024 .bf16) (ix2 r l))
    = U (X1 m c) (512 * t.val + r.val) l := by
  have ht := tlt t
  unfold U
  rw [rd4, rd5, dif_pos (by omega)]

/-- The block of `dy * B`. -/
theorem hG (r : Fin 512) (l : Fin 1024) :
    (fun a b : EReal => a * b) (k0_pay9 (F := Ideal) (iblk m c 0 t) (ix2 r l)) ((iblk m c 2 t : FVec Ideal S512x1024 .bf16) (ix2 r l))
    = G (X0 m c) (X1 m c) (512 * t.val + r.val) l := by
  have ht := tlt t
  unfold G
  pointwise [k0_pay9]
  rw [rd0, rd2, dif_pos (by omega)]

/-- The sixteen rows of `C * X` before the block, away from the first point. -/
theorem hP (h : t.val ≠ 0) (r : Fin 16) (l : Fin 1024) :
    (fun a b : EReal => a * b) ((iblk m c 6 t : FVec Ideal S16x1024 .bf16) (ix2 r l)) ((iblk m c 7 t : FVec Ideal S16x1024 .bf16) (ix2 r l))
    = U (X1 m c) (512 * t.val - 16 + r.val) l := by
  have ht := tlt t
  unfold U
  rw [dif_pos (by omega)]
  refine congrArg₂ (fun a b : EReal => a * b) ?_ ?_ <;> blk_ext [iblk, V, idx t]

/-- The sixteen rows of `dy * B` after the block, away from the last point. -/
theorem hN (h : t.val ≠ 7) (r : Fin 16) (l : Fin 1024) :
    (fun a b : EReal => a * b) ((iblk m c 1 t : FVec Ideal S16x1024 .bf16) (ix2 r l)) ((iblk m c 3 t : FVec Ideal S16x1024 .bf16) (ix2 r l))
    = G (X0 m c) (X1 m c) (512 * t.val + 512 + r.val) l := by
  have ht := tlt t
  unfold G
  rw [dif_pos (by omega)]
  refine congrArg₂ (fun a b : EReal => a * b) ?_ ?_ <;> blk_ext [iblk, V, idx t]

/-- The gradient of `bcx` at a row and lane: its three thirds are those of `B`, `C` and `X`. -/
def dbcx (x0 : FVec Ideal S4096x1024 .bf16) (x1 : FVec Ideal S4096x3072 .bf16) (x2 : FVec Ideal S3x1024 .f32) (r : Fin 4096) (l : Fin 3072) : EReal :=
  if h : l.val < 1024 then x0 (ix2 r ⟨l.val, h⟩) * conv x1 x2 r.val ⟨l.val, h⟩
  else if h : l.val - 1024 < 1024 then
    dconv x0 x1 x2 r.val ⟨l.val - 1024, h⟩ * x1 (ix2 r ⟨2048 + (l.val - 1024), by omega⟩)
  else dconv x0 x1 x2 r.val ⟨l.val - 1024 - 1024, by omega⟩ * x1 (ix2 r ⟨1024 + (l.val - 1024 - 1024), by omega⟩)

/-- The taps of the convolution, read from the block of `conv_w`. -/
theorem rd8 (k : Fin 3) (l : Fin 1024) : (iblk m c 8 t : FVec Ideal S3x1024 .f32) (ix2 k l) = X2 m c (ix2 k l) := by
  blk_ext [iblk, V, idx t]

section Taps

variable (v19 v20 v21 : Vec Ideal S1x1024 .f32) (r : Fin 512) (l : Fin 1024)
    (h19 : v19 (ix2 0 l) = X2 m c (ix2 0 l)) (h20 : v20 (ix2 0 l) = X2 m c (ix2 1 l)) (h21 : v21 (ix2 0 l) = X2 m c (ix2 2 l))
include h19 h20 h21

/-- The third that is the gradient of `B`. -/
theorem third0 : k0_pay10 (F := Ideal) (grid0.coords t) (iblk m c 4 t) (iblk m c 5 t) (iblk m c 6 t) (iblk m c 7 t) v19 v20 v21 (iblk m c 0 t) (ix2 r l)
    = dbcx (X0 m c) (X1 m c) (X2 m c) ⟨512 * t.val + r.val, by have := tlt t; omega⟩ ⟨l.val, by omega⟩ := by
  refine (pay10 (X1 m c) (X2 m c) t.val _ _ _ _ _ (first t) (hU m c t) (hP m c t) r l _ _ _ _ h19 h20 h21).trans ?_
  unfold dbcx
  rw [dif_pos (show l.val < 1024 from l.isLt)]
  exact congrArg (fun a : EReal => a * _) (rd0 m c t r l)

/-- The third that is the gradient of `C`. -/
theorem third1 : k0_pay13 (F := Ideal) (BitVec.ofNat 32 (grid0.coords t 0).val) (k0_pay4 (F := Ideal) (iblk m c 5 t)) v19 v20 v21
      (k0_pay9 (F := Ideal) (iblk m c 0 t)) (iblk m c 2 t) (iblk m c 1 t) (iblk m c 3 t) (ix2 r l)
    = dbcx (X0 m c) (X1 m c) (X2 m c) ⟨512 * t.val + r.val, by have := tlt t; omega⟩ ⟨1024 + l.val, by omega⟩ := by
  have e := pay12 (X0 m c) (X1 m c) (X2 m c) t.val (BitVec.ofNat 32 (grid0.coords t 0).val) _ _ _ _ v19 v20 v21 (last t)
    (hG m c t) (hN m c t) r l h19 h20 h21
  unfold dbcx
  rw [dif_neg (show ¬ 1024 + l.val < 1024 by omega), dif_pos (show 1024 + l.val - 1024 < 1024 by omega)]
  refine congrArg₂ (fun a b : EReal => a * b) (e.trans (congrArg (dconv _ _ _ _) (Fin.ext (by show l.val = 1024 + l.val - 1024; omega)))) ?_
  refine (rd5 m c t r l).trans (congrArg (fun k => X1 m c (ix2 _ k)) (Fin.ext ?_))
  show 2048 + l.val = 2048 + (1024 + l.val - 1024)
  omega

/-- The third that is the gradient of `X`. -/
theorem third2 : k0_pay14 (F := Ideal) (BitVec.ofNat 32 (grid0.coords t 0).val) (k0_pay3 (F := Ideal) (iblk m c 4 t)) v19 v20 v21
      (k0_pay9 (F := Ideal) (iblk m c 0 t)) (iblk m c 2 t) (iblk m c 1 t) (iblk m c 3 t) (ix2 r l)
    = dbcx (X0 m c) (X1 m c) (X2 m c) ⟨512 * t.val + r.val, by have := tlt t; omega⟩ ⟨2048 + l.val, by omega⟩ := by
  have e := pay12 (X0 m c) (X1 m c) (X2 m c) t.val (BitVec.ofNat 32 (grid0.coords t 0).val) _ _ _ _ v19 v20 v21 (last t)
    (hG m c t) (hN m c t) r l h19 h20 h21
  unfold dbcx
  rw [dif_neg (show ¬ 2048 + l.val < 1024 by omega), dif_neg (show ¬ 2048 + l.val - 1024 < 1024 by omega)]
  refine congrArg₂ (fun a b : EReal => a * b) (e.trans (congrArg (dconv _ _ _ _) (Fin.ext (by show l.val = 2048 + l.val - 1024 - 1024; omega)))) ?_
  refine (rd4 m c t r l).trans (congrArg (fun k => X1 m c (ix2 _ k)) (Fin.ext ?_))
  show 1024 + l.val = 1024 + (2048 + l.val - 1024 - 1024)
  omega

end Taps

/-- What every grid point leaves in its block of the gradient of `bcx`. -/
theorem out9 (y0 : Fin 512) (y1 : Fin 3072) : (outsAt0 m c t.val t.isLt).1 (ix2 y0 y1)
    = dbcx (X0 m c) (X1 m c) (X2 m c) ⟨512 * t.val + y0.val, by have := tlt t; omega⟩ y1 := by
  have ht := tlt t
  by_cases hA : t.val % 8 = 0
  on_goal 1 => rw [outsAt0_A m c t hA (by omega)]
  on_goal 2 => rw [outsAt0_B m c t hA (by omega)]
  all_goals frame_out
  all_goals canon_tiles x h
  all_goals idx_vars x
  all_goals obtain rfl : y0 = x0 := Fin.ext h0
  iterate 2
    · obtain rfl : y1 = ⟨2048 + x1.val, by clear h1; omega⟩ := Fin.ext h1
      refine third2 m c t _ _ _ y0 x1 ?_ ?_ ?_ <;> (pointwise; exact rd8 m c t _ _)
    · obtain rfl : y1 = ⟨1024 + x1.val, by clear h1; omega⟩ := Fin.ext h1
      refine third1 m c t _ _ _ y0 x1 ?_ ?_ ?_ <;> (pointwise; exact rd8 m c t _ _)
    · obtain rfl : y1 = ⟨x1.val, by clear h1; omega⟩ := Fin.ext h1
      refine third0 m c t _ _ _ y0 x1 ?_ ?_ ?_ <;> (pointwise; exact rd8 m c t _ _)

/-- The gradient of `bcx` after the run. -/
theorem final9 : (dats m 0 c).arrAt 9 (cfgs 0).N = fun i : S4096x3072.Idx => dbcx (X0 m c) (X1 m c) (X2 m c) (i 0) (i 1) := by
  refine (dats m 0 c).arrAt_eq_of_covers 9 _ (by decide +kernel) fun t hf y => ?_
  blk_simp
  rw [after0_9]
  idx_vars y
  refine (out9 m c t y0 y1).trans ?_
  refine congrArg₂ (dbcx _ _ _) (Fin.ext ?_) (Fin.ext ?_)
  · blk_simp [idx t]
    show 512 * t.val + y0.val = _
    omega
  · blk_simp [idx t]

/-- The gradient of the taps: row `k` is the sum over the rows of `G` times the convolution's input `2 - k` rows before. -/
def dw (x0 : FVec Ideal S4096x1024 .bf16) (x1 : FVec Ideal S4096x3072 .bf16) (k : Fin 8) (l : Fin 1024) : EReal :=
  if k.val < 3 then ∑ r : Fin 4096, G x0 x1 r.val l * Up x1 (2 - k.val) r.val l else 0

/-- What one grid point adds to the gradient of the taps. -/
theorem part (k : Fin 8) (l : Fin 1024) : k0_pay1 (F := Ideal) (k0_pay5 (F := Ideal) (iblk m c 4 t) (iblk m c 5 t))
      (k0_pay7 (F := Ideal) (grid0.coords t) (iblk m c 4 t) (iblk m c 5 t) (iblk m c 6 t) (iblk m c 7 t))
      (k0_pay11 (F := Ideal) (k0_pay9 (F := Ideal) (iblk m c 0 t)) (iblk m c 2 t)) (iota Kind.tc S8x1024 32 [0] iota_S8x1024_d0_w32)
      (k0_pay15 (F := Ideal) (k0_pay8 (F := Ideal) (grid0.coords t) (iblk m c 4 t) (iblk m c 5 t) (iblk m c 6 t) (iblk m c 7 t))
        (k0_pay9 (F := Ideal) (iblk m c 0 t)) (iblk m c 2 t)) 1#32 (ix2 k l)
    = if k.val < 3 then ∑ r : Fin 512, G (X0 m c) (X1 m c) (512 * t.val + r.val) l * Up (X1 m c) (2 - k.val) (512 * t.val + r.val) l else 0 := by
  have e7 := fun r l => pay7 (X1 m c) t.val _ _ _ _ _ (first t) (hU m c t) (hP m c t) r l
  have e8 := fun r l => pay8 (X1 m c) t.val _ _ _ _ _ (first t) (hU m c t) (hP m c t) r l
  have cnd : ∀ k : Fin 8, ∀ n : Fin 3, IntOp.cmpi CmpIPredicate.eq (BitVec.ofNat 32 k.val) (BitVec.ofNat 32 n.val) = if k.val = n.val then 1#1 else 0#1 := by decide
  have prod : ∀ (f : Vec Ideal S512x1024 .f32) (d : ℕ), (∀ r l, f (ix2 r l) = Up (X1 m c) d (512 * t.val + r.val) l) →
      (∑ x : Fin 512, k0_pay9 (F := Ideal) (iblk m c 0 t) (ix2 x l) * (iblk m c 2 t : FVec Ideal S512x1024 .bf16) (ix2 x l) * f (ix2 x l) : EReal)
      = ∑ r : Fin 512, G (X0 m c) (X1 m c) (512 * t.val + r.val) l * Up (X1 m c) d (512 * t.val + r.val) l := fun f d hf =>
    Finset.sum_congr rfl fun r _ => congrArg₂ (fun a b : EReal => a * b) (hG m c t r l) (hf r l)
  pointwise [k0_pay1, k0_pay15, k0_pay11]
  refine sel (cnd k 2) (fun h => ?_) fun h2 => sel (cnd k 1) (fun h => ?_) fun h1 => sel (cnd k 0) (fun h => ?_) fun h0 => ?_
  · rw [if_pos (show k.val < 3 by rw [h]; decide), show 2 - k.val = 0 by rw [h]; rfl]
    refine prod _ 0 fun r l => (hU m c t r l).trans ?_
    rw [Up, if_pos (Nat.zero_le _), Nat.sub_zero]
  · rw [if_pos (show k.val < 3 by rw [h]; decide), show 2 - k.val = 1 by rw [h]; rfl]
    exact prod _ 1 e7
  · rw [if_pos (show k.val < 3 by rw [h]; decide), show 2 - k.val = 2 by rw [h]; rfl]
    exact prod _ 2 e8
  · rw [if_neg (show ¬ k.val < 3 from fun h => by
      rcases (by omega : k.val = 0 ∨ k.val = 1 ∨ k.val = 2) with e | e | e
      exacts [h0 e, h1 e, h2 e])]

/-- The gradient of the taps after the run. -/
theorem final10 : (dats m 0 c).arrAt 10 (cfgs 0).N = fun i : S8x1024.Idx => dw (X0 m c) (X1 m c) (i 0) (i 1) := by
  refine (dats m 0 c).arrAt_eq_of_after_last 10 t0_7 (by decide +kernel) _ fun j => ?_
  blk_simp
  idx_vars j
  rw [after0_10, Pipeline.eq_sum_fin_of_reset_step_apply_last (fun n h => (outsAt0 m c n h).2) 8 (fun _ => 0) _
    (fun t h j => by rw [outsAt0_A m c t h (by have := tlt t; omega)]; frame_out; exact (zero_add _).symm)
    (fun t h j => by rw [outsAt0_B m c t h (by omega)]; frame_out; exact pay2 _ _ _ _ _ _ _ j)
    (le_of_eq N_0) t0_7 rfl, zero_add, Finset.sum_congr rfl fun p _ => part m c p j0 j1]
  show _ = dw (X0 m c) (X1 m c) j0 j1
  unfold dw
  by_cases hk : j0.val < 3
  · simp only [if_pos hk]
    exact Fin.sum_mul_add_congr fun s k hl => by rw [Nat.mul_comm]
  · simp only [if_neg hk]
    exact Finset.sum_const_zero

end Points

end Cert.ConvIdeal.Value

end
-- ==== Proof.ConvRef.lean ====
module

public import proofs.«01_k».proof.Proof.ConvValue
public import proofs.«01_k».proof.Proof.Gen.ConvRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

open Cert.ConvRefIdeal.Read

/-! The reference's results, written out at one row and lane. -/

section Reference

variable (x0 : FVec Ideal S4096x1024 .bf16) (x1 : FVec Ideal S4096x3072 .bf16) (x2 : FVec Ideal S3x1024 .f32)

/-- A row past the top is zero, any other is a row of `C * X`. -/
theorem up_of (k r : ℕ) (l : Fin 1024) {p : Prop} [Decidable p] {f : ¬ p → EReal} (hp : p ↔ r < k)
    (hf : ∀ h, f h = U x1 (r - k) l) : dite p (fun _ => 0) f = Up x1 k r l := by
  unfold Up
  by_cases h : p
  · rw [dif_pos h, if_neg (by have := hp.mp h; omega)]
  · rw [dif_neg h, if_pos (by have := mt hp.mpr h; omega), hf h]

/-- A row past the bottom is zero, any other is a row of `dy * B` times a tap. -/
theorem g_of (r : ℕ) (l : Fin 1024) (w : EReal) {p : Prop} [Decidable p] {f : p → EReal} (hp : p ↔ r < 4096)
    (hf : ∀ h, f h = G x0 x1 r l * w) : dite p f (fun _ => 0) = w * G x0 x1 r l := by
  by_cases h : p
  · rw [dif_pos h, hf h, mul_comm]
  · rw [dif_neg h, G, dif_neg (mt hp.mpr h), mul_zero]

/-- `C * X` at a row of the array. -/
theorem u_at (r : ℕ) (h : r < 4096) (l : Fin 1024) :
    U x1 r l = x1 (ix2 ⟨r, h⟩ ⟨1024 + l.val, by omega⟩) * x1 (ix2 ⟨r, h⟩ ⟨2048 + l.val, by omega⟩) := dif_pos h

/-- `dy * B` at a row of the array. -/
theorem g_at (r : ℕ) (h : r < 4096) (l : Fin 1024) :
    G x0 x1 r l = x1 (ix2 ⟨r, h⟩ ⟨l.val, by omega⟩) * x0 (ix2 ⟨r, h⟩ l) := (dif_pos h).trans (mul_comm _ _)

variable (r : Fin 4096) (l : Fin 1024)

/-- The gradient of `B`: `dy` times the convolution. -/
theorem ref31 : val_main_v31 (F := Ideal) x0 x1 x2 (ix2 r l) = x0 (ix2 r l) * conv x1 x2 r.val l := by
  pointwise [val_main_v0, val_main_v1, val_main_v2, val_main_v3, val_main_v4, val_main_cst, val_main_v5, val_main_v6,
    val_main_cst_0, val_main_v7, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_v30, val_main_v31, val_main_v32, val_main_cst_1, val_main_v33, val_main_v34, val_main_v35, val_main_v36,
    val_main_cst_2, val_main_v37, val_main_v38, val_main_cst_3, val_main_v39, val_main_cst_4, val_main_v40,
    val_main_v41, val_main_cst_5, val_main_v42, val_main_v43, val_main_v44, val_main_v45, val_main_cst_6, val_main_v46,
    val_main_v47, val_main_cst_7, val_main_v48, val_main_v49, val_main_cst_8, val_main_v50, val_main_v51, val_main_v52,
    val_main_cst_9, val_main_v53, val_main_v54, val_main_v55, val_main_v56, val_main_cst_10, val_main_v57, val_main_v58,
    val_main_cst_11, val_main_v59, val_main_v60, val_main_cst_12, val_main_v61, val_main_v62, val_main_v63,
    val_main_v64, val_main_v65, val_main_v66, val_main_v67, val_main_v68, val_main_c, val_main_call0_v0, val_main_v69]
  unfold conv
  rw [up_of x1 2 r.val l Iff.rfl (fun h => (u_at x1 _ (by omega) l).symm),
    up_of x1 1 r.val l (by omega) (fun h => ((congrArg (fun n => U x1 n l) (by omega)).trans (u_at x1 (1 + r.val - 2) (by omega) l)).symm),
    ← u_at x1 r.val r.isLt l, mul_comm (x2 _), mul_comm (x2 _), mul_comm (x2 _)]

/-- The gradient of `C`: the gradient of the convolution's input times `X`. -/
theorem ref66 : val_main_v66 (F := Ideal) x0 x1 x2 (ix2 r l) = dconv x0 x1 x2 r.val l * x1 (ix2 r ⟨2048 + l.val, by omega⟩) := by
  pointwise [val_main_v0, val_main_v1, val_main_v2, val_main_v3, val_main_v4, val_main_cst, val_main_v5, val_main_v6,
    val_main_cst_0, val_main_v7, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_v30, val_main_v31, val_main_v32, val_main_cst_1, val_main_v33, val_main_v34, val_main_v35, val_main_v36,
    val_main_cst_2, val_main_v37, val_main_v38, val_main_cst_3, val_main_v39, val_main_cst_4, val_main_v40,
    val_main_v41, val_main_cst_5, val_main_v42, val_main_v43, val_main_v44, val_main_v45, val_main_cst_6, val_main_v46,
    val_main_v47, val_main_cst_7, val_main_v48, val_main_v49, val_main_cst_8, val_main_v50, val_main_v51, val_main_v52,
    val_main_cst_9, val_main_v53, val_main_v54, val_main_v55, val_main_v56, val_main_cst_10, val_main_v57, val_main_v58,
    val_main_cst_11, val_main_v59, val_main_v60, val_main_cst_12, val_main_v61, val_main_v62, val_main_v63,
    val_main_v64, val_main_v65, val_main_v66, val_main_v67, val_main_v68, val_main_c, val_main_call0_v0, val_main_v69]
  unfold dconv
  rw [g_of x0 x1 (r.val + 1) l (x2 (ix2 1 l)) (by omega) (fun h => congrArg (fun a : EReal => a * _)
      ((g_at x0 x1 (2 + r.val - 1) (by omega) l).symm.trans (congrArg (fun n => G x0 x1 n l) (by omega)))),
    g_of x0 x1 (r.val + 2) l (x2 (ix2 0 l)) (by omega) (fun h => congrArg (fun a : EReal => a * _)
      ((g_at x0 x1 (2 + r.val) (by omega) l).symm.trans (congrArg (fun n => G x0 x1 n l) (by omega)))),
    ← g_at x0 x1 r.val r.isLt l, mul_comm (x2 (ix2 2 l))]

/-- The gradient of `X`: the gradient of the convolution's input times `C`. -/
theorem ref65 : val_main_v65 (F := Ideal) x0 x1 x2 (ix2 r l) = dconv x0 x1 x2 r.val l * x1 (ix2 r ⟨1024 + l.val, by omega⟩) := by
  pointwise [val_main_v0, val_main_v1, val_main_v2, val_main_v3, val_main_v4, val_main_cst, val_main_v5, val_main_v6,
    val_main_cst_0, val_main_v7, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_v30, val_main_v31, val_main_v32, val_main_cst_1, val_main_v33, val_main_v34, val_main_v35, val_main_v36,
    val_main_cst_2, val_main_v37, val_main_v38, val_main_cst_3, val_main_v39, val_main_cst_4, val_main_v40,
    val_main_v41, val_main_cst_5, val_main_v42, val_main_v43, val_main_v44, val_main_v45, val_main_cst_6, val_main_v46,
    val_main_v47, val_main_cst_7, val_main_v48, val_main_v49, val_main_cst_8, val_main_v50, val_main_v51, val_main_v52,
    val_main_cst_9, val_main_v53, val_main_v54, val_main_v55, val_main_v56, val_main_cst_10, val_main_v57, val_main_v58,
    val_main_cst_11, val_main_v59, val_main_v60, val_main_cst_12, val_main_v61, val_main_v62, val_main_v63,
    val_main_v64, val_main_v65, val_main_v66, val_main_v67, val_main_v68, val_main_c, val_main_call0_v0, val_main_v69]
  unfold dconv
  rw [g_of x0 x1 (r.val + 1) l (x2 (ix2 1 l)) (by omega) (fun h => congrArg (fun a : EReal => a * _)
      ((g_at x0 x1 (2 + r.val - 1) (by omega) l).symm.trans (congrArg (fun n => G x0 x1 n l) (by omega)))),
    g_of x0 x1 (r.val + 2) l (x2 (ix2 0 l)) (by omega) (fun h => congrArg (fun a : EReal => a * _)
      ((g_at x0 x1 (2 + r.val) (by omega) l).symm.trans (congrArg (fun n => G x0 x1 n l) (by omega)))),
    ← g_at x0 x1 r.val r.isLt l, mul_comm (x2 (ix2 2 l)), mul_comm (x1 _)]

/-- The reference's gradient of `bcx`. -/
theorem ref68 (l : Fin 3072) : val_main_v68 (F := Ideal) x0 x1 x2 (ix2 r l) = dbcx x0 x1 x2 r l := by
  unfold val_main_v68 val_main_v67
  pointwise
  unfold dbcx
  by_cases h : l.val < 1024
  · rw [dif_pos h, dif_pos h]
    exact ref31 x0 x1 x2 r _
  by_cases h' : l.val - 1024 < 1024
  · rw [dif_neg h, dif_pos h', dif_neg h, dif_pos h']
    exact ref66 x0 x1 x2 r _
  · rw [dif_neg h, dif_neg h', dif_neg h, dif_neg h']
    exact ref65 x0 x1 x2 r _

/-- A row's product of `C * X` and `dy * B`, the factors in the other order. -/
theorem gu (n k : ℕ) (h : n < 4096) (l : Fin 1024) (a : EReal) (ha : a = Up x1 k n l) :
    a * (x1 (ix2 ⟨n, h⟩ ⟨l.val, by omega⟩) * x0 (ix2 ⟨n, h⟩ l)) = G x0 x1 n l * Up x1 k n l := by
  rw [ha, ← g_at x0 x1 n h l, mul_comm]

/-- The reference's gradient of the taps. -/
theorem ref69 (k : Fin 8) : val_main_v69 (F := Ideal) x0 x1 (ix2 k l) = dw x0 x1 k l := by
  pointwise [val_main_v0, val_main_v1, val_main_v2, val_main_v3, val_main_v4, val_main_cst, val_main_v5, val_main_v6,
    val_main_cst_0, val_main_v7, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27, val_main_v28, val_main_v29,
    val_main_v30, val_main_v31, val_main_v32, val_main_cst_1, val_main_v33, val_main_v34, val_main_v35, val_main_v36,
    val_main_cst_2, val_main_v37, val_main_v38, val_main_cst_3, val_main_v39, val_main_cst_4, val_main_v40,
    val_main_v41, val_main_cst_5, val_main_v42, val_main_v43, val_main_v44, val_main_v45, val_main_cst_6, val_main_v46,
    val_main_v47, val_main_cst_7, val_main_v48, val_main_v49, val_main_cst_8, val_main_v50, val_main_v51, val_main_v52,
    val_main_cst_9, val_main_v53, val_main_v54, val_main_v55, val_main_v56, val_main_cst_10, val_main_v57, val_main_v58,
    val_main_cst_11, val_main_v59, val_main_v60, val_main_cst_12, val_main_v61, val_main_v62, val_main_v63,
    val_main_v64, val_main_v65, val_main_v66, val_main_v67, val_main_v68, val_main_c, val_main_call0_v0, val_main_v69]
  unfold dw
  by_cases hk : k.val < 3
  · rw [dif_pos hk, if_pos hk]
    rcases (by omega : k.val = 0 ∨ k.val = 1 ∨ k.val = 2) with e | e | e
    · rw [dif_neg (by omega), dif_neg (by omega), dif_pos (by omega), e]
      rw [zero_add, zero_add, Fin.sum_univ_one]
      refine (congrArg₂ (· + ·) (Finset.sum_congr rfl fun x _ => ?_) (Finset.sum_congr rfl fun x _ => ?_)).trans
        (Fin.sum_univ_add (a := 2) (b := 4094) fun r : Fin (2 + 4094) => G x0 x1 r.val l * Up x1 2 r.val l).symm
      · exact gu x0 x1 x.val 2 (by omega) l 0 (if_neg (by omega)).symm
      · refine gu x0 x1 (2 + x.val) 2 (by omega) l _ (((if_pos (by omega)).trans ?_).symm)
        exact (congrArg (fun n => U x1 n l) (by omega)).trans (u_at x1 x.val (by omega) l)
    · rw [dif_neg (by omega), dif_pos (by omega), dif_neg (by omega), e]
      rw [zero_add, add_zero, Fin.sum_univ_one]
      exact Finset.sum_congr rfl fun x _ => gu x0 x1 x.val _ x.isLt l _ (up_of x1 1 x.val l (by omega) fun h =>
        ((congrArg (fun n => U x1 n l) (by omega)).trans (u_at x1 (1 + x.val - 2) (by omega) l)).symm)
    · rw [dif_pos (by omega), dif_neg (by omega), dif_neg (by omega), e]
      rw [add_zero, add_zero, Fin.sum_univ_one]
      exact Finset.sum_congr rfl fun x _ => gu x0 x1 x.val _ x.isLt l _ (((if_pos (Nat.zero_le _)).trans (u_at x1 x.val x.isLt l)).symm)
  · rw [dif_neg hk, if_neg hk]
    simp [FloatOps.sitofp]

end Reference

end Cert.ConvIdeal.Value

end
-- ==== Proof.ConvClaim.lean ====
module

public import proofs.«01_k».proof.Defs
public import proofs.«01_k».proof.Proof.Gen.Conv.Frame
public import proofs.«01_k».proof.Proof.ConvRef
public import proofs.«01_k».proof.Proof.Gen.ConvRefIdeal.Run
public import Idealize.ShloMosaic.Lib.Claim

@[expose] public section

noncomputable section

open Idealize.ShloMosaic Idealize.ShloMosaic.TcCoe Idealize.SL.Sem

namespace Cert.ConvRefIdeal.Read

open Cert.ConvRefIdeal

/-- The reference's run: its two results are the gradient of `bcx` and that of the taps. -/
theorem run_grad (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v68) = (fun i : S4096x3072.Idx => Cert.ConvIdeal.Value.dbcx
        (m ((c.tc : Thread nD τ).loc main_arg0)) (m ((c.tc : Thread nD τ).loc main_arg1)) (m ((c.tc : Thread nD τ).loc main_arg2)) (i 0) (i 1))
      ∧ r.2.mem ((c.tc : Thread nD τ).loc main_v69) = (fun i : S8x1024.Idx => Cert.ConvIdeal.Value.dw
        (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans ((val_main_v68_eq m c).trans (funext fun i => by
      idx_vars i; exact Cert.ConvIdeal.Value.ref68 _ _ _ i0 i1)),
    (h c).2.1.trans ((val_main_v69_eq _ _).trans (funext fun i => by idx_vars i; exact Cert.ConvIdeal.Value.ref69 _ _ i1 i0)),
    (h c).2.2⟩) (Cert.ConvRefIdeal.Value.run m ρ)

end Cert.ConvRefIdeal.Read

namespace Cert.Proof

/-- The reference of the convolution's backward pass runs to its end and leaves its arguments as they were. -/
theorem conv_ref : quiescent_ConvRefIdeal (hConvRefIdeal := Cert.ConvRefIdeal.Gen.facts) := by
  intro m g _
  run_from Cert.ConvRefIdeal.Read.run_grad m g
  · exact fun _ => by simp only [and_self]
  · exact sem_eq_zero_of_no_sems (sig := Cert.ConvRefIdeal.sig) (by decide) _

/-- The convolution's backward kernel leaves in both results what the gradient of the forward lines leaves there. -/
theorem conv_value : algebraic_ConvIdeal_ConvRefIdeal (hConvIdeal := Cert.ConvIdeal.Gen.facts)
    (hConvRefIdeal := Cert.ConvRefIdeal.Gen.facts) := by
  pair_intro
  · run_from Cert.ConvIdeal.Gen.run_main m g
  · run_from Cert.ConvRefIdeal.Read.run_grad m' g'
    · exact (Cert.ConvIdeal.Value.final9 m c).symm
    · exact (Cert.ConvIdeal.Value.final10 m c).symm

end Cert.Proof

end
-- ==== Proof.RealRow.lean ====
module

public import Idealize.ShloMosaic.PureOps.Ideal
public import Idealize.ShloMosaic.Lib.Pipeline.ValueKit

@[expose] public section

noncomputable section

open Idealize.ShloMosaic

namespace Cert.Row

/-- A value that is a real number, neither infinity. -/
def IsReal (x : EReal) : Prop := ∃ r : ℝ, x = r

theorem IsReal.coe (r : ℝ) : IsReal (r : EReal) := ⟨r, rfl⟩

theorem IsReal.add {x y : EReal} : IsReal x → IsReal y → IsReal (x + y)
  | ⟨r, hr⟩, ⟨s, hs⟩ => ⟨r + s, by rw [hr, hs, EReal.coe_add]⟩

theorem IsReal.mul {x y : EReal} : IsReal x → IsReal y → IsReal (x * y)
  | ⟨r, hr⟩, ⟨s, hs⟩ => ⟨r * s, by rw [hr, hs, EReal.coe_mul]⟩

theorem IsReal.sub {x y : EReal} : IsReal x → IsReal y → IsReal (x - y)
  | ⟨r, hr⟩, ⟨s, hs⟩ => ⟨r - s, by rw [hr, hs, EReal.coe_sub]⟩

theorem IsReal.neg {x : EReal} : IsReal x → IsReal (-x)
  | ⟨r, hr⟩ => ⟨-r, by rw [hr, EReal.coe_neg]⟩

/-- A finite sum of real numbers, summed as extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

/-- The constant 1024. -/
theorem c1024 : Ideal.ofBits .f32 1149239296#32 = ((1024 : ℝ) : EReal) := by
  simp [Ideal.ofBits, Ideal.ieee, -EReal.coe_mul]; norm_num

/-- The constant −1/2. -/
theorem cHalf : Ideal.ofBits .f32 3204448256#32 = ((-(1 / 2) : ℝ) : EReal) := by
  simp [Ideal.ofBits, Ideal.ieee, -EReal.coe_mul]; norm_num

/-- The norm's epsilon is a positive real number. -/
theorem cEps : ∃ e : ℝ, 0 < e ∧ Ideal.ofBits .f32 897988541#32 = (e : EReal) :=
  ⟨8796093 / 2 ^ 43, by norm_num, by simp [Ideal.ofBits, Ideal.ieee, -EReal.coe_mul]; norm_num⟩

/-- The mean of a row's squares plus epsilon, as both programs write it. -/
def meanSq {n : ℕ} (x : Fin n → EReal) : EReal :=
  Ideal.div (∑ k, x k * x k) (Ideal.ofBits .f32 1149239296#32) + Ideal.ofBits .f32 897988541#32

/-- The reciprocal root of the mean square of a row. -/
def rms {n : ℕ} (x : Fin n → EReal) : EReal := Ideal.rsqrt (meanSq x)

/-- The gradient of a normalised row, in one factor: `r (y − (x r) mean((x r) y))`. -/
def grad {n : ℕ} (x y : Fin n → EReal) (l : Fin n) : EReal :=
  rms x * (y l - x l * rms x * Ideal.div (∑ k, x k * rms x * y k) (Ideal.ofBits .f32 1149239296#32))

/-- What reaches a row through its mean square, once for each of the square's two factors. -/
def half {n : ℕ} (x y : Fin n → EReal) : EReal :=
  Ideal.div ((∑ k, x k * y k) * (Ideal.ofBits .f32 3204448256#32 * Ideal.div (rms x) (meanSq x)))
    (Ideal.ofBits .f32 1149239296#32)

/-- A real row has a positive real mean square plus epsilon, and a positive real reciprocal root. -/
theorem rms_real {n : ℕ} (x : Fin n → ℝ) : ∃ t r : ℝ, 0 < t ∧ r * r * t = 1 ∧
    meanSq (fun k => (x k : EReal)) = t ∧ rms (fun k => (x k : EReal)) = r := by
  obtain ⟨e, he, hc⟩ := cEps
  have hm : meanSq (fun k => (x k : EReal)) = (((∑ k, x k * x k) * (1 / 1024) + e : ℝ) : EReal) := by
    rw [meanSq, hc, c1024, Ideal.div_coe (by norm_num), Finset.sum_congr rfl fun k _ => (EReal.coe_mul (x k) (x k)).symm, coe_sum,
      ← EReal.coe_mul, ← EReal.coe_add]
  have ht : 0 < (∑ k, x k * x k) * (1 / 1024) + e := by
    have : 0 ≤ ∑ k, x k * x k := Finset.sum_nonneg fun k _ => mul_self_nonneg _
    positivity
  refine ⟨_, (Real.sqrt ((∑ k, x k * x k) * (1 / 1024) + e))⁻¹, ht, ?_, hm, ?_⟩
  · have := Real.mul_self_sqrt ht.le
    have h0 := (Real.sqrt_pos.mpr ht).ne'
    rw [← mul_inv, this, inv_mul_cancel₀ ht.ne']
  · rw [rms, hm, Ideal.rsqrt_coe, if_neg (not_lt.mpr ht.le), if_neg ht.ne']

theorem IsReal.rms {n : ℕ} {x : Fin n → EReal} (hx : ∀ k, IsReal (x k)) : IsReal (rms x) := by
  choose u hu using hx
  obtain ⟨t, r, -, -, -, h⟩ := rms_real u
  exact ⟨r, by rw [← h, ← funext hu]⟩

/-- The gradient of a normalised real row in one factor is its gradient term by term: the scale's, and twice the mean square's. -/
theorem grad_eq {n : ℕ} {x y : Fin n → EReal} (hx : ∀ k, IsReal (x k)) (hy : ∀ k, IsReal (y k)) (l : Fin n) :
    grad x y l = y l * rms x + x l * half x y + half x y * x l := by
  choose u hu using hx
  choose v hv using hy
  obtain rfl := funext hu
  obtain rfl := funext hv
  obtain ⟨t, r, ht, h1, hm, hr⟩ := rms_real u
  have e1 : ∑ k, (u k : EReal) * (r : EReal) * (v k : EReal) = ((r * ∑ k, u k * v k : ℝ) : EReal) := by
    rw [Finset.mul_sum, ← coe_sum]
    exact Finset.sum_congr rfl fun k _ => by rw [← EReal.coe_mul, ← EReal.coe_mul]; congr 1; ring
  have e2 : ∑ k, (u k : EReal) * (v k : EReal) = ((∑ k, u k * v k : ℝ) : EReal) := by
    rw [← coe_sum]; exact Finset.sum_congr rfl fun k _ => (EReal.coe_mul _ _).symm
  have h2 : 1 / t = r * r := by rw [div_eq_iff ht.ne', h1]
  simp only [grad, half, hm, hr, e1, e2, c1024, cHalf]
  rw [Ideal.div_coe (by norm_num), Ideal.div_coe (by norm_num), Ideal.div_coe ht.ne', h2]
  norm_cast
  ring

theorem IsReal.div1024 {x : EReal} (hx : IsReal x) : IsReal (Ideal.div x (Ideal.ofBits .f32 1149239296#32)) := by
  rw [c1024, Ideal.div_coe (by norm_num)]; exact hx.mul (.coe _)

theorem IsReal.grad {n : ℕ} {x y : Fin n → EReal} (hx : ∀ k, IsReal (x k)) (hy : ∀ k, IsReal (y k)) (l : Fin n) :
    IsReal (grad x y l) :=
  (IsReal.rms hx).mul ((hy l).sub (((hx l).mul (.rms hx)).mul (.div1024 (.sum fun k => ((hx k).mul (.rms hx)).mul (hy k)))))

theorem IsReal.logistic {x : EReal} : IsReal x → IsReal (Ideal.logistic x)
  | ⟨r, hr⟩ => ⟨_, by rw [hr, Ideal.logistic_coe]⟩

/-- More of the programs' constants: 2, 1, 1/2, 1/1024 and 1/2048. -/
theorem cTwo : Ideal.ofBits .f32 1073741824#32 = ((2 : ℝ) : EReal) := by
  simp [Ideal.ofBits, Ideal.ieee, -EReal.coe_mul]
  norm_num
theorem cOne : Ideal.ofBits .f32 1065353216#32 = ((1 : ℝ) : EReal) := by
  simp [Ideal.ofBits, Ideal.ieee, -EReal.coe_mul]
  norm_num
theorem cOneHalf : Ideal.ofBits .f32 1056964608#32 = ((1 / 2 : ℝ) : EReal) := by
  simp [Ideal.ofBits, Ideal.ieee, -EReal.coe_mul]
  norm_num
theorem cInv : Ideal.ofBits .f32 981467136#32 = ((1 / 1024 : ℝ) : EReal) := by
  simp [Ideal.ofBits, Ideal.ieee, -EReal.coe_mul]
  norm_num
theorem cInvTwo : Ideal.ofBits .f32 973078528#32 = ((1 / 2048 : ℝ) : EReal) := by
  simp [Ideal.ofBits, Ideal.ieee, -EReal.coe_mul]
  norm_num

/-- Half of twice a number, over the row's length, is the number by the length's inverse. -/
theorem half_twice (e : EReal) : Ideal.div (Ideal.ofBits .f32 1056964608#32) (Ideal.ofBits .f32 1149239296#32)
      * (Ideal.ofBits .f32 1073741824#32 * e) = e * Ideal.ofBits .f32 981467136#32 := by
  rw [cOneHalf, c1024, cTwo, cInv, Ideal.div_coe (by norm_num), ← EReal.coe_mul, ← mul_assoc, ← EReal.coe_mul,
    mul_comm]
  norm_num

/-- A real factor of a sum of real numbers is a factor of each. -/
theorem coe_mul_sum {ι : Type*} (s : Finset ι) {f : ι → EReal} (h : ∀ i, IsReal (f i)) (a : ℝ) :
    (a : EReal) * ∑ i ∈ s, f i = ∑ i ∈ s, (a : EReal) * f i := by
  choose g hg using h
  simp only [hg, ← EReal.coe_mul, coe_sum, Finset.mul_sum]

/-- Half the sum of the rows' means is the blocks' sums over twice the row's length. -/
theorem half_sum_mean {f : Fin 4096 → EReal} (h : ∀ i, IsReal (f i)) :
    Ideal.ofBits .f32 1056964608#32 * ∑ r, Ideal.div (f r) (Ideal.ofBits .f32 1149239296#32)
      = ∑ s : Fin 8, Ideal.ofBits .f32 973078528#32 * ∑ r : Fin 512, f ⟨512 * s.val + r.val, by omega⟩ := by
  have hd : ∀ r, Ideal.div (f r) (Ideal.ofBits .f32 1149239296#32) = f r * ((1 / 1024 : ℝ) : EReal) := fun r => by
    rw [c1024, Ideal.div_coe (by norm_num)]
  simp only [hd]
  rw [cOneHalf, cInvTwo, coe_mul_sum _ fun i => (h i).mul (.coe _)]
  simp only [fun s : Fin 8 => coe_mul_sum Finset.univ (f := fun r : Fin 512 => f ⟨512 * s.val + r.val, by omega⟩) (fun i => h _) (1 / 2048)]
  refine (Fin.sum_mul_add_congr (S := 8) (n := 512) fun s k hl => ?_).symm
  rw [mul_comm (f _) _, ← mul_assoc, ← EReal.coe_mul]
  refine congrArg₂ (fun (a : ℝ) b => (a : EReal) * f b) (by norm_num) (Fin.ext ?_)
  show 512 * s.val + k.val = s.val * 512 + k.val
  omega

/-- The gradients of a gate's argument `g` and of what is gated, `u`, where `a` reaches the product `silu g * u`. -/
def dGate (a g u : EReal) : EReal := a * u * (Ideal.logistic g * (1 + g * (1 - Ideal.logistic g)))
def dUp (a g : EReal) : EReal := a * (g * Ideal.logistic g)

/-- The gate's gradient in the form the derivative's rules give. -/
theorem dGate_eq {a g u : EReal} (ha : IsReal a) (hg : IsReal g) (hu : IsReal u) :
    dGate a g u = a * u * Ideal.logistic g + g * (a * u) * (Ideal.logistic g * (1 - Ideal.logistic g)) := by
  obtain ⟨s, hs⟩ := hg.logistic
  obtain ⟨a, rfl⟩ := ha
  obtain ⟨g, rfl⟩ := hg
  obtain ⟨u, rfl⟩ := hu
  rw [dGate, hs, ← EReal.coe_one]
  simp only [← EReal.coe_mul, ← EReal.coe_sub, ← EReal.coe_add]
  congr 1
  ring

/-- Two gradients' six terms, added one after another, are the gradients added. -/
theorem add_grads (d a b c e f g : EReal) : d + a + b + c + e + f + g = d + (e + f + g) + (a + b + c) := by abel

/-- The gate's gradient of real numbers is real. -/
theorem IsReal.dGate {a g u : EReal} (ha : IsReal a) (hg : IsReal g) (hu : IsReal u) : IsReal (dGate a g u) :=
  (ha.mul hu).mul (hg.logistic.mul (.add ⟨1, rfl⟩ (hg.mul (.sub ⟨1, rfl⟩ hg.logistic))))

end Cert.Row

end
-- ==== Proof.DwGuValue.lean ====
module

public import proofs.«01_k».proof.Proof.RealRow
public import proofs.«01_k».proof.Proof.Gen.DwGuIdeal.Value
public import proofs.«01_k».proof.Proof.Gen.DwGuRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwGuIdeal.Value

open Cert.DwGuIdeal Cert.DwGuIdeal.Gen

/-! The gradient of the gated feed-forward layer's weights, written out at one place. -/

section Formulas

variable (x0 : FVec Ideal S4096x2816 .bf16) (x1 : FVec Ideal S4096x1024 .bf16) (x2 : FVec Ideal S1x1024 .f32) (x3 : FVec Ideal S1024x5632 .bf16)

/-- The normalised rows. -/
def Xn (r : Fin 4096) (k : Fin 1024) : EReal := x1 (ix2 r k) * Row.rms (fun l => x1 (ix2 r l)) * x2 (ix2 0 k)

/-- The layer's product, its first half the gate and its second what is gated. -/
def GU (r : Fin 4096) (l : Fin 5632) : EReal := ∑ k : Fin 1024, Xn x1 x2 r k * x3 (ix2 k l)
def gate (r : Fin 4096) (l : Fin 2816) : EReal := GU x1 x2 x3 r ⟨l.val, by omega⟩
def up (r : Fin 4096) (l : Fin 2816) : EReal := GU x1 x2 x3 r ⟨2816 + l.val, by omega⟩

/-- The gradient of the gate's (`s = 0`) and of the gated part's (`s = 1`) weights. -/
def dW (s : Fin 2) (k : Fin 1024) (l : Fin 2816) : EReal := ∑ r : Fin 4096, Xn x1 x2 r k *
  (if s = 0 then Row.dGate (x0 (ix2 r l)) (gate x1 x2 x3 r l) (up x1 x2 x3 r l) else Row.dUp (x0 (ix2 r l)) (gate x1 x2 x3 r l))

end Formulas

section Pieces

variable (P : Fin 1024 → Fin 4096 → EReal) (a g u : Fin 4096 → Fin 256 → EReal)
    (v0 : Vec Ideal S4096x256 .bf16) (v1 v3 : Vec Ideal S1x4096x256 .bf16) (v16 : Vec Ideal S1024x4096 .bf16)
    (h0 : ∀ r l, v0 (ix2 r l) = a r l) (h1 : ∀ r l, v1 (ix3 0 r l) = g r l) (h3 : ∀ r l, v3 (ix3 0 r l) = u r l) (h16 : ∀ k r, v16 (ix2 k r) = P k r)

include h0 h1 h16

/-- The block of the gated part's weights, and the gate's. -/
theorem pieceUp (k : Fin 1024) (l : Fin 256) : k0_pay4 (F := Ideal) v0 v1 v16 (ix3 0 k l) = ∑ r, P k r * Row.dUp (a r l) (g r l) := by
  pointwise [k0_pay4, k0_pay1, k0_pay2]
  simp only [h0, h1, h16]
  rfl
include h3 in
theorem pieceGate (k : Fin 1024) (l : Fin 256) : k0_pay3 (F := Ideal) v0 v1 v3 v16 (ix3 0 k l)
    = ∑ r, P k r * Row.dGate (a r l) (g r l) (u r l) := by
  pointwise [k0_pay3, k0_pay1, k0_pay2]
  simp only [h0, h1, h3, h16]
  rfl

end Pieces

section Points

variable (m : (ℓ : Loc nD τ sig) → Buf (Elt Ideal) ℓ) (c : Dev nD)

abbrev X0 : FVec Ideal S4096x2816 .bf16 := m ((c : Thread nD τ).loc main_arg0)
abbrev X1 : FVec Ideal S4096x1024 .bf16 := m ((c : Thread nD τ).loc main_arg1)
abbrev X2 : FVec Ideal S1x1024 .f32 := m ((c : Thread nD τ).loc main_arg2)
abbrev X3 : FVec Ideal S1024x5632 .bf16 := m ((c : Thread nD τ).loc main_arg3)

/-- Which block each window stages at grid point `t`. -/
theorem idx : ∀ t : Fin cfg0.N, win0_0.index t = ![0, 0] ∧ win0_1.index t = ![0, t.val] ∧ win0_2.index t = ![0, 0, t.val]
    ∧ win0_3.index t = ![1, 0, t.val] ∧ win0_4.index t = ![0, 0, t.val] ∧ t.val < 11 :=
  (by decide +kernel : ∀ t : Fin grid0.N, _)

/-- The grid has eleven points. -/
theorem tlt (t : Fin cfg0.N) : t.val < 11 := (idx t).2.2.2.2.2

variable (t : Fin cfg0.N)

/-- The lane of the array that is a block's lane `l`. -/
def lane (l : Fin 256) : Fin 2816 := ⟨256 * t.val + l.val, by have := tlt t; omega⟩

/-- The host's rows and products, as the kernel finds them. -/
theorem hostX (k : Fin 1024) (r : Fin 4096) : V m c main_v30 (ix2 k r) = Xn (X1 m c) (X2 m c) r k := by
  entry_read
  pointwise
  rfl
theorem hostGate (r : Fin 4096) (l : Fin 2816) : V m c main_v34 (ix3 0 r l) = gate (X1 m c) (X2 m c) (X3 m c) r l := by
  entry_read
  pointwise
  rfl
theorem hostUp (r : Fin 4096) (l : Fin 2816) : V m c main_v34 (ix3 1 r l) = up (X1 m c) (X2 m c) (X3 m c) r l := by
  entry_read
  pointwise
  rfl

/-- The blocks the body reads. -/
theorem rd0 (k : Fin 1024) (r : Fin 4096) : (iblk m c 0 t : FVec Ideal S1024x4096 .bf16) (ix2 k r) = Xn (X1 m c) (X2 m c) r k := by
  refine Eq.trans ?_ (hostX m c k r)
  blk_ext [iblk, idx t]
theorem rd1 (r : Fin 4096) (l : Fin 256) : (iblk m c 1 t : FVec Ideal S4096x256 .bf16) (ix2 r l) = X0 m c (ix2 r (lane t l)) := by
  blk_ext [iblk, V, idx t, lane]
theorem rd2 (r : Fin 4096) (l : Fin 256) : (iblk m c 2 t : FVec Ideal S1x4096x256 .bf16) (ix3 0 r l)
    = gate (X1 m c) (X2 m c) (X3 m c) r (lane t l) := by
  refine Eq.trans ?_ (hostGate m c r (lane t l))
  blk_ext [iblk, idx t, lane]
theorem rd3 (r : Fin 4096) (l : Fin 256) : (iblk m c 3 t : FVec Ideal S1x4096x256 .bf16) (ix3 0 r l)
    = up (X1 m c) (X2 m c) (X3 m c) r (lane t l) := by
  refine Eq.trans ?_ (hostUp m c r (lane t l))
  blk_ext [iblk, idx t, lane]

/-- What every grid point leaves in its block of the weights' gradient. -/
theorem out4 (y0 : Fin 2) (y1 : Fin 1024) (y2 : Fin 256) : out0_4 (iblk m c 0 t) (iblk m c 1 t) (iblk m c 2 t) (iblk m c 3 t) (ix3 y0 y1 y2)
    = dW (X0 m c) (X1 m c) (X2 m c) (X3 m c) y0 y1 (lane t y2) := by
  rw [out0_4]
  canon_tiles x h
  all_goals idx_vars x
  all_goals obtain rfl : x0 = 0 := Subsingleton.elim _ _
  all_goals obtain rfl : y1 = x1 := Fin.ext h1
  all_goals obtain rfl : y2 = x2 := Fin.ext h2
  · obtain rfl : y0 = 1 := Fin.ext h0
    refine pieceUp (fun k r => Xn (X1 m c) (X2 m c) r k) (fun r l => X0 m c (ix2 r (lane t l)))
      (fun r l => gate (X1 m c) (X2 m c) (X3 m c) r (lane t l)) _ _ _ ?_ ?_ ?_ y1 y2 <;> intros <;> pointwise
    exacts [rd1 m c t _ _, rd2 m c t _ _, rd0 m c t _ _]
  · obtain rfl : y0 = 0 := Fin.ext h0
    refine pieceGate (fun k r => Xn (X1 m c) (X2 m c) r k) (fun r l => X0 m c (ix2 r (lane t l)))
      (fun r l => gate (X1 m c) (X2 m c) (X3 m c) r (lane t l)) (fun r l => up (X1 m c) (X2 m c) (X3 m c) r (lane t l)) _ _ _ _
      ?_ ?_ ?_ ?_ y1 y2 <;> intros <;> pointwise
    exacts [rd1 m c t _ _, rd2 m c t _ _, rd3 m c t _ _, rd0 m c t _ _]

/-- The weights' gradient after the run. -/
theorem final4 : (dats m 0 c).arrAt 4 (cfgs 0).N = fun i : S2x1024x2816.Idx => dW (X0 m c) (X1 m c) (X2 m c) (X3 m c) (i 0) (i 1) (i 2) := by
  refine (dats m 0 c).arrAt_eq_of_covers 4 _ (by decide +kernel) fun t hf y => ?_
  blk_simp
  rw [after0_4]
  idx_vars y
  refine (out4 m c t y0 y1 y2).trans ?_
  congr 1 <;> refine Fin.ext ?_ <;> blk_simp [idx t]
  show 256 * t.val + y2.val = _
  omega

end Points

end Cert.DwGuIdeal.Value

end
-- ==== Proof.Finite.lean ====
module

public import proofs.«01_k».proof.Proof.RealRow
public import Idealize.ShloMosaic.Lib.ReduceAll
public import Idealize.ShloMosaic.Lib.StableHlo

@[expose] public section

noncomputable section

open Idealize.ShloMosaic

namespace Cert.Row

/-- An extended real whose absolute value is below the top is a real number. -/
theorem isReal_of_abs_lt {x : EReal} (h : max x (-x) < ⊤) : IsReal x := by
  induction x using EReal.rec with
  | bot => simp at h
  | coe r => exact .coe r
  | top => simp at h

/-- An array whose absolute values are all below infinity holds real numbers. -/
theorem isReal_of_all {s t u : Shape} {axes : List (Fin s.rank)} [Subsingleton t.Idx] {φ : FTy} {x y : FVec Ideal s φ}
    {init : u.Idx → BitVec 1} {h : s.ReducesTo axes t} {hu : 0 < u.numel} {j : t.Idx}
    (e : Host.reduce IntOp.andi (cmpf .olt (Host.absf x) y) init h hu j = 1#1) (hy : ∀ i, y i = (⊤ : EReal)) (i : s.Idx) :
    IsReal (x i) := by
  have e : Ideal.cmp .olt (max (x i) (-(x i : EReal)) : EReal) (y i) = 1#1 := Host.reduce_andi_all _ _ h hu j e i
  rw [hy] at e
  refine isReal_of_abs_lt ?_
  by_contra hn
  simp [Ideal.cmp, hn] at e

/-- Both conjuncts of a conjunction that holds. -/
theorem and_split {t : Shape} {p q : IVec t 1} {j : t.Idx} (h : andi p q j = 1#1) : p j = 1#1 ∧ q j = 1#1 :=
  (by decide : ∀ a b : BitVec 1, IntOp.andi a b = 1#1 → a = 1#1 ∧ b = 1#1) _ _ h

/-- The constant infinity, in either format. -/
theorem cTop : Ideal.ofBits .f32 0x7F800000#32 = (⊤ : EReal) := by simp [Ideal.ofBits, Ideal.ieee]
theorem cTop16 : Ideal.ofBits .bf16 0x7F80#16 = (⊤ : EReal) := by simp [Ideal.ofBits, Ideal.ieee]

instance : Subsingleton (Shape.Idx ⟨0, ![]⟩) := ⟨fun a b => funext fun k => k.elim0⟩

end Cert.Row

end
-- ==== Proof.DwGuClaim.lean ====
module

public import proofs.«01_k».proof.Defs
public import proofs.«01_k».proof.Proof.Gen.DwGu.Frame
public import proofs.«01_k».proof.Proof.DwGuValue
public import proofs.«01_k».proof.Proof.Finite
public import proofs.«01_k».proof.Proof.Gen.DwGuRefIdeal.Run
public import Idealize.ShloMosaic.Lib.Claim

@[expose] public section

set_option maxRecDepth 16384

noncomputable section

open Idealize.ShloMosaic Idealize.ShloMosaic.TcCoe Idealize.SL.Sem

namespace Cert.DwGuRefIdeal.Read

open Cert.DwGuIdeal.Value

section Reference

variable (x0 : FVec Ideal S4096x2816 .bf16) (x1 : FVec Ideal S4096x1024 .bf16) (x2 : FVec Ideal S1x1024 .f32) (x3 : FVec Ideal S1024x5632 .bf16)

/-- The reference's stages at one place: the normalised rows, the product, the gate and what is gated. -/
theorem refX (r : Fin 4096) (k : Fin 1024) : val_main_v13 (F := Ideal) x1 x2 (ix2 r k) = Xn x1 x2 r k := by
  pointwise [val_main_v1, val_main_v2, val_main_cst, val_main_v3, val_main_v4, val_main_cst_0, val_main_v5, val_main_v6, val_main_cst_1, val_main_v7,
      val_main_v8, val_main_v9, val_main_v10, val_main_v11, val_main_v12, val_main_v13]
  rfl
theorem refGU (r : Fin 4096) (l : Fin 5632) : val_main_v14 (F := Ideal) x1 x2 x3 (ix2 r l) = GU x1 x2 x3 r l := by
  pointwise [val_main_v0, val_main_v14]
  simp only [refX]
  rfl
theorem refGate (r : Fin 4096) (l : Fin 2816) : val_main_v15 (F := Ideal) x1 x2 x3 (ix2 r l) = gate x1 x2 x3 r l := by
  pointwise [val_main_v15]
  exact refGU x1 x2 x3 r _
theorem refUp (r : Fin 4096) (l : Fin 2816) : val_main_v16 (F := Ideal) x1 x2 x3 (ix2 r l) = up x1 x2 x3 r l := by
  pointwise [val_main_v16]
  exact refGU x1 x2 x3 r _

/-- The gradient of what is gated. -/
theorem refDUp (r : Fin 4096) (l : Fin 2816) : val_main_v20 (F := Ideal) x0 x1 x2 x3 (ix2 r l)
    = Row.dUp (x0 (ix2 r l)) (gate x1 x2 x3 r l) := by
  pointwise [val_main_call0_cst_0, val_main_call0_v4, val_main_call0_cst, val_main_call0_v2, val_main_call0_v0, val_main_call0_v1, val_main_call0_v3,
      val_main_v17_2, val_main_v17_0, val_main_v19, val_main_v20]
  simp only [refGate, refUp]
  exact mul_comm _ _

variable (h0 : ∀ i, Row.IsReal (x0 i)) (h1 : ∀ i, Row.IsReal (x1 i)) (h2 : ∀ i, Row.IsReal (x2 i)) (h3 : ∀ i, Row.IsReal (x3 i))

include h1 h2 h3 in
theorem realGU (r : Fin 4096) (l : Fin 5632) : Row.IsReal (GU x1 x2 x3 r l) :=
  .sum fun k => (((h1 _).mul (.rms fun _ => h1 _)).mul (h2 _)).mul (h3 _)

include h0 h1 h2 h3

/-- The gradient of the gate's argument, of real arguments. -/
theorem refDGate (r : Fin 4096) (l : Fin 2816) : val_main_v22 (F := Ideal) x0 x1 x2 x3 (ix2 r l)
    = Row.dGate (x0 (ix2 r l)) (gate x1 x2 x3 r l) (up x1 x2 x3 r l) := by
  refine Eq.trans ?_ (Row.dGate_eq (h0 _) (realGU x1 x2 x3 h1 h2 h3 r _) (realGU x1 x2 x3 h1 h2 h3 r _)).symm
  pointwise [val_main_v19, val_main_v21, val_main_call0_cst_0, val_main_call0_v4, val_main_call0_cst, val_main_call0_v2, val_main_call0_v0,
      val_main_call0_v1, val_main_call0_v3, val_main_v17_2, val_main_call1_v1, val_main_call1_v0, val_main_call0_cst_1, val_main_call0_v6,
      val_main_call0_v7, val_main_v17_1, val_main_call1_v2, val_main_v22]
  simp only [refGate, refUp]
  rfl

/-- The gradient of the weights, of real arguments, is the kernel's. -/
theorem ref31 (s : Fin 2) (k : Fin 1024) (l : Fin 2816) : val_main_v31 (F := Ideal) x0 x1 x2 x3 (ix3 s k l) = dW x0 x1 x2 x3 s k l := by
  pointwise [val_main_v23, val_main_v24, val_main_v25, val_main_v26, val_main_v28, val_main_v27, val_main_v29, val_main_v30, val_main_v31]
  simp only [refX, refDUp, refDGate x0 x1 x2 x3 h0 h1 h2 h3]
  obtain rfl | rfl : s = 0 ∨ s = 1 := by omega
  · rw [dif_pos (by decide)]
    exact Finset.sum_congr rfl fun r _ => mul_comm _ _
  · rw [dif_neg (by decide)]
    exact Finset.sum_congr rfl fun r _ => mul_comm _ _

end Reference

/-- The reference's run, where its arguments are real: its result is the weights' gradient as the kernel has it. -/
theorem run_grad (m : (ℓ : Loc nD τ sig) → Buf (Elt Ideal) ℓ) (ρ : Dev nD → PrngReg)
    (hr : ∀ c : Dev nD, (∀ i, Row.IsReal (m ((c.tc : Thread nD τ).loc main_arg0) i))
      ∧ (∀ i, Row.IsReal (m ((c.tc : Thread nD τ).loc main_arg1) i))
      ∧ (∀ i, Row.IsReal (m ((c.tc : Thread nD τ).loc main_arg2) i))
      ∧ (∀ i, Row.IsReal (m ((c.tc : Thread nD τ).loc main_arg3) i))) :
    θ_run (defs (F := Ideal)) (onTc (τ := τ) (main (F := Ideal))) ⟨m, fun _ => 0, ρ⟩ fun r => ∀ c : Dev nD,
      r.2.mem ((c.tc : Thread nD τ).loc main_v31) = (fun i : S2x1024x2816.Idx => dW (m ((c.tc : Thread nD τ).loc main_arg0)) (m ((c.tc : Thread nD τ).loc main_arg1)) (m ((c.tc : Thread nD τ).loc main_arg2)) (m ((c.tc : Thread nD τ).loc main_arg3)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨
    (h c).1.trans ((val_main_v31_eq m c).trans (funext fun i => by idx_vars i; exact ref31 _ _ _ _ (hr c).1 (hr c).2.1 (hr c).2.2.1 (hr c).2.2.2 i0 i1 i2)),
    (h c).2⟩) (Cert.DwGuRefIdeal.Value.run m ρ)

end Cert.DwGuRefIdeal.Read

namespace Cert.Pre_dwgu_finite

/-- The shape facts of the predicate. -/
instance facts : Facts := by constructor <;> decide

/-- Where the predicate holds, the arguments are real. -/
theorem real [Facts] {a0 : FVec Ideal S4096x2816 .bf16} {a1 : FVec Ideal S4096x1024 .bf16} {a2 : FVec Ideal S1x1024 .f32} {a3 : FVec Ideal S1024x5632 .bf16}
    (h : fn a0 a1 a2 a3 = fun _ => 1#1) : (∀ i, Row.IsReal (a0 i)) ∧ (∀ i, Row.IsReal (a1 i)) ∧ (∀ i, Row.IsReal (a2 i)) ∧ (∀ i, Row.IsReal (a3 i)) := by
  obtain ⟨e, e3⟩ := Row.and_split (congrFun h fun k => k.elim0)
  obtain ⟨e, e2⟩ := Row.and_split e
  obtain ⟨e0, e1⟩ := Row.and_split e
  exact ⟨Row.isReal_of_all e0 fun _ => Row.cTop16, Row.isReal_of_all e1 fun _ => Row.cTop16, Row.isReal_of_all e2 fun _ => Row.cTop, Row.isReal_of_all e3 fun _ => Row.cTop16⟩

end Cert.Pre_dwgu_finite

namespace Cert.Proof

/-- The reference of the gradient of the gated layer's weights runs to its end and leaves its arguments as they were. -/
theorem dwgu_ref : quiescent_DwGuRefIdeal (hDwGuRefIdeal := Cert.DwGuRefIdeal.Gen.facts) := by
  intro m g _
  run_from Cert.DwGuRefIdeal.Value.run m g
  · exact fun _ => by simp only [and_self]
  · exact sem_eq_zero_of_no_sems (sig := Cert.DwGuRefIdeal.sig) (by decide) _

/-- The kernel leaves in its result the gradient of the gated layer's weights that the derivative of the forward lines leaves there, of real arguments. -/
theorem dwgu_value : algebraic_DwGuIdeal_DwGuRefIdeal_pre_dwgu_finite (hDwGuIdeal := Cert.DwGuIdeal.Gen.facts)
    (hDwGuRefIdeal := Cert.DwGuRefIdeal.Gen.facts) (hPre_dwgu_finite := Cert.Pre_dwgu_finite.facts) := by
  pair_intro
  · run_from Cert.DwGuIdeal.Gen.run_main m g
  · have run := Cert.DwGuRefIdeal.Read.run_grad m' g' fun c => by
      obtain ⟨e0, e1, e2, e3⟩ := hagree c
      rw [e0, e1, e2, e3]
      exact Cert.Pre_dwgu_finite.real (hpre c)
    run_from run
    · exact (Cert.DwGuIdeal.Value.final4 m c).symm

end Cert.Proof

end
-- ==== Proof.NormBwdValue.lean ====
module

public import proofs.«01_k».proof.Proof.RealRow
public import proofs.«01_k».proof.Proof.Gen.NormBwdIdeal.Value
public import proofs.«01_k».proof.Proof.Gen.NormBwdRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormBwdIdeal.Value

open Cert.NormBwdIdeal Cert.NormBwdIdeal.Gen

/-! The gradient of a product of a normalised row, written out at one row and lane. -/

section Formulas

variable (x0 : FVec Ideal S4096x3072 .bf16) (x1 : FVec Ideal S1024x3072 .bf16) (x2 : FVec Ideal S4096x1024 .f32)
    (x3 : FVec Ideal S1x1024 .f32) (x4 : FVec Ideal S4096x1024 .bf16)

/-- The gradient of the scaled normalised row: the product with the weights transposed. -/
def D (r : Fin 4096) (l : Fin 1024) : EReal := ∑ k : Fin 3072, x0 (ix2 r k) * x1 (ix2 l k)

/-- The gradient of the rows: what reaches them directly, and through the norm. -/
def dx (r : Fin 4096) (l : Fin 1024) : EReal :=
  x4 (ix2 r l) + Row.grad (fun k => x2 (ix2 r k)) (fun k => x3 (ix2 0 k) * D x0 x1 r k) l

/-- One row's share of the gradient of the norm's scale. -/
def dgRow (r : Fin 4096) (l : Fin 1024) : EReal := D x0 x1 r l * (x2 (ix2 r l) * Row.rms fun k => x2 (ix2 r k))

section Pieces

variable (v0 v4 : Vec Ideal S1x256x3072 .bf16) (v2 v6 : Vec Ideal S1024x3072 .bf16) (v9 v41 : Vec Ideal S256x1024 .f32)
    (v10 : Vec Ideal S1x1024 .f32) (v33 : Vec Ideal S256x1024 .bf16) (R : Fin 256 → Fin 4096) (r : Fin 256) (l : Fin 1024)

/-- The product with the weights transposed, first half of a block. -/
theorem prodA (h0 : ∀ k, v0 (ix3 0 r k) = x0 (ix2 (R r) k)) (h2 : ∀ l k, v2 (ix2 l k) = x1 (ix2 l k)) :
    k0_pay2 (F := Ideal) v0 v2 (ix2 r l) = D x0 x1 (R r) l := by
  pointwise [k0_pay2]
  simp only [h0, h2, D]

/-- The product with the weights transposed, second half of a block. -/
theorem prodB (h0 : ∀ k, v4 (ix3 0 r k) = x0 (ix2 (R r) k)) (h2 : ∀ l k, v6 (ix2 l k) = x1 (ix2 l k)) :
    k0_pay3 (F := Ideal) v4 v6 (ix2 r l) = D x0 x1 (R r) l := by
  pointwise [k0_pay3]
  simp only [h0, h2, D]

/-- The rows' gradient, first half of a block. -/
theorem pieceA (h0 : ∀ k, v0 (ix3 0 r k) = x0 (ix2 (R r) k)) (h2 : ∀ l k, v2 (ix2 l k) = x1 (ix2 l k))
    (h9 : ∀ k, v9 (ix2 r k) = x2 (ix2 (R r) k)) (h10 : ∀ k, v10 (ix2 0 k) = x3 (ix2 0 k)) (h33 : v33 (ix2 r l) = x4 (ix2 (R r) l)) :
    k0_pay9 (F := Ideal) (k0_pay7 v0 v2 v9 v10) (k0_pay8 v33) (ix2 r l) = dx x0 x1 x2 x3 x4 (R r) l := by
  pointwise [k0_pay9, k0_pay8, k0_pay7, k0_pay6, k0_pay5]
  simp only [h9, h10, h33, prodA x0 x1 v0 v2 R r _ h0 h2]
  rfl

/-- The rows' gradient, second half of a block. -/
theorem pieceB (h0 : ∀ k, v4 (ix3 0 r k) = x0 (ix2 (R r) k)) (h2 : ∀ l k, v6 (ix2 l k) = x1 (ix2 l k))
    (h9 : ∀ k, v41 (ix2 r k) = x2 (ix2 (R r) k)) (h10 : ∀ k, v10 (ix2 0 k) = x3 (ix2 0 k)) (h33 : v33 (ix2 r l) = x4 (ix2 (R r) l)) :
    k0_pay12 (F := Ideal) (k0_pay3 v4 v6) v41 v10 v33 (ix2 r l) = dx x0 x1 x2 x3 x4 (R r) l := by
  pointwise [k0_pay12, k0_pay11, k0_pay10]
  simp only [h9, h10, h33, prodB x0 x1 v4 v6 R r _ h0 h2]
  rfl

/-- A block's share of the gradient of the norm's scale. -/
theorem share (S : Fin 256 → Fin 4096) (h0 : ∀ r k, v0 (ix3 0 r k) = x0 (ix2 (R r) k)) (h2 : ∀ l k, v2 (ix2 l k) = x1 (ix2 l k))
    (h4 : ∀ r k, v4 (ix3 0 r k) = x0 (ix2 (S r) k)) (h6 : ∀ l k, v6 (ix2 l k) = x1 (ix2 l k))
    (h9 : ∀ r k, v9 (ix2 r k) = x2 (ix2 (R r) k)) (h41 : ∀ r k, v41 (ix2 r k) = x2 (ix2 (S r) k)) :
    k0_pay13 (F := Ideal) (k0_pay2 v0 v2) (k0_pay3 v4 v6) k0_pay4 (k0_pay6 v9) v41 (ix2 0 l)
      = ∑ r, dgRow x0 x1 x2 (R r) l + ∑ r, dgRow x0 x1 x2 (S r) l := by
  pointwise [k0_pay13, k0_pay4, k0_pay11, k0_pay10, k0_pay6, k0_pay5]
  simp only [h9, h41, prodA x0 x1 v0 v2 R _ _ (h0 _) h2, prodB x0 x1 v4 v6 S _ _ (h4 _) h6]
  rfl

end Pieces

end Formulas

section Points

variable (m : (ℓ : Loc nD τ sig) → Buf (Elt Ideal) ℓ) (c : Dev nD)

abbrev X0 : FVec Ideal S4096x3072 .bf16 := m ((c : Thread nD τ).loc main_arg0)
abbrev X1 : FVec Ideal S1024x3072 .bf16 := m ((c : Thread nD τ).loc main_arg1)
abbrev X2 : FVec Ideal S4096x1024 .f32 := m ((c : Thread nD τ).loc main_arg2)
abbrev X3 : FVec Ideal S1x1024 .f32 := m ((c : Thread nD τ).loc main_arg3)
abbrev X4 : FVec Ideal S4096x1024 .bf16 := m ((c : Thread nD τ).loc main_arg4)

/-- Which block each window stages at grid point `t`. -/
theorem idx : ∀ t : Fin cfg0.N, win0_0.index t = ![0, t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] ∧ t.val < 8 :=
  (by decide +kernel : ∀ t : Fin grid0.N, _)

/-- The grid has eight points. -/
theorem tlt (t : Fin cfg0.N) : t.val < 8 := (idx t).2.2.2.2.2.2.2

variable (t : Fin cfg0.N)

/-- The blocks of the arguments, read at a row and lane. -/
theorem rd0 (r : Fin 512) (k : Fin 3072) : (iblk m c 0 t : FVec Ideal S1x512x3072 .bf16) (ix3 0 r k)
    = X0 m c (ix2 ⟨512 * t.val + r.val, by have := tlt t; omega⟩ k) := by
  trans V m c main_v0 (ix3 0 ⟨512 * t.val + r.val, by have := tlt t; omega⟩ k)
  · blk_ext [iblk, idx t]
  · entry_read
    pointwise
theorem rd1 (l : Fin 1024) (k : Fin 3072) : (iblk m c 1 t : FVec Ideal S1024x3072 .bf16) (ix2 l k) = X1 m c (ix2 l k) := by
  blk_ext [iblk, V, idx t]
theorem rd2 (r : Fin 512) (k : Fin 1024) : (iblk m c 2 t : FVec Ideal S512x1024 .f32) (ix2 r k)
    = X2 m c (ix2 ⟨512 * t.val + r.val, by have := tlt t; omega⟩ k) := by blk_ext [iblk, V, idx t]
theorem rd3 (k : Fin 1024) : (iblk m c 3 t : FVec Ideal S1x1024 .f32) (ix2 0 k) = X3 m c (ix2 0 k) := by
  blk_ext [iblk, V, idx t]
theorem rd4 (r : Fin 512) (k : Fin 1024) : (iblk m c 4 t : FVec Ideal S512x1024 .bf16) (ix2 r k)
    = X4 m c (ix2 ⟨512 * t.val + r.val, by have := tlt t; omega⟩ k) := by blk_ext [iblk, V, idx t]

/-- The array's row that is row `r` of a block's first half, and of its second. -/
def rowA (r : Fin 256) : Fin 4096 := ⟨512 * t.val + r.val, by have := tlt t; omega⟩
def rowB (r : Fin 256) : Fin 4096 := ⟨512 * t.val + (256 + r.val), by have := tlt t; omega⟩

/-- What every grid point leaves in its block of the rows' gradient. -/
theorem out5 (y0 : Fin 512) (y1 : Fin 1024) : (outsAt0 m c t.val t.isLt).1 (ix2 y0 y1)
    = dx (X0 m c) (X1 m c) (X2 m c) (X3 m c) (X4 m c) ⟨512 * t.val + y0.val, by have := tlt t; omega⟩ y1 := by
  have ht := tlt t
  by_cases hA : t.val % 8 = 0
  on_goal 1 => rw [outsAt0_A m c t hA (by omega)]
  on_goal 2 => rw [outsAt0_B m c t hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      refine pieceB _ _ _ _ _ _ _ _ _ _ (rowB t) x0 y1 ?_ ?_ ?_ ?_ ?_ <;> intros <;> pointwise
      exacts [rd0 m c t _ _, rd1 m c t _ _, rd2 m c t _ _, rd3 m c t _, rd4 m c t _ _]
    · obtain rfl : y0 = ⟨x0.val, by clear h0; omega⟩ := Fin.ext h0
      refine pieceA _ _ _ _ _ _ _ _ _ _ (rowA t) x0 y1 ?_ ?_ ?_ ?_ ?_ <;> intros <;> pointwise
      exacts [rd0 m c t _ _, rd1 m c t _ _, rd2 m c t _ _, rd3 m c t _, rd4 m c t _ _]

/-- The gradient of the rows after the run. -/
theorem final5 : (dats m 0 c).arrAt 5 (cfgs 0).N = fun i : S4096x1024.Idx => dx (X0 m c) (X1 m c) (X2 m c) (X3 m c) (X4 m c) (i 0) (i 1) := by
  refine (dats m 0 c).arrAt_eq_of_covers 5 _ (by decide +kernel) fun t hf y => ?_
  blk_simp
  rw [after0_5]
  idx_vars y
  refine (out5 m c t y0 y1).trans ?_
  refine congrArg₂ (dx _ _ _ _ _) (Fin.ext ?_) (Fin.ext ?_)
  · blk_simp [idx t]
    show 512 * t.val + y0.val = _
    omega
  · blk_simp [idx t]

/-- What one grid point adds to the gradient of the norm's scale. -/
theorem part (l : Fin 1024) (v0 v4 : Vec Ideal S1x256x3072 .bf16) (v2 v6 : Vec Ideal S1024x3072 .bf16) (v9 v41 : Vec Ideal S256x1024 .f32)
    (h0 : ∀ r k, v0 (ix3 0 r k) = X0 m c (ix2 (rowA t r) k)) (h2 : ∀ l k, v2 (ix2 l k) = X1 m c (ix2 l k))
    (h4 : ∀ r k, v4 (ix3 0 r k) = X0 m c (ix2 (rowB t r) k)) (h6 : ∀ l k, v6 (ix2 l k) = X1 m c (ix2 l k))
    (h9 : ∀ r k, v9 (ix2 r k) = X2 m c (ix2 (rowA t r) k)) (h41 : ∀ r k, v41 (ix2 r k) = X2 m c (ix2 (rowB t r) k)) :
    k0_pay13 (F := Ideal) (k0_pay2 v0 v2) (k0_pay3 v4 v6) k0_pay4 (k0_pay6 v9) v41 (ix2 0 l)
      = ∑ r : Fin 512, dgRow (X0 m c) (X1 m c) (X2 m c) ⟨512 * t.val + r.val, by have := tlt t; omega⟩ l := by
  rw [share (X0 m c) (X1 m c) (X2 m c) v0 v4 v2 v6 v9 v41 (rowA t) l (rowB t) h0 h2 h4 h6 h9 h41]
  exact (Fin.sum_univ_add (a := 256) (b := 256) (fun r : Fin 512 => dgRow (X0 m c) (X1 m c) (X2 m c) ⟨512 * t.val + r.val, by have := tlt t; omega⟩ l)).symm

/-- The gradient of the norm's scale: the sum of the rows' shares. -/
def dg (x0 : FVec Ideal S4096x3072 .bf16) (x1 : FVec Ideal S1024x3072 .bf16) (x2 : FVec Ideal S4096x1024 .f32) (l : Fin 1024) : EReal :=
  ∑ r : Fin 4096, dgRow x0 x1 x2 r l

/-- What the first point writes to the accumulator, and what every later one leaves there. -/
theorem out6 (j : S1x1024.Idx) : (outsAt0 m c t.val t.isLt).2 j
    = (if t.val % 8 = 0 then 0 else (outsAt0 m c (t.val - 1) (by omega)).2 j : EReal)
      + ∑ r : Fin 512, dgRow (X0 m c) (X1 m c) (X2 m c) ⟨512 * t.val + r.val, by have := tlt t; omega⟩ (j 1) := by
  have ht := tlt t
  idx_vars j
  by_cases hA : t.val % 8 = 0
  on_goal 1 => rw [outsAt0_A m c t hA (by omega), if_pos hA, zero_add]
  on_goal 2 => rw [outsAt0_B m c t hA (by omega), if_neg hA]
  all_goals frame_out
  on_goal 2 => pointwise [k0_pay1]
  on_goal 2 => refine congrArg (fun a : EReal => _ + a) ?_
  all_goals obtain rfl : j0 = 0 := Subsingleton.elim _ _
  all_goals refine part m c t j1 _ _ _ _ _ _ ?_ ?_ ?_ ?_ ?_ ?_ <;> intros <;> pointwise
  all_goals first | exact rd0 m c t _ _ | exact rd1 m c t _ _ | exact rd2 m c t _ _

/-- The gradient of the norm's scale after the run. -/
theorem final6 : (dats m 0 c).arrAt 6 (cfgs 0).N = fun i : S1x1024.Idx => dg (X0 m c) (X1 m c) (X2 m c) (i 1) := by
  refine (dats m 0 c).arrAt_eq_of_after_last 6 t0_7 (by decide +kernel) _ fun j => ?_
  blk_simp
  idx_vars j
  rw [after0_6, Pipeline.eq_sum_fin_of_reset_step_apply_last (fun n h => (outsAt0 m c n h).2) 8 (fun _ => 0) _
    (fun t h j => by rw [out6, if_pos h]) (fun t h j => by rw [out6, if_neg h]) (le_of_eq N_0) t0_7 rfl, zero_add]
  exact Fin.sum_mul_add_congr fun s k hl => congrArg (fun r => dgRow (X0 m c) (X1 m c) (X2 m c) r j1)
    (Fin.ext (by show 512 * s.val + k.val = s.val * 512 + k.val; omega))

end Points

end Cert.NormBwdIdeal.Value

end
-- ==== Proof.NormBwdClaim.lean ====
module

public import proofs.«01_k».proof.Defs
public import proofs.«01_k».proof.Proof.Gen.NormBwd.Frame
public import proofs.«01_k».proof.Proof.NormBwdValue
public import proofs.«01_k».proof.Proof.Finite
public import proofs.«01_k».proof.Proof.Gen.NormBwdRefIdeal.Run
public import Idealize.ShloMosaic.Lib.Claim

@[expose] public section

set_option maxRecDepth 16384

noncomputable section

open Idealize.ShloMosaic Idealize.ShloMosaic.TcCoe Idealize.SL.Sem

namespace Cert.NormBwdIdeal.Value

section Reference

variable (x0 : FVec Ideal S4096x3072 .bf16) (x1 : FVec Ideal S1024x3072 .bf16) (x2 : FVec Ideal S4096x1024 .f32)
    (x3 : FVec Ideal S1x1024 .f32) (x4 : FVec Ideal S4096x1024 .bf16)

/-- The reference's gradient of the rows is the kernel's where the arguments it comes from are real. -/
theorem ref42 (h0 : ∀ i, Row.IsReal (x0 i)) (h1 : ∀ i, Row.IsReal (x1 i)) (h2 : ∀ i, Row.IsReal (x2 i)) (h3 : ∀ i, Row.IsReal (x3 i))
    (r : Fin 4096) (l : Fin 1024) : Cert.NormBwdRefIdeal.Read.val_main_v42 (F := Ideal) x0 x1 x2 x3 x4 (ix2 r l) = dx x0 x1 x2 x3 x4 r l := by
  pointwise
    [Cert.NormBwdRefIdeal.Read.val_main_v0, Cert.NormBwdRefIdeal.Read.val_main_v1,
      Cert.NormBwdRefIdeal.Read.val_main_v2, Cert.NormBwdRefIdeal.Read.val_main_cst,
      Cert.NormBwdRefIdeal.Read.val_main_v3, Cert.NormBwdRefIdeal.Read.val_main_v4,
      Cert.NormBwdRefIdeal.Read.val_main_cst_0, Cert.NormBwdRefIdeal.Read.val_main_v5,
      Cert.NormBwdRefIdeal.Read.val_main_v6, Cert.NormBwdRefIdeal.Read.val_main_cst_1,
      Cert.NormBwdRefIdeal.Read.val_main_v7, Cert.NormBwdRefIdeal.Read.val_main_v8,
      Cert.NormBwdRefIdeal.Read.val_main_v9, Cert.NormBwdRefIdeal.Read.val_main_v10,
      Cert.NormBwdRefIdeal.Read.val_main_cst_2, Cert.NormBwdRefIdeal.Read.val_main_v11,
      Cert.NormBwdRefIdeal.Read.val_main_v12, Cert.NormBwdRefIdeal.Read.val_main_v13,
      Cert.NormBwdRefIdeal.Read.val_main_v14, Cert.NormBwdRefIdeal.Read.val_main_v15,
      Cert.NormBwdRefIdeal.Read.val_main_v16, Cert.NormBwdRefIdeal.Read.val_main_v17,
      Cert.NormBwdRefIdeal.Read.val_main_v18, Cert.NormBwdRefIdeal.Read.val_main_v19,
      Cert.NormBwdRefIdeal.Read.val_main_v20, Cert.NormBwdRefIdeal.Read.val_main_v21,
      Cert.NormBwdRefIdeal.Read.val_main_v22, Cert.NormBwdRefIdeal.Read.val_main_cst_3,
      Cert.NormBwdRefIdeal.Read.val_main_v23, Cert.NormBwdRefIdeal.Read.val_main_v24,
      Cert.NormBwdRefIdeal.Read.val_main_v25, Cert.NormBwdRefIdeal.Read.val_main_v26,
      Cert.NormBwdRefIdeal.Read.val_main_cst_4, Cert.NormBwdRefIdeal.Read.val_main_v27,
      Cert.NormBwdRefIdeal.Read.val_main_v28, Cert.NormBwdRefIdeal.Read.val_main_cst_5,
      Cert.NormBwdRefIdeal.Read.val_main_v29, Cert.NormBwdRefIdeal.Read.val_main_v30,
      Cert.NormBwdRefIdeal.Read.val_main_v31, Cert.NormBwdRefIdeal.Read.val_main_v32,
      Cert.NormBwdRefIdeal.Read.val_main_v33, Cert.NormBwdRefIdeal.Read.val_main_v34,
      Cert.NormBwdRefIdeal.Read.val_main_cst_6, Cert.NormBwdRefIdeal.Read.val_main_v35,
      Cert.NormBwdRefIdeal.Read.val_main_v36, Cert.NormBwdRefIdeal.Read.val_main_cst_7,
      Cert.NormBwdRefIdeal.Read.val_main_v37, Cert.NormBwdRefIdeal.Read.val_main_v38,
      Cert.NormBwdRefIdeal.Read.val_main_v39, Cert.NormBwdRefIdeal.Read.val_main_v40,
      Cert.NormBwdRefIdeal.Read.val_main_v41, Cert.NormBwdRefIdeal.Read.val_main_v42,
      Cert.NormBwdRefIdeal.Read.val_main_v43]
  have hD : ∀ k, Row.IsReal (D x0 x1 r k) := fun k => .sum fun i => (h0 _).mul (h1 _)
  rw [dx, show (fun k => x3 (ix2 0 k) * D x0 x1 r k : Fin 1024 → EReal) = fun k => D x0 x1 r k * x3 (ix2 0 k) from
    funext fun k => mul_comm _ _, Row.grad_eq (fun k => h2 _) (fun k => (hD k).mul (h3 _)), ← add_assoc, ← add_assoc]
  simp only [Finset.univ_unique, Finset.sum_singleton]
  rfl

/-- The reference's gradient of the norm's scale is the kernel's. -/
theorem ref43 (l : Fin 1024) : Cert.NormBwdRefIdeal.Read.val_main_v43 (F := Ideal) x0 x1 x2 (ix2 0 l) = dg x0 x1 x2 l := by
  pointwise
    [Cert.NormBwdRefIdeal.Read.val_main_v0, Cert.NormBwdRefIdeal.Read.val_main_v1,
      Cert.NormBwdRefIdeal.Read.val_main_v2, Cert.NormBwdRefIdeal.Read.val_main_cst,
      Cert.NormBwdRefIdeal.Read.val_main_v3, Cert.NormBwdRefIdeal.Read.val_main_v4,
      Cert.NormBwdRefIdeal.Read.val_main_cst_0, Cert.NormBwdRefIdeal.Read.val_main_v5,
      Cert.NormBwdRefIdeal.Read.val_main_v6, Cert.NormBwdRefIdeal.Read.val_main_cst_1,
      Cert.NormBwdRefIdeal.Read.val_main_v7, Cert.NormBwdRefIdeal.Read.val_main_v8,
      Cert.NormBwdRefIdeal.Read.val_main_v9, Cert.NormBwdRefIdeal.Read.val_main_v10,
      Cert.NormBwdRefIdeal.Read.val_main_cst_2, Cert.NormBwdRefIdeal.Read.val_main_v11,
      Cert.NormBwdRefIdeal.Read.val_main_v12, Cert.NormBwdRefIdeal.Read.val_main_v13,
      Cert.NormBwdRefIdeal.Read.val_main_v14, Cert.NormBwdRefIdeal.Read.val_main_v15,
      Cert.NormBwdRefIdeal.Read.val_main_v16, Cert.NormBwdRefIdeal.Read.val_main_v17,
      Cert.NormBwdRefIdeal.Read.val_main_v18, Cert.NormBwdRefIdeal.Read.val_main_v19,
      Cert.NormBwdRefIdeal.Read.val_main_v20, Cert.NormBwdRefIdeal.Read.val_main_v21,
      Cert.NormBwdRefIdeal.Read.val_main_v22, Cert.NormBwdRefIdeal.Read.val_main_cst_3,
      Cert.NormBwdRefIdeal.Read.val_main_v23, Cert.NormBwdRefIdeal.Read.val_main_v24,
      Cert.NormBwdRefIdeal.Read.val_main_v25, Cert.NormBwdRefIdeal.Read.val_main_v26,
      Cert.NormBwdRefIdeal.Read.val_main_cst_4, Cert.NormBwdRefIdeal.Read.val_main_v27,
      Cert.NormBwdRefIdeal.Read.val_main_v28, Cert.NormBwdRefIdeal.Read.val_main_cst_5,
      Cert.NormBwdRefIdeal.Read.val_main_v29, Cert.NormBwdRefIdeal.Read.val_main_v30,
      Cert.NormBwdRefIdeal.Read.val_main_v31, Cert.NormBwdRefIdeal.Read.val_main_v32,
      Cert.NormBwdRefIdeal.Read.val_main_v33, Cert.NormBwdRefIdeal.Read.val_main_v34,
      Cert.NormBwdRefIdeal.Read.val_main_cst_6, Cert.NormBwdRefIdeal.Read.val_main_v35,
      Cert.NormBwdRefIdeal.Read.val_main_v36, Cert.NormBwdRefIdeal.Read.val_main_cst_7,
      Cert.NormBwdRefIdeal.Read.val_main_v37, Cert.NormBwdRefIdeal.Read.val_main_v38,
      Cert.NormBwdRefIdeal.Read.val_main_v39, Cert.NormBwdRefIdeal.Read.val_main_v40,
      Cert.NormBwdRefIdeal.Read.val_main_v41, Cert.NormBwdRefIdeal.Read.val_main_v42,
      Cert.NormBwdRefIdeal.Read.val_main_v43]
  simp only [Finset.univ_unique, Finset.sum_singleton]
  exact Finset.sum_congr rfl fun r _ => mul_comm _ _

end Reference

end Cert.NormBwdIdeal.Value

namespace Cert.NormBwdRefIdeal.Read

open Cert.NormBwdRefIdeal

/-- The reference's run, where its arguments are real: its two results are the gradients of the rows and of the norm's scale. -/
theorem run_grad (m : (ℓ : Loc nD τ sig) → Buf (Elt Ideal) ℓ) (ρ : Dev nD → PrngReg)
    (hr : ∀ c : Dev nD, (∀ i, Row.IsReal (m ((c.tc : Thread nD τ).loc main_arg0) i)) ∧ (∀ i, Row.IsReal (m ((c.tc : Thread nD τ).loc main_arg1) i))
      ∧ (∀ i, Row.IsReal (m ((c.tc : Thread nD τ).loc main_arg2) i)) ∧ ∀ i, Row.IsReal (m ((c.tc : Thread nD τ).loc main_arg3) i)) :
    θ_run (defs (F := Ideal)) (onTc (τ := τ) (main (F := Ideal))) ⟨m, fun _ => 0, ρ⟩ fun r => ∀ c : Dev nD,
      r.2.mem ((c.tc : Thread nD τ).loc main_v42) = (fun i : S4096x1024.Idx => Cert.NormBwdIdeal.Value.dx
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (i 0) (i 1))
      ∧ r.2.mem ((c.tc : Thread nD τ).loc main_v43) = (fun i : S1x1024.Idx => Cert.NormBwdIdeal.Value.dg
        (m ((c.tc : Thread nD τ).loc main_arg0)) (m ((c.tc : Thread nD τ).loc main_arg1)) (m ((c.tc : Thread nD τ).loc main_arg2)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans ((val_main_v42_eq m c).trans (funext fun i => by
      idx_vars i; exact Cert.NormBwdIdeal.Value.ref42 _ _ _ _ _ (hr c).1 (hr c).2.1 (hr c).2.2.1 (hr c).2.2.2 i0 i1)),
    (h c).2.1.trans ((val_main_v43_eq _ _ _).trans (funext fun i => by
      idx_vars i; obtain rfl : i0 = 0 := Subsingleton.elim _ _; exact Cert.NormBwdIdeal.Value.ref43 _ _ _ i1)),
    (h c).2.2⟩) (Cert.NormBwdRefIdeal.Value.run m ρ)

end Cert.NormBwdRefIdeal.Read

namespace Cert.Pre_ain_finite

/-- The shape facts of the predicate. -/
instance facts : Facts := by constructor <;> decide

/-- Where the predicate holds, the four arguments it reads are real. -/
theorem real [Facts] {a0 : FVec Ideal S4096x3072 .bf16} {a1 : FVec Ideal S1024x3072 .bf16} {a2 : FVec Ideal S4096x1024 .f32}
    {a3 : FVec Ideal S1x1024 .f32} {a4 : FVec Ideal S4096x1024 .bf16} (h : fn a0 a1 a2 a3 a4 = fun _ => 1#1) :
    (∀ i, Row.IsReal (a0 i)) ∧ (∀ i, Row.IsReal (a1 i)) ∧ (∀ i, Row.IsReal (a2 i)) ∧ ∀ i, Row.IsReal (a3 i) := by
  obtain ⟨e, e3⟩ := Row.and_split (congrFun h fun k => k.elim0)
  obtain ⟨e, e2⟩ := Row.and_split e
  obtain ⟨e0, e1⟩ := Row.and_split e
  exact ⟨Row.isReal_of_all e0 fun _ => Row.cTop16, Row.isReal_of_all e1 fun _ => Row.cTop16, Row.isReal_of_all e2 fun _ => Row.cTop,
    Row.isReal_of_all e3 fun _ => Row.cTop⟩

end Cert.Pre_ain_finite

namespace Cert.Proof

/-- The reference of the norm's backward pass after a product runs to its end and leaves its arguments as they were. -/
theorem normbwd_ref : quiescent_NormBwdRefIdeal (hNormBwdRefIdeal := Cert.NormBwdRefIdeal.Gen.facts) := by
  intro m g _
  run_from Cert.NormBwdRefIdeal.Value.run m g
  · exact fun _ => by simp only [and_self]
  · exact sem_eq_zero_of_no_sems (sig := Cert.NormBwdRefIdeal.sig) (by decide) _

/-- The norm's backward kernel leaves in both results what the gradient of the forward lines leaves there, of real arguments. -/
theorem normbwd_value : algebraic_NormBwdIdeal_NormBwdRefIdeal_pre_ain_finite (hNormBwdIdeal := Cert.NormBwdIdeal.Gen.facts)
    (hNormBwdRefIdeal := Cert.NormBwdRefIdeal.Gen.facts) (hPre_ain_finite := Cert.Pre_ain_finite.facts) := by
  pair_intro
  · run_from Cert.NormBwdIdeal.Gen.run_main m g
  · have run := Cert.NormBwdRefIdeal.Read.run_grad m' g' fun c => by
      obtain ⟨e0, e1, e2, e3, -⟩ := hagree c
      rw [e0, e1, e2, e3]
      exact Cert.Pre_ain_finite.real (hpre c)
    run_from run
    · exact (Cert.NormBwdIdeal.Value.final5 m c).symm
    · exact (Cert.NormBwdIdeal.Value.final6 m c).symm

end Cert.Proof

end
-- ==== Proof.LossValue.lean ====
module

public import proofs.«01_k».proof.Proof.RealRow
public import proofs.«01_k».proof.Proof.Gen.LossIdeal.Value
public import proofs.«01_k».proof.Proof.Gen.LossRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossIdeal.Value

open Cert.LossIdeal Cert.LossIdeal.Gen

/-! The loss and the gradient of its lines, written out at one row and lane. -/

section Formulas

variable (x0 : FVec Ideal S4096x2816 .bf16) (x1 : FVec Ideal S2816x1024 .bf16) (x2 : FVec Ideal S1x1024 .f32)
    (x3 : FVec Ideal S4096x1024 .bf16) (x4 : FVec Ideal S4096x1024 .f32)

/-- The product that the norm normalises. -/
def Z (r : Fin 4096) (l : Fin 1024) : EReal := ∑ k : Fin 2816, x0 (ix2 r k) * x1 (ix2 k l)

/-- The output less the target. -/
def err (r : Fin 4096) (l : Fin 1024) : EReal := x3 (ix2 r l) + Z x0 x1 r l * Row.rms (Z x0 x1 r) * x2 (ix2 0 l) - x4 (ix2 r l)

/-- The gradient of the output: the error over the row's length. -/
def dh (r : Fin 4096) (l : Fin 1024) : EReal := err x0 x1 x2 x3 x4 r l * Ideal.ofBits .f32 981467136#32

/-- The gradient of the product. -/
def dz (r : Fin 4096) (l : Fin 1024) : EReal := Row.grad (Z x0 x1 r) (fun k => x2 (ix2 0 k) * dh x0 x1 x2 x3 x4 r k) l

/-- One row's share of the gradient of the norm's scale. -/
def dgRow (r : Fin 4096) (l : Fin 1024) : EReal := dh x0 x1 x2 x3 x4 r l * (Z x0 x1 r l * Row.rms (Z x0 x1 r))

/-- The gradient of the norm's scale. -/
def dg (l : Fin 1024) : EReal := ∑ r : Fin 4096, dgRow x0 x1 x2 x3 x4 r l

/-- The gradient of the product's left factor. -/
def da (r : Fin 4096) (k : Fin 2816) : EReal := ∑ l : Fin 1024, dz x0 x1 x2 x3 x4 r l * x1 (ix2 k l)

/-- A row's sum of squared errors. -/
def sq (r : Fin 4096) : EReal := ∑ l : Fin 1024, err x0 x1 x2 x3 x4 r l * err x0 x1 x2 x3 x4 r l

section Pieces

variable (R : Fin 256 → Fin 4096) (v0 : Vec Ideal S256x2816 .bf16) (v1 v65 : Vec Ideal S2816x1024 .bf16) (v8 : Vec Ideal S256x1024 .bf16)
    (v20 v36 : Vec Ideal S1x1024 .f32) (v24 : Vec Ideal S256x1024 .f32)
    (h0 : ∀ r k, v0 (ix2 r k) = x0 (ix2 (R r) k)) (h1 : ∀ k l, v1 (ix2 k l) = x1 (ix2 k l))

section Product
include h0 h1

theorem zA (r : Fin 256) (l : Fin 1024) : k0_pay7 (F := Ideal) v0 v1 (ix2 r l) = Z x0 x1 (R r) l := by
  pointwise [k0_pay7]
  simp only [h0, h1, Z]
theorem zB (r : Fin 256) (l : Fin 1024) : k0_pay8 (F := Ideal) v0 v1 (ix2 r l) = Z x0 x1 (R r) l := by
  pointwise [k0_pay8]
  simp only [h0, h1, Z]

end Product

variable (h8 : ∀ r l, v8 (ix2 r l) = x3 (ix2 (R r) l)) (h20 : ∀ l, v20 (ix2 0 l) = x2 (ix2 0 l)) (h24 : ∀ r l, v24 (ix2 r l) = x4 (ix2 (R r) l))

section Err
include h0 h1 h8 h20 h24

theorem errA (r : Fin 256) (l : Fin 1024) : k0_pay10 (F := Ideal) v0 v1 v8 v20 v24 (ix2 r l) = err x0 x1 x2 x3 x4 (R r) l := by
  pointwise [k0_pay10]
  simp only [zA x0 x1 R v0 v1 h0 h1, h8, h20, h24]
  rfl
theorem errB (r : Fin 256) (l : Fin 1024) : k0_pay22 (F := Ideal) (k0_pay8 v0 v1) (k0_pay20 v8) (k0_pay21 (k0_pay8 v0 v1)) v20 v24 (ix2 r l)
    = err x0 x1 x2 x3 x4 (R r) l := by
  pointwise [k0_pay22, k0_pay20, k0_pay21]
  simp only [zB x0 x1 R v0 v1 h0 h1, h8, h20, h24]
  rfl
theorem dhA (r : Fin 256) (l : Fin 1024) : k0_pay11 (F := Ideal) v0 v1 v8 v20 v24 (ix2 r l) = dh x0 x1 x2 x3 x4 (R r) l := by
  pointwise [k0_pay11]
  rw [errA x0 x1 x2 x3 x4 R v0 v1 v8 v20 v24 h0 h1 h8 h20 h24]
  rfl
theorem dhB (r : Fin 256) (l : Fin 1024) : k0_pay23 (F := Ideal) (k0_pay8 v0 v1) (k0_pay20 v8) (k0_pay21 (k0_pay8 v0 v1)) v20 v24 (ix2 r l)
    = dh x0 x1 x2 x3 x4 (R r) l := by
  pointwise [k0_pay23]
  rw [errB x0 x1 x2 x3 x4 R v0 v1 v8 v20 v24 h0 h1 h8 h20 h24]
  rfl

/-- The halves of a block of the output's gradient, as they are stored. -/
theorem storeA (r : Fin 256) (l : Fin 1024) : k0_pay12 (F := Ideal) v0 v1 v8 v20 v24 (ix2 r l) = dh x0 x1 x2 x3 x4 (R r) l := by
  pointwise [k0_pay12]
  exact dhA x0 x1 x2 x3 x4 R v0 v1 v8 v20 v24 h0 h1 h8 h20 h24 r l
theorem storeB (r : Fin 256) (l : Fin 1024) : k0_pay24 (F := Ideal) (k0_pay8 v0 v1) (k0_pay20 v8) (k0_pay21 (k0_pay8 v0 v1)) v20 v24 (ix2 r l)
    = dh x0 x1 x2 x3 x4 (R r) l := by
  pointwise [k0_pay24]
  exact dhB x0 x1 x2 x3 x4 R v0 v1 v8 v20 v24 h0 h1 h8 h20 h24 r l

variable (h36 : ∀ l, v36 (ix2 0 l) = x2 (ix2 0 l))
include h36

/-- The halves of a block of the product's gradient. -/
theorem dzA (r : Fin 256) (l : Fin 1024) : k0_pay17 (F := Ideal) (k0_pay7 v0 v1) (k0_pay11 v0 v1 v8 v20 v24) v36 (ix2 r l)
    = dz x0 x1 x2 x3 x4 (R r) l := by
  pointwise [k0_pay17, k0_pay16, k0_pay15]
  simp only [zA x0 x1 R v0 v1 h0 h1, dhA x0 x1 x2 x3 x4 R v0 v1 v8 v20 v24 h0 h1 h8 h20 h24, h36]
  rfl
theorem dzB (r : Fin 256) (l : Fin 1024) : k0_pay1 (F := Ideal) (k0_pay26 (k0_pay8 v0 v1)) (k0_pay27 (k0_pay8 v0 v1))
      (k0_pay28 (k0_pay8 v0 v1) (k0_pay20 v8) (k0_pay21 (k0_pay8 v0 v1)) v20 v24 v36)
      (k0_pay29 (k0_pay8 v0 v1) (k0_pay20 v8) (k0_pay21 (k0_pay8 v0 v1)) v20 v24 v36) k0_pay30 (ix2 r l)
    = dz x0 x1 x2 x3 x4 (R r) l := by
  pointwise [k0_pay1, k0_pay26, k0_pay27, k0_pay28, k0_pay29, k0_pay30]
  simp only [zB x0 x1 R v0 v1 h0 h1, dhB x0 x1 x2 x3 x4 R v0 v1 v8 v20 v24 h0 h1 h8 h20 h24, h36]
  rfl

variable (h65 : ∀ k l, v65 (ix2 k l) = x1 (ix2 k l))
include h65

/-- The halves of a block of the left factor's gradient. -/
theorem daA (r : Fin 256) (k : Fin 2816) : k0_pay19 (F := Ideal) (k0_pay7 v0 v1) (k0_pay11 v0 v1 v8 v20 v24) v36 v65 (ix2 r k)
    = da x0 x1 x2 x3 x4 (R r) k := by
  pointwise [k0_pay19]
  simp only [dzA x0 x1 x2 x3 x4 R v0 v1 v8 v20 v36 v24 h0 h1 h8 h20 h24 h36, h65]
  rfl
theorem daB (r : Fin 256) (k : Fin 2816) : k0_pay3 (F := Ideal) (k0_pay26 (k0_pay8 v0 v1)) (k0_pay27 (k0_pay8 v0 v1))
      (k0_pay28 (k0_pay8 v0 v1) (k0_pay20 v8) (k0_pay21 (k0_pay8 v0 v1)) v20 v24 v36)
      (k0_pay29 (k0_pay8 v0 v1) (k0_pay20 v8) (k0_pay21 (k0_pay8 v0 v1)) v20 v24 v36) k0_pay30 v65 (ix2 r k)
    = da x0 x1 x2 x3 x4 (R r) k := by
  pointwise [k0_pay3]
  simp only [dzB x0 x1 x2 x3 x4 R v0 v1 v8 v20 v36 v24 h0 h1 h8 h20 h24 h36, h65]
  rfl

end Err

section Sums

variable (S : Fin 256 → Fin 4096) (u0 : Vec Ideal S256x2816 .bf16) (u1 : Vec Ideal S2816x1024 .bf16) (u8 : Vec Ideal S256x1024 .bf16)
    (u20 : Vec Ideal S1x1024 .f32) (u24 : Vec Ideal S256x1024 .f32)
    (g0 : ∀ r k, u0 (ix2 r k) = x0 (ix2 (S r) k)) (g1 : ∀ k l, u1 (ix2 k l) = x1 (ix2 k l)) (g8 : ∀ r l, u8 (ix2 r l) = x3 (ix2 (S r) l))
    (g20 : ∀ l, u20 (ix2 0 l) = x2 (ix2 0 l)) (g24 : ∀ r l, u24 (ix2 r l) = x4 (ix2 (S r) l))
include h0 h1 h8 h20 h24 g0 g1 g8 g20 g24

/-- A block's share of the gradient of the norm's scale: one half's rows and the other's. -/
theorem share (l : Fin 1024) : k0_pay2 (F := Ideal) (k0_pay18 (k0_pay7 v0 v1) k0_pay9 (k0_pay11 v0 v1 v8 v20 v24))
      (k0_pay23 (k0_pay8 u0 u1) (k0_pay20 u8) (k0_pay21 (k0_pay8 u0 u1)) u20 u24) (k0_pay27 (k0_pay8 u0 u1)) (ix2 0 l)
    = ∑ r, dgRow x0 x1 x2 x3 x4 (R r) l + ∑ r, dgRow x0 x1 x2 x3 x4 (S r) l := by
  pointwise [k0_pay2, k0_pay18, k0_pay9, k0_pay16, k0_pay15, k0_pay27, k0_pay26]
  simp only [zA x0 x1 R v0 v1 h0 h1, dhA x0 x1 x2 x3 x4 R v0 v1 v8 v20 v24 h0 h1 h8 h20 h24,
    zB x0 x1 S u0 u1 g0 g1, dhB x0 x1 x2 x3 x4 S u0 u1 u8 u20 u24 g0 g1 g8 g20 g24]
  rfl

/-- A block's share of the loss. -/
theorem lossShare (j : S8x128.Idx) : k0_pay4 (F := Ideal) (k0_pay25 (k0_pay8 u0 u1) (k0_pay14 (k0_pay13 v0 v1 v8 v20 v24))
      (k0_pay20 u8) (k0_pay21 (k0_pay8 u0 u1)) u20 u24) j
    = Ideal.ofBits .f32 973078528#32 * (∑ r, sq x0 x1 x2 x3 x4 (R r) + ∑ r, sq x0 x1 x2 x3 x4 (S r)) := by
  idx_vars j
  pointwise [k0_pay4, k0_pay25, k0_pay14, k0_pay13]
  simp only [errA x0 x1 x2 x3 x4 R v0 v1 v8 v20 v24 h0 h1 h8 h20 h24, errB x0 x1 x2 x3 x4 S u0 u1 u8 u20 u24 g0 g1 g8 g20 g24]
  rfl

end Sums

end Pieces

end Formulas

section Points

variable (m : (ℓ : Loc nD τ sig) → Buf (Elt Ideal) ℓ) (c : Dev nD)

abbrev X0 : FVec Ideal S4096x2816 .bf16 := m ((c : Thread nD τ).loc main_arg0)
abbrev X1 : FVec Ideal S2816x1024 .bf16 := m ((c : Thread nD τ).loc main_arg1)
abbrev X2 : FVec Ideal S1x1024 .f32 := m ((c : Thread nD τ).loc main_arg2)
abbrev X3 : FVec Ideal S4096x1024 .bf16 := m ((c : Thread nD τ).loc main_arg3)
abbrev X4 : FVec Ideal S4096x1024 .f32 := m ((c : Thread nD τ).loc main_arg4)

/-- Which block each window stages at grid point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![0, 0] ∧ t.val < 8 :=
  (by decide +kernel : ∀ t : Fin grid0.N, _)

/-- The grid has eight points. -/
theorem tlt (t : Fin cfg0.N) : t.val < 8 := (idx t).2.2.2.2.2.2.2.2.2.2

variable (t : Fin cfg0.N)

/-- The blocks of the arguments, read at a row and lane. -/
theorem rd0 (r : Fin 512) (k : Fin 2816) : (iblk m c 0 t : FVec Ideal S512x2816 .bf16) (ix2 r k)
    = X0 m c (ix2 ⟨512 * t.val + r.val, by have := tlt t; omega⟩ k) := by blk_ext [iblk, V, idx t]
theorem rd1 (k : Fin 2816) (l : Fin 1024) : (iblk m c 1 t : FVec Ideal S2816x1024 .bf16) (ix2 k l) = X1 m c (ix2 k l) := by
  blk_ext [iblk, V, idx t]
theorem rd2 (l : Fin 1024) : (iblk m c 2 t : FVec Ideal S1x1024 .f32) (ix2 0 l) = X2 m c (ix2 0 l) := by
  blk_ext [iblk, V, idx t]
theorem rd3 (r : Fin 512) (l : Fin 1024) : (iblk m c 3 t : FVec Ideal S512x1024 .bf16) (ix2 r l)
    = X3 m c (ix2 ⟨512 * t.val + r.val, by have := tlt t; omega⟩ l) := by blk_ext [iblk, V, idx t]
theorem rd4 (r : Fin 512) (l : Fin 1024) : (iblk m c 4 t : FVec Ideal S512x1024 .f32) (ix2 r l)
    = X4 m c (ix2 ⟨512 * t.val + r.val, by have := tlt t; omega⟩ l) := by blk_ext [iblk, V, idx t]

/-- The array's row that is row `r` of a block's first half, and of its second. -/
def rowA (r : Fin 256) : Fin 4096 := ⟨512 * t.val + r.val, by have := tlt t; omega⟩
def rowB (r : Fin 256) : Fin 4096 := ⟨512 * t.val + (256 + r.val), by have := tlt t; omega⟩

/-- What every grid point leaves in its block of the output's gradient. -/
theorem out5 (y0 : Fin 512) (y1 : Fin 1024) : (outsAt0 m c t.val t.isLt).1 (ix2 y0 y1)
    = dh (X0 m c) (X1 m c) (X2 m c) (X3 m c) (X4 m c) ⟨512 * t.val + y0.val, by have := tlt t; omega⟩ y1 := by
  have ht := tlt t
  by_cases hA : t.val % 8 = 0
  on_goal 1 => rw [outsAt0_A m c t hA (by omega) hA (by omega)]
  on_goal 2 => rw [outsAt0_B m c t hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      refine storeB _ _ _ _ _ (rowB t) _ _ _ _ _ ?_ ?_ ?_ ?_ ?_ x0 y1 <;> intros <;> pointwise <;> first | exact rd0 m c t _ _ | exact rd1 m c t _ _ | exact rd2 m c t _ | exact rd3 m c t _ _ | exact rd4 m c t _ _
    · obtain rfl : y0 = ⟨x0.val, by clear h0; omega⟩ := Fin.ext h0
      refine storeA _ _ _ _ _ (rowA t) _ _ _ _ _ ?_ ?_ ?_ ?_ ?_ x0 y1 <;> intros <;> pointwise <;> first | exact rd0 m c t _ _ | exact rd1 m c t _ _ | exact rd2 m c t _ | exact rd3 m c t _ _ | exact rd4 m c t _ _

/-- The output's gradient after the run. -/
theorem final5 : (dats m 0 c).arrAt 5 (cfgs 0).N = fun i : S4096x1024.Idx => dh (X0 m c) (X1 m c) (X2 m c) (X3 m c) (X4 m c) (i 0) (i 1) := by
  refine (dats m 0 c).arrAt_eq_of_covers 5 _ (by decide +kernel) fun t hf y => ?_
  blk_simp
  rw [after0_5]
  idx_vars y
  refine (out5 m c t y0 y1).trans ?_
  refine congrArg₂ (dh (X0 m c) (X1 m c) (X2 m c) (X3 m c) (X4 m c)) (Fin.ext ?_) (Fin.ext ?_)
  · blk_simp [idx t]
    show 512 * t.val + y0.val = _
    omega
  · blk_simp [idx t]

/-- What every grid point leaves in its block of the product's gradient. -/
theorem out6 (y0 : Fin 512) (y1 : Fin 1024) : (outsAt0 m c t.val t.isLt).2.1 (ix2 y0 y1)
    = dz (X0 m c) (X1 m c) (X2 m c) (X3 m c) (X4 m c) ⟨512 * t.val + y0.val, by have := tlt t; omega⟩ y1 := by
  have ht := tlt t
  by_cases hA : t.val % 8 = 0
  on_goal 1 => rw [outsAt0_A m c t hA (by omega) hA (by omega)]
  on_goal 2 => rw [outsAt0_B m c t hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      refine dzB _ _ _ _ _ (rowB t) _ _ _ _ _ _ ?_ ?_ ?_ ?_ ?_ ?_ x0 y1 <;> intros <;> pointwise <;> first | exact rd0 m c t _ _ | exact rd1 m c t _ _ | exact rd2 m c t _ | exact rd3 m c t _ _ | exact rd4 m c t _ _
    · obtain rfl : y0 = ⟨x0.val, by clear h0; omega⟩ := Fin.ext h0
      refine dzA _ _ _ _ _ (rowA t) _ _ _ _ _ _ ?_ ?_ ?_ ?_ ?_ ?_ x0 y1 <;> intros <;> pointwise <;> first | exact rd0 m c t _ _ | exact rd1 m c t _ _ | exact rd2 m c t _ | exact rd3 m c t _ _ | exact rd4 m c t _ _

/-- The product's gradient after the run. -/
theorem final6 : (dats m 0 c).arrAt 6 (cfgs 0).N = fun i : S4096x1024.Idx => dz (X0 m c) (X1 m c) (X2 m c) (X3 m c) (X4 m c) (i 0) (i 1) := by
  refine (dats m 0 c).arrAt_eq_of_covers 6 _ (by decide +kernel) fun t hf y => ?_
  blk_simp
  rw [after0_6]
  idx_vars y
  refine (out6 m c t y0 y1).trans ?_
  refine congrArg₂ (dz (X0 m c) (X1 m c) (X2 m c) (X3 m c) (X4 m c)) (Fin.ext ?_) (Fin.ext ?_)
  · blk_simp [idx t]
    show 512 * t.val + y0.val = _
    omega
  · blk_simp [idx t]

/-- What every grid point leaves in its block of the left factor's gradient. -/
theorem out8 (y0 : Fin 512) (y1 : Fin 2816) : (outsAt0 m c t.val t.isLt).2.2.2.1 (ix2 y0 y1)
    = da (X0 m c) (X1 m c) (X2 m c) (X3 m c) (X4 m c) ⟨512 * t.val + y0.val, by have := tlt t; omega⟩ y1 := by
  have ht := tlt t
  by_cases hA : t.val % 8 = 0
  on_goal 1 => rw [outsAt0_A m c t hA (by omega) hA (by omega)]
  on_goal 2 => rw [outsAt0_B m c t hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      refine daB _ _ _ _ _ (rowB t) _ _ _ _ _ _ _ ?_ ?_ ?_ ?_ ?_ ?_ ?_ x0 y1 <;> intros <;> pointwise <;> first | exact rd0 m c t _ _ | exact rd1 m c t _ _ | exact rd2 m c t _ | exact rd3 m c t _ _ | exact rd4 m c t _ _
    · obtain rfl : y0 = ⟨x0.val, by clear h0; omega⟩ := Fin.ext h0
      refine daA _ _ _ _ _ (rowA t) _ _ _ _ _ _ _ ?_ ?_ ?_ ?_ ?_ ?_ ?_ x0 y1 <;> intros <;> pointwise <;> first | exact rd0 m c t _ _ | exact rd1 m c t _ _ | exact rd2 m c t _ | exact rd3 m c t _ _ | exact rd4 m c t _ _

/-- The left factor's gradient after the run. -/
theorem final8 : (dats m 0 c).arrAt 8 (cfgs 0).N = fun i : S4096x2816.Idx => da (X0 m c) (X1 m c) (X2 m c) (X3 m c) (X4 m c) (i 0) (i 1) := by
  refine (dats m 0 c).arrAt_eq_of_covers 8 _ (by decide +kernel) fun t hf y => ?_
  blk_simp
  rw [after0_8]
  idx_vars y
  refine (out8 m c t y0 y1).trans ?_
  refine congrArg₂ (da (X0 m c) (X1 m c) (X2 m c) (X3 m c) (X4 m c)) (Fin.ext ?_) (Fin.ext ?_)
  · blk_simp [idx t]
    show 512 * t.val + y0.val = _
    omega
  · blk_simp [idx t]

/-- The rows of a block: those of its two halves. -/
theorem halves (f : Fin 4096 → EReal) : ∑ r, f (rowA t r) + ∑ r, f (rowB t r)
    = ∑ r : Fin 512, f ⟨512 * t.val + r.val, by have := tlt t; omega⟩ :=
  (Fin.sum_univ_add (a := 256) (b := 256) (fun r : Fin 512 => f ⟨512 * t.val + r.val, by have := tlt t; omega⟩)).symm

/-- An accumulator's step: what was held plus the point's share. -/
theorem step7 (a : FVec Ideal S1x1024 .f32) (b d : FVec Ideal S256x1024 .f32) (e : Vec Ideal S1x1024 .f32) (j : S1x1024.Idx) :
    k0_pay6 (F := Ideal) a b d e j = (e j + k0_pay2 (F := Ideal) a b d j : EReal) := by
  idx_vars j
  pointwise [k0_pay6]
theorem step9 (a : Ideal .f32) (e : Vec Ideal S8x128 .f32) (j : S8x128.Idx) :
    k0_pay5 (F := Ideal) a e j = (e j + k0_pay4 (F := Ideal) a j : EReal) := by
  idx_vars j
  pointwise [k0_pay5]

/-- The gradient of the norm's scale: what a point starts from and adds. -/
theorem out7 (j : S1x1024.Idx) : (outsAt0 m c t.val t.isLt).2.2.1 j
    = (if t.val % 8 = 0 then 0 else (outsAt0 m c (t.val - 1) (by omega)).2.2.1 j : EReal)
      + ∑ r : Fin 512, dgRow (X0 m c) (X1 m c) (X2 m c) (X3 m c) (X4 m c) ⟨512 * t.val + r.val, by have := tlt t; omega⟩ (j 1) := by
  have ht := tlt t
  idx_vars j
  by_cases hA : t.val % 8 = 0
  on_goal 1 => rw [outsAt0_A m c t hA (by omega) hA (by omega), if_pos hA, zero_add]
  on_goal 2 => rw [outsAt0_B m c t hA (by omega) hA (by omega), if_neg hA]
  all_goals frame_out
  on_goal 2 => rw [step7]; refine congrArg (fun a : EReal => _ + a) ?_
  all_goals obtain rfl : j0 = 0 := Subsingleton.elim _ _
  all_goals refine (share _ _ _ _ _ (rowA t) _ _ _ _ _ ?_ ?_ ?_ ?_ ?_ (rowB t) _ _ _ _ _ ?_ ?_ ?_ ?_ ?_ j1).trans (halves t fun r => dgRow (X0 m c) (X1 m c) (X2 m c) (X3 m c) (X4 m c) r j1) <;> intros <;> pointwise <;> first | exact rd0 m c t _ _ | exact rd1 m c t _ _ | exact rd2 m c t _ | exact rd3 m c t _ _ | exact rd4 m c t _ _

/-- The gradient of the norm's scale after the run. -/
theorem final7 : (dats m 0 c).arrAt 7 (cfgs 0).N = fun i : S1x1024.Idx => dg (X0 m c) (X1 m c) (X2 m c) (X3 m c) (X4 m c) (i 1) := by
  refine (dats m 0 c).arrAt_eq_of_after_last 7 t0_7 (by decide +kernel) _ fun j => ?_
  blk_simp
  idx_vars j
  rw [after0_7, Pipeline.eq_sum_fin_of_reset_step_apply_last (fun n h => (outsAt0 m c n h).2.2.1) 8 (fun _ => 0) _
    (fun t h j => by rw [out7, if_pos h]) (fun t h j => by rw [out7, if_neg h]) (le_of_eq N_0) t0_7 rfl, zero_add]
  exact Fin.sum_mul_add_congr fun s k hl => congrArg (fun r => dgRow (X0 m c) (X1 m c) (X2 m c) (X3 m c) (X4 m c) r j1)
    (Fin.ext (by show 512 * s.val + k.val = s.val * 512 + k.val; omega))

/-- The loss: what a point starts from and adds. -/
theorem out9 (j : S8x128.Idx) : (outsAt0 m c t.val t.isLt).2.2.2.2 j
    = (if t.val % 8 = 0 then 0 else (outsAt0 m c (t.val - 1) (by omega)).2.2.2.2 j : EReal)
      + Ideal.ofBits .f32 973078528#32 * ∑ r : Fin 512, sq (X0 m c) (X1 m c) (X2 m c) (X3 m c) (X4 m c) ⟨512 * t.val + r.val, by have := tlt t; omega⟩ := by
  have ht := tlt t
  by_cases hA : t.val % 8 = 0
  on_goal 1 => rw [outsAt0_A m c t hA (by omega) hA (by omega), if_pos hA, zero_add]
  on_goal 2 => rw [outsAt0_B m c t hA (by omega) hA (by omega), if_neg hA]
  all_goals frame_out
  on_goal 2 => rw [step9]; refine congrArg (fun a : EReal => _ + a) ?_
  all_goals rw [← halves t (sq (X0 m c) (X1 m c) (X2 m c) (X3 m c) (X4 m c))]
  all_goals refine lossShare _ _ _ _ _ (rowA t) _ _ _ _ _ ?_ ?_ ?_ ?_ ?_ (rowB t) _ _ _ _ _ ?_ ?_ ?_ ?_ ?_ j <;> intros <;> pointwise <;> first | exact rd0 m c t _ _ | exact rd1 m c t _ _ | exact rd2 m c t _ | exact rd3 m c t _ _ | exact rd4 m c t _ _

/-- The loss, as the kernel adds it up: a block's sum of squared errors, over twice the row's length, block by block. -/
def loss (x0 : FVec Ideal S4096x2816 .bf16) (x1 : FVec Ideal S2816x1024 .bf16) (x2 : FVec Ideal S1x1024 .f32)
    (x3 : FVec Ideal S4096x1024 .bf16) (x4 : FVec Ideal S4096x1024 .f32) : EReal :=
  ∑ s : Fin 8, Ideal.ofBits .f32 973078528#32 * ∑ r : Fin 512, sq x0 x1 x2 x3 x4 ⟨512 * s.val + r.val, by omega⟩

/-- The loss after the run. -/
theorem final9 : (dats m 0 c).arrAt 9 (cfgs 0).N = fun _ : S8x128.Idx => loss (X0 m c) (X1 m c) (X2 m c) (X3 m c) (X4 m c) := by
  refine (dats m 0 c).arrAt_eq_of_after_last 9 t0_7 (by decide +kernel) _ fun j => ?_
  blk_simp
  idx_vars j
  rw [after0_9, Pipeline.eq_sum_fin_of_reset_step_apply_last (fun n h => (outsAt0 m c n h).2.2.2.2) 8 (fun _ => 0) _
    (fun t h j => by rw [out9, if_pos h]) (fun t h j => by rw [out9, if_neg h]) (le_of_eq N_0) t0_7 rfl, zero_add]
  rfl

end Points

end Cert.LossIdeal.Value

end
-- ==== Proof.LossClaim.lean ====
module

public import proofs.«01_k».proof.Defs
public import proofs.«01_k».proof.Proof.Gen.Loss.Frame
public import proofs.«01_k».proof.Proof.LossValue
public import proofs.«01_k».proof.Proof.Finite
public import proofs.«01_k».proof.Proof.Gen.LossRefIdeal.Run
public import Idealize.ShloMosaic.Lib.Claim

@[expose] public section

set_option maxRecDepth 16384

noncomputable section

open Idealize.ShloMosaic Idealize.ShloMosaic.TcCoe Idealize.SL.Sem

namespace Cert.LossRefIdeal.Read

open Cert.LossIdeal.Value

section Reference

variable (x0 : FVec Ideal S4096x2816 .bf16) (x1 : FVec Ideal S2816x1024 .bf16) (x2 : FVec Ideal S1x1024 .f32)
    (x3 : FVec Ideal S4096x1024 .bf16) (x4 : FVec Ideal S4096x1024 .f32)

/-- The reference's stages at a row and lane: the product, its inverse root mean square, the error and its gradient. -/
theorem refZ (r : Fin 4096) (l : Fin 1024) : val_main_v2 (F := Ideal) x0 x1 (ix2 r l) = Z x0 x1 r l := by
  pointwise [val_main_v0, val_main_v1, val_main_v2]
  rfl
theorem refRms (r : Fin 4096) : val_main_v12 (F := Ideal) x0 x1 (ix2 r 0) = Row.rms (Z x0 x1 r) := by
  pointwise [val_main_v5, val_main_cst, val_main_v6, val_main_v7, val_main_cst_0, val_main_v8, val_main_v9, val_main_cst_1, val_main_v10,
      val_main_v11, val_main_v12]
  simp only [refZ]
  rfl
theorem refErr (r : Fin 4096) (l : Fin 1024) : val_main_v22 (F := Ideal) x0 x1 x2 x3 x4 (ix2 r l) = err x0 x1 x2 x3 x4 r l := by
  pointwise [val_main_v4, val_main_v16, val_main_v17, val_main_v3, val_main_v18, val_main_v19, val_main_v20, val_main_v21, val_main_v22]
  simp only [refZ, refRms]
  rfl
theorem refDh (r : Fin 4096) (l : Fin 1024) : val_main_v36 (F := Ideal) x0 x1 x2 x3 x4 (ix2 r l) = dh x0 x1 x2 x3 x4 r l := by
  pointwise [val_main_cst_8, val_main_cst_9, val_main_v31, val_main_v32, val_main_cst_10, val_main_v33, val_main_v34, val_main_v35, val_main_cst_3,
      val_main_v24, val_main_v25, val_main_v36]
  simp only [refErr]
  exact Row.half_twice _

/-- The gradient of the norm's scale is the kernel's. -/
theorem ref60 (l : Fin 1024) : val_main_v60 (F := Ideal) x0 x1 x2 x3 x4 (ix2 0 l) = dg x0 x1 x2 x3 x4 l := by
  pointwise [val_main_v16, val_main_v17, val_main_v37, val_main_cst_11, val_main_v38, val_main_v39, val_main_cst_12, val_main_v42, val_main_v60]
  simp only [refZ, refRms, refDh, Finset.univ_unique, Finset.sum_singleton]
  exact Finset.sum_congr rfl fun r _ => mul_comm _ _

variable (h0 : ∀ i, Row.IsReal (x0 i)) (h1 : ∀ i, Row.IsReal (x1 i)) (h2 : ∀ i, Row.IsReal (x2 i)) (h3 : ∀ i, Row.IsReal (x3 i))
    (h4 : ∀ i, Row.IsReal (x4 i))

include h0 h1 in
theorem realZ (r : Fin 4096) (l : Fin 1024) : Row.IsReal (Z x0 x1 r l) := .sum fun _ => (h0 _).mul (h1 _)

include h0 h1 h2 h3 h4

theorem realErr (r : Fin 4096) (l : Fin 1024) : Row.IsReal (err x0 x1 x2 x3 x4 r l) :=
  ((h3 _).add (((realZ x0 x1 h0 h1 r l).mul (.rms (realZ x0 x1 h0 h1 r))).mul (h2 _))).sub (h4 _)
theorem realDh (r : Fin 4096) (l : Fin 1024) : Row.IsReal (dh x0 x1 x2 x3 x4 r l) := (realErr x0 x1 x2 x3 x4 h0 h1 h2 h3 h4 r l).mul ⟨_, Row.cInv⟩

/-- Of real arguments, the gradients of the product and of its left factor are the kernel's. -/
theorem refDz (r : Fin 4096) (l : Fin 1024) : val_main_v56 (F := Ideal) x0 x1 x2 x3 x4 (ix2 r l) = dz x0 x1 x2 x3 x4 r l := by
  pointwise [val_main_v3, val_main_v18, val_main_v40, val_main_v41, val_main_v46, val_main_v47, val_main_v43, val_main_cst_13, val_main_v44,
      val_main_v45, val_main_cst_2, val_main_v14, val_main_v5, val_main_cst, val_main_v6, val_main_v7, val_main_cst_0, val_main_v8, val_main_v9,
      val_main_cst_1, val_main_v10, val_main_v11, val_main_v13, val_main_v15, val_main_v48, val_main_cst_14, val_main_v49, val_main_v50,
      val_main_cst_15, val_main_v51, val_main_v52, val_main_v53, val_main_v54, val_main_v55, val_main_v56]
  simp only [refZ, refDh, Finset.univ_unique, Finset.sum_singleton, Fin.default_eq_zero, refRms]
  rw [dz, show (fun k => x2 (ix2 0 k) * dh x0 x1 x2 x3 x4 r k : Fin 1024 → EReal) = fun k => dh x0 x1 x2 x3 x4 r k * x2 (ix2 0 k) from
    funext fun k => mul_comm _ _, Row.grad_eq (realZ x0 x1 h0 h1 r) fun k => (realDh x0 x1 x2 x3 x4 h0 h1 h2 h3 h4 r k).mul (h2 _)]
  rfl
theorem refDa (r : Fin 4096) (k : Fin 2816) : val_main_v61 (F := Ideal) x0 x1 x2 x3 x4 (ix2 r k) = da x0 x1 x2 x3 x4 r k := by
  pointwise [val_main_v1, val_main_v57, val_main_v61]
  simp only [refDz x0 x1 x2 x3 x4 h0 h1 h2 h3 h4]
  rfl

/-- Of real arguments, the loss is the kernel's. -/
theorem refLoss (i : Fin 8) (j : Fin 128) : val_main_v62 (F := Ideal) x0 x1 x2 x3 x4 (ix2 i j) = loss x0 x1 x2 x3 x4 := by
  pointwise [val_main_cst_7, val_main_v23, val_main_cst_4, val_main_v26, val_main_cst_5, val_main_v27, val_main_v28, val_main_cst_6, val_main_v29,
      val_main_v30, val_main_v62]
  simp only [refErr]
  exact Row.half_sum_mean (f := sq x0 x1 x2 x3 x4) fun r => .sum fun l => (realErr x0 x1 x2 x3 x4 h0 h1 h2 h3 h4 r l).mul (realErr x0 x1 x2 x3 x4 h0 h1 h2 h3 h4 r l)

end Reference

/-- The reference's run, where its arguments are real: its results are the loss and its gradients as the kernel has them. -/
theorem run_grad (m : (ℓ : Loc nD τ sig) → Buf (Elt Ideal) ℓ) (ρ : Dev nD → PrngReg)
    (hr : ∀ c : Dev nD, (∀ i, Row.IsReal (m ((c.tc : Thread nD τ).loc main_arg0) i))
      ∧ (∀ i, Row.IsReal (m ((c.tc : Thread nD τ).loc main_arg1) i))
      ∧ (∀ i, Row.IsReal (m ((c.tc : Thread nD τ).loc main_arg2) i))
      ∧ (∀ i, Row.IsReal (m ((c.tc : Thread nD τ).loc main_arg3) i))
      ∧ (∀ i, Row.IsReal (m ((c.tc : Thread nD τ).loc main_arg4) i))) :
    θ_run (defs (F := Ideal)) (onTc (τ := τ) (main (F := Ideal))) ⟨m, fun _ => 0, ρ⟩ fun r => ∀ c : Dev nD,
      r.2.mem ((c.tc : Thread nD τ).loc main_v58) = (fun i : S4096x1024.Idx => dh (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (i 0) (i 1))
      ∧ r.2.mem ((c.tc : Thread nD τ).loc main_v59) = (fun i : S4096x1024.Idx => dz (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (i 0) (i 1))
      ∧ r.2.mem ((c.tc : Thread nD τ).loc main_v60) = (fun i : S1x1024.Idx => dg (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (i 1))
      ∧ r.2.mem ((c.tc : Thread nD τ).loc main_v61) = (fun i : S4096x2816.Idx => da (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (i 0) (i 1))
      ∧ r.2.mem ((c.tc : Thread nD τ).loc main_v62) = (fun _ : S8x128.Idx => loss (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨
    (h c).1.trans ((val_main_v58_eq _ _ _ _ _).trans (funext fun i => by idx_vars i; rw [val_main_v58_apply]; exact refDh _ _ _ _ _ i0 i1)),
    (h c).2.1.trans ((val_main_v59_eq m c).trans (funext fun i => by idx_vars i; rw [val_main_v59_apply]; exact refDz _ _ _ _ _ (hr c).1 (hr c).2.1 (hr c).2.2.1 (hr c).2.2.2.1 (hr c).2.2.2.2 i0 i1)),
    (h c).2.2.1.trans ((val_main_v60_eq _ _ _ _ _).trans (funext fun i => by idx_vars i; obtain rfl : i0 = 0 := Subsingleton.elim _ _; exact ref60 _ _ _ _ _ i1)),
    (h c).2.2.2.1.trans ((val_main_v61_eq m c).trans (funext fun i => by idx_vars i; exact refDa _ _ _ _ _ (hr c).1 (hr c).2.1 (hr c).2.2.1 (hr c).2.2.2.1 (hr c).2.2.2.2 i0 i1)),
    (h c).2.2.2.2.1.trans ((val_main_v62_eq _ _ _ _ _).trans (funext fun i => by idx_vars i; exact refLoss _ _ _ _ _ (hr c).1 (hr c).2.1 (hr c).2.2.1 (hr c).2.2.2.1 (hr c).2.2.2.2 i0 i1)),
    (h c).2.2.2.2.2⟩) (Cert.LossRefIdeal.Value.run m ρ)

end Cert.LossRefIdeal.Read

namespace Cert.Pre_loss_finite

/-- The shape facts of the predicate. -/
instance facts : Facts := by constructor <;> decide

/-- Where the predicate holds, the arguments are real. -/
theorem real [Facts] {a0 : FVec Ideal S4096x2816 .bf16} {a1 : FVec Ideal S2816x1024 .bf16} {a2 : FVec Ideal S1x1024 .f32} {a3 : FVec Ideal S4096x1024 .bf16} {a4 : FVec Ideal S4096x1024 .f32}
    (h : fn a0 a1 a2 a3 a4 = fun _ => 1#1) : (∀ i, Row.IsReal (a0 i)) ∧ (∀ i, Row.IsReal (a1 i)) ∧ (∀ i, Row.IsReal (a2 i)) ∧ (∀ i, Row.IsReal (a3 i)) ∧ (∀ i, Row.IsReal (a4 i)) := by
  obtain ⟨e, e4⟩ := Row.and_split (congrFun h fun k => k.elim0)
  obtain ⟨e, e3⟩ := Row.and_split e
  obtain ⟨e, e2⟩ := Row.and_split e
  obtain ⟨e0, e1⟩ := Row.and_split e
  exact ⟨Row.isReal_of_all e0 fun _ => Row.cTop16, Row.isReal_of_all e1 fun _ => Row.cTop16, Row.isReal_of_all e2 fun _ => Row.cTop, Row.isReal_of_all e3 fun _ => Row.cTop16, Row.isReal_of_all e4 fun _ => Row.cTop⟩

end Cert.Pre_loss_finite

namespace Cert.Proof

/-- The reference of the loss and its gradient runs to its end and leaves its arguments as they were. -/
theorem loss_ref : quiescent_LossRefIdeal (hLossRefIdeal := Cert.LossRefIdeal.Gen.facts) := by
  intro m g _
  run_from Cert.LossRefIdeal.Value.run m g
  · exact fun _ => by simp only [and_self]
  · exact sem_eq_zero_of_no_sems (sig := Cert.LossRefIdeal.sig) (by decide) _

/-- The loss kernel leaves in its five results the loss and what the gradient of the forward lines leaves there, of real arguments. -/
theorem loss_value : algebraic_LossIdeal_LossRefIdeal_pre_loss_finite (hLossIdeal := Cert.LossIdeal.Gen.facts)
    (hLossRefIdeal := Cert.LossRefIdeal.Gen.facts) (hPre_loss_finite := Cert.Pre_loss_finite.facts) := by
  pair_intro
  · run_from Cert.LossIdeal.Gen.run_main m g
  · have run := Cert.LossRefIdeal.Read.run_grad m' g' fun c => by
      obtain ⟨e0, e1, e2, e3, e4⟩ := hagree c
      rw [e0, e1, e2, e3, e4]
      exact Cert.Pre_loss_finite.real (hpre c)
    run_from run
    · exact (Cert.LossIdeal.Value.final5 m c).symm
    · exact (Cert.LossIdeal.Value.final6 m c).symm
    · exact (Cert.LossIdeal.Value.final7 m c).symm
    · exact (Cert.LossIdeal.Value.final8 m c).symm
    · exact (Cert.LossIdeal.Value.final9 m c).symm

end Cert.Proof

end
-- ==== Proof.QkvValue.lean ====
module

public import proofs.«01_k».proof.Proof.RealRow
public import proofs.«01_k».proof.Proof.Gen.QkvIdeal.Value
public import proofs.«01_k».proof.Proof.Gen.QkvRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen

/-! The gradients of the two projections' shared rows, and of the residual product before them, written out at one row and lane. -/

/-- The call's arguments. -/
structure Args where
  dq : FVec Ideal S4096x1024 .bf16
  dkv : FVec Ideal S4096x512 .bf16
  wq : FVec Ideal S1024x1024 .bf16
  wkv : FVec Ideal S1024x512 .bf16
  gq : FVec Ideal S1x1024 .f32
  gkv : FVec Ideal S1x1024 .f32
  dout : FVec Ideal S4096x1024 .bf16
  act : FVec Ideal S4096x2816 .bf16
  w : FVec Ideal S2816x1024 .bf16
  res : FVec Ideal S4096x1024 .bf16
  gz : FVec Ideal S1x1024 .f32

section Formulas

variable (x : Args)

/-- The product before the rows, and the rows: what was there plus the product, normalised. -/
def Z (r : Fin 4096) (l : Fin 1024) : EReal := ∑ k : Fin 2816, x.act (ix2 r k) * x.w (ix2 k l)
def h (r : Fin 4096) (l : Fin 1024) : EReal := x.res (ix2 r l) + Z x r l * Row.rms (Z x r) * x.gz (ix2 0 l)

/-- The gradients that reach the two norms' outputs. -/
def Dq (r : Fin 4096) (l : Fin 1024) : EReal := ∑ k : Fin 1024, x.dq (ix2 r k) * x.wq (ix2 l k)
def Dkv (r : Fin 4096) (l : Fin 1024) : EReal := ∑ k : Fin 512, x.dkv (ix2 r k) * x.wkv (ix2 l k)

/-- The gradient of the rows: what reaches them directly, and through each norm. -/
def dh (r : Fin 4096) (l : Fin 1024) : EReal := x.dout (ix2 r l) + Row.grad (h x r) (fun k => x.gq (ix2 0 k) * Dq x r k) l
  + Row.grad (h x r) (fun k => x.gkv (ix2 0 k) * Dkv x r k) l

/-- The gradient of the product before the rows, and of its left factor. -/
def dz (r : Fin 4096) (l : Fin 1024) : EReal := Row.grad (Z x r) (fun k => x.gz (ix2 0 k) * dh x r k) l
def da (r : Fin 4096) (k : Fin 2816) : EReal := ∑ l : Fin 1024, dz x r l * x.w (ix2 k l)

/-- One row's share of the gradient of each norm's scale. -/
def gqRow (r : Fin 4096) (l : Fin 1024) : EReal := Dq x r l * (h x r l * Row.rms (h x r))
def gkvRow (r : Fin 4096) (l : Fin 1024) : EReal := Dkv x r l * (h x r l * Row.rms (h x r))
def gzRow (r : Fin 4096) (l : Fin 1024) : EReal := dh x r l * (Z x r l * Row.rms (Z x r))

/-- The gradient of each norm's scale. -/
def dgq (l : Fin 1024) : EReal := ∑ r : Fin 4096, gqRow x r l
def dgkv (l : Fin 1024) : EReal := ∑ r : Fin 4096, gkvRow x r l
def dgz (l : Fin 1024) : EReal := ∑ r : Fin 4096, gzRow x r l

end Formulas

section Pieces

variable {x : Args} {R : Fin 256 → Fin 4096} {v1 : Vec Ideal S256x1024 .bf16} {v2 : Vec Ideal S1024x1024 .bf16} {v4 : Vec Ideal S256x512 .bf16}
    {v5 : Vec Ideal S1024x512 .bf16} {v16 v29 v69 : Vec Ideal S256x1024 .bf16} {v31 v49 v72 : Vec Ideal S1x1024 .f32}
    {v101 : Vec Ideal S2816x1024 .bf16}

/-- What a half block loads for its rows' gradient: the rows `R` of the arguments. -/
structure Half (x : Args) (R : Fin 256 → Fin 4096) (v1 : Vec Ideal S256x1024 .bf16) (v2 : Vec Ideal S1024x1024 .bf16) (v4 : Vec Ideal S256x512 .bf16)
    (v5 : Vec Ideal S1024x512 .bf16) (v16 v29 : Vec Ideal S256x1024 .bf16) (v31 v49 : Vec Ideal S1x1024 .f32) : Prop where
  h1 : ∀ r k, v1 (ix2 r k) = x.dq (ix2 (R r) k)
  h2 : ∀ l k, v2 (ix2 l k) = x.wq (ix2 l k)
  h4 : ∀ r k, v4 (ix2 r k) = x.dkv (ix2 (R r) k)
  h5 : ∀ l k, v5 (ix2 l k) = x.wkv (ix2 l k)
  h16 : ∀ r l, v16 (ix2 r l) = h x (R r) l
  h29 : ∀ r l, v29 (ix2 r l) = x.dout (ix2 (R r) l)
  h31 : ∀ l, v31 (ix2 0 l) = x.gq (ix2 0 l)
  h49 : ∀ l, v49 (ix2 0 l) = x.gkv (ix2 0 l)

theorem qA (h1 : ∀ r k, v1 (ix2 r k) = x.dq (ix2 (R r) k)) (h2 : ∀ l k, v2 (ix2 l k) = x.wq (ix2 l k)) (r : Fin 256) (l : Fin 1024) :
    k0_pay4 (F := Ideal) v1 v2 (ix2 r l) = Dq x (R r) l := by
  pointwise [k0_pay4]
  simp only [h1, h2, Dq]
theorem kvA (h4 : ∀ r k, v4 (ix2 r k) = x.dkv (ix2 (R r) k)) (h5 : ∀ l k, v5 (ix2 l k) = x.wkv (ix2 l k)) (r : Fin 256) (l : Fin 1024) :
    k0_pay5 (F := Ideal) v4 v5 (ix2 r l) = Dkv x (R r) l := by
  pointwise [k0_pay5]
  simp only [h4, h5, Dkv]
theorem qB (h1 : ∀ r k, v1 (ix2 r k) = x.dq (ix2 (R r) k)) (h2 : ∀ l k, v2 (ix2 l k) = x.wq (ix2 l k)) (r : Fin 256) (l : Fin 1024) :
    k0_pay6 (F := Ideal) v1 v2 (ix2 r l) = Dq x (R r) l := by
  pointwise [k0_pay6]
  simp only [h1, h2, Dq]
theorem kvB (h4 : ∀ r k, v4 (ix2 r k) = x.dkv (ix2 (R r) k)) (h5 : ∀ l k, v5 (ix2 l k) = x.wkv (ix2 l k)) (r : Fin 256) (l : Fin 1024) :
    k0_pay7 (F := Ideal) v4 v5 (ix2 r l) = Dkv x (R r) l := by
  pointwise [k0_pay7]
  simp only [h4, h5, Dkv]

variable (H : Half x R v1 v2 v4 v5 v16 v29 v31 v49)

section Rows
include H

/-- The halves of a block of the rows' gradient. -/
theorem Half.dhA (r : Fin 256) (l : Fin 1024) :
    k0_pay15 (F := Ideal) (k0_pay4 v1 v2) (k0_pay5 v4 v5) (k0_pay12 v16) (k0_pay13 v16) v29 v31 v49 (ix2 r l) = dh x (R r) l := by
  pointwise [k0_pay15, k0_pay13, k0_pay12, k0_pay11]
  simp only [qA H.h1 H.h2, kvA H.h4 H.h5, H.h16, H.h29, H.h31, H.h49]
  rfl
theorem Half.dhB (r : Fin 256) (l : Fin 1024) : k0_pay30 (F := Ideal) (k0_pay6 v1 v2) (k0_pay7 v4 v5) (k0_pay24 v16) (k0_pay25 v16) k0_pay26
    v29 v31 v49 (ix2 r l) = dh x (R r) l := by
  pointwise [k0_pay30, k0_pay28, k0_pay27, k0_pay26, k0_pay25, k0_pay24]
  simp only [qB H.h1 H.h2, kvB H.h4 H.h5, H.h16, H.h29, H.h31, H.h49]
  rfl

/-- The halves as they are stored. -/
theorem Half.storeA (r : Fin 256) (l : Fin 1024) :
    k0_pay17 (F := Ideal) (k0_pay4 v1 v2) (k0_pay5 v4 v5) (k0_pay12 v16) (k0_pay13 v16) v29 v31 v49 (ix2 r l) = dh x (R r) l := by
  pointwise [k0_pay17]
  exact H.dhA r l
theorem Half.storeB (r : Fin 256) (l : Fin 1024) : k0_pay32 (F := Ideal) (k0_pay6 v1 v2) (k0_pay7 v4 v5) (k0_pay24 v16) (k0_pay25 v16) k0_pay26
    v29 v31 v49 (ix2 r l) = dh x (R r) l := by
  pointwise [k0_pay32]
  exact H.dhB r l

section Product

variable (h69 : ∀ r l, v69 (ix2 r l) = Z x (R r) l) (h72 : ∀ l, v72 (ix2 0 l) = x.gz (ix2 0 l))
include h69 h72

/-- The halves of a block of the gradient of the product before the rows. -/
theorem Half.dzA (r : Fin 256) (l : Fin 1024) :
    k0_pay21 (F := Ideal) (k0_pay15 (k0_pay4 v1 v2) (k0_pay5 v4 v5) (k0_pay12 v16) (k0_pay13 v16) v29 v31 v49) (k0_pay18 v69) v72 (ix2 r l)
    = dz x (R r) l := by
  pointwise [k0_pay21, k0_pay20, k0_pay19, k0_pay18]
  simp only [H.dhA, h69, h72]
  rfl
theorem Half.dzB (r : Fin 256) (l : Fin 1024) :
    k0_pay36 (F := Ideal) (k0_pay30 (k0_pay6 v1 v2) (k0_pay7 v4 v5) (k0_pay24 v16) (k0_pay25 v16) k0_pay26 v29 v31 v49) v69 v72 (ix2 r l)
    = dz x (R r) l := by
  pointwise [k0_pay36, k0_pay35, k0_pay34, k0_pay33]
  simp only [H.dhB, h69, h72]
  rfl

variable (h101 : ∀ k l, v101 (ix2 k l) = x.w (ix2 k l))
include h101

/-- The halves of a block of the gradient of that product's left factor. -/
theorem Half.daA (r : Fin 256) (k : Fin 2816) : k0_pay23 (F := Ideal) (k0_pay15 (k0_pay4 v1 v2) (k0_pay5 v4 v5) (k0_pay12 v16) (k0_pay13 v16)
    v29 v31 v49) (k0_pay18 v69) v72 v101 (ix2 r k) = da x (R r) k := by
  pointwise [k0_pay23]
  simp only [H.dzA h69 h72, h101]
  rfl
theorem Half.daB (r : Fin 256) (k : Fin 2816) : k0_pay38 (F := Ideal) (k0_pay30 (k0_pay6 v1 v2) (k0_pay7 v4 v5) (k0_pay24 v16) (k0_pay25 v16)
    k0_pay26 v29 v31 v49) v69 v72 v101 (ix2 r k) = da x (R r) k := by
  pointwise [k0_pay38]
  simp only [H.dzB h69 h72, h101]
  rfl

end Product

end Rows

variable {S : Fin 256 → Fin 4096} {u1 : Vec Ideal S256x1024 .bf16} {u2 : Vec Ideal S1024x1024 .bf16} {u4 : Vec Ideal S256x512 .bf16}
    {u5 : Vec Ideal S1024x512 .bf16} {u16 u29 u69 : Vec Ideal S256x1024 .bf16} {u31 u49 : Vec Ideal S1x1024 .f32}
    (G : Half x S u1 u2 u4 u5 u16 u29 u31 u49)

/-- A block's share of the gradient of each norm's scale: one half's rows and the other's. -/
theorem shareQ (h1 : ∀ r k, v1 (ix2 r k) = x.dq (ix2 (R r) k)) (h2 : ∀ l k, v2 (ix2 l k) = x.wq (ix2 l k)) (h16 : ∀ r l, v16 (ix2 r l) = h x (R r) l)
    (g1 : ∀ r k, u1 (ix2 r k) = x.dq (ix2 (S r) k)) (g2 : ∀ l k, u2 (ix2 l k) = x.wq (ix2 l k)) (g16 : ∀ r l, u16 (ix2 r l) = h x (S r) l)
    (l : Fin 1024) :
    k0_pay29 (F := Ideal) (k0_pay6 u1 u2) (k0_pay14 (k0_pay4 v1 v2) k0_pay8 (k0_pay13 v16)) (k0_pay24 u16) (k0_pay25 u16) k0_pay26 (ix2 0 l)
    = ∑ r, gqRow x (R r) l + ∑ r, gqRow x (S r) l := by
  pointwise [k0_pay29, k0_pay14, k0_pay8, k0_pay13, k0_pay12, k0_pay11, k0_pay28, k0_pay27, k0_pay26, k0_pay25, k0_pay24]
  simp only [qA h1 h2, qB g1 g2, h16, g16]
  rfl
theorem shareKv (h4 : ∀ r k, v4 (ix2 r k) = x.dkv (ix2 (R r) k)) (h5 : ∀ l k, v5 (ix2 l k) = x.wkv (ix2 l k))
    (h16 : ∀ r l, v16 (ix2 r l) = h x (R r) l) (g4 : ∀ r k, u4 (ix2 r k) = x.dkv (ix2 (S r) k)) (g5 : ∀ l k, u5 (ix2 l k) = x.wkv (ix2 l k))
    (g16 : ∀ r l, u16 (ix2 r l) = h x (S r) l) (l : Fin 1024) :
    k0_pay31 (F := Ideal) (k0_pay7 u4 u5) (k0_pay16 (k0_pay5 v4 v5) k0_pay9 (k0_pay13 v16)) (k0_pay24 u16) (k0_pay25 u16) k0_pay26 (ix2 0 l)
    = ∑ r, gkvRow x (R r) l + ∑ r, gkvRow x (S r) l := by
  pointwise [k0_pay31, k0_pay16, k0_pay9, k0_pay13, k0_pay12, k0_pay11, k0_pay28, k0_pay27, k0_pay26, k0_pay25, k0_pay24]
  simp only [kvA h4 h5, kvB g4 g5, h16, g16]
  rfl
include H G in
theorem Half.shareZ (h69 : ∀ r l, v69 (ix2 r l) = Z x (R r) l) (g69 : ∀ r l, u69 (ix2 r l) = Z x (S r) l) (l : Fin 1024) :
    k0_pay37 (F := Ideal) (k0_pay22 k0_pay10 (k0_pay15 (k0_pay4 v1 v2) (k0_pay5 v4 v5) (k0_pay12 v16) (k0_pay13 v16) v29 v31 v49) (k0_pay18 v69))
      (k0_pay30 (k0_pay6 u1 u2) (k0_pay7 u4 u5) (k0_pay24 u16) (k0_pay25 u16) k0_pay26 u29 u31 u49) u69 (ix2 0 l)
    = ∑ r, gzRow x (R r) l + ∑ r, gzRow x (S r) l := by
  pointwise [k0_pay37, k0_pay22, k0_pay10, k0_pay20, k0_pay19, k0_pay18, k0_pay35, k0_pay34, k0_pay33]
  simp only [H.dhA, G.dhB, h69, g69]
  rfl

end Pieces

section Points

variable (m : (ℓ : Loc nD τ sig) → Buf (Elt Ideal) ℓ) (c : Dev nD)

/-- The arguments as the memory holds them. -/
abbrev X : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10)⟩

/-- Which block each window stages at grid point `t`. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0]
    ∧ win0_11.index t = ![t.val, 0] ∧ win0_12.index t = ![0, 0] ∧ win0_13.index t = ![0, 0] ∧ win0_14.index t = ![t.val, 0]
    ∧ win0_15.index t = ![0, 0] ∧ win0_16.index t = ![t.val, 0] ∧ t.val < 8 :=
  (by decide +kernel : ∀ t : Fin grid0.N, _)

/-- The grid has eight points. -/
theorem tlt (t : Fin cfg0.N) : t.val < 8 := (idx t).2.2.2.2.2.2.2.2.2.2.2.2.2.2.2.2.2

variable (t : Fin cfg0.N)

/-- The host's product and rows, as the kernel finds them. -/
theorem hostZ (r : Fin 4096) (l : Fin 1024) : V m c main_v18 (ix2 r l) = Z (X m c) r l := by
  entry_read
  pointwise
  rfl
theorem hostH (r : Fin 4096) (l : Fin 1024) : V m c main_v17 (ix2 r l) = h (X m c) r l := by
  entry_read
  pointwise
  rfl

/-- The blocks of the arguments, read at a row and lane. -/
theorem rd0 (r : Fin 512) (k : Fin 1024) : (iblk m c 0 t : FVec Ideal S512x1024 .bf16) (ix2 r k)
    = (X m c).dq (ix2 ⟨512 * t.val + r.val, by have := tlt t; omega⟩ k) := by blk_ext [iblk, V, idx t]
theorem rd1 (r : Fin 512) (k : Fin 512) : (iblk m c 1 t : FVec Ideal S512x512 .bf16) (ix2 r k)
    = (X m c).dkv (ix2 ⟨512 * t.val + r.val, by have := tlt t; omega⟩ k) := by blk_ext [iblk, V, idx t]
theorem rd2 (k : Fin 1024) (l : Fin 1024) : (iblk m c 2 t : FVec Ideal S1024x1024 .bf16) (ix2 k l) = (X m c).wq (ix2 k l) := by
  blk_ext [iblk, V, idx t]
theorem rd3 (k : Fin 1024) (l : Fin 512) : (iblk m c 3 t : FVec Ideal S1024x512 .bf16) (ix2 k l) = (X m c).wkv (ix2 k l) := by
  blk_ext [iblk, V, idx t]
theorem rd4 (k : Fin 1024) : (iblk m c 4 t : FVec Ideal S1x1024 .f32) (ix2 0 k) = (X m c).gq (ix2 0 k) := by
  blk_ext [iblk, V, idx t]
theorem rd5 (k : Fin 1024) : (iblk m c 5 t : FVec Ideal S1x1024 .f32) (ix2 0 k) = (X m c).gkv (ix2 0 k) := by
  blk_ext [iblk, V, idx t]
theorem rd6 (r : Fin 512) (k : Fin 1024) : (iblk m c 6 t : FVec Ideal S512x1024 .bf16) (ix2 r k)
    = h (X m c) ⟨512 * t.val + r.val, by have := tlt t; omega⟩ k := by
  refine Eq.trans ?_ (hostH m c _ k)
  blk_ext [iblk, idx t]
theorem rd7 (r : Fin 512) (k : Fin 1024) : (iblk m c 7 t : FVec Ideal S512x1024 .bf16) (ix2 r k)
    = (X m c).dout (ix2 ⟨512 * t.val + r.val, by have := tlt t; omega⟩ k) := by blk_ext [iblk, V, idx t]
theorem rd8 (r : Fin 512) (k : Fin 1024) : (iblk m c 8 t : FVec Ideal S512x1024 .bf16) (ix2 r k)
    = Z (X m c) ⟨512 * t.val + r.val, by have := tlt t; omega⟩ k := by
  refine Eq.trans ?_ (hostZ m c _ k)
  blk_ext [iblk, idx t]
theorem rd9 (k : Fin 1024) : (iblk m c 9 t : FVec Ideal S1x1024 .f32) (ix2 0 k) = (X m c).gz (ix2 0 k) := by
  blk_ext [iblk, V, idx t]
theorem rd10 (k : Fin 2816) (l : Fin 1024) : (iblk m c 10 t : FVec Ideal S2816x1024 .bf16) (ix2 k l) = (X m c).w (ix2 k l) := by
  blk_ext [iblk, V, idx t]

/-- The array's row that is row `r` of a block's first half, and of its second. -/
def rowA (r : Fin 256) : Fin 4096 := ⟨512 * t.val + r.val, by have := tlt t; omega⟩
def rowB (r : Fin 256) : Fin 4096 := ⟨512 * t.val + (256 + r.val), by have := tlt t; omega⟩

/-- The rows of a block: those of its two halves. -/
theorem halves (f : Fin 4096 → EReal) : ∑ r, f (rowA t r) + ∑ r, f (rowB t r)
    = ∑ r : Fin 512, f ⟨512 * t.val + r.val, by have := tlt t; omega⟩ :=
  (Fin.sum_univ_add (a := 256) (b := 256) (fun r : Fin 512 => f ⟨512 * t.val + r.val, by have := tlt t; omega⟩)).symm

/-- An accumulator's step: what was held plus the point's share. -/
theorem step12 (b : FVec Ideal S1x1024 .f32) (e : Vec Ideal S1x1024 .f32) (j : S1x1024.Idx) : k0_pay1 (F := Ideal) b e j = (e j + b j : EReal) := by
  idx_vars j
  pointwise [k0_pay1]
theorem step13 (b : FVec Ideal S1x1024 .f32) (e : Vec Ideal S1x1024 .f32) (j : S1x1024.Idx) : k0_pay2 (F := Ideal) b e j = (e j + b j : EReal) := by
  idx_vars j
  pointwise [k0_pay2]
theorem step15 (b : FVec Ideal S1x1024 .f32) (e : Vec Ideal S1x1024 .f32) (j : S1x1024.Idx) : k0_pay3 (F := Ideal) b e j = (e j + b j : EReal) := by
  idx_vars j
  pointwise [k0_pay3]

/-- What the first half of the body loads. -/
theorem halfA : Half (X m c) (rowA t) (View.ld (iblk m c 0 t) (Rect.unit ![0, 0] ![256, 1024] inb_S512x1024_S256x1024_0_0)) (iblk m c 2 t)
    (View.ld (iblk m c 1 t) (Rect.unit ![0, 0] ![256, 512] inb_S512x512_S256x512_0_0)) (iblk m c 3 t)
    (View.ld (iblk m c 6 t) (Rect.unit ![0, 0] ![256, 1024] inb_S512x1024_S256x1024_0_0)) (View.ld (iblk m c 7 t) (Rect.unit ![0, 0] ![256, 1024] inb_S512x1024_S256x1024_0_0))
    (iblk m c 4 t) (iblk m c 5 t) := by
  constructor <;> intros <;> pointwise
  exacts [rd0 m c t _ _, rd2 m c t _ _, rd1 m c t _ _, rd3 m c t _ _, rd6 m c t _ _, rd7 m c t _ _, rd4 m c t _, rd5 m c t _]
theorem zA (r : Fin 256) (l : Fin 1024) : (View.ld (iblk m c 8 t) (Rect.unit ![0, 0] ![256, 1024] inb_S512x1024_S256x1024_0_0)) (ix2 r l) = Z (X m c) (rowA t r) l := by
  pointwise
  exact rd8 m c t _ _

/-- What the second half of the body loads. -/
theorem halfB : Half (X m c) (rowB t) (View.ld (iblk m c 0 t) (Rect.unit ![256, 0] ![256, 1024] inb_S512x1024_S256x1024_256_0)) (iblk m c 2 t)
    (View.ld (iblk m c 1 t) (Rect.unit ![256, 0] ![256, 512] inb_S512x512_S256x512_256_0)) (iblk m c 3 t)
    (View.ld (iblk m c 6 t) (Rect.unit ![256, 0] ![256, 1024] inb_S512x1024_S256x1024_256_0)) (View.ld (iblk m c 7 t) (Rect.unit ![256, 0] ![256, 1024] inb_S512x1024_S256x1024_256_0))
    (iblk m c 4 t) (iblk m c 5 t) := by
  constructor <;> intros <;> pointwise
  exacts [rd0 m c t _ _, rd2 m c t _ _, rd1 m c t _ _, rd3 m c t _ _, rd6 m c t _ _, rd7 m c t _ _, rd4 m c t _, rd5 m c t _]
theorem zB (r : Fin 256) (l : Fin 1024) : (View.ld (iblk m c 8 t) (Rect.unit ![256, 0] ![256, 1024] inb_S512x1024_S256x1024_256_0)) (ix2 r l) = Z (X m c) (rowB t r) l := by
  pointwise
  exact rd8 m c t _ _

/-- What every grid point leaves in its block of the rows' gradient. -/
theorem out11 (y0 : Fin 512) (y1 : Fin 1024) : (outsAt0 m c t.val t.isLt).1 (ix2 y0 y1)
    = dh (X m c) ⟨512 * t.val + y0.val, by have := tlt t; omega⟩ y1 := by
  have ht := tlt t
  by_cases hA : t.val % 8 = 0
  on_goal 1 => rw [outsAt0_A m c t hA (by omega) hA (by omega) hA (by omega)]
  on_goal 2 => rw [outsAt0_B m c t hA (by omega) hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      exact (halfB m c t).storeB x0 y1
    · obtain rfl : y0 = ⟨x0.val, by clear h0; omega⟩ := Fin.ext h0
      exact (halfA m c t).storeA x0 y1

/-- The rows' gradient after the run. -/
theorem final11 : (dats m 0 c).arrAt 11 (cfgs 0).N = fun i : S4096x1024.Idx => dh (X m c) (i 0) (i 1) := by
  refine (dats m 0 c).arrAt_eq_of_covers 11 _ (by decide +kernel) fun t hf y => ?_
  blk_simp
  rw [after0_11]
  idx_vars y
  refine (out11 m c t y0 y1).trans ?_
  refine congrArg₂ (dh (X m c)) (Fin.ext ?_) (Fin.ext ?_)
  · blk_simp [idx t]
    show 512 * t.val + y0.val = _
    omega
  · blk_simp [idx t]

/-- What every grid point leaves in its block of the product's gradient. -/
theorem out14 (y0 : Fin 512) (y1 : Fin 1024) : (outsAt0 m c t.val t.isLt).2.2.2.1 (ix2 y0 y1)
    = dz (X m c) ⟨512 * t.val + y0.val, by have := tlt t; omega⟩ y1 := by
  have ht := tlt t
  by_cases hA : t.val % 8 = 0
  on_goal 1 => rw [outsAt0_A m c t hA (by omega) hA (by omega) hA (by omega)]
  on_goal 2 => rw [outsAt0_B m c t hA (by omega) hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      exact (halfB m c t).dzB (zB m c t) (rd9 m c t) x0 y1
    · obtain rfl : y0 = ⟨x0.val, by clear h0; omega⟩ := Fin.ext h0
      exact (halfA m c t).dzA (zA m c t) (rd9 m c t) x0 y1

/-- The product's gradient after the run. -/
theorem final14 : (dats m 0 c).arrAt 14 (cfgs 0).N = fun i : S4096x1024.Idx => dz (X m c) (i 0) (i 1) := by
  refine (dats m 0 c).arrAt_eq_of_covers 14 _ (by decide +kernel) fun t hf y => ?_
  blk_simp
  rw [after0_14]
  idx_vars y
  refine (out14 m c t y0 y1).trans ?_
  refine congrArg₂ (dz (X m c)) (Fin.ext ?_) (Fin.ext ?_)
  · blk_simp [idx t]
    show 512 * t.val + y0.val = _
    omega
  · blk_simp [idx t]

/-- What every grid point leaves in its block of the left factor's gradient. -/
theorem out16 (y0 : Fin 512) (y1 : Fin 2816) : (outsAt0 m c t.val t.isLt).2.2.2.2.2 (ix2 y0 y1)
    = da (X m c) ⟨512 * t.val + y0.val, by have := tlt t; omega⟩ y1 := by
  have ht := tlt t
  by_cases hA : t.val % 8 = 0
  on_goal 1 => rw [outsAt0_A m c t hA (by omega) hA (by omega) hA (by omega)]
  on_goal 2 => rw [outsAt0_B m c t hA (by omega) hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      exact (halfB m c t).daB (zB m c t) (rd9 m c t) (rd10 m c t) x0 y1
    · obtain rfl : y0 = ⟨x0.val, by clear h0; omega⟩ := Fin.ext h0
      exact (halfA m c t).daA (zA m c t) (rd9 m c t) (rd10 m c t) x0 y1

/-- The left factor's gradient after the run. -/
theorem final16 : (dats m 0 c).arrAt 16 (cfgs 0).N = fun i : S4096x2816.Idx => da (X m c) (i 0) (i 1) := by
  refine (dats m 0 c).arrAt_eq_of_covers 16 _ (by decide +kernel) fun t hf y => ?_
  blk_simp
  rw [after0_16]
  idx_vars y
  refine (out16 m c t y0 y1).trans ?_
  refine congrArg₂ (da (X m c)) (Fin.ext ?_) (Fin.ext ?_)
  · blk_simp [idx t]
    show 512 * t.val + y0.val = _
    omega
  · blk_simp [idx t]

/-- The gradient of the first projection's norm's scale: what a point starts from and adds. -/
theorem out12 (j : S1x1024.Idx) : (outsAt0 m c t.val t.isLt).2.1 j
    = (if t.val % 8 = 0 then 0 else (outsAt0 m c (t.val - 1) (by omega)).2.1 j : EReal)
      + ∑ r : Fin 512, gqRow (X m c) ⟨512 * t.val + r.val, by have := tlt t; omega⟩ (j 1) := by
  have ht := tlt t
  idx_vars j
  by_cases hA : t.val % 8 = 0
  on_goal 1 => rw [outsAt0_A m c t hA (by omega) hA (by omega) hA (by omega), if_pos hA, zero_add]
  on_goal 2 => rw [outsAt0_B m c t hA (by omega) hA (by omega) hA (by omega), if_neg hA]
  all_goals frame_out
  on_goal 2 => rw [step12]; refine congrArg (fun a : EReal => _ + a) ?_
  all_goals obtain rfl : j0 = 0 := Subsingleton.elim _ _
  all_goals exact (shareQ (halfA m c t).h1 (halfA m c t).h2 (halfA m c t).h16 (halfB m c t).h1 (halfB m c t).h2 (halfB m c t).h16 j1).trans (halves t fun r => gqRow (X m c) r j1)

/-- The gradient of the first projection's norm's scale after the run. -/
theorem final12 : (dats m 0 c).arrAt 12 (cfgs 0).N = fun i : S1x1024.Idx => dgq (X m c) (i 1) := by
  refine (dats m 0 c).arrAt_eq_of_after_last 12 t0_7 (by decide +kernel) _ fun j => ?_
  blk_simp
  idx_vars j
  rw [after0_12, Pipeline.eq_sum_fin_of_reset_step_apply_last (fun n h => (outsAt0 m c n h).2.1) 8 (fun _ => 0) _
    (fun t h j => by rw [out12, if_pos h]) (fun t h j => by rw [out12, if_neg h]) (le_of_eq N_0) t0_7 rfl, zero_add]
  exact Fin.sum_mul_add_congr fun s k hl => congrArg (fun r => gqRow (X m c) r j1)
    (Fin.ext (by show 512 * s.val + k.val = s.val * 512 + k.val; omega))

/-- The gradient of the second projection's norm's scale: what a point starts from and adds. -/
theorem out13 (j : S1x1024.Idx) : (outsAt0 m c t.val t.isLt).2.2.1 j
    = (if t.val % 8 = 0 then 0 else (outsAt0 m c (t.val - 1) (by omega)).2.2.1 j : EReal)
      + ∑ r : Fin 512, gkvRow (X m c) ⟨512 * t.val + r.val, by have := tlt t; omega⟩ (j 1) := by
  have ht := tlt t
  idx_vars j
  by_cases hA : t.val % 8 = 0
  on_goal 1 => rw [outsAt0_A m c t hA (by omega) hA (by omega) hA (by omega), if_pos hA, zero_add]
  on_goal 2 => rw [outsAt0_B m c t hA (by omega) hA (by omega) hA (by omega), if_neg hA]
  all_goals frame_out
  on_goal 2 => rw [step13]; refine congrArg (fun a : EReal => _ + a) ?_
  all_goals obtain rfl : j0 = 0 := Subsingleton.elim _ _
  all_goals exact (shareKv (halfA m c t).h4 (halfA m c t).h5 (halfA m c t).h16 (halfB m c t).h4 (halfB m c t).h5 (halfB m c t).h16 j1).trans (halves t fun r => gkvRow (X m c) r j1)

/-- The gradient of the second projection's norm's scale after the run. -/
theorem final13 : (dats m 0 c).arrAt 13 (cfgs 0).N = fun i : S1x1024.Idx => dgkv (X m c) (i 1) := by
  refine (dats m 0 c).arrAt_eq_of_after_last 13 t0_7 (by decide +kernel) _ fun j => ?_
  blk_simp
  idx_vars j
  rw [after0_13, Pipeline.eq_sum_fin_of_reset_step_apply_last (fun n h => (outsAt0 m c n h).2.2.1) 8 (fun _ => 0) _
    (fun t h j => by rw [out13, if_pos h]) (fun t h j => by rw [out13, if_neg h]) (le_of_eq N_0) t0_7 rfl, zero_add]
  exact Fin.sum_mul_add_congr fun s k hl => congrArg (fun r => gkvRow (X m c) r j1)
    (Fin.ext (by show 512 * s.val + k.val = s.val * 512 + k.val; omega))

/-- The gradient of the product's norm's scale: what a point starts from and adds. -/
theorem out15 (j : S1x1024.Idx) : (outsAt0 m c t.val t.isLt).2.2.2.2.1 j
    = (if t.val % 8 = 0 then 0 else (outsAt0 m c (t.val - 1) (by omega)).2.2.2.2.1 j : EReal)
      + ∑ r : Fin 512, gzRow (X m c) ⟨512 * t.val + r.val, by have := tlt t; omega⟩ (j 1) := by
  have ht := tlt t
  idx_vars j
  by_cases hA : t.val % 8 = 0
  on_goal 1 => rw [outsAt0_A m c t hA (by omega) hA (by omega) hA (by omega), if_pos hA, zero_add]
  on_goal 2 => rw [outsAt0_B m c t hA (by omega) hA (by omega) hA (by omega), if_neg hA]
  all_goals frame_out
  on_goal 2 => rw [step15]; refine congrArg (fun a : EReal => _ + a) ?_
  all_goals obtain rfl : j0 = 0 := Subsingleton.elim _ _
  all_goals exact ((halfA m c t).shareZ (halfB m c t) (zA m c t) (zB m c t) j1).trans (halves t fun r => gzRow (X m c) r j1)

/-- The gradient of the product's norm's scale after the run. -/
theorem final15 : (dats m 0 c).arrAt 15 (cfgs 0).N = fun i : S1x1024.Idx => dgz (X m c) (i 1) := by
  refine (dats m 0 c).arrAt_eq_of_after_last 15 t0_7 (by decide +kernel) _ fun j => ?_
  blk_simp
  idx_vars j
  rw [after0_15, Pipeline.eq_sum_fin_of_reset_step_apply_last (fun n h => (outsAt0 m c n h).2.2.2.2.1) 8 (fun _ => 0) _
    (fun t h j => by rw [out15, if_pos h]) (fun t h j => by rw [out15, if_neg h]) (le_of_eq N_0) t0_7 rfl, zero_add]
  exact Fin.sum_mul_add_congr fun s k hl => congrArg (fun r => gzRow (X m c) r j1)
    (Fin.ext (by show 512 * s.val + k.val = s.val * 512 + k.val; omega))

end Points

end Cert.QkvIdeal.Value

end
-- ==== Proof.QkvClaim.lean ====
module

public import proofs.«01_k».proof.Defs
public import proofs.«01_k».proof.Proof.Gen.Qkv.Frame
public import proofs.«01_k».proof.Proof.QkvValue
public import proofs.«01_k».proof.Proof.Finite
public import proofs.«01_k».proof.Proof.Gen.QkvRefIdeal.Run
public import Idealize.ShloMosaic.Lib.Claim

@[expose] public section

set_option maxRecDepth 16384

noncomputable section

open Idealize.ShloMosaic Idealize.ShloMosaic.TcCoe Idealize.SL.Sem

namespace Cert.QkvRefIdeal.Read

open Cert.QkvIdeal.Value

section Reference

variable (x : Args)

/-- The reference's stages at one place: the product, the rows, their inverse root mean squares and what reaches each norm. -/
theorem refZ (r : Fin 4096) (l : Fin 1024) : val_main_v2 (F := Ideal) x.act x.w (ix2 r l) = Z x r l := by
  pointwise [val_main_v0, val_main_v1, val_main_v2]
  rfl
theorem refRms (r : Fin 4096) : val_main_v14 (F := Ideal) x.act x.w (ix2 r 0) = Row.rms (Z x r) := by
  pointwise [val_main_v7, val_main_cst, val_main_v8, val_main_v9, val_main_cst_0, val_main_v10, val_main_v11, val_main_cst_1, val_main_v12,
      val_main_v13, val_main_v14]
  simp only [refZ]
  rfl
theorem refH (r : Fin 4096) (l : Fin 1024) : val_main_v23 (F := Ideal) x.act x.w x.res x.gz (ix2 r l) = h x r l := by
  pointwise [val_main_v3, val_main_v18, val_main_v19, val_main_v4, val_main_v20, val_main_v21, val_main_v22, val_main_v23]
  simp only [refZ, refRms]
  rfl
theorem refRmsQ (r : Fin 4096) : val_main_v31 (F := Ideal) x.act x.w x.res x.gz (ix2 r 0) = Row.rms (h x r) := by
  pointwise [val_main_v24, val_main_cst_3, val_main_v25, val_main_v26, val_main_cst_4, val_main_v27, val_main_v28, val_main_cst_5, val_main_v29,
      val_main_v30, val_main_v31]
  simp only [refH]
  rfl
theorem refRmsKv (r : Fin 4096) : val_main_v49 (F := Ideal) x.act x.w x.res x.gz (ix2 r 0) = Row.rms (h x r) := by
  pointwise [val_main_v42, val_main_cst_7, val_main_v43, val_main_v44, val_main_cst_8, val_main_v45, val_main_v46, val_main_cst_9, val_main_v47,
      val_main_v48, val_main_v49]
  simp only [refH]
  rfl
theorem refDq (r : Fin 4096) (l : Fin 1024) : val_main_v85 (F := Ideal) x.dq x.wq (ix2 r l) = Dq x r l := by
  pointwise [val_main_v60, val_main_v40, val_main_v85]
  rfl
theorem refDkv (r : Fin 4096) (l : Fin 1024) : val_main_v63 (F := Ideal) x.dkv x.wkv (ix2 r l) = Dkv x r l := by
  pointwise [val_main_v61, val_main_v58, val_main_v63]
  rfl

/-- The gradients of the two projections' norms' scales are the kernel's. -/
theorem refDgq (l : Fin 1024) : val_main_v129 (F := Ideal) x.dq x.wq x.act x.w x.res x.gz (ix2 0 l) = dgq x l := by
  pointwise [val_main_v35, val_main_v36, val_main_v86, val_main_cst_16, val_main_v87, val_main_v88, val_main_cst_17, val_main_v91, val_main_v129]
  simp only [refH, refRmsQ, refDq, Finset.univ_unique, Finset.sum_singleton]
  exact Finset.sum_congr rfl fun r _ => mul_comm _ _
theorem refDgkv (l : Fin 1024) : val_main_v130 (F := Ideal) x.dkv x.wkv x.act x.w x.res x.gz (ix2 0 l) = dgkv x l := by
  pointwise [val_main_v53, val_main_v54, val_main_v64, val_main_cst_11, val_main_v65, val_main_v66, val_main_cst_12, val_main_v69, val_main_v130]
  simp only [refH, refRmsKv, refDkv, Finset.univ_unique, Finset.sum_singleton]
  exact Finset.sum_congr rfl fun r _ => mul_comm _ _

/-- Every argument is real. -/
structure Real : Prop where
  dq : ∀ i, Row.IsReal (x.dq i)
  dkv : ∀ i, Row.IsReal (x.dkv i)
  wq : ∀ i, Row.IsReal (x.wq i)
  wkv : ∀ i, Row.IsReal (x.wkv i)
  gq : ∀ i, Row.IsReal (x.gq i)
  gkv : ∀ i, Row.IsReal (x.gkv i)
  dout : ∀ i, Row.IsReal (x.dout i)
  act : ∀ i, Row.IsReal (x.act i)
  w : ∀ i, Row.IsReal (x.w i)
  res : ∀ i, Row.IsReal (x.res i)
  gz : ∀ i, Row.IsReal (x.gz i)

variable {x} (hr : Real x)
include hr

theorem Real.Z (r : Fin 4096) (l : Fin 1024) : Row.IsReal (Z x r l) := .sum fun _ => (hr.act _).mul (hr.w _)
theorem Real.h (r : Fin 4096) (l : Fin 1024) : Row.IsReal (h x r l) := (hr.res _).add (((hr.Z r l).mul (.rms (hr.Z r))).mul (hr.gz _))
theorem Real.yq (r : Fin 4096) (l : Fin 1024) : Row.IsReal (x.gq (ix2 0 l) * Dq x r l) :=
  (hr.gq _).mul (.sum fun _ => (hr.dq _).mul (hr.wq _))
theorem Real.ykv (r : Fin 4096) (l : Fin 1024) : Row.IsReal (x.gkv (ix2 0 l) * Dkv x r l) :=
  (hr.gkv _).mul (.sum fun _ => (hr.dkv _).mul (hr.wkv _))
theorem Real.dh (r : Fin 4096) (l : Fin 1024) : Row.IsReal (dh x r l) :=
  ((hr.dout _).add (.grad (hr.h r) (hr.yq r) l)).add (.grad (hr.h r) (hr.ykv r) l)

/-- Of real arguments, the gradients of the rows, of the product before them, of its left factor and of its norm's scale are the kernel's. -/
theorem refDh (r : Fin 4096) (l : Fin 1024) : val_main_v106 (F := Ideal) x.dq x.dkv x.wq x.wkv x.gq x.gkv x.dout x.act x.w x.res x.gz (ix2 r l) = dh x r l := by
  pointwise [val_main_v62, val_main_v6, val_main_v55, val_main_v67, val_main_v68, val_main_v73, val_main_v74, val_main_v75, val_main_v70,
      val_main_cst_13, val_main_v71, val_main_v72, val_main_cst_10, val_main_v51, val_main_v42, val_main_cst_7, val_main_v43, val_main_v44,
      val_main_cst_8, val_main_v45, val_main_v46, val_main_cst_9, val_main_v47, val_main_v48, val_main_v50, val_main_v52, val_main_v76,
      val_main_cst_14, val_main_v77, val_main_v78, val_main_cst_15, val_main_v79, val_main_v80, val_main_v81, val_main_v82, val_main_v83,
      val_main_v84, val_main_v5, val_main_v37, val_main_v89, val_main_v90, val_main_v95, val_main_v96, val_main_v97, val_main_v92, val_main_cst_18,
      val_main_v93, val_main_v94, val_main_cst_6, val_main_v33, val_main_v24, val_main_cst_3, val_main_v25, val_main_v26, val_main_cst_4,
      val_main_v27, val_main_v28, val_main_cst_5, val_main_v29, val_main_v30, val_main_v32, val_main_v34, val_main_v98, val_main_cst_19,
      val_main_v99, val_main_v100, val_main_cst_20, val_main_v101, val_main_v102, val_main_v103, val_main_v104, val_main_v105, val_main_v106]
  simp only [refH, refDq, refDkv, Finset.univ_unique, Finset.sum_singleton, Fin.default_eq_zero, refRmsQ, refRmsKv]
  rw [dh, Row.grad_eq (hr.h r) (hr.yq r), Row.grad_eq (hr.h r) (hr.ykv r)]
  simp only [mul_comm (x.gq _), mul_comm (x.gkv _)]
  exact Row.add_grads _ _ _ _ _ _ _
theorem refDz (r : Fin 4096) (l : Fin 1024) : val_main_v126 (F := Ideal) x.dq x.dkv x.wq x.wkv x.gq x.gkv x.dout x.act x.w x.res x.gz (ix2 r l) = dz x r l := by
  pointwise [val_main_v4, val_main_v20, val_main_v110, val_main_v111, val_main_v116, val_main_v117, val_main_v113, val_main_cst_23, val_main_v114,
      val_main_v115, val_main_cst_2, val_main_v16, val_main_v7, val_main_cst, val_main_v8, val_main_v9, val_main_cst_0, val_main_v10, val_main_v11,
      val_main_cst_1, val_main_v12, val_main_v13, val_main_v15, val_main_v17, val_main_v118, val_main_cst_24, val_main_v119, val_main_v120,
      val_main_cst_25, val_main_v121, val_main_v122, val_main_v123, val_main_v124, val_main_v125, val_main_v126]
  simp only [refZ, refDh hr, Finset.univ_unique, Finset.sum_singleton, Fin.default_eq_zero, refRms]
  rw [dz, Row.grad_eq (hr.Z r) fun k => (hr.gz _).mul (hr.dh r k)]
  simp only [mul_comm (x.gz _)]
  rfl
theorem refDa (r : Fin 4096) (k : Fin 2816) : val_main_v133 (F := Ideal) x.dq x.dkv x.wq x.wkv x.gq x.gkv x.dout x.act x.w x.res x.gz (ix2 r k) = da x r k := by
  pointwise [val_main_v1, val_main_v127, val_main_v133]
  simp only [refDz hr]
  rfl
theorem refDgz (l : Fin 1024) : val_main_v132 (F := Ideal) x.dq x.dkv x.wq x.wkv x.gq x.gkv x.dout x.act x.w x.res x.gz (ix2 0 l) = dgz x l := by
  pointwise [val_main_v18, val_main_v19, val_main_v107, val_main_cst_21, val_main_v108, val_main_v109, val_main_cst_22, val_main_v112, val_main_v132]
  simp only [refZ, refRms, refDh hr, Finset.univ_unique, Finset.sum_singleton]
  exact Finset.sum_congr rfl fun r _ => mul_comm _ _

end Reference

/-- The arguments as the reference's memory holds them. -/
abbrev X (m : (ℓ : Loc nD τ sig) → Buf (Elt Ideal) ℓ) (c : Dev nD) : Args := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10)⟩

/-- The reference's run, where its arguments are real: its results are the gradients as the kernel has them. -/
theorem run_grad (m : (ℓ : Loc nD τ sig) → Buf (Elt Ideal) ℓ) (ρ : Dev nD → PrngReg)
    (hr : ∀ c : Dev nD, Real (X m c)) :
    θ_run (defs (F := Ideal)) (onTc (τ := τ) (main (F := Ideal))) ⟨m, fun _ => 0, ρ⟩ fun r => ∀ c : Dev nD,
      r.2.mem ((c.tc : Thread nD τ).loc main_v128) = (fun i : S4096x1024.Idx => dh (X m c) (i 0) (i 1))
      ∧ r.2.mem ((c.tc : Thread nD τ).loc main_v129) = (fun i : S1x1024.Idx => dgq (X m c) (i 1))
      ∧ r.2.mem ((c.tc : Thread nD τ).loc main_v130) = (fun i : S1x1024.Idx => dgkv (X m c) (i 1))
      ∧ r.2.mem ((c.tc : Thread nD τ).loc main_v131) = (fun i : S4096x1024.Idx => dz (X m c) (i 0) (i 1))
      ∧ r.2.mem ((c.tc : Thread nD τ).loc main_v132) = (fun i : S1x1024.Idx => dgz (X m c) (i 1))
      ∧ r.2.mem ((c.tc : Thread nD τ).loc main_v133) = (fun i : S4096x2816.Idx => da (X m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun _ h c => ⟨
    (h c).1.trans ((val_main_v128_eq _).trans (funext fun i => by idx_vars i; rw [val_main_v128_apply]; exact refDh (hr c) i0 i1)),
    (h c).2.1.trans ((val_main_v129_eq _).trans (funext fun i => by idx_vars i; obtain rfl : i0 = 0 := Subsingleton.elim _ _; exact refDgq (X m c) i1)),
    (h c).2.2.1.trans ((val_main_v130_eq _).trans (funext fun i => by idx_vars i; obtain rfl : i0 = 0 := Subsingleton.elim _ _; exact refDgkv (X m c) i1)),
    (h c).2.2.2.1.trans ((val_main_v131_eq _).trans (funext fun i => by idx_vars i; rw [val_main_v131_apply]; exact refDz (hr c) i0 i1)),
    (h c).2.2.2.2.1.trans ((val_main_v132_eq _).trans (funext fun i => by idx_vars i; obtain rfl : i0 = 0 := Subsingleton.elim _ _; exact refDgz (hr c) i1)),
    (h c).2.2.2.2.2.1.trans ((val_main_v133_eq _).trans (funext fun i => by idx_vars i; exact refDa (hr c) i0 i1)),
    (h c).2.2.2.2.2.2⟩) (Cert.QkvRefIdeal.Value.run m ρ)

end Cert.QkvRefIdeal.Read

namespace Cert.Pre_qkv_finite

/-- The shape facts of the predicate. -/
instance facts : Facts := by constructor <;> decide

/-- Where the predicate holds, the arguments are real. -/
theorem real [Facts] {a0 : FVec Ideal S4096x1024 .bf16} {a1 : FVec Ideal S4096x512 .bf16} {a2 : FVec Ideal S1024x1024 .bf16} {a3 : FVec Ideal S1024x512 .bf16} {a4 : FVec Ideal S1x1024 .f32} {a5 : FVec Ideal S1x1024 .f32} {a6 : FVec Ideal S4096x1024 .bf16} {a7 : FVec Ideal S4096x2816 .bf16} {a8 : FVec Ideal S2816x1024 .bf16} {a9 : FVec Ideal S4096x1024 .bf16} {a10 : FVec Ideal S1x1024 .f32}
    (h : fn a0 a1 a2 a3 a4 a5 a6 a7 a8 a9 a10 = fun _ => 1#1) :
    Cert.QkvRefIdeal.Read.Real ⟨a0, a1, a2, a3, a4, a5, a6, a7, a8, a9, a10⟩ := by
  obtain ⟨e, e10⟩ := Row.and_split (congrFun h fun k => k.elim0)
  obtain ⟨e, e9⟩ := Row.and_split e
  obtain ⟨e, e8⟩ := Row.and_split e
  obtain ⟨e, e7⟩ := Row.and_split e
  obtain ⟨e, e6⟩ := Row.and_split e
  obtain ⟨e, e5⟩ := Row.and_split e
  obtain ⟨e, e4⟩ := Row.and_split e
  obtain ⟨e, e3⟩ := Row.and_split e
  obtain ⟨e, e2⟩ := Row.and_split e
  obtain ⟨e0, e1⟩ := Row.and_split e
  exact ⟨Row.isReal_of_all e0 fun _ => Row.cTop16, Row.isReal_of_all e1 fun _ => Row.cTop16, Row.isReal_of_all e2 fun _ => Row.cTop16, Row.isReal_of_all e3 fun _ => Row.cTop16, Row.isReal_of_all e4 fun _ => Row.cTop, Row.isReal_of_all e5 fun _ => Row.cTop, Row.isReal_of_all e6 fun _ => Row.cTop16, Row.isReal_of_all e7 fun _ => Row.cTop16, Row.isReal_of_all e8 fun _ => Row.cTop16, Row.isReal_of_all e9 fun _ => Row.cTop16, Row.isReal_of_all e10 fun _ => Row.cTop⟩

end Cert.Pre_qkv_finite

namespace Cert.Proof

/-- The reference of the two projections' backward pass runs to its end and leaves its arguments as they were. -/
theorem qkv_ref : quiescent_QkvRefIdeal (hQkvRefIdeal := Cert.QkvRefIdeal.Gen.facts) := by
  intro m g _
  run_from Cert.QkvRefIdeal.Value.run m g
  · exact fun _ => by simp only [and_self]
  · exact sem_eq_zero_of_no_sems (sig := Cert.QkvRefIdeal.sig) (by decide) _

set_option maxHeartbeats 2000000 in
/-- The kernel of the two projections' backward pass leaves in its six results what the gradient of the forward lines leaves there, of real arguments. -/
theorem qkv_value : algebraic_QkvIdeal_QkvRefIdeal_pre_qkv_finite (hQkvIdeal := Cert.QkvIdeal.Gen.facts)
    (hQkvRefIdeal := Cert.QkvRefIdeal.Gen.facts) (hPre_qkv_finite := Cert.Pre_qkv_finite.facts) := by
  pair_intro
  · run_from Cert.QkvIdeal.Gen.run_main m g
    exact hc.1 16
  · have hx : ∀ c, Cert.QkvRefIdeal.Read.X m' c = Cert.QkvIdeal.Value.X m c := fun c => by
      obtain ⟨e0, e1, e2, e3, e4, e5, e6, e7, e8, e9, e10⟩ := hagree c
      unfold Cert.QkvRefIdeal.Read.X Cert.QkvIdeal.Value.X
      rw [e0, e1, e2, e3, e4, e5, e6, e7, e8, e9, e10]
    have run := Cert.QkvRefIdeal.Read.run_grad m' g' fun c => by
      rw [hx c]
      exact Cert.Pre_qkv_finite.real (hpre c)
    run_from run
    · rw [hx c]; exact (Cert.QkvIdeal.Value.final11 m c).symm
    · rw [hx c]; exact (Cert.QkvIdeal.Value.final12 m c).symm
    · rw [hx c]; exact (Cert.QkvIdeal.Value.final13 m c).symm
    · rw [hx c]; exact (Cert.QkvIdeal.Value.final14 m c).symm
    · rw [hx c]; exact (Cert.QkvIdeal.Value.final15 m c).symm
    · rw [hx c]; exact (Cert.QkvIdeal.Value.final16 m c).symm

end Cert.Proof

end
-- ==== Proof.SwigluBwdValue.lean ====
module

public import proofs.«01_k».proof.Proof.RealRow
public import proofs.«01_k».proof.Proof.Gen.SwigluBwdIdeal.Value
public import proofs.«01_k».proof.Proof.Gen.SwigluBwdRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwigluBwdIdeal.Value

open Cert.SwigluBwdIdeal Cert.SwigluBwdIdeal.Gen

/-! The gradients of the gated rows' residual, of the product before it and of the norms around it, written out at one row and lane. -/

/-- The call's arguments. -/
structure Args where
  dact : FVec Ideal S4096x2816 .bf16
  w : FVec Ideal S1024x5632 .bf16
  gp : FVec Ideal S1x1024 .f32
  dout : FVec Ideal S4096x1024 .bf16
  a : FVec Ideal S4096x1024 .bf16
  wo : FVec Ideal S1024x1024 .bf16
  res : FVec Ideal S4096x1024 .bf16
  gz : FVec Ideal S1x1024 .f32

section Formulas

variable (x : Args)

/-- The product before the rows, and the rows: what was there plus the product, normalised. -/
def Z (r : Fin 4096) (l : Fin 1024) : EReal := ∑ k : Fin 1024, x.a (ix2 r k) * x.wo (ix2 k l)
def h (r : Fin 4096) (l : Fin 1024) : EReal := x.res (ix2 r l) + Z x r l * Row.rms (Z x r) * x.gz (ix2 0 l)

/-- The product of the normalised rows with the weights: the gate, and what is gated. -/
def GU (r : Fin 4096) (k : Fin 5632) : EReal := ∑ l : Fin 1024, h x r l * Row.rms (h x r) * x.gp (ix2 0 l) * x.w (ix2 l k)
def gate (r : Fin 4096) (k : Fin 2816) : EReal := GU x r ⟨k.val, by omega⟩
def up (r : Fin 4096) (k : Fin 2816) : EReal := GU x r ⟨2816 + k.val, by omega⟩

/-- The gradient that reaches the output of the norm before the gates. -/
def D (r : Fin 4096) (l : Fin 1024) : EReal :=
  ∑ k : Fin 2816, Row.dGate (x.dact (ix2 r k)) (gate x r k) (up x r k) * x.w (ix2 l ⟨k.val, by omega⟩)
  + ∑ k : Fin 2816, Row.dUp (x.dact (ix2 r k)) (gate x r k) * x.w (ix2 l ⟨2816 + k.val, by omega⟩)

/-- The gradient of the rows: what reaches them directly, and through the norm. -/
def dh (r : Fin 4096) (l : Fin 1024) : EReal := x.dout (ix2 r l) + Row.grad (h x r) (fun k => x.gp (ix2 0 k) * D x r k) l

/-- The gradient of the product before the rows, and of its left factor. -/
def dz (r : Fin 4096) (l : Fin 1024) : EReal := Row.grad (Z x r) (fun k => x.gz (ix2 0 k) * dh x r k) l
def da (r : Fin 4096) (k : Fin 1024) : EReal := ∑ l : Fin 1024, dz x r l * x.wo (ix2 k l)

/-- One row's share of the gradient of each norm's scale. -/
def gpRow (r : Fin 4096) (l : Fin 1024) : EReal := D x r l * (h x r l * Row.rms (h x r))
def gzRow (r : Fin 4096) (l : Fin 1024) : EReal := dh x r l * (Z x r l * Row.rms (Z x r))

/-- The gradient of each norm's scale. -/
def dgp (l : Fin 1024) : EReal := ∑ r : Fin 4096, gpRow x r l
def dgz (l : Fin 1024) : EReal := ∑ r : Fin 4096, gzRow x r l

end Formulas

section Pieces

variable {x : Args} {R : Fin 256 → Fin 4096} {v1 : Vec Ideal S256x2816 .bf16} {v2 v4 : Vec Ideal S1x256x2816 .bf16}
    {v17 v19 : Vec Ideal S1024x2816 .bf16} {v45 v71 v80 : Vec Ideal S256x1024 .bf16} {v48 v83 : Vec Ideal S1x1024 .f32}
    {v112 : Vec Ideal S1024x1024 .bf16}

/-- What a half block loads for its rows' gradient: the rows `R` of the arguments. -/
structure Half (x : Args) (R : Fin 256 → Fin 4096) (v1 : Vec Ideal S256x2816 .bf16) (v2 v4 : Vec Ideal S1x256x2816 .bf16)
    (v17 v19 : Vec Ideal S1024x2816 .bf16) (v45 : Vec Ideal S256x1024 .bf16) (v48 : Vec Ideal S1x1024 .f32) (v71 : Vec Ideal S256x1024 .bf16) :
    Prop where
  h1 : ∀ r k, v1 (ix2 r k) = x.dact (ix2 (R r) k)
  h2 : ∀ r k, v2 (ix3 0 r k) = gate x (R r) k
  h4 : ∀ r k, v4 (ix3 0 r k) = up x (R r) k
  h17 : ∀ l k, v17 (ix2 l k) = x.w (ix2 l ⟨k.val, by omega⟩)
  h19 : ∀ l k, v19 (ix2 l k) = x.w (ix2 l ⟨2816 + k.val, by omega⟩)
  h45 : ∀ r l, v45 (ix2 r l) = h x (R r) l
  h48 : ∀ l, v48 (ix2 0 l) = x.gp (ix2 0 l)
  h71 : ∀ r l, v71 (ix2 r l) = x.dout (ix2 (R r) l)

variable (H : Half x R v1 v2 v4 v17 v19 v45 v48 v71)

section Rows
include H

/-- The halves of a block of the gradient that reaches the norm's output. -/
theorem Half.dA (r : Fin 256) (l : Fin 1024) : k0_pay3 (F := Ideal) v1 v2 v4 v17 v19 (ix2 r l) = D x (R r) l := by
  pointwise [k0_pay3]
  simp only [H.h1, H.h2, H.h4, H.h17, H.h19]
  rfl
theorem Half.dB (r : Fin 256) (l : Fin 1024) :
    k0_pay8 (F := Ideal) v1 (k0_pay4 v2) (k0_pay5 v2) (k0_pay6 v1 v4) (k0_pay7 v2) (Scalar.ofBits .bf16 0x3F80#16) v17 v19 (ix2 r l) = D x (R r) l := by
  pointwise [k0_pay8, k0_pay7, k0_pay6, k0_pay5, k0_pay4]
  simp only [H.h1, H.h2, H.h4, H.h17, H.h19]
  rfl

/-- The halves of a block of the rows' gradient. -/
theorem Half.dhA (r : Fin 256) (l : Fin 1024) : k0_pay16 (F := Ideal) (k0_pay14 (k0_pay3 v1 v2 v4 v17 v19) v45 v48) (k0_pay15 v71) (ix2 r l) = dh x (R r) l := by
  pointwise [k0_pay16, k0_pay15, k0_pay14, k0_pay13, k0_pay12, k0_pay11]
  simp only [H.dA, H.h45, H.h48, H.h71]
  rfl
theorem Half.dhB (r : Fin 256) (l : Fin 1024) : k0_pay28 (F := Ideal) (k0_pay8 v1 (k0_pay4 v2) (k0_pay5 v2) (k0_pay6 v1 v4) (k0_pay7 v2) (Scalar.ofBits .bf16 0x3F80#16) v17 v19) v45 v48 v71 (ix2 r l) = dh x (R r) l := by
  have e := H.dB
  generalize k0_pay8 v1 (k0_pay4 v2) (k0_pay5 v2) (k0_pay6 v1 v4) (k0_pay7 v2) (Scalar.ofBits .bf16 0x3F80#16) v17 v19 = d at e ⊢
  pointwise [k0_pay28, k0_pay27, k0_pay26, k0_pay25]
  simp only [e, H.h45, H.h48, H.h71]
  rfl

/-- The halves as they are stored. -/
theorem Half.storeA (r : Fin 256) (l : Fin 1024) : k0_pay17 (F := Ideal) (k0_pay14 (k0_pay3 v1 v2 v4 v17 v19) v45 v48) (k0_pay15 v71) (ix2 r l) = dh x (R r) l := by
  pointwise [k0_pay17]
  exact H.dhA r l
theorem Half.storeB (r : Fin 256) (l : Fin 1024) : k0_pay29 (F := Ideal) (k0_pay8 v1 (k0_pay4 v2) (k0_pay5 v2) (k0_pay6 v1 v4) (k0_pay7 v2) (Scalar.ofBits .bf16 0x3F80#16) v17 v19) v45 v48 v71 (ix2 r l) = dh x (R r) l := by
  have e := H.dhB
  generalize k0_pay8 v1 (k0_pay4 v2) (k0_pay5 v2) (k0_pay6 v1 v4) (k0_pay7 v2) (Scalar.ofBits .bf16 0x3F80#16) v17 v19 = d at e ⊢
  pointwise [k0_pay29]
  exact e r l

section Product

variable (h80 : ∀ r l, v80 (ix2 r l) = Z x (R r) l) (h83 : ∀ l, v83 (ix2 0 l) = x.gz (ix2 0 l))
include h80 h83

/-- The halves of a block of the gradient of the product before the rows. -/
theorem Half.dzA (r : Fin 256) (l : Fin 1024) : k0_pay22 (F := Ideal) (k0_pay14 (k0_pay3 v1 v2 v4 v17 v19) v45 v48) (k0_pay15 v71) v80 v83 (ix2 r l) = dz x (R r) l := by
  pointwise [k0_pay22, k0_pay21, k0_pay20, k0_pay19]
  simp only [H.dhA, h80, h83]
  rfl
theorem Half.dzB (r : Fin 256) (l : Fin 1024) : k0_pay35 (F := Ideal) (k0_pay28 (k0_pay8 v1 (k0_pay4 v2) (k0_pay5 v2) (k0_pay6 v1 v4) (k0_pay7 v2) (Scalar.ofBits .bf16 0x3F80#16) v17 v19) v45 v48 v71) (k0_pay31 v80) v83 (ix2 r l) = dz x (R r) l := by
  have e := H.dhB
  generalize k0_pay28 (k0_pay8 v1 (k0_pay4 v2) (k0_pay5 v2) (k0_pay6 v1 v4) (k0_pay7 v2) (Scalar.ofBits .bf16 0x3F80#16) v17 v19) v45 v48 v71 = d at e ⊢
  pointwise [k0_pay35, k0_pay34, k0_pay33, k0_pay32, k0_pay31]
  simp only [e, h80, h83]
  rfl

variable (h112 : ∀ k l, v112 (ix2 k l) = x.wo (ix2 k l))
include h112

/-- The halves of a block of the gradient of that product's left factor. -/
theorem Half.daA (r : Fin 256) (k : Fin 1024) : k0_pay24 (F := Ideal) (k0_pay22 (k0_pay14 (k0_pay3 v1 v2 v4 v17 v19) v45 v48) (k0_pay15 v71) v80 v83) v112 (constant S256x1024 .f32 0x00000000#32) (ix2 r k) = da x (R r) k := by
  pointwise [k0_pay24]
  simp only [H.dzA h80 h83, h112]
  rfl
theorem Half.daB (r : Fin 256) (k : Fin 1024) : k0_pay37 (F := Ideal) (k0_pay28 (k0_pay8 v1 (k0_pay4 v2) (k0_pay5 v2) (k0_pay6 v1 v4) (k0_pay7 v2) (Scalar.ofBits .bf16 0x3F80#16) v17 v19) v45 v48 v71) (k0_pay31 v80) v83 v112 (ix2 r k) = da x (R r) k := by
  have e := H.dzB h80 h83
  generalize k0_pay28 (k0_pay8 v1 (k0_pay4 v2) (k0_pay5 v2) (k0_pay6 v1 v4) (k0_pay7 v2) (Scalar.ofBits .bf16 0x3F80#16) v17 v19) v45 v48 v71 = d at e ⊢
  pointwise [k0_pay37]
  simp only [e, h112]
  rfl

end Product

end Rows

variable {S : Fin 256 → Fin 4096} {u1 : Vec Ideal S256x2816 .bf16} {u2 u4 : Vec Ideal S1x256x2816 .bf16}
    {u17 u19 : Vec Ideal S1024x2816 .bf16} {u45 u71 u80 : Vec Ideal S256x1024 .bf16} {u48 : Vec Ideal S1x1024 .f32}
    (G : Half x S u1 u2 u4 u17 u19 u45 u48 u71)
include H G

/-- A block's share of the gradient of each norm's scale: one half's rows and the other's. -/
theorem Half.shareP (l : Fin 1024) : k0_pay30 (F := Ideal) (k0_pay8 u1 (k0_pay4 u2) (k0_pay5 u2) (k0_pay6 u1 u4) (k0_pay7 u2) (Scalar.ofBits .bf16 0x3F80#16) u17 u19) (k0_pay18 (k0_pay3 v1 v2 v4 v17 v19) k0_pay9 (k0_pay13 v45)) u45 (ix2 0 l)
    = ∑ r, gpRow x (R r) l + ∑ r, gpRow x (S r) l := by
  have e := G.dB
  generalize k0_pay8 u1 (k0_pay4 u2) (k0_pay5 u2) (k0_pay6 u1 u4) (k0_pay7 u2) (Scalar.ofBits .bf16 0x3F80#16) u17 u19 = d at e ⊢
  pointwise [k0_pay30, k0_pay18, k0_pay9, k0_pay13, k0_pay12, k0_pay11, k0_pay27, k0_pay26, k0_pay25]
  simp only [H.dA, e, H.h45, G.h45]
  rfl
theorem Half.shareZ (h80 : ∀ r l, v80 (ix2 r l) = Z x (R r) l) (g80 : ∀ r l, u80 (ix2 r l) = Z x (S r) l) (l : Fin 1024) :
    k0_pay36 (F := Ideal) (k0_pay23 k0_pay10 (k0_pay14 (k0_pay3 v1 v2 v4 v17 v19) v45 v48) (k0_pay15 v71) v80) (k0_pay28 (k0_pay8 u1 (k0_pay4 u2) (k0_pay5 u2) (k0_pay6 u1 u4) (k0_pay7 u2) (Scalar.ofBits .bf16 0x3F80#16) u17 u19) u45 u48 u71) (k0_pay31 u80) (ix2 0 l)
    = ∑ r, gzRow x (R r) l + ∑ r, gzRow x (S r) l := by
  have e := G.dhB
  generalize k0_pay28 (k0_pay8 u1 (k0_pay4 u2) (k0_pay5 u2) (k0_pay6 u1 u4) (k0_pay7 u2) (Scalar.ofBits .bf16 0x3F80#16) u17 u19) u45 u48 u71 = d at e ⊢
  pointwise [k0_pay36, k0_pay23, k0_pay10, k0_pay21, k0_pay20, k0_pay19, k0_pay34, k0_pay33, k0_pay32, k0_pay31]
  simp only [H.dhA, e, h80, g80]
  rfl

end Pieces

section Points

variable (m : (ℓ : Loc nD τ sig) → Buf (Elt Ideal) ℓ) (c : Dev nD)

/-- The arguments as the memory holds them. -/
abbrev X : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7)⟩

/-- Which block each window stages at grid point `t`. -/
theorem idx : ∀ t : Fin cfg0.N, win0_0.index t = ![t.val, 0] ∧ win0_1.index t = ![0, t.val, 0] ∧ win0_2.index t = ![1, t.val, 0]
    ∧ win0_3.index t = ![0, 0] ∧ win0_4.index t = ![0, 1] ∧ win0_5.index t = ![t.val, 0] ∧ win0_6.index t = ![0, 0]
    ∧ win0_7.index t = ![t.val, 0] ∧ win0_8.index t = ![t.val, 0] ∧ win0_9.index t = ![0, 0] ∧ win0_10.index t = ![0, 0]
    ∧ win0_11.index t = ![t.val, 0] ∧ win0_12.index t = ![0, 0] ∧ win0_13.index t = ![t.val, 0] ∧ win0_14.index t = ![0, 0]
    ∧ win0_15.index t = ![t.val, 0] ∧ t.val < 8 :=
  (by decide +kernel : ∀ t : Fin grid0.N, _)

/-- The grid has eight points. -/
theorem tlt (t : Fin cfg0.N) : t.val < 8 := (idx t).2.2.2.2.2.2.2.2.2.2.2.2.2.2.2.2

variable (t : Fin cfg0.N)

/-- The host's product, rows and gates, as the kernel finds them. -/
theorem hostZ (r : Fin 4096) (l : Fin 1024) : V m c main_v38 (ix2 r l) = Z (X m c) r l := by
  entry_read
  pointwise
  rfl
theorem hostH (r : Fin 4096) (l : Fin 1024) : V m c main_v37 (ix2 r l) = h (X m c) r l := by
  entry_read
  pointwise
  rfl
theorem hostG (r : Fin 4096) (k : Fin 2816) : V m c main_v36 (ix3 0 r k) = gate (X m c) r k := by
  entry_read
  pointwise
  rfl
theorem hostU (r : Fin 4096) (k : Fin 2816) : V m c main_v36 (ix3 1 r k) = up (X m c) r k := by
  entry_read
  pointwise
  rfl

/-- The blocks of the arguments, read at a row and lane. -/
theorem rd0 (r : Fin 512) (k : Fin 2816) : (iblk m c 0 t : FVec Ideal S512x2816 .bf16) (ix2 r k)
    = (X m c).dact (ix2 ⟨512 * t.val + r.val, by have := tlt t; omega⟩ k) := by blk_ext [iblk, V, idx t]
theorem rd1 (r : Fin 512) (k : Fin 2816) : (iblk m c 1 t : FVec Ideal S1x512x2816 .bf16) (ix3 0 r k)
    = gate (X m c) ⟨512 * t.val + r.val, by have := tlt t; omega⟩ k := by
  refine Eq.trans ?_ (hostG m c _ k)
  blk_ext [iblk, idx t]
theorem rd2 (r : Fin 512) (k : Fin 2816) : (iblk m c 2 t : FVec Ideal S1x512x2816 .bf16) (ix3 0 r k)
    = up (X m c) ⟨512 * t.val + r.val, by have := tlt t; omega⟩ k := by
  refine Eq.trans ?_ (hostU m c _ k)
  blk_ext [iblk, idx t]
theorem rd3 (l : Fin 1024) (k : Fin 2816) : (iblk m c 3 t : FVec Ideal S1024x2816 .bf16) (ix2 l k)
    = (X m c).w (ix2 l ⟨k.val, by omega⟩) := by blk_ext [iblk, V, idx t]
theorem rd4 (l : Fin 1024) (k : Fin 2816) : (iblk m c 4 t : FVec Ideal S1024x2816 .bf16) (ix2 l k)
    = (X m c).w (ix2 l ⟨2816 + k.val, by omega⟩) := by blk_ext [iblk, V, idx t]
theorem rd5 (r : Fin 512) (k : Fin 1024) : (iblk m c 5 t : FVec Ideal S512x1024 .bf16) (ix2 r k)
    = h (X m c) ⟨512 * t.val + r.val, by have := tlt t; omega⟩ k := by
  refine Eq.trans ?_ (hostH m c _ k)
  blk_ext [iblk, idx t]
theorem rd6 (k : Fin 1024) : (iblk m c 6 t : FVec Ideal S1x1024 .f32) (ix2 0 k) = (X m c).gp (ix2 0 k) := by
  blk_ext [iblk, V, idx t]
theorem rd7 (r : Fin 512) (k : Fin 1024) : (iblk m c 7 t : FVec Ideal S512x1024 .bf16) (ix2 r k)
    = (X m c).dout (ix2 ⟨512 * t.val + r.val, by have := tlt t; omega⟩ k) := by blk_ext [iblk, V, idx t]
theorem rd8 (r : Fin 512) (k : Fin 1024) : (iblk m c 8 t : FVec Ideal S512x1024 .bf16) (ix2 r k)
    = Z (X m c) ⟨512 * t.val + r.val, by have := tlt t; omega⟩ k := by
  refine Eq.trans ?_ (hostZ m c _ k)
  blk_ext [iblk, idx t]
theorem rd9 (k : Fin 1024) : (iblk m c 9 t : FVec Ideal S1x1024 .f32) (ix2 0 k) = (X m c).gz (ix2 0 k) := by
  blk_ext [iblk, V, idx t]
theorem rd10 (k : Fin 1024) (l : Fin 1024) : (iblk m c 10 t : FVec Ideal S1024x1024 .bf16) (ix2 k l) = (X m c).wo (ix2 k l) := by
  blk_ext [iblk, V, idx t]

/-- The array's row that is row `r` of a block's first half, and of its second. -/
def rowA (r : Fin 256) : Fin 4096 := ⟨512 * t.val + r.val, by have := tlt t; omega⟩
def rowB (r : Fin 256) : Fin 4096 := ⟨512 * t.val + (256 + r.val), by have := tlt t; omega⟩

/-- The rows of a block: those of its two halves. -/
theorem halves (f : Fin 4096 → EReal) : ∑ r, f (rowA t r) + ∑ r, f (rowB t r)
    = ∑ r : Fin 512, f ⟨512 * t.val + r.val, by have := tlt t; omega⟩ :=
  (Fin.sum_univ_add (a := 256) (b := 256) (fun r : Fin 512 => f ⟨512 * t.val + r.val, by have := tlt t; omega⟩)).symm

/-- An accumulator's step: what was held plus the point's share. -/
theorem step12 (b : FVec Ideal S1x1024 .f32) (e : Vec Ideal S1x1024 .f32) (j : S1x1024.Idx) : k0_pay1 (F := Ideal) b e j = (e j + b j : EReal) := by
  idx_vars j
  pointwise [k0_pay1]
theorem step14 (b : FVec Ideal S1x1024 .f32) (e : Vec Ideal S1x1024 .f32) (j : S1x1024.Idx) : k0_pay2 (F := Ideal) b e j = (e j + b j : EReal) := by
  idx_vars j
  pointwise [k0_pay2]

/-- What the first half of the body loads. -/
theorem halfA : Half (X m c) (rowA t) (View.ld (iblk m c 0 t) (Rect.unit ![0, 0] ![256, 2816] inb_S512x2816_S256x2816_0_0)) (View.ld (iblk m c 1 t) (Rect.unit ![0, 0, 0] ![1, 256, 2816] inb_S1x512x2816_S1x256x2816_0_0_0))
    (View.ld (iblk m c 2 t) (Rect.unit ![0, 0, 0] ![1, 256, 2816] inb_S1x512x2816_S1x256x2816_0_0_0)) (iblk m c 3 t) (iblk m c 4 t)
    (View.ld (iblk m c 5 t) (Rect.unit ![0, 0] ![256, 1024] inb_S512x1024_S256x1024_0_0)) (iblk m c 6 t)
    (View.ld (iblk m c 7 t) (Rect.unit ![0, 0] ![256, 1024] inb_S512x1024_S256x1024_0_0)) := by
  constructor <;> intros <;> pointwise
  exacts [rd0 m c t _ _, rd1 m c t _ _, rd2 m c t _ _, rd3 m c t _ _, rd4 m c t _ _, rd5 m c t _ _, rd6 m c t _, rd7 m c t _ _]
theorem zA (r : Fin 256) (l : Fin 1024) : (View.ld (iblk m c 8 t) (Rect.unit ![0, 0] ![256, 1024] inb_S512x1024_S256x1024_0_0)) (ix2 r l) = Z (X m c) (rowA t r) l := by
  pointwise
  exact rd8 m c t _ _

/-- What the second half of the body loads. -/
theorem halfB : Half (X m c) (rowB t) (View.ld (iblk m c 0 t) (Rect.unit ![256, 0] ![256, 2816] inb_S512x2816_S256x2816_256_0)) (View.ld (iblk m c 1 t) (Rect.unit ![0, 256, 0] ![1, 256, 2816] inb_S1x512x2816_S1x256x2816_0_256_0))
    (View.ld (iblk m c 2 t) (Rect.unit ![0, 256, 0] ![1, 256, 2816] inb_S1x512x2816_S1x256x2816_0_256_0)) (iblk m c 3 t) (iblk m c 4 t)
    (View.ld (iblk m c 5 t) (Rect.unit ![256, 0] ![256, 1024] inb_S512x1024_S256x1024_256_0)) (iblk m c 6 t)
    (View.ld (iblk m c 7 t) (Rect.unit ![256, 0] ![256, 1024] inb_S512x1024_S256x1024_256_0)) := by
  constructor <;> intros <;> pointwise
  exacts [rd0 m c t _ _, rd1 m c t _ _, rd2 m c t _ _, rd3 m c t _ _, rd4 m c t _ _, rd5 m c t _ _, rd6 m c t _, rd7 m c t _ _]
theorem zB (r : Fin 256) (l : Fin 1024) : (View.ld (iblk m c 8 t) (Rect.unit ![256, 0] ![256, 1024] inb_S512x1024_S256x1024_256_0)) (ix2 r l) = Z (X m c) (rowB t r) l := by
  pointwise
  exact rd8 m c t _ _

/-- What every grid point leaves in its block of the rows' gradient. -/
theorem out11 (y0 : Fin 512) (y1 : Fin 1024) : (outsAt0 m c t.val t.isLt).1 (ix2 y0 y1)
    = dh (X m c) ⟨512 * t.val + y0.val, by have := tlt t; omega⟩ y1 := by
  have ht := tlt t
  by_cases hA : t.val % 8 = 0
  on_goal 1 => rw [outsAt0_A m c t hA (by omega) hA (by omega)]
  on_goal 2 => rw [outsAt0_B m c t hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      exact (halfB m c t).storeB x0 y1
    · obtain rfl : y0 = ⟨x0.val, by clear h0; omega⟩ := Fin.ext h0
      exact (halfA m c t).storeA x0 y1

/-- The rows' gradient after the run. -/
theorem final11 : (dats m 0 c).arrAt 11 (cfgs 0).N = fun i : S4096x1024.Idx => dh (X m c) (i 0) (i 1) := by
  refine (dats m 0 c).arrAt_eq_of_covers 11 _ (by decide +kernel) fun t hf y => ?_
  blk_simp
  rw [after0_11]
  idx_vars y
  refine (out11 m c t y0 y1).trans ?_
  refine congrArg₂ (dh (X m c)) (Fin.ext ?_) (Fin.ext ?_)
  · blk_simp [idx t]
    show 512 * t.val + y0.val = _
    omega
  · blk_simp [idx t]

/-- What every grid point leaves in its block of the product's gradient. -/
theorem out13 (y0 : Fin 512) (y1 : Fin 1024) : (outsAt0 m c t.val t.isLt).2.2.1 (ix2 y0 y1)
    = dz (X m c) ⟨512 * t.val + y0.val, by have := tlt t; omega⟩ y1 := by
  have ht := tlt t
  by_cases hA : t.val % 8 = 0
  on_goal 1 => rw [outsAt0_A m c t hA (by omega) hA (by omega)]
  on_goal 2 => rw [outsAt0_B m c t hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      exact (halfB m c t).dzB (zB m c t) (rd9 m c t) x0 y1
    · obtain rfl : y0 = ⟨x0.val, by clear h0; omega⟩ := Fin.ext h0
      exact (halfA m c t).dzA (zA m c t) (rd9 m c t) x0 y1

/-- The product's gradient after the run. -/
theorem final13 : (dats m 0 c).arrAt 13 (cfgs 0).N = fun i : S4096x1024.Idx => dz (X m c) (i 0) (i 1) := by
  refine (dats m 0 c).arrAt_eq_of_covers 13 _ (by decide +kernel) fun t hf y => ?_
  blk_simp
  rw [after0_13]
  idx_vars y
  refine (out13 m c t y0 y1).trans ?_
  refine congrArg₂ (dz (X m c)) (Fin.ext ?_) (Fin.ext ?_)
  · blk_simp [idx t]
    show 512 * t.val + y0.val = _
    omega
  · blk_simp [idx t]

/-- What every grid point leaves in its block of the left factor's gradient. -/
theorem out15 (y0 : Fin 512) (y1 : Fin 1024) : (outsAt0 m c t.val t.isLt).2.2.2.2 (ix2 y0 y1)
    = da (X m c) ⟨512 * t.val + y0.val, by have := tlt t; omega⟩ y1 := by
  have ht := tlt t
  by_cases hA : t.val % 8 = 0
  on_goal 1 => rw [outsAt0_A m c t hA (by omega) hA (by omega)]
  on_goal 2 => rw [outsAt0_B m c t hA (by omega) hA (by omega)]
  all_goals frame_out
  all_goals canon_tiles x h
  all_goals idx_vars x
  all_goals obtain rfl : y1 = x1 := Fin.ext h1
  iterate 2
    · obtain rfl : y0 = ⟨256 + x0.val, by clear h0; omega⟩ := Fin.ext h0
      exact (halfB m c t).daB (zB m c t) (rd9 m c t) (rd10 m c t) x0 y1
    · obtain rfl : y0 = ⟨x0.val, by clear h0; omega⟩ := Fin.ext h0
      exact (halfA m c t).daA (zA m c t) (rd9 m c t) (rd10 m c t) x0 y1

/-- The left factor's gradient after the run. -/
theorem final15 : (dats m 0 c).arrAt 15 (cfgs 0).N = fun i : S4096x1024.Idx => da (X m c) (i 0) (i 1) := by
  refine (dats m 0 c).arrAt_eq_of_covers 15 _ (by decide +kernel) fun t hf y => ?_
  blk_simp
  rw [after0_15]
  idx_vars y
  refine (out15 m c t y0 y1).trans ?_
  refine congrArg₂ (da (X m c)) (Fin.ext ?_) (Fin.ext ?_)
  · blk_simp [idx t]
    show 512 * t.val + y0.val = _
    omega
  · blk_simp [idx t]

/-- The gradient of the scale of the norm before the gates: what a point starts from and adds. -/
theorem out12 (j : S1x1024.Idx) : (outsAt0 m c t.val t.isLt).2.1 j
    = (if t.val % 8 = 0 then 0 else (outsAt0 m c (t.val - 1) (by omega)).2.1 j : EReal)
      + ∑ r : Fin 512, gpRow (X m c) ⟨512 * t.val + r.val, by have := tlt t; omega⟩ (j 1) := by
  have ht := tlt t
  idx_vars j
  by_cases hA : t.val % 8 = 0
  on_goal 1 => rw [outsAt0_A m c t hA (by omega) hA (by omega), if_pos hA, zero_add]
  on_goal 2 => rw [outsAt0_B m c t hA (by omega) hA (by omega), if_neg hA]
  all_goals frame_out
  on_goal 2 => rw [step12]; refine congrArg (fun a : EReal => _ + a) ?_
  all_goals obtain rfl : j0 = 0 := Subsingleton.elim _ _
  all_goals exact ((halfA m c t).shareP (halfB m c t) j1).trans (halves t fun r => gpRow (X m c) r j1)

/-- The gradient of the scale of the norm before the gates after the run. -/
theorem final12 : (dats m 0 c).arrAt 12 (cfgs 0).N = fun i : S1x1024.Idx => dgp (X m c) (i 1) := by
  refine (dats m 0 c).arrAt_eq_of_after_last 12 t0_7 (by decide +kernel) _ fun j => ?_
  blk_simp
  idx_vars j
  rw [after0_12, Pipeline.eq_sum_fin_of_reset_step_apply_last (fun n h => (outsAt0 m c n h).2.1) 8 (fun _ => 0) _
    (fun t h j => by rw [out12, if_pos h]) (fun t h j => by rw [out12, if_neg h]) (le_of_eq N_0) t0_7 rfl, zero_add]
  exact Fin.sum_mul_add_congr fun s k hl => congrArg (fun r => gpRow (X m c) r j1)
    (Fin.ext (by show 512 * s.val + k.val = s.val * 512 + k.val; omega))

/-- The gradient of the product's norm's scale: what a point starts from and adds. -/
theorem out14 (j : S1x1024.Idx) : (outsAt0 m c t.val t.isLt).2.2.2.1 j
    = (if t.val % 8 = 0 then 0 else (outsAt0 m c (t.val - 1) (by omega)).2.2.2.1 j : EReal)
      + ∑ r : Fin 512, gzRow (X m c) ⟨512 * t.val + r.val, by have := tlt t; omega⟩ (j 1) := by
  have ht := tlt t
  idx_vars j
  by_cases hA : t.val % 8 = 0
  on_goal 1 => rw [outsAt0_A m c t hA (by omega) hA (by omega), if_pos hA, zero_add]
  on_goal 2 => rw [outsAt0_B m c t hA (by omega) hA (by omega), if_neg hA]
  all_goals frame_out
  on_goal 2 => rw [step14]; refine congrArg (fun a : EReal => _ + a) ?_
  all_goals obtain rfl : j0 = 0 := Subsingleton.elim _ _
  all_goals exact ((halfA m c t).shareZ (halfB m c t) (zA m c t) (zB m c t) j1).trans (halves t fun r => gzRow (X m c) r j1)

/-- The gradient of the product's norm's scale after the run. -/
theorem final14 : (dats m 0 c).arrAt 14 (cfgs 0).N = fun i : S1x1024.Idx => dgz (X m c) (i 1) := by
  refine (dats m 0 c).arrAt_eq_of_after_last 14 t0_7 (by decide +kernel) _ fun j => ?_
  blk_simp
  idx_vars j
  rw [after0_14, Pipeline.eq_sum_fin_of_reset_step_apply_last (fun n h => (outsAt0 m c n h).2.2.2.1) 8 (fun _ => 0) _
    (fun t h j => by rw [out14, if_pos h]) (fun t h j => by rw [out14, if_neg h]) (le_of_eq N_0) t0_7 rfl, zero_add]
  exact Fin.sum_mul_add_congr fun s k hl => congrArg (fun r => gzRow (X m c) r j1)
    (Fin.ext (by show 512 * s.val + k.val = s.val * 512 + k.val; omega))

end Points

end Cert.SwigluBwdIdeal.Value

end
-- ==== Proof.SwigluBwdClaim.lean ====
module

public import proofs.«01_k».proof.Defs
public import proofs.«01_k».proof.Proof.Gen.SwigluBwd.Frame
public import proofs.«01_k».proof.Proof.SwigluBwdValue
public import proofs.«01_k».proof.Proof.Finite
public import proofs.«01_k».proof.Proof.Gen.SwigluBwdRefIdeal.Run
public import Idealize.ShloMosaic.Lib.Claim

@[expose] public section

set_option maxRecDepth 16384

noncomputable section

open Idealize.ShloMosaic Idealize.ShloMosaic.TcCoe Idealize.SL.Sem

namespace Cert.SwigluBwdRefIdeal.Read

open Cert.SwigluBwdIdeal.Value

section Reference

variable (x : Args)

/-- The reference's stages at one place: the product, the rows, their inverse root mean squares, and the gates. -/
theorem refZ (r : Fin 4096) (l : Fin 1024) : val_main_v2 (F := Ideal) x.a x.wo (ix2 r l) = Z x r l := by
  pointwise [val_main_v0, val_main_v1, val_main_v2]
  rfl
theorem refRms (r : Fin 4096) : val_main_v13 (F := Ideal) x.a x.wo (ix2 r 0) = Row.rms (Z x r) := by
  pointwise [val_main_v6, val_main_cst, val_main_v7, val_main_v8, val_main_cst_0, val_main_v9, val_main_v10, val_main_cst_1, val_main_v11,
      val_main_v12, val_main_v13]
  simp only [refZ]
  rfl
theorem refH (r : Fin 4096) (l : Fin 1024) : val_main_v22 (F := Ideal) x.a x.wo x.res x.gz (ix2 r l) = h x r l := by
  pointwise [val_main_v3, val_main_v17, val_main_v18, val_main_v4, val_main_v19, val_main_v20, val_main_v21, val_main_v22]
  simp only [refZ, refRms]
  rfl
theorem refRmsH (r : Fin 4096) : val_main_v30 (F := Ideal) x.a x.wo x.res x.gz (ix2 r 0) = Row.rms (h x r) := by
  pointwise [val_main_v23, val_main_cst_3, val_main_v24, val_main_v25, val_main_cst_4, val_main_v26, val_main_v27, val_main_cst_5, val_main_v28,
      val_main_v29, val_main_v30]
  simp only [refH]
  rfl
theorem refGU (r : Fin 4096) (k : Fin 5632) : val_main_v40 (F := Ideal) x.w x.gp x.a x.wo x.res x.gz (ix2 r k) = GU x r k := by
  pointwise [val_main_v34, val_main_v35, val_main_v5, val_main_v36, val_main_v37, val_main_v38, val_main_v39, val_main_v40]
  simp only [refH, refRmsH]
  rfl
theorem refGate (r : Fin 4096) (k : Fin 2816) : val_main_v41 (F := Ideal) x.w x.gp x.a x.wo x.res x.gz (ix2 r k) = gate x r k := by
  pointwise [val_main_v41]
  exact refGU x r _
theorem refUp (r : Fin 4096) (k : Fin 2816) : val_main_v42 (F := Ideal) x.w x.gp x.a x.wo x.res x.gz (ix2 r k) = up x r k := by
  pointwise [val_main_v42]
  exact refGU x r _
theorem refDUp (r : Fin 4096) (k : Fin 2816) : val_main_v47 (F := Ideal) x.dact x.w x.gp x.a x.wo x.res x.gz (ix2 r k) = Row.dUp (x.dact (ix2 r k)) (gate x r k) := by
  pointwise [val_main_call0_cst_0, val_main_call0_v4, val_main_call0_cst, val_main_call0_v2, val_main_call0_v0, val_main_call0_v1, val_main_call0_v3,
      val_main_v43_2, val_main_v43_0, val_main_v45, val_main_v47]
  simp only [refGate]
  exact mul_comm _ _

/-- Every argument is real. -/
structure Real : Prop where
  dact : ∀ i, Row.IsReal (x.dact i)
  w : ∀ i, Row.IsReal (x.w i)
  gp : ∀ i, Row.IsReal (x.gp i)
  dout : ∀ i, Row.IsReal (x.dout i)
  a : ∀ i, Row.IsReal (x.a i)
  wo : ∀ i, Row.IsReal (x.wo i)
  res : ∀ i, Row.IsReal (x.res i)
  gz : ∀ i, Row.IsReal (x.gz i)

variable {x} (hr : Real x)
include hr

theorem Real.Z (r : Fin 4096) (l : Fin 1024) : Row.IsReal (Z x r l) := .sum fun _ => (hr.a _).mul (hr.wo _)
theorem Real.h (r : Fin 4096) (l : Fin 1024) : Row.IsReal (h x r l) := (hr.res _).add (((hr.Z r l).mul (.rms (hr.Z r))).mul (hr.gz _))
theorem Real.GU (r : Fin 4096) (k : Fin 5632) : Row.IsReal (GU x r k) :=
  .sum fun l => (((hr.h r l).mul (.rms (hr.h r))).mul (hr.gp _)).mul (hr.w _)
theorem Real.dGate (r : Fin 4096) (k : Fin 2816) : Row.IsReal (Row.dGate (x.dact (ix2 r k)) (gate x r k) (up x r k)) :=
  .dGate (hr.dact _) (hr.GU r _) (hr.GU r _)
theorem Real.dUp (r : Fin 4096) (k : Fin 2816) : Row.IsReal (Row.dUp (x.dact (ix2 r k)) (gate x r k)) :=
  (hr.dact _).mul ((hr.GU r _).mul (hr.GU r _).logistic)
theorem Real.y (r : Fin 4096) (l : Fin 1024) : Row.IsReal (x.gp (ix2 0 l) * D x r l) :=
  (hr.gp _).mul ((Row.IsReal.sum fun k => (hr.dGate r k).mul (hr.w _)).add (.sum fun k => (hr.dUp r k).mul (hr.w _)))
theorem Real.dh (r : Fin 4096) (l : Fin 1024) : Row.IsReal (dh x r l) := (hr.dout _).add (.grad (hr.h r) (hr.y r) l)

/-- The gradient of the gate's argument, and what reaches the norm before the gates, of real arguments. -/
theorem refDGate (r : Fin 4096) (k : Fin 2816) : val_main_v49 (F := Ideal) x.dact x.w x.gp x.a x.wo x.res x.gz (ix2 r k)
    = Row.dGate (x.dact (ix2 r k)) (gate x r k) (up x r k) := by
  refine Eq.trans ?_ (Row.dGate_eq (hr.dact _) (hr.GU r _) (hr.GU r _)).symm
  pointwise [val_main_v45, val_main_v48, val_main_call0_cst_0, val_main_call0_v4, val_main_call0_cst, val_main_call0_v2, val_main_call0_v0,
      val_main_call0_v1, val_main_call0_v3, val_main_v43_2, val_main_call1_v1, val_main_call1_v0, val_main_call0_cst_1, val_main_call0_v6,
      val_main_call0_v7, val_main_v43_1, val_main_call1_v2, val_main_v49]
  simp only [refGate, refUp]
  rfl
theorem refD (r : Fin 4096) (l : Fin 1024) : val_main_v51 (F := Ideal) x.dact x.w x.gp x.a x.wo x.res x.gz (ix2 r l) = D x r l := by
  pointwise [val_main_v50, val_main_v39, val_main_v51]
  simp only [refDGate hr, refDUp]
  rfl

/-- Of real arguments, the gradients of the rows, of the product before them, of its left factor and of the norms' scales are the kernel's. -/
theorem refDgp (l : Fin 1024) : val_main_v95 (F := Ideal) x.dact x.w x.gp x.a x.wo x.res x.gz (ix2 0 l) = dgp x l := by
  pointwise [val_main_v34, val_main_v35, val_main_v52, val_main_cst_7, val_main_v53, val_main_v54, val_main_cst_8, val_main_v57, val_main_v95]
  simp only [refH, refRmsH, refD hr, Finset.univ_unique, Finset.sum_singleton]
  exact Finset.sum_congr rfl fun r _ => mul_comm _ _
theorem refDh (r : Fin 4096) (l : Fin 1024) : val_main_v72 (F := Ideal) x.dact x.w x.gp x.dout x.a x.wo x.res x.gz (ix2 r l) = dh x r l := by
  pointwise [val_main_v46, val_main_v5, val_main_v36, val_main_v55, val_main_v56, val_main_v61, val_main_v62, val_main_v63, val_main_v58,
      val_main_cst_9, val_main_v59, val_main_v60, val_main_cst_6, val_main_v32, val_main_v23, val_main_cst_3, val_main_v24, val_main_v25,
      val_main_cst_4, val_main_v26, val_main_v27, val_main_cst_5, val_main_v28, val_main_v29, val_main_v31, val_main_v33, val_main_v64,
      val_main_cst_10, val_main_v65, val_main_v66, val_main_cst_11, val_main_v67, val_main_v68, val_main_v69, val_main_v70, val_main_v71,
      val_main_v72]
  simp only [refH, refD hr, Finset.univ_unique, Finset.sum_singleton, Fin.default_eq_zero, refRmsH]
  rw [dh, Row.grad_eq (hr.h r) (hr.y r)]
  simp only [mul_comm (x.gp _), ← add_assoc]
  rfl
theorem refDz (r : Fin 4096) (l : Fin 1024) : val_main_v92 (F := Ideal) x.dact x.w x.gp x.dout x.a x.wo x.res x.gz (ix2 r l) = dz x r l := by
  pointwise [val_main_v4, val_main_v19, val_main_v76, val_main_v77, val_main_v82, val_main_v83, val_main_v79, val_main_cst_14, val_main_v80,
      val_main_v81, val_main_cst_2, val_main_v15, val_main_v6, val_main_cst, val_main_v7, val_main_v8, val_main_cst_0, val_main_v9, val_main_v10,
      val_main_cst_1, val_main_v11, val_main_v12, val_main_v14, val_main_v16, val_main_v84, val_main_cst_15, val_main_v85, val_main_v86,
      val_main_cst_16, val_main_v87, val_main_v88, val_main_v89, val_main_v90, val_main_v91, val_main_v92]
  simp only [refZ, refDh hr, Finset.univ_unique, Finset.sum_singleton, Fin.default_eq_zero, refRms]
  rw [dz, Row.grad_eq (hr.Z r) fun k => (hr.gz _).mul (hr.dh r k)]
  simp only [mul_comm (x.gz _)]
  rfl
theorem refDa (r : Fin 4096) (k : Fin 1024) : val_main_v98 (F := Ideal) x.dact x.w x.gp x.dout x.a x.wo x.res x.gz (ix2 r k) = da x r k := by
  pointwise [val_main_v1, val_main_v93, val_main_v98]
  simp only [refDz hr]
  rfl
theorem refDgz (l : Fin 1024) : val_main_v97 (F := Ideal) x.dact x.w x.gp x.dout x.a x.wo x.res x.gz (ix2 0 l) = dgz x l := by
  pointwise [val_main_v17, val_main_v18, val_main_v73, val_main_cst_12, val_main_v74, val_main_v75, val_main_cst_13, val_main_v78, val_main_v97]
  simp only [refZ, refRms, refDh hr, Finset.univ_unique, Finset.sum_singleton]
  exact Finset.sum_congr rfl fun r _ => mul_comm _ _

end Reference

/-- The arguments as the reference's memory holds them. -/
abbrev X (m : (ℓ : Loc nD τ sig) → Buf (Elt Ideal) ℓ) (c : Dev nD) : Args := ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7)⟩

/-- The reference's run, where its arguments are real: its results are the gradients as the kernel has them. -/
theorem run_grad (m : (ℓ : Loc nD τ sig) → Buf (Elt Ideal) ℓ) (ρ : Dev nD → PrngReg)
    (hr : ∀ c : Dev nD, Real (X m c)) :
    θ_run (defs (F := Ideal)) (onTc (τ := τ) (main (F := Ideal))) ⟨m, fun _ => 0, ρ⟩ fun r => ∀ c : Dev nD,
      r.2.mem ((c.tc : Thread nD τ).loc main_v94) = (fun i : S4096x1024.Idx => dh (X m c) (i 0) (i 1))
      ∧ r.2.mem ((c.tc : Thread nD τ).loc main_v95) = (fun i : S1x1024.Idx => dgp (X m c) (i 1))
      ∧ r.2.mem ((c.tc : Thread nD τ).loc main_v96) = (fun i : S4096x1024.Idx => dz (X m c) (i 0) (i 1))
      ∧ r.2.mem ((c.tc : Thread nD τ).loc main_v97) = (fun i : S1x1024.Idx => dgz (X m c) (i 1))
      ∧ r.2.mem ((c.tc : Thread nD τ).loc main_v98) = (fun i : S4096x1024.Idx => da (X m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨
    (h c).1.trans ((val_main_v94_eq _).trans (funext fun i => by idx_vars i; rw [val_main_v94_apply]; exact refDh (hr c) i0 i1)),
    (h c).2.1.trans ((val_main_v95_eq _).trans (funext fun i => by idx_vars i; obtain rfl : i0 = 0 := Subsingleton.elim _ _; exact refDgp (hr c) i1)),
    (h c).2.2.1.trans ((val_main_v96_eq _).trans (funext fun i => by idx_vars i; rw [val_main_v96_apply]; exact refDz (hr c) i0 i1)),
    (h c).2.2.2.1.trans ((val_main_v97_eq _).trans (funext fun i => by idx_vars i; obtain rfl : i0 = 0 := Subsingleton.elim _ _; exact refDgz (hr c) i1)),
    (h c).2.2.2.2.1.trans ((val_main_v98_eq _).trans (funext fun i => by idx_vars i; exact refDa (hr c) i0 i1)),
    (h c).2.2.2.2.2⟩) (Cert.SwigluBwdRefIdeal.Value.run m ρ)

end Cert.SwigluBwdRefIdeal.Read

namespace Cert.Pre_inb_finite

/-- The shape facts of the predicate. -/
instance facts : Facts := by constructor <;> decide

/-- Where the predicate holds, the arguments are real. -/
theorem real [Facts] {a0 : FVec Ideal S4096x2816 .bf16} {a1 : FVec Ideal S1024x5632 .bf16} {a2 : FVec Ideal S1x1024 .f32} {a3 : FVec Ideal S4096x1024 .bf16} {a4 : FVec Ideal S4096x1024 .bf16} {a5 : FVec Ideal S1024x1024 .bf16} {a6 : FVec Ideal S4096x1024 .bf16} {a7 : FVec Ideal S1x1024 .f32}
    (h : fn a0 a1 a2 a3 a4 a5 a6 a7 = fun _ => 1#1) :
    Cert.SwigluBwdRefIdeal.Read.Real ⟨a0, a1, a2, a3, a4, a5, a6, a7⟩ := by
  obtain ⟨e, e7⟩ := Row.and_split (congrFun h fun k => k.elim0)
  obtain ⟨e, e6⟩ := Row.and_split e
  obtain ⟨e, e5⟩ := Row.and_split e
  obtain ⟨e, e4⟩ := Row.and_split e
  obtain ⟨e, e3⟩ := Row.and_split e
  obtain ⟨e, e2⟩ := Row.and_split e
  obtain ⟨e0, e1⟩ := Row.and_split e
  exact ⟨Row.isReal_of_all e0 fun _ => Row.cTop16, Row.isReal_of_all e1 fun _ => Row.cTop16, Row.isReal_of_all e2 fun _ => Row.cTop, Row.isReal_of_all e3 fun _ => Row.cTop16, Row.isReal_of_all e4 fun _ => Row.cTop16, Row.isReal_of_all e5 fun _ => Row.cTop16, Row.isReal_of_all e6 fun _ => Row.cTop16, Row.isReal_of_all e7 fun _ => Row.cTop⟩

end Cert.Pre_inb_finite

namespace Cert.Proof

/-- The reference of the gated rows' backward pass runs to its end and leaves its arguments as they were. -/
theorem swiglubwd_ref : quiescent_SwigluBwdRefIdeal (hSwigluBwdRefIdeal := Cert.SwigluBwdRefIdeal.Gen.facts) := by
  intro m g _
  run_from Cert.SwigluBwdRefIdeal.Value.run m g
  · exact fun _ => by simp only [and_self]
  · exact sem_eq_zero_of_no_sems (sig := Cert.SwigluBwdRefIdeal.sig) (by decide) _

set_option maxHeartbeats 2000000 in
/-- The kernel of the gated rows' backward pass leaves in its five results what the gradient of the forward lines leaves there, of real arguments. -/
theorem swiglubwd_value : algebraic_SwigluBwdIdeal_SwigluBwdRefIdeal_pre_inb_finite (hSwigluBwdIdeal := Cert.SwigluBwdIdeal.Gen.facts)
    (hSwigluBwdRefIdeal := Cert.SwigluBwdRefIdeal.Gen.facts) (hPre_inb_finite := Cert.Pre_inb_finite.facts) := by
  pair_intro
  · run_from Cert.SwigluBwdIdeal.Gen.run_main m g
  · have hx : ∀ c, Cert.SwigluBwdRefIdeal.Read.X m' c = Cert.SwigluBwdIdeal.Value.X m c := fun c => by
      obtain ⟨e0, e1, e2, e3, e4, e5, e6, e7⟩ := hagree c
      unfold Cert.SwigluBwdRefIdeal.Read.X Cert.SwigluBwdIdeal.Value.X
      rw [e0, e1, e2, e3, e4, e5, e6, e7]
    have run := Cert.SwigluBwdRefIdeal.Read.run_grad m' g' fun c => by
      rw [hx c]
      exact Cert.Pre_inb_finite.real (hpre c)
    run_from run
    · rw [hx c]; exact (Cert.SwigluBwdIdeal.Value.final11 m c).symm
    · rw [hx c]; exact (Cert.SwigluBwdIdeal.Value.final12 m c).symm
    · rw [hx c]; exact (Cert.SwigluBwdIdeal.Value.final13 m c).symm
    · rw [hx c]; exact (Cert.SwigluBwdIdeal.Value.final14 m c).symm
    · rw [hx c]; exact (Cert.SwigluBwdIdeal.Value.final15 m c).symm

end Cert.Proof

end
-- ==== Proof.BandOps.lean ====
module

public import Idealize.ShloMosaic.Lib.Pointwise
public import Idealize.ShloMosaic.Lib.Pipeline.Value
public import proofs.«01_k».proof.AttnFwdIdeal

@[expose] public section

set_option maxRecDepth 16384

noncomputable section

namespace Cert.Band

open Idealize.ShloMosaic

/-! The banded attention's block, operation by operation: sixteen heads in four groups of four, 128 queries and the 256
keys of the block and the one before, keys down and queries across. -/

/-- What a rotation of `n` columns of a head's 64 rows asks of the shapes. -/
structure Wide (n : Nat) : Prop where
  s0 : (⟨3, ![3, 64, n]⟩ : Shape).Slices ![0, 0, 0] ⟨3, ![1, 64, n]⟩
  s1 : (⟨3, ![3, 64, n]⟩ : Shape).Slices ![1, 0, 0] ⟨3, ![1, 64, n]⟩
  s2 : (⟨3, ![3, 64, n]⟩ : Shape).Slices ![2, 0, 0] ⟨3, ![1, 64, n]⟩
  cast : (⟨3, ![1, 64, n]⟩ : Shape).ShapeCasts ⟨2, ![64, n]⟩
  rot : (⟨2, ![64, n]⟩ : Shape).Rotates 0 none

theorem wide128 : Wide 128 := ⟨by decide, by decide, by decide, by decide, by decide⟩
theorem wide256 : Wide 256 := ⟨by decide, by decide, by decide, by decide, by decide⟩

/-- The three factors of the rotation, each 64 rows. -/
def fac {n : Nat} (w : Wide n) (tab : FVec Ideal ⟨3, ![3, 64, n]⟩ .f32) : FVec Ideal ⟨2, ![64, n]⟩ .f32 :=
  shapeCast _ (extractStridedSlice ⟨3, ![1, 64, n]⟩ ![0, 0, 0] tab w.s0) w.cast
def up {n : Nat} (w : Wide n) (tab : FVec Ideal ⟨3, ![3, 64, n]⟩ .f32) : FVec Ideal ⟨2, ![64, n]⟩ .f32 :=
  shapeCast _ (extractStridedSlice ⟨3, ![1, 64, n]⟩ ![1, 0, 0] tab w.s1) w.cast
def down {n : Nat} (w : Wide n) (tab : FVec Ideal ⟨3, ![3, 64, n]⟩ .f32) : FVec Ideal ⟨2, ![64, n]⟩ .f32 :=
  shapeCast _ (extractStridedSlice ⟨3, ![1, 64, n]⟩ ![2, 0, 0] tab w.s2) w.cast

/-- A head's rows rotated: each column by its position's angle. -/
def rope {n : Nat} (w : Wide n) (x : FVec Ideal ⟨2, ![64, n]⟩ .f32) (tab : FVec Ideal ⟨3, ![3, 64, n]⟩ .f32) :
    FVec Ideal ⟨2, ![64, n]⟩ .f32 :=
  addf (addf (mulf x (fac w tab)) (mulf (dynamicRotate 0 56#32 none x w.rot) (up w tab)))
    (mulf (dynamicRotate 0 8#32 none x w.rot) (down w tab))

theorem rope128 (x : FVec Ideal ⟨2, ![64, 128]⟩ .f32) (tab : FVec Ideal ⟨3, ![3, 64, 128]⟩ .f32) (d : Fin 64) (k : Fin 128) :
    rope wide128 x tab (ix2 d k) = x (ix2 d k) * tab (ix3 0 d k)
      + x (ix2 ⟨(d.val + 8) % 64, by omega⟩ k) * tab (ix3 1 d k) + x (ix2 ⟨(d.val + 56) % 64, by omega⟩ k) * tab (ix3 2 d k) := by
  pointwise [rope, fac, up, down]
  rfl
theorem rope256 (x : FVec Ideal ⟨2, ![64, 256]⟩ .f32) (tab : FVec Ideal ⟨3, ![3, 64, 256]⟩ .f32) (d : Fin 64) (k : Fin 256) :
    rope wide256 x tab (ix2 d k) = x (ix2 d k) * tab (ix3 0 d k)
      + x (ix2 ⟨(d.val + 8) % 64, by omega⟩ k) * tab (ix3 1 d k) + x (ix2 ⟨(d.val + 56) % 64, by omega⟩ k) * tab (ix3 2 d k) := by
  pointwise [rope, fac, up, down]
  rfl

/-! The numbers the comparisons are made of. -/

theorem sgt_small {a b : Nat} (ha : a < 2 ^ 31) (hb : b < 2 ^ 31) :
    IntOp.cmpi .sgt (BitVec.ofNat 32 a) (BitVec.ofNat 32 b) = if b < a then 1#1 else 0#1 := by
  have h : (BitVec.ofNat 32 b).slt (BitVec.ofNat 32 a) = decide (b < a) := by
    rw [BitVec.slt_eq_decide, BitVec.toInt_ofNat', BitVec.toInt_ofNat']
    simp only [Int.bmod_def]
    exact decide_eq_decide.mpr (by omega)
  show BitVec.ofBool ((BitVec.ofNat 32 b).slt (BitVec.ofNat 32 a)) = _
  rw [h]
  by_cases hlt : b < a <;> simp [hlt]
theorem sle_small {a b : Nat} (ha : a < 2 ^ 31) (hb : b < 2 ^ 31) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_ofNat', BitVec.toInt_ofNat']
    simp only [Int.bmod_def]
    exact decide_eq_decide.mpr (by omega)
  show BitVec.ofBool ((BitVec.ofNat 32 a).sle (BitVec.ofNat 32 b)) = _
  rw [h]
  by_cases hle : a ≤ b <;> simp [hle]
theorem sge_small {a b : Nat} (ha : a < 2 ^ 31) (hb : b < 2 ^ 31) :
    IntOp.cmpi .sge (BitVec.ofNat 32 a) (BitVec.ofNat 32 b) = if b ≤ a then 1#1 else 0#1 := sle_small hb ha

/-- A column of a group's 512 is one of four heads' 128 queries. -/
def hd (c : Fin 512) : Fin 4 := ⟨c.val / 128, by omega⟩
def qi (c : Fin 512) : Fin 128 := ⟨c.val % 128, by omega⟩

/-- Key `k` is one of the 128 up to query `i`, and in the first block none of the 128 before it. -/
def Seen (n : Nat) (i : Fin 128) (k : Fin 256) : Prop := (i.val < k.val ∧ k.val ≤ i.val + 128) ∧ (0 < n ∨ 128 ≤ k.val)
instance (n : Nat) (i : Fin 128) (k : Fin 256) : Decidable (Seen n i k) := by unfold Seen; infer_instance

/-- Four heads side by side. -/
def along {α : Type} {r : Nat} (h : Shape.Concatenates [⟨2, ![r, 128]⟩, ⟨2, ![r, 128]⟩, ⟨2, ![r, 128]⟩, ⟨2, ![r, 128]⟩] ⟨2, ![r, 512]⟩ 1)
    (x : Fin 4 → ((⟨2, ![r, 128]⟩ : Shape).Idx → α)) : (⟨2, ![r, 512]⟩ : Shape).Idx → α :=
  concatenate ⟨2, ![r, 512]⟩ 1 (List.ofFn fun g : Fin 4 => (⟨⟨2, ![r, 128]⟩, x g⟩ : (s : Shape) × (s.Idx → α))) h
theorem along_apply {α : Type} {r : Nat} (h) (x : Fin 4 → ((⟨2, ![r, 128]⟩ : Shape).Idx → α)) (k : Fin r) (c : Fin 512) :
    along h x (ix2 k c) = x (hd c) (ix2 k (qi c)) := by
  refine concatenate_ofFn_apply (t := ⟨2, ![r, 512]⟩) (1 : Fin 2) x h rfl 128 rfl (ix2 k c) (hd c) rfl (ix2 k (qi c)) rfl fun b hb => ?_
  fin_cases b
  · rfl
  · exact absurd rfl hb
theorem along256 : Shape.Concatenates [⟨2, ![256, 128]⟩, ⟨2, ![256, 128]⟩, ⟨2, ![256, 128]⟩, ⟨2, ![256, 128]⟩] ⟨2, ![256, 512]⟩ 1 := by decide
theorem along64 : Shape.Concatenates [⟨2, ![64, 128]⟩, ⟨2, ![64, 128]⟩, ⟨2, ![64, 128]⟩, ⟨2, ![64, 128]⟩] ⟨2, ![64, 512]⟩ 1 := by decide

/-- Which keys a query sees, for four heads. -/
def bandOne (n : BitVec 32) : IVec ⟨2, ![256, 128]⟩ 1 :=
  andi (andi (cmpi .sgt (iota .tc ⟨2, ![256, 128]⟩ 32 [0] (by decide)) (iota .tc ⟨2, ![256, 128]⟩ 32 [1] (by decide)))
      (cmpi .sle (iota .tc ⟨2, ![256, 128]⟩ 32 [0] (by decide)) (addi (iota .tc ⟨2, ![256, 128]⟩ 32 [1] (by decide)) (broadcast _ 128#32))))
    (ori (broadcast _ (Scalar.cmpi .sgt n 0#32)) (cmpi .sge (iota .tc ⟨2, ![256, 128]⟩ 32 [0] (by decide)) (broadcast _ 128#32)))
def band (n : BitVec 32) : IVec ⟨2, ![256, 512]⟩ 1 := along along256 fun _ => bandOne n

theorem bandOne_apply (n : Nat) (hn : n < 2 ^ 31) (k : Fin 256) (i : Fin 128) :
    bandOne (BitVec.ofNat 32 n) (ix2 k i) = if Seen n i k then 1#1 else 0#1 := by
  have e1 : BitVec.ofNat 32 i.val + 128#32 = BitVec.ofNat 32 (i.val + 128) := by
    rw [BitVec.ofNat_add]
  have e : bandOne (BitVec.ofNat 32 n) (ix2 k i) = (IntOp.cmpi .sgt (BitVec.ofNat 32 k.val) (BitVec.ofNat 32 i.val)
      &&& IntOp.cmpi .sle (BitVec.ofNat 32 k.val) (BitVec.ofNat 32 i.val + 128#32))
      &&& (IntOp.cmpi .sgt (BitVec.ofNat 32 n) (BitVec.ofNat 32 0) ||| IntOp.cmpi .sge (BitVec.ofNat 32 k.val) (BitVec.ofNat 32 128)) := by
    pointwise [bandOne]
    rfl
  rw [e, e1, sgt_small (by omega) (by omega), sle_small (by omega) (by omega), sgt_small hn (by omega), sge_small (by omega) (by omega)]
  unfold Seen
  by_cases h1 : i.val < k.val <;> by_cases h2 : k.val ≤ i.val + 128 <;> by_cases h3 : 0 < n <;> by_cases h4 : 128 ≤ k.val <;> simp [h1, h2, h3, h4]
theorem band_apply (n : Nat) (hn : n < 2 ^ 31) (k : Fin 256) (c : Fin 512) :
    band (BitVec.ofNat 32 n) (ix2 k c) = if Seen n (qi c) k then 1#1 else 0#1 := by
  rw [band, along_apply, bandOne_apply n hn]

/-- Which head a column is of. -/
def which : IVec ⟨2, ![1, 512]⟩ 32 :=
  let v364 : IVec ⟨2, ![1, 512]⟩ 32 := iota .tc ⟨2, ![1, 512]⟩ 32 [1] (by decide)
  let v366 := divsi v364 (broadcast _ 128#32)
  let v373 : IVec ⟨2, ![1, 512]⟩ 32 := subi (extui 32 (cmpi .sgt v364 (broadcast _ 0#32)) (by decide)) (extui 32 (cmpi .slt v364 (broadcast _ 0#32)) (by decide))
  let v378 : BitVec 32 := Scalar.subi (Scalar.extui (Scalar.cmpi .sgt 128#32 0#32)) (Scalar.extui (Scalar.cmpi .slt 128#32 0#32))
  select (andi (cmpi .ne v373 (broadcast _ v378)) (cmpi .ne (remsi v364 (broadcast _ 128#32)) (broadcast _ 0#32))) (subi v366 (broadcast _ 1#32)) v366
theorem which_apply : ∀ c : Fin 512, which (ix2 0 c) = BitVec.ofNat 32 (hd c).val := by decide +kernel

/-- Four heads' sinks along the columns. -/
def sinkRow (s : Fin 4 → Ideal .f32) : FVec Ideal ⟨2, ![1, 512]⟩ .f32 :=
  select (cmpi .eq which (broadcast _ 3#32)) (broadcast _ (s 3)) <|
    select (cmpi .eq which (broadcast _ 2#32)) (broadcast _ (s 2)) <|
      select (cmpi .eq which (broadcast _ 1#32)) (broadcast _ (s 1)) <|
        select (cmpi .eq which (broadcast _ 0#32)) (broadcast _ (s 0)) (broadcast _ (Scalar.ofBits .f32 0x00000000#32))
theorem sinkRow_apply (s : Fin 4 → Ideal .f32) (c : Fin 512) : sinkRow s (ix2 0 c) = s (hd c) := by
  pointwise [sinkRow]
  simp only [which_apply]
  generalize hd c = g
  fin_cases g <;> rfl

/-! What the block is loaded as: columns are positions. -/

theorem pair256 : Shape.Concatenates [⟨2, ![256, 128]⟩, ⟨2, ![256, 128]⟩] ⟨2, ![256, 256]⟩ 1 := by decide
theorem pairTab : Shape.Concatenates [⟨3, ![3, 64, 128]⟩, ⟨3, ![3, 64, 128]⟩] ⟨3, ![3, 64, 256]⟩ 2 := by decide
/-- The keys or the values of the block before and of this one. -/
def both (p c : FVec Ideal ⟨2, ![128, 256]⟩ .bf16) : FVec Ideal ⟨2, ![256, 256]⟩ .f32 :=
  concatenate ⟨2, ![256, 256]⟩ 1 [⟨⟨2, ![256, 128]⟩, transpose ⟨2, ![256, 128]⟩ [1, 0] (extf .f32 p (by decide)) (by decide)⟩,
    ⟨⟨2, ![256, 128]⟩, transpose ⟨2, ![256, 128]⟩ [1, 0] (extf .f32 c (by decide)) (by decide)⟩] pair256
theorem both_apply (p c : FVec Ideal ⟨2, ![128, 256]⟩ .bf16) (r k : Fin 256) : both p c (ix2 r k)
    = if h : k.val < 128 then p (ix2 ⟨k.val, h⟩ r) else c (ix2 ⟨k.val - 128, by omega⟩ r) := by
  pointwise [both]
/-- The rotations' factors of the block before and of this one. -/
def bothTab (p c : FVec Ideal ⟨3, ![3, 64, 128]⟩ .f32) : FVec Ideal ⟨3, ![3, 64, 256]⟩ .f32 :=
  concatenate ⟨3, ![3, 64, 256]⟩ 2 [⟨⟨3, ![3, 64, 128]⟩, shapeCast _ p (by decide)⟩, ⟨⟨3, ![3, 64, 128]⟩, shapeCast _ c (by decide)⟩] pairTab
theorem bothTab_apply (p c : FVec Ideal ⟨3, ![3, 64, 128]⟩ .f32) (a : Fin 3) (d : Fin 64) (k : Fin 256) : bothTab p c (ix3 a d k)
    = if h : k.val < 128 then p (ix3 a d ⟨k.val, h⟩) else c (ix3 a d ⟨k.val - 128, by omega⟩) := by
  pointwise [bothTab]
/-- The queries, heads down. -/
def flipQ (q : FVec Ideal ⟨2, ![128, 1024]⟩ .bf16) : FVec Ideal ⟨2, ![1024, 128]⟩ .f32 :=
  transpose ⟨2, ![1024, 128]⟩ [1, 0] (extf .f32 q (by decide)) (by decide)

/-! Four key heads; each serves four query heads. -/

theorem cut256 : ∀ j : Fin 4, (⟨2, ![256, 256]⟩ : Shape).Slices ![64 * j.val, 0] ⟨2, ![64, 256]⟩ := by decide
theorem cut1024 : ∀ h : Fin 16, (⟨2, ![1024, 128]⟩ : Shape).Slices ![64 * h.val, 0] ⟨2, ![64, 128]⟩ := by decide

/-- A head's keys rotated; a head's values; four heads' queries rotated and scaled, or plain. -/
def key (j : Fin 4) (kt : FVec Ideal ⟨2, ![256, 256]⟩ .f32) (tab : FVec Ideal ⟨3, ![3, 64, 256]⟩ .f32) : FVec Ideal ⟨2, ![64, 256]⟩ .bf16 :=
  truncf .bf16 (rope wide256 (extractStridedSlice ⟨2, ![64, 256]⟩ ![64 * j.val, 0] kt (cut256 j)) tab) (by decide)
def value (j : Fin 4) (vt : FVec Ideal ⟨2, ![256, 256]⟩ .f32) : FVec Ideal ⟨2, ![64, 256]⟩ .bf16 :=
  truncf .bf16 (extractStridedSlice ⟨2, ![64, 256]⟩ ![64 * j.val, 0] vt (cut256 j)) (by decide)
def query (j : Fin 4) (qt : FVec Ideal ⟨2, ![1024, 128]⟩ .f32) (tab : FVec Ideal ⟨3, ![3, 64, 128]⟩ .f32) : FVec Ideal ⟨2, ![64, 512]⟩ .bf16 :=
  truncf .bf16 (along along64 fun g : Fin 4 =>
    mulf (rope wide128 (extractStridedSlice ⟨2, ![64, 128]⟩ ![64 * (4 * j.val + g.val), 0] qt (cut1024 ⟨4 * j.val + g.val, by omega⟩)) tab)
      (broadcast _ (Scalar.ofBits .f32 0x3E000000#32))) (by decide)

/-- The scores: keys down, queries across. -/
def dotScore : DotDims ⟨2, ![64, 256]⟩ ⟨2, ![64, 512]⟩ ⟨2, ![256, 512]⟩ := ⟨[0], [0], [1], [1], [], [], by decide⟩
def score (k : FVec Ideal ⟨2, ![64, 256]⟩ .bf16) (q : FVec Ideal ⟨2, ![64, 512]⟩ .bf16) : FVec Ideal ⟨2, ![256, 512]⟩ .f32 :=
  matmul dotScore none k q (constant ⟨2, ![256, 512]⟩ .f32 0x00000000#32)
/-- The scores of the keys a query sees, the others' at the named constant. -/
def masked (ninf : Ideal .bf16) (mask : IVec ⟨2, ![256, 512]⟩ 1) (s : FVec Ideal ⟨2, ![256, 512]⟩ .f32) : FVec Ideal ⟨2, ![256, 512]⟩ .bf16 :=
  select mask (truncf .bf16 s (by decide)) (broadcast _ ninf)
/-- The greatest score of a query, its sink included. -/
def top (s : FVec Ideal ⟨2, ![256, 512]⟩ .bf16) (sink : FVec Ideal ⟨2, ![1, 512]⟩ .f32) : FVec Ideal ⟨2, ![1, 512]⟩ .bf16 :=
  truncf .bf16 (maximumf (extf .f32 (shapeCast ⟨2, ![1, 512]⟩ (multiReduction .maximumf [0] ⟨1, ![512]⟩ s 0xFF80#16 (by decide) (.inr rfl) rfl) (by decide)) (by decide)) sink) (by decide)
/-- The exponentials of the scores less the greatest. -/
def expo (s : FVec Ideal ⟨2, ![256, 512]⟩ .bf16) (m : FVec Ideal ⟨2, ![1, 512]⟩ .bf16) : FVec Ideal ⟨2, ![256, 512]⟩ .bf16 :=
  exp (subf s (broadcastTo _ m (by decide)))
def dotSum : DotDims ⟨2, ![8, 256]⟩ ⟨2, ![256, 512]⟩ ⟨2, ![8, 512]⟩ := ⟨[1], [0], [0], [1], [], [], by decide⟩
/-- One over the sum of the exponentials. -/
def inverse (e : FVec Ideal ⟨2, ![256, 512]⟩ .bf16) (sink m : FVec Ideal ⟨2, ![1, 512]⟩ .f32) : FVec Ideal ⟨2, ![1, 512]⟩ .f32 :=
  divf (broadcast _ (Scalar.ofBits .f32 0x3F800000#32))
    (addf (extractStridedSlice ⟨2, ![1, 512]⟩ ![0, 0] (matmul dotSum none (broadcast ⟨2, ![8, 256]⟩ (Scalar.ofBits (F := Ideal) .bf16 0x3F80#16)) e (constant ⟨2, ![8, 512]⟩ .f32 0x00000000#32)) (by decide))
      (exp (subf sink m)))
def dotOut : DotDims ⟨2, ![64, 256]⟩ ⟨2, ![256, 512]⟩ ⟨2, ![64, 512]⟩ := ⟨[1], [0], [0], [1], [], [], by decide⟩
/-- The values weighted. -/
def weighted (v : FVec Ideal ⟨2, ![64, 256]⟩ .bf16) (e : FVec Ideal ⟨2, ![256, 512]⟩ .bf16) (inv : FVec Ideal ⟨2, ![1, 512]⟩ .f32) : FVec Ideal ⟨2, ![64, 512]⟩ .f32 :=
  mulf (matmul dotOut none v e (constant ⟨2, ![64, 512]⟩ .f32 0x00000000#32)) (broadcastTo _ inv (by decide))

theorem key_apply (j : Fin 4) (kt) (tab) (d : Fin 64) (k : Fin 256) : key j kt tab (ix2 d k)
    = (kt (ix2 ⟨64 * j.val + d.val, by omega⟩ k) * tab (ix3 0 d k) + kt (ix2 ⟨64 * j.val + (d.val + 8) % 64, by omega⟩ k) * tab (ix3 1 d k)
      + kt (ix2 ⟨64 * j.val + (d.val + 56) % 64, by omega⟩ k) * tab (ix3 2 d k) : EReal) := by
  pointwise [key, rope256]
theorem value_apply (j : Fin 4) (vt) (d : Fin 64) (k : Fin 256) : value j vt (ix2 d k) = (vt (ix2 ⟨64 * j.val + d.val, by omega⟩ k) : EReal) := by
  pointwise [value]
theorem c8 : Ideal.ofBits .f32 0x3E000000#32 = ((1 / 8 : ℝ) : EReal) := by
  simp [Ideal.ofBits, Ideal.ieee, -EReal.coe_mul]; norm_num
theorem cBot : Ideal.ofBits .bf16 0xFF80#16 = ⊥ := by simp [Ideal.ofBits, Ideal.ieee]
theorem query_apply (j : Fin 4) (q) (tab) (d : Fin 64) (c : Fin 512) : query j (flipQ q) tab (ix2 d c)
    = ((q (ix2 (qi c) ⟨64 * (4 * j.val + (hd c).val) + d.val, by have := (hd c).isLt; omega⟩) * tab (ix3 0 d (qi c))
      + q (ix2 (qi c) ⟨64 * (4 * j.val + (hd c).val) + (d.val + 8) % 64, by have := (hd c).isLt; omega⟩) * tab (ix3 1 d (qi c))
      + q (ix2 (qi c) ⟨64 * (4 * j.val + (hd c).val) + (d.val + 56) % 64, by have := (hd c).isLt; omega⟩) * tab (ix3 2 d (qi c))) * ((1 / 8 : ℝ) : EReal) : EReal) := by
  pointwise [query, along_apply, rope128, flipQ]
  have h8 : (Scalar.ofBits (F := Ideal) .f32 0x3E000000#32 : EReal) = ((1 / 8 : ℝ) : EReal) := c8
  exact congrArg _ h8
theorem score_apply (k q) (l : Fin 256) (c : Fin 512) : score k q (ix2 l c) = (∑ d : Fin 64, k (ix2 d l) * q (ix2 d c) : EReal) := by
  pointwise [score, dotScore]
theorem masked_apply (n : Nat) (hn : n < 2 ^ 31) (s) (l : Fin 256) (c : Fin 512) : masked (⊥ : EReal) (band (BitVec.ofNat 32 n)) s (ix2 l c)
    = if Seen n (qi c) l then (s (ix2 l c) : EReal) else ⊥ := by
  pointwise [masked]
  rw [band_apply n hn]
  by_cases h : Seen n (qi c) l <;> simp only [if_pos, if_neg, h, not_false_iff] <;> rfl
theorem top_apply (s sink) (c : Fin 512) : top s sink (ix2 0 c) = (max (Finset.univ.sup fun l : Fin 256 => (s (ix2 l c) : EReal)) (sink (ix2 0 c)) : EReal) := by
  pointwise [top]
  rw [show Ideal.ofBits .bf16 65408#16 = ⊥ from cBot]
  rfl
theorem expo_apply (s m) (l : Fin 256) (c : Fin 512) : expo s m (ix2 l c) = Ideal.exp (s (ix2 l c) - m (ix2 0 c) : EReal) := by
  pointwise [expo]
theorem inverse_apply (e sink m) (c : Fin 512) : inverse e sink m (ix2 0 c)
    = Ideal.div 1 ((∑ l : Fin 256, e (ix2 l c) : EReal) + Ideal.exp (sink (ix2 0 c) - m (ix2 0 c) : EReal)) := by
  pointwise [inverse, dotSum]
theorem weighted_apply (v e inv) (d : Fin 64) (c : Fin 512) : weighted v e inv (ix2 d c)
    = ((∑ l : Fin 256, v (ix2 d l) * e (ix2 l c) : EReal) * inv (ix2 0 c) : EReal) := by
  pointwise [weighted, dotOut]

end Cert.Band

end
-- ==== Proof.BandSpec.lean ====
module

public import proofs.«01_k».proof.Proof.BandOps

@[expose] public section

set_option maxRecDepth 16384

noncomputable section

namespace Cert.Band

open Idealize.ShloMosaic

/-! The banded attention of whole arrays, and what a block's loads make of it. -/

/-- The arguments: queries, keys and values, sinks, and the rotations' three factors. -/
structure Arr where
  q : FVec Ideal ⟨2, ![4096, 1024]⟩ .bf16
  kv : FVec Ideal ⟨2, ![4096, 512]⟩ .bf16
  sk : FVec Ideal ⟨2, ![1, 16]⟩ .f32
  tab : FVec Ideal ⟨3, ![3, 64, 4096]⟩ .f32

/-- Query `i` of block `n` as a position, and key `k` of the 256 it may see. -/
def pos (n : Fin 32) (i : Fin 128) : Fin 4096 := ⟨128 * n.val + i.val, by omega⟩
def slot (n : Fin 32) (k : Fin 256) : Fin 4096 :=
  ⟨if k.val < 128 then 128 * (n.val - 1) + k.val else 128 * n.val + (k.val - 128), by split <;> omega⟩
/-- A query head's key head. -/
def kvOf (h : Fin 16) : Fin 4 := ⟨h.val / 4, by omega⟩

section
variable (x : Arr)

/-- A head's 64 numbers rotated at position `t`. -/
def rot (t : Fin 4096) (f : Fin 64 → EReal) (d : Fin 64) : EReal :=
  f d * x.tab (ix3 0 d t) + f ⟨(d.val + 8) % 64, by omega⟩ * x.tab (ix3 1 d t) + f ⟨(d.val + 56) % 64, by omega⟩ * x.tab (ix3 2 d t)
def Q (t : Fin 4096) (h : Fin 16) : Fin 64 → EReal := rot x t fun d => x.q (ix2 t ⟨64 * h.val + d.val, by omega⟩)
def K (t : Fin 4096) (j : Fin 4) : Fin 64 → EReal := rot x t fun d => x.kv (ix2 t ⟨64 * j.val + d.val, by omega⟩)
def U (t : Fin 4096) (j : Fin 4) (d : Fin 64) : EReal := x.kv (ix2 t ⟨256 + (64 * j.val + d.val), by omega⟩)

variable (n : Fin 32) (h : Fin 16) (i : Fin 128)
/-- The score of a key, the greatest score, the exponentials, one over their sum, the head's result. -/
def S (k : Fin 256) : EReal :=
  if Seen n.val i k then ∑ d : Fin 64, K x (slot n k) (kvOf h) d * (Q x (pos n i) h d * ((1 / 8 : ℝ) : EReal)) else ⊥
def M : EReal := max (Finset.univ.sup (S x n h i)) (x.sk (ix2 0 h))
def E (k : Fin 256) : EReal := Ideal.exp (S x n h i k - M x n h i)
def I : EReal := Ideal.div 1 ((∑ k : Fin 256, E x n h i k) + Ideal.exp (x.sk (ix2 0 h) - M x n h i))
def O (d : Fin 64) : EReal := (∑ k : Fin 256, U x (slot n k) (kvOf h) d * E x n h i k) * I x n h i
end

/-- A block's loads. -/
structure Blk where
  n : Fin 32
  q : FVec Ideal ⟨2, ![128, 1024]⟩ .bf16
  kp : FVec Ideal ⟨2, ![128, 256]⟩ .bf16
  k : FVec Ideal ⟨2, ![128, 256]⟩ .bf16
  vp : FVec Ideal ⟨2, ![128, 256]⟩ .bf16
  v : FVec Ideal ⟨2, ![128, 256]⟩ .bf16
  tp : FVec Ideal ⟨3, ![3, 64, 128]⟩ .f32
  t : FVec Ideal ⟨3, ![3, 64, 128]⟩ .f32
  sk : FVec Ideal ⟨2, ![1, 16]⟩ .f32

/-- Query head `g` of key head `j`. -/
def head (j g : Fin 4) : Fin 16 := ⟨4 * j.val + g.val, by omega⟩

/-- The block's values, for a key head's four query heads. -/
def Blk.kt (b : Blk) (j : Fin 4) := key j (both b.kp b.k) (bothTab b.tp b.t)
def Blk.vt (b : Blk) (j : Fin 4) := value j (both b.vp b.v)
def Blk.qt (b : Blk) (j : Fin 4) := query j (flipQ b.q) b.t
def Blk.s (b : Blk) (j : Fin 4) := masked (⊥ : EReal) (band (BitVec.ofNat 32 b.n.val)) (score (b.kt j) (b.qt j))
def Blk.sink (b : Blk) (j : Fin 4) := sinkRow fun g => b.sk (ix2 0 (head j g))
def Blk.m (b : Blk) (j : Fin 4) := top (b.s j) (b.sink j)
def Blk.e (b : Blk) (j : Fin 4) := expo (b.s j) (b.m j)
def Blk.wide (b : Blk) (j : Fin 4) : FVec Ideal ⟨2, ![1, 512]⟩ .f32 := extf .f32 (b.m j) (by decide)
def Blk.inv (b : Blk) (j : Fin 4) := inverse (b.e j) (b.sink j) (b.wide j)
def Blk.o (b : Blk) (j : Fin 4) := weighted (b.vt j) (b.e j) (b.inv j)

/-- The block's loads are the arrays' rows. -/
structure Loads (b : Blk) (x : Arr) : Prop where
  q : ∀ i c, b.q (ix2 i c) = x.q (ix2 (pos b.n i) c)
  kp : ∀ i r, b.kp (ix2 i r) = x.kv (ix2 ⟨128 * (b.n.val - 1) + i.val, by omega⟩ ⟨r.val, by omega⟩)
  k : ∀ i r, b.k (ix2 i r) = x.kv (ix2 (pos b.n i) ⟨r.val, by omega⟩)
  vp : ∀ i r, b.vp (ix2 i r) = x.kv (ix2 ⟨128 * (b.n.val - 1) + i.val, by omega⟩ ⟨256 + r.val, by omega⟩)
  v : ∀ i r, b.v (ix2 i r) = x.kv (ix2 (pos b.n i) ⟨256 + r.val, by omega⟩)
  tp : ∀ a d i, b.tp (ix3 a d i) = x.tab (ix3 a d ⟨128 * (b.n.val - 1) + i.val, by omega⟩)
  t : ∀ a d i, b.t (ix3 a d i) = x.tab (ix3 a d (pos b.n i))
  sk : b.sk = x.sk

section
variable {b : Blk} {x : Arr} (H : Loads b x) (j : Fin 4) (c : Fin 512) (l : Fin 256)
include H

theorem Loads.keys (r : Fin 256) : both b.kp b.k (ix2 r l) = x.kv (ix2 (slot b.n l) ⟨r.val, by omega⟩) := by
  rw [both_apply]
  by_cases hl : l.val < 128
  · rw [dif_pos hl, H.kp]
    exact congrArg (fun p => x.kv (ix2 p _)) (Fin.ext (by simp only [slot, if_pos hl]))
  · rw [dif_neg hl, H.k]
    exact congrArg (fun p => x.kv (ix2 p _)) (Fin.ext (by simp only [slot, pos, if_neg hl]))
theorem Loads.values (r : Fin 256) : both b.vp b.v (ix2 r l) = x.kv (ix2 (slot b.n l) ⟨256 + r.val, by omega⟩) := by
  rw [both_apply]
  by_cases hl : l.val < 128
  · rw [dif_pos hl, H.vp]
    exact congrArg (fun p => x.kv (ix2 p _)) (Fin.ext (by simp only [slot, if_pos hl]))
  · rw [dif_neg hl, H.v]
    exact congrArg (fun p => x.kv (ix2 p _)) (Fin.ext (by simp only [slot, pos, if_neg hl]))
theorem Loads.tabs (a : Fin 3) (d : Fin 64) : bothTab b.tp b.t (ix3 a d l) = x.tab (ix3 a d (slot b.n l)) := by
  rw [bothTab_apply]
  by_cases hl : l.val < 128
  · rw [dif_pos hl, H.tp]
    exact congrArg (fun p => x.tab (ix3 a d p)) (Fin.ext (by simp only [slot, if_pos hl]))
  · rw [dif_neg hl, H.t]
    exact congrArg (fun p => x.tab (ix3 a d p)) (Fin.ext (by simp only [slot, pos, if_neg hl]))

theorem Loads.key (d : Fin 64) : b.kt j (ix2 d l) = K x (slot b.n l) j d := by
  rw [Blk.kt, key_apply]; simp only [H.keys, H.tabs]; rfl
theorem Loads.value (d : Fin 64) : b.vt j (ix2 d l) = U x (slot b.n l) j d := by
  rw [Blk.vt, value_apply]; simp only [H.values]; rfl
theorem Loads.query (d : Fin 64) : b.qt j (ix2 d c) = (Q x (pos b.n (qi c)) (head j (hd c)) d * ((1 / 8 : ℝ) : EReal) : EReal) := by
  rw [Blk.qt, query_apply]; simp only [H.q, H.t]; rfl
omit H in
theorem kvOf_head (j g : Fin 4) : kvOf (head j g) = j := Fin.ext (by simp only [kvOf, head]; omega)
theorem Loads.score : b.s j (ix2 l c) = S x b.n (head j (hd c)) (qi c) l := by
  rw [Blk.s, masked_apply _ (by omega), score_apply]; simp only [H.key, H.query, S, kvOf_head]
theorem Loads.sink : b.sink j (ix2 0 c) = x.sk (ix2 0 (head j (hd c))) := by rw [Blk.sink, sinkRow_apply, H.sk]
theorem Loads.top : b.m j (ix2 0 c) = M x b.n (head j (hd c)) (qi c) := by
  rw [Blk.m, top_apply, H.sink]; simp only [H.score]; rfl
theorem Loads.expo : b.e j (ix2 l c) = E x b.n (head j (hd c)) (qi c) l := by rw [Blk.e, expo_apply, H.score, H.top]; rfl
theorem Loads.inverse : b.inv j (ix2 0 c) = I x b.n (head j (hd c)) (qi c) := by
  have e : b.wide j (ix2 0 c) = M x b.n (head j (hd c)) (qi c) := H.top j c
  rw [Blk.inv, inverse_apply, H.sink, e]; simp only [H.expo]; rfl
theorem Loads.out (d : Fin 64) : b.o j (ix2 d c) = O x b.n (head j (hd c)) (qi c) d := by
  rw [Blk.o, weighted_apply, H.inverse]; simp only [H.value, H.expo, O, kvOf_head]
end

end Cert.Band

end
-- ==== Proof.BandReal.lean ====
module

public import proofs.«01_k».proof.Proof.BandSpec
public import proofs.«01_k».proof.Proof.RealRow
public import Idealize.ShloMosaic.PureOps.Ideal.Laws

@[expose] public section

set_option maxRecDepth 16384

noncomputable section

open Idealize.ShloMosaic Idealize.ShloMosaic.TcCoe Idealize.SL.Sem

namespace Cert.Band

/-! The rotation's factors from the positions' angles, and the attention's numbers as real numbers. -/

/-- The angle of position `t` at frequency `f`. -/
def angle (t : Fin 4096) (f : Fin 8) : EReal :=
  (FloatOps.sitofp .f32 (BitVec.ofNat 32 t.val) : Ideal .f32) * Ideal.pow (Ideal.ofBits .f32 1223959552#32)
    (Ideal.div (-(Ideal.ofBits .f32 1073741824#32 * (FloatOps.sitofp .f32 (BitVec.ofNat 32 f.val) : Ideal .f32))) (Ideal.ofBits .f32 1098907648#32))

theorem angle_real (t : Fin 4096) (f : Fin 8) : Row.IsReal (angle t f) := by
  have e1 : Ideal.ofBits .f32 1223959552#32 = ((500000 : ℝ) : EReal) := by
    simp [Ideal.ofBits, Ideal.ieee, -EReal.coe_mul]; norm_num
  have e2 : Ideal.ofBits .f32 1073741824#32 = ((2 : ℝ) : EReal) := Row.cTwo
  have e3 : Ideal.ofBits .f32 1098907648#32 = ((16 : ℝ) : EReal) := by
    simp [Ideal.ofBits, Ideal.ieee, -EReal.coe_mul]; norm_num
  have hs : ∀ b : BitVec 32, Row.IsReal (FloatOps.sitofp .f32 b : Ideal .f32) := fun b => ⟨_, rfl⟩
  have hd : Row.IsReal (Ideal.div (-(Ideal.ofBits .f32 1073741824#32 * (FloatOps.sitofp .f32 (BitVec.ofNat 32 f.val) : Ideal .f32))) (Ideal.ofBits .f32 1098907648#32)) := by
    rw [e2, e3, Ideal.div_coe (by norm_num)]
    exact ((Row.IsReal.coe _).mul (hs _)).neg.mul (.coe _)
  obtain ⟨r, hr⟩ := hd
  refine (hs _).mul ?_
  rw [hr, e1]
  exact ⟨_, rfl⟩

/-- The three factors of position `t` at lane `d`: sixteen lanes rotate in pairs eight apart, the rest stay. -/
def fac0 (t : Fin 4096) (d : Fin 64) : EReal := if d.val < 16 then Ideal.cos (angle t ⟨d.val % 8, by omega⟩) else 1
def fac1 (t : Fin 4096) (d : Fin 64) : EReal := if d.val < 8 then -Ideal.sin (angle t ⟨d.val % 8, by omega⟩) else 0
def fac2 (t : Fin 4096) (d : Fin 64) : EReal := if d.val < 8 then 0 else if d.val < 16 then Ideal.sin (angle t ⟨d.val % 8, by omega⟩) else 0
def ctab : FVec Ideal ⟨3, ![3, 64, 4096]⟩ .f32 := fun i =>
  if (i 0).val = 0 then fac0 (i 2) (i 1) else if (i 0).val = 1 then fac1 (i 2) (i 1) else fac2 (i 2) (i 1)

theorem cos_real {a : EReal} : Row.IsReal a → Row.IsReal (Ideal.cos a) | ⟨r, h⟩ => ⟨Real.cos r, by rw [h]; rfl⟩
theorem sin_real {a : EReal} : Row.IsReal a → Row.IsReal (Ideal.sin a) | ⟨r, h⟩ => ⟨Real.sin r, by rw [h]; rfl⟩
theorem zero_real : Row.IsReal 0 := ⟨0, rfl⟩
theorem one_real : Row.IsReal 1 := ⟨1, rfl⟩

theorem fac0_real (t d) : Row.IsReal (fac0 t d) := by
  unfold fac0
  split
  · exact cos_real (angle_real _ _)
  · exact one_real
theorem fac1_real (t d) : Row.IsReal (fac1 t d) := by
  unfold fac1
  split
  · exact (sin_real (angle_real _ _)).neg
  · exact zero_real
theorem fac2_real (t d) : Row.IsReal (fac2 t d) := by
  unfold fac2
  split
  · exact zero_real
  split
  · exact sin_real (angle_real _ _)
  · exact zero_real

/-- The attention of arguments with the rotation's own factors. -/
def arr (q : FVec Ideal ⟨2, ![4096, 1024]⟩ .bf16) (kv : FVec Ideal ⟨2, ![4096, 512]⟩ .bf16) (sk : FVec Ideal ⟨2, ![1, 16]⟩ .f32) : Arr :=
  ⟨q, kv, sk, ctab⟩

/-- Rotating by the factors is the pair's rotation on sixteen lanes and nothing on the rest. -/
theorem rot_eq (q kv sk) (t : Fin 4096) (f : Fin 64 → EReal) (d : Fin 64) :
    (if h1 : d.val < 8 then f ⟨d.val, by omega⟩ * Ideal.cos (angle t ⟨d.val, h1⟩) - f ⟨8 + d.val, by omega⟩ * Ideal.sin (angle t ⟨d.val, h1⟩)
      else if h2 : d.val - 8 < 8 then f ⟨8 + (d.val - 8), by omega⟩ * Ideal.cos (angle t ⟨d.val - 8, h2⟩) + f ⟨d.val - 8, by omega⟩ * Ideal.sin (angle t ⟨d.val - 8, h2⟩)
      else f ⟨16 + (d.val - 8 - 8), by omega⟩) = rot (arr q kv sk) t f d := by
  show _ = f d * fac0 t d + f ⟨(d.val + 8) % 64, _⟩ * fac1 t d + f ⟨(d.val + 56) % 64, _⟩ * fac2 t d
  unfold fac0 fac1 fac2
  by_cases h1 : d.val < 8
  · have e1 : (⟨d.val % 8, by omega⟩ : Fin 8) = ⟨d.val, h1⟩ := Fin.ext (Nat.mod_eq_of_lt h1)
    have e2 : (⟨(d.val + 8) % 64, by omega⟩ : Fin 64) = ⟨8 + d.val, by omega⟩ := Fin.ext (by show (d.val + 8) % 64 = 8 + d.val; omega)
    rw [dif_pos h1, if_pos (by omega), if_pos h1, if_pos h1, e1, e2, mul_zero, add_zero, mul_neg, ← sub_eq_add_neg]
  by_cases h2 : d.val - 8 < 8
  · have e1 : (⟨d.val % 8, by omega⟩ : Fin 8) = ⟨d.val - 8, h2⟩ := Fin.ext (by show d.val % 8 = d.val - 8; omega)
    have e2 : (⟨(d.val + 56) % 64, by omega⟩ : Fin 64) = ⟨d.val - 8, by omega⟩ := Fin.ext (by show (d.val + 56) % 64 = d.val - 8; omega)
    have e3 : (⟨8 + (d.val - 8), by omega⟩ : Fin 64) = d := Fin.ext (by show 8 + (d.val - 8) = d.val; omega)
    rw [dif_neg h1, dif_pos h2, if_pos (by omega), if_neg h1, if_neg h1, if_pos (by omega), e1, e2, e3, mul_zero, add_zero]
  · have e3 : (⟨16 + (d.val - 8 - 8), by omega⟩ : Fin 64) = d := Fin.ext (by show 16 + (d.val - 8 - 8) = d.val; omega)
    rw [dif_neg h1, dif_neg h2, if_neg (by omega), if_neg h1, if_neg h1, if_neg (by omega), e3, mul_zero, mul_zero, mul_one, add_zero, add_zero]

/-- The arguments are real numbers. -/
structure Reals (x : Arr) : Prop where
  q : ∀ i, Row.IsReal (x.q i)
  kv : ∀ i, Row.IsReal (x.kv i)
  sk : ∀ i, Row.IsReal (x.sk i)
  tab : ∀ i, Row.IsReal (x.tab i)

theorem ctab_real (i) : Row.IsReal (ctab i) := by
  unfold ctab
  split
  · exact fac0_real _ _
  split
  · exact fac1_real _ _
  · exact fac2_real _ _

section
variable {x : Arr} (H : Reals x)
include H

theorem Reals.rot (t : Fin 4096) {f : Fin 64 → EReal} (hf : ∀ d, Row.IsReal (f d)) (d : Fin 64) : Row.IsReal (rot x t f d) :=
  (((hf _).mul (H.tab _)).add ((hf _).mul (H.tab _))).add ((hf _).mul (H.tab _))
theorem Reals.Q (t h d) : Row.IsReal (Q x t h d) := H.rot t (fun _ => H.q _) d
theorem Reals.K (t j d) : Row.IsReal (K x t j d) := H.rot t (fun _ => H.kv _) d
theorem Reals.U (t j d) : Row.IsReal (U x t j d) := H.kv _

variable (n : Fin 32) (h : Fin 16) (i : Fin 128)

theorem Reals.S {k : Fin 256} (hs : Seen n.val i k) : Row.IsReal (S x n h i k) := by
  unfold Band.S
  rw [if_pos hs]
  exact .sum fun d => (H.K _ _ _).mul ((H.Q _ _ _).mul (.coe _))
omit H in
theorem S_hid {k : Fin 256} (hs : ¬ Seen n.val i k) : Band.S x n h i k = ⊥ := if_neg hs

theorem Reals.M : Row.IsReal (M x n h i) := by
  obtain ⟨s, hs⟩ := H.sk (ix2 0 h)
  have lt : Band.M x n h i < ⊤ := by
    refine max_lt ((Finset.sup_lt_iff (by exact bot_lt_top)).mpr fun k _ => ?_) (by rw [hs]; exact EReal.coe_lt_top s)
    by_cases h' : Seen n.val i k
    · obtain ⟨r, hr⟩ := H.S n h i h'
      rw [hr]; exact EReal.coe_lt_top r
    · rw [S_hid n h i h']; exact bot_lt_top
  have gt : ⊥ < Band.M x n h i := lt_of_lt_of_le (by rw [hs]; exact EReal.bot_lt_coe s) (le_max_right _ _)
  exact ⟨(Band.M x n h i).toReal, (EReal.coe_toReal lt.ne gt.ne').symm⟩

/-- An exponential is a real number not below zero, and zero at a key not seen. -/
theorem Reals.E (k : Fin 256) : ∃ r : ℝ, 0 ≤ r ∧ Band.E x n h i k = (r : EReal) := by
  obtain ⟨m, hm⟩ := H.M n h i
  unfold Band.E
  by_cases h' : Seen n.val i k
  · obtain ⟨r, hr⟩ := H.S n h i h'
    exact ⟨Real.exp (r - m), (Real.exp_pos _).le, by rw [hr, hm]; rfl⟩
  · exact ⟨0, le_rfl, by rw [S_hid n h i h', hm]; rfl⟩
theorem Reals.E_hid {k : Fin 256} (hs : ¬ Seen n.val i k) : Band.E x n h i k = 0 := by
  obtain ⟨m, hm⟩ := H.M n h i
  unfold Band.E
  rw [S_hid n h i hs, hm]; rfl

/-- The exponentials' sum, the sink's with them, is a positive real number. -/
theorem Reals.Z : ∃ z : ℝ, 0 < z ∧ (∑ k : Fin 256, Band.E x n h i k) + Ideal.exp (x.sk (ix2 0 h) - Band.M x n h i) = (z : EReal) := by
  choose e he hE using H.E n h i
  obtain ⟨m, hm⟩ := H.M n h i
  obtain ⟨s, hs⟩ := H.sk (ix2 0 h)
  refine ⟨(∑ k, e k) + Real.exp (s - m), add_pos_of_nonneg_of_pos (Finset.sum_nonneg fun k _ => he k) (Real.exp_pos _), ?_⟩
  rw [Finset.sum_congr rfl fun k _ => hE k, Row.coe_sum, hm, hs, EReal.coe_add]
  rfl
end

/-- A product scaled is the product of one factor scaled. -/
theorem sum_scale {ι : Type} [Fintype ι] {a b : ι → EReal} (ha : ∀ k, Row.IsReal (a k)) (hb : ∀ k, Row.IsReal (b k)) (c : ℝ) :
    (∑ k, a k * b k) * (c : EReal) = ∑ k, a k * (b k * (c : EReal)) := by
  choose u hu using ha
  choose v hv using hb
  simp only [hu, hv, ← EReal.coe_mul, Row.coe_sum]
  rw [Finset.sum_mul]
  simp only [mul_assoc]

/-- Weights divided by their sum, or the weighted sum divided by it. -/
theorem sum_div {ι : Type} [Fintype ι] {u v e : ι → EReal} (hu : ∀ k, Row.IsReal (u k)) (he : ∀ k, Row.IsReal (e k)) {z : ℝ} (hz : 0 < z)
    (hv : ∀ k, e k = 0 ∨ v k = u k) : ∑ k, v k * Ideal.div (e k) (z : EReal) = (∑ k, u k * e k) * Ideal.div 1 (z : EReal) := by
  choose a ha using hu
  choose b hb using he
  have hv' : ∀ k, v k * Ideal.div (e k) (z : EReal) = ((a k * b k * (1 / z) : ℝ) : EReal) := fun k => by
    rw [Ideal.div_coe hz.ne']
    rcases hv k with h | h
    · have : b k = 0 := by have := hb k; rw [h] at this; exact_mod_cast this.symm
      rw [h, this]; simp
    · rw [h, ha, hb, ← EReal.coe_mul, ← EReal.coe_mul, mul_assoc]
  rw [Finset.sum_congr rfl fun k _ => hv' k, Row.coe_sum, Ideal.div_coe hz.ne']
  simp only [ha, hb, ← EReal.coe_mul, Row.coe_sum]
  rw [← EReal.coe_one, ← EReal.coe_mul, ← EReal.coe_mul, one_mul, Finset.sum_mul]

/-- A maximum over 257 numbers is the maximum of the first 256 and the last. -/
theorem sup_last (f : Fin 256 → EReal) (s : EReal) :
    max ⊥ (Finset.univ.sup fun k : Fin 257 => if h : k.val < 256 then f ⟨k.val, h⟩ else s) = max (Finset.univ.sup f) s := by
  apply le_antisymm
  · refine max_le bot_le (Finset.sup_le fun k _ => ?_)
    split
    · exact le_max_of_le_left (Finset.le_sup (f := f) (Finset.mem_univ _))
    · exact le_max_right _ _
  · refine le_max_of_le_right (max_le (Finset.sup_le fun k _ => ?_) ?_)
    · refine le_trans (le_of_eq ?_) (Finset.le_sup (f := fun k : Fin 257 => if h : k.val < 256 then f ⟨k.val, h⟩ else s) (Finset.mem_univ (⟨k.val, by omega⟩ : Fin 257)))
      simp
    · refine le_trans (le_of_eq ?_) (Finset.le_sup (f := fun k : Fin 257 => if h : k.val < 256 then f ⟨k.val, h⟩ else s) (Finset.mem_univ (256 : Fin 257)))
      simp

end Cert.Band

end
-- ==== Proof.BandTab.lean ====
module

public import proofs.«01_k».proof.Proof.BandReal
public import proofs.«01_k».proof.Proof.Gen.AttnFwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Band

open Cert.AttnFwdRefIdeal.Read (val_main_v17)

/-! The host's angles and factors. -/

/-- The angles, as the reference's host code makes them. -/
theorem angles (t : Fin 4096) (f : Fin 8) : val_main_v17 (F := Ideal) (ix2 t f) = angle t f := by
  open Cert.AttnFwdRefIdeal.Read in
  pointwise [val_main_v2, val_main_cst, val_main_v3, val_main_v4, val_main_cst_0, val_main_v5, val_main_v6, val_main_v7, val_main_cst_1, val_main_v8, val_main_v9, val_main_cst_2,
    val_main_v10, val_main_v11, val_main_v12, val_main_v13, val_main_v14, val_main_v15, val_main_v16, val_main_v17]
  rfl

abbrev T8 : Shape := ⟨2, ![8, 4096]⟩
abbrev T48 : Shape := ⟨2, ![48, 4096]⟩
abbrev T64 : Shape := ⟨2, ![64, 4096]⟩
abbrev T1 : Shape := ⟨3, ![1, 64, 4096]⟩
theorem joins64 : Shape.Concatenates [T8, T8, T48] T64 0 := by decide
theorem joins3 : Shape.Concatenates [T1, T1, T1] ⟨3, ![3, 64, 4096]⟩ 0 := by decide
theorem turns8 : (⟨2, ![4096, 8]⟩ : Shape).Transposes [1, 0] T8 := by decide
theorem fills8 : (⟨0, ![]⟩ : Shape).BroadcastsInDim T8 (![] : Fin 0 → Fin 2) := by decide
theorem fills48 : (⟨0, ![]⟩ : Shape).BroadcastsInDim T48 (![] : Fin 0 → Fin 2) := by decide
theorem lifts : T64.BroadcastsInDim T1 (![1, 2] : Fin 2 → Fin 3) := by decide

/-- The factors from the angles, as a kernel's host code makes them. -/
def hostTab (a : FVec Ideal ⟨2, ![4096, 8]⟩ .f32) : FVec Ideal ⟨3, ![3, 64, 4096]⟩ .f32 :=
  let th : FVec Ideal T8 .f32 := transpose T8 [1, 0] a turns8
  let one : FVec Ideal T48 .f32 := broadcastInDim T48 ![] fills48 (constant (⟨0, ![]⟩ : Shape) .f32 0x3F800000#32)
  let zero : FVec Ideal T48 .f32 := broadcastInDim T48 ![] fills48 (constant (⟨0, ![]⟩ : Shape) .f32 0x00000000#32)
  let zero8 : FVec Ideal T8 .f32 := broadcastInDim T8 ![] fills8 (constant (⟨0, ![]⟩ : Shape) .f32 0x00000000#32)
  let f0 : FVec Ideal T64 .f32 := concatenate T64 0 [⟨T8, Host.cos th⟩, ⟨T8, Host.cos th⟩, ⟨T48, one⟩] joins64
  let f1 : FVec Ideal T64 .f32 := concatenate T64 0 [⟨T8, Host.negf (Host.sin th)⟩, ⟨T8, zero8⟩, ⟨T48, zero⟩] joins64
  let f2 : FVec Ideal T64 .f32 := concatenate T64 0 [⟨T8, zero8⟩, ⟨T8, Host.sin th⟩, ⟨T48, zero⟩] joins64
  concatenate ⟨3, ![3, 64, 4096]⟩ 0 [⟨T1, broadcastInDim T1 ![1, 2] lifts f0⟩, ⟨T1, broadcastInDim T1 ![1, 2] lifts f1⟩, ⟨T1, broadcastInDim T1 ![1, 2] lifts f2⟩] joins3

/-- One of three, and a lane's factor from its frequency. -/
theorem picks (a : Fin 3) (x y z : EReal) : (if a.val < 1 then x else if a.val - 1 < 1 then y else z) = if a.val = 0 then x else if a.val = 1 then y else z := by
  split_ifs <;> first | rfl | omega
theorem lanes (d : Fin 64) (u v : Fin 8 → EReal) (w : EReal) : (if h : d.val < 8 then u ⟨d.val, h⟩ else if h : d.val - 8 < 8 then v ⟨d.val - 8, h⟩ else w)
    = if d.val < 8 then u ⟨d.val % 8, by omega⟩ else if d.val < 16 then v ⟨d.val % 8, by omega⟩ else w := by
  by_cases h1 : d.val < 8
  · rw [dif_pos h1, if_pos h1]
    exact congrArg u (Fin.ext (Nat.mod_eq_of_lt h1).symm)
  by_cases h2 : d.val - 8 < 8
  · rw [dif_neg h1, if_neg h1, dif_pos h2, if_pos (by omega)]
    exact congrArg v (Fin.ext (by show d.val - 8 = d.val % 8; omega))
  · rw [dif_neg h1, if_neg h1, dif_neg h2, if_neg (by omega)]

theorem hostTab_eq : hostTab (val_main_v17 (F := Ideal)) = ctab := by
  funext j
  obtain ⟨a, d, t, rfl⟩ : ∃ (a : Fin 3) (d : Fin 64) (t : Fin 4096), j = ix3 a d t := by idx_vars j; exact ⟨_, _, _, rfl⟩
  show _ = if a.val = 0 then fac0 t d else if a.val = 1 then fac1 t d else fac2 t d
  generalize hg : val_main_v17 (F := Ideal) = g
  have hg' : ∀ (f : Fin 8), g (ix2 t f) = angle t f := fun f => hg ▸ angles t f
  pointwise [hostTab]
  simp only [hg']
  refine (picks a _ _ _).trans ?_
  refine if_congr Iff.rfl ?_ (if_congr Iff.rfl ?_ ?_)
  · refine (lanes d (fun f => Ideal.cos (angle t f)) (fun f => Ideal.cos (angle t f)) 1).trans ?_
    unfold fac0
    split_ifs <;> first | rfl | omega
  · refine (lanes d (fun f => -Ideal.sin (angle t f)) (fun _ => 0) 0).trans ?_
    unfold fac1
    split_ifs <;> first | rfl | omega
  · refine (lanes d (fun _ => 0) (fun f => Ideal.sin (angle t f)) 0).trans ?_
    unfold fac2
    split_ifs <;> first | rfl | omega

end Cert.Band

end
-- ==== Proof.BandRef.lean ====
module

public import proofs.«01_k».proof.Proof.BandTab
public import proofs.«01_k».proof.Proof.Gen.AttnFwdRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.AttnFwdRefIdeal.Read

open Cert.AttnFwdRefIdeal Cert.AttnFwdRefIdeal.Gen
open Cert.Band

/-! The reference's forward lines at one place: rotated queries and keys, scores under the mask, the row's greatest score,
the exponentials and one over their sum. -/

variable (x0 : FVec Ideal S4096x1024 .bf16) (x1 : FVec Ideal S4096x512 .bf16) (x2 : FVec Ideal S1x16 .f32)

theorem refQ (t : Fin 4096) (h : Fin 16) (d : Fin 64) : val_main_v38 (F := Ideal) x0 (ix3 t h d) = Q (arr x0 x1 x2) t h d := by
  pointwise [val_main_v0, val_main_v18, val_main_v19, val_main_v20, val_main_v21, val_main_v24, val_main_v25, val_main_v26, val_main_v27, val_main_v28, val_main_v29, val_main_v30, val_main_v31, val_main_v32, val_main_v33, val_main_v34,
    val_main_v35, val_main_v36, val_main_v37, val_main_v38]
  simp only [angles]
  refine (rot_eq x0 x1 x2 t (fun d => x0 (ix2 t ⟨h.val * 64 + d.val, by omega⟩)) d).trans (congrArg (fun f => rot _ t f d) (funext fun d => ?_))
  exact congrArg (fun l => x0 (ix2 t l)) (Fin.ext (by show h.val * 64 + d.val = 64 * h.val + d.val; omega))
theorem refK (t : Fin 4096) (j : Fin 4) (d : Fin 64) : val_main_v53 (F := Ideal) x1 (ix3 t j d) = K (arr x0 x1 x2) t j d := by
  pointwise [val_main_v1, val_main_v18, val_main_v19, val_main_v20, val_main_v21, val_main_v22, val_main_v39, val_main_v40, val_main_v41, val_main_v42, val_main_v43, val_main_v44, val_main_v45, val_main_v46, val_main_v47, val_main_v48,
    val_main_v49, val_main_v50, val_main_v51, val_main_v52, val_main_v53]
  simp only [angles]
  refine (rot_eq x0 x1 x2 t (fun d => x1 (ix2 t ⟨j.val * 64 + d.val, by omega⟩)) d).trans (congrArg (fun f => rot _ t f d) (funext fun d => ?_))
  exact congrArg (fun l => x1 (ix2 t l)) (Fin.ext (by show j.val * 64 + d.val = 64 * j.val + d.val; omega))

/-- The 256 keys of a block: its own 128 and the block before's, which for the first block are zeros. -/
theorem refKeys (n : Fin 32) (k : Fin 256) (j : Fin 4) (d : Fin 64) : val_main_v61 (F := Ideal) x1 (ix4 n k j d)
    = if k.val < 128 ∧ n.val = 0 then 0 else K (arr x0 x1 x2) (slot n k) j d := by
  pointwise [val_main_v56, val_main_v57, val_main_cst_3, val_main_v58, val_main_v59, val_main_v60, val_main_v61]
  simp only [refK x0 x1 x2]
  by_cases hk : k.val < 128
  · by_cases hn : n.val < 1
    · rw [dif_pos hk, dif_pos hn, if_pos ⟨hk, by omega⟩]
    · rw [dif_pos hk, dif_neg hn]; refine Eq.trans ?_ (if_neg (show ¬ (k.val < 128 ∧ n.val = 0) by omega)).symm
      exact congrArg (fun t => K _ t j d) (Fin.ext (by simp only [slot, if_pos hk]; omega))
  · rw [dif_neg hk]; refine Eq.trans ?_ (if_neg (show ¬ (k.val < 128 ∧ n.val = 0) by omega)).symm
    exact congrArg (fun t => K _ t j d) (Fin.ext (by simp only [slot, if_neg hk]; omega))
theorem refVals (n : Fin 32) (k : Fin 256) (j : Fin 4) (d : Fin 64) : val_main_v136 (F := Ideal) x1 (ix4 n k j d)
    = if k.val < 128 ∧ n.val = 0 then 0 else U (arr x0 x1 x2) (slot n k) j d := by
  pointwise [val_main_v1, val_main_v23, val_main_v54, val_main_v131, val_main_v132, val_main_cst_16, val_main_v133, val_main_v134, val_main_v135, val_main_v136]
  by_cases hk : k.val < 128
  · by_cases hn : n.val < 1
    · rw [dif_pos hk, dif_pos hn, if_pos ⟨hk, by omega⟩]
    · rw [dif_pos hk, dif_neg hn]; refine Eq.trans ?_ (if_neg (show ¬ (k.val < 128 ∧ n.val = 0) by omega)).symm
      exact congrArg x1 (congrArg₂ ix2 (Fin.ext (by simp only [slot, if_pos hk]; omega)) (Fin.ext (by show 256 + (j.val * 64 + d.val) = 256 + (64 * j.val + d.val); omega)))
  · rw [dif_neg hk]; refine Eq.trans ?_ (if_neg (show ¬ (k.val < 128 ∧ n.val = 0) by omega)).symm
    exact congrArg x1 (congrArg₂ ix2 (Fin.ext (by simp only [slot, if_neg hk]; omega)) (Fin.ext (by show 256 + (j.val * 64 + d.val) = 256 + (64 * j.val + d.val); omega)))
theorem refQueries (n : Fin 32) (i : Fin 128) (j g : Fin 4) (d : Fin 64) : val_main_v55 (F := Ideal) x0 (ix5 n i j g d) = Q (arr x0 x1 x2) (pos n i) (head j g) d := by
  pointwise [val_main_v55]
  rw [refQ x0 x1 x2]
  exact congrArg₂ (fun t h => Q _ t h d) (Fin.ext (by show n.val * 128 + i.val = 128 * n.val + i.val; omega)) (Fin.ext (by show j.val * 4 + g.val = 4 * j.val + g.val; omega))

/-- The mask. -/
theorem inBand : ∀ (i : Fin 128) (k : Fin 256), IntOp.andi
    (IntOp.cmpi .sge (IntOp.subi (IntOp.addi (128#32) (BitVec.ofNat 32 i.val)) (BitVec.ofNat 32 k.val)) 0#32)
    (IntOp.cmpi .slt (IntOp.subi (IntOp.addi (128#32) (BitVec.ofNat 32 i.val)) (BitVec.ofNat 32 k.val)) 128#32)
      = if i.val < k.val ∧ k.val ≤ i.val + 128 then 1#1 else 0#1 := by decide +kernel
theorem notPad : ∀ (n : Fin 32) (k : Fin 256), IntOp.ori (IntOp.cmpi .sgt (BitVec.ofNat 32 n.val) 0#32) (IntOp.cmpi .sge (BitVec.ofNat 32 k.val) 128#32)
      = if 0 < n.val ∨ 128 ≤ k.val then 1#1 else 0#1 := by decide +kernel
theorem refMask (n : Fin 32) (i : Fin 128) (k : Fin 256) : val_main_v93 (F := Ideal) (ix3 n i k) = if Seen n.val i k then 1#1 else 0#1 := by
  pointwise [val_main_v66, val_main_v67, val_main_v68, val_main_v69, val_main_c, val_main_v70, val_main_v71, val_main_v72, val_main_v73, val_main_v74,
   val_main_c_5, val_main_v75, val_main_v76, val_main_c_6, val_main_v77, val_main_v78, val_main_v79, val_main_v80, val_main_v81, val_main_c_7, val_main_v82, val_main_v83, val_main_v84, val_main_c_8, val_main_v85,
   val_main_v86, val_main_v87, val_main_v88, val_main_v89, val_main_v90, val_main_v91, val_main_v92, val_main_v93]
  rw [inBand, notPad]
  unfold Seen
  by_cases h1 : i.val < k.val ∧ k.val ≤ i.val + 128 <;> by_cases h2 : 0 < n.val ∨ 128 ≤ k.val <;> simp only [h1, h2, and_self, and_true, true_and, if_true, if_false, false_and, and_false] <;> rfl

variable (H : Reals (arr x0 x1 x2)) (n : Fin 32) (i : Fin 128) (j g : Fin 4)
include H

theorem refS (k : Fin 256) : val_main_v95 (F := Ideal) x0 x1 (ix5 n j g i k) = S (arr x0 x1 x2) n (head j g) i k := by
  pointwise [val_main_v62, val_main_v63, val_main_cst_4, val_main_v64, val_main_v65, val_main_v94, val_main_cst_9, val_main_call0_v0, val_main_call0_v1, val_main_call0_v2, val_main_v95]
  rw [refMask]
  by_cases hs : Seen n.val i k
  · rw [if_pos hs, show Ideal.ofBits .f32 1040187392#32 = ((1 / 8 : ℝ) : EReal) from c8]
    refine Eq.trans ?_ (if_pos hs).symm
    rw [← sum_scale (fun d => H.K _ _ _) (fun d => H.Q _ _ _)]
    have hk : ¬ (k.val < 128 ∧ n.val = 0) := by unfold Seen at hs; omega
    refine congrArg (fun s : EReal => s * _) (Finset.sum_congr rfl fun d _ => ?_)
    rw [refKeys x0 x1 x2, if_neg hk, refQueries x0 x1 x2]
    rw [show kvOf (head j g) = j from kvOf_head j g]
  · rw [if_neg hs]
    exact (show _ = (⊥ : EReal) from by show Ideal.ofBits .f32 0xFF800000#32 = _; simp [Ideal.ofBits, Ideal.ieee]).trans (if_neg hs).symm

end Cert.AttnFwdRefIdeal.Read

end
-- ==== Proof.BandMax.lean ====
module

public import Idealize.ShloMosaic.Lib.Pointwise
public import Idealize.ShloMosaic.PureOps.Ideal.Laws

@[expose] public section

noncomputable section

open Idealize.ShloMosaic

namespace Cert.Band

/-- The larger of two. -/
theorem larger (x y : Ideal .f32) {a b : EReal} (ha : x = a) (hb : y = b) : (FloatOps.maximumf x y : Ideal .f32) = max a b := by subst ha hb; rfl

/-- A fold of greatest elements is the greatest element. -/
theorem fold_sup {n : Nat} (f : Fin n → EReal) : (Finset.univ : Finset (Fin n)).fold max ⊥ f = Finset.univ.sup f := rfl

/-- The greatest element along the last axis, read at an index. -/
theorem maxLast {n0 n1 n2 n3 n4 : Nat} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel) (a : Fin n0) (b : Fin n1) (c : Fin n2) (e : Fin n3) :
    Host.reduce FloatOps.maximumf x init h hu (ix4 a b c e)
      = (Finset.univ : Finset (Fin n4)).fold max (init (Shape.Idx.first hu) : EReal) (fun k => x (ix5 a b c e k)) := by
  pointwise

end Cert.Band

end
-- ==== Proof.BandRow.lean ====
module

public import proofs.«01_k».proof.Proof.BandRef
public import proofs.«01_k».proof.Proof.BandMax
public import proofs.«01_k».proof.Proof.Gen.AttnFwdRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.AttnFwdRefIdeal.Read

open Cert.AttnFwdRefIdeal Cert.AttnFwdRefIdeal.Gen
open Cert.Band

/-! The reference's rows: the greatest score, the exponentials, one over their sum, and a head's result. -/

variable (x0 : FVec Ideal S4096x1024 .bf16) (x1 : FVec Ideal S4096x512 .bf16) (x2 : FVec Ideal S1x16 .f32)

section
variable (n : Fin 32) (i : Fin 128) (j g : Fin 4)
theorem spread0 (y : FVec Ideal S32x4x4x128 .f32) : broadcastInDim S32x4x4x128x1 ![0, 1, 2, 3] bcast_S32x4x4x128_S32x4x4x128x1_0_1_2_3 y (ix5 n j g i 0) = y (ix4 n j g i) := by
  pointwise
theorem spreadSink : val_main_v101 (F := Ideal) x2 (ix5 n j g i 0) = x2 (ix2 0 (head j g)) := by
  pointwise [val_main_v96, val_main_v97, val_main_v98, val_main_v101]
  exact congrArg (fun h : Fin 16 => x2 (ix2 0 h)) (Fin.ext (by show j.val * 4 + g.val = 4 * j.val + g.val; omega))
theorem spreadBot : val_main_v120 (F := Ideal) (ix4 n j g i) = (⊥ : EReal) := by
  pointwise [val_main_cst_14, val_main_v120]
  simp [Ideal.ofBits, Ideal.ieee]
end

variable (H : Reals (arr x0 x1 x2)) (n : Fin 32) (i : Fin 128) (j g : Fin 4)
include H

theorem refSinkMax : val_main_v102 (F := Ideal) x0 x1 x2 (ix5 n j g i 0) = M (arr x0 x1 x2) n (head j g) i := by
  show _ = max (Finset.univ.sup (S (arr x0 x1 x2) n (head j g) i)) (x2 (ix2 0 (head j g)))
  have e : val_main_v99 (F := Ideal) x0 x1 (ix4 n j g i) = Finset.univ.sup (S (arr x0 x1 x2) n (head j g) i) := by
    refine (maxLast _ _ _ _ n j g i).trans ?_
    simp only [refS x0 x1 x2 H]
    rw [show (val_main_cst_10 (F := Ideal) (Shape.Idx.first h_S_) : EReal) = ⊥ from by show Ideal.ofBits .f32 0xFF800000#32 = _; simp [Ideal.ofBits, Ideal.ieee]]
    exact fold_sup _
  have e0 : val_main_v100 (F := Ideal) x0 x1 (ix5 n j g i 0) = Finset.univ.sup (S (arr x0 x1 x2) n (head j g) i) := by
    unfold val_main_v100
    exact (spread0 n i j g _).trans e
  rw [val_main_v102_apply]
  exact larger _ _ e0 (spreadSink x2 n i j g)
theorem refE (k : Fin 256) : val_main_v105 (F := Ideal) x0 x1 x2 (ix5 n j g i k) = E (arr x0 x1 x2) n (head j g) i k := by
  pointwise [val_main_v103, val_main_v104, val_main_v105]
  rw [refS x0 x1 x2 H, refSinkMax x0 x1 x2 H]
  rfl
theorem refI : val_main_v113 (F := Ideal) x0 x1 x2 (ix5 n j g i 0) = I (arr x0 x1 x2) n (head j g) i := by
  have hh : (⟨j.val * 4 + g.val, by omega⟩ : Fin 16) = head j g := Fin.ext (by show j.val * 4 + g.val = 4 * j.val + g.val; omega)
  pointwise [val_main_v96, val_main_v97, val_main_v98, val_main_cst_11, val_main_v106, val_main_v107, val_main_v108, val_main_v109, val_main_v110,
    val_main_v111, val_main_cst_12, val_main_v112, val_main_v113]
  simp only [refE x0 x1 x2 H, refSinkMax x0 x1 x2 H, hh]
  rfl

theorem refMax : val_main_v122 (F := Ideal) x0 x1 x2 (ix5 n j g i 0) = M (arr x0 x1 x2) n (head j g) i := by
  have hh : (⟨j.val * 4 + g.val, by omega⟩ : Fin 16) = head j g := Fin.ext (by show j.val * 4 + g.val = 4 * j.val + g.val; omega)
  have hb : Ideal.ofBits .f32 0xFF800000#32 = (⊥ : EReal) := by simp [Ideal.ofBits, Ideal.ieee]
  have e : val_main_v119 (F := Ideal) x0 x1 x2 (ix4 n j g i)
      = Finset.univ.sup fun k : Fin 257 => if h : k.val < 256 then S (arr x0 x1 x2) n (head j g) i ⟨k.val, h⟩ else x2 (ix2 0 (head j g)) := by
    refine (maxLast _ _ _ _ n j g i).trans ?_
    rw [show (val_main_cst_13 (F := Ideal) (Shape.Idx.first h_S_) : EReal) = ⊥ from hb]
    refine (fold_sup _).trans (congrArg (fun f => Finset.univ.sup f) (funext fun k => ?_))
    pointwise [val_main_v114, val_main_v115, val_main_v116, val_main_v117, val_main_v118]
    simp only [refS x0 x1 x2 H, hh]
  refine Eq.trans ?_ (sup_last _ _)
  unfold val_main_v122
  refine (spread0 n i j g _).trans ?_
  rw [val_main_v121_apply]
  exact larger _ _ (spreadBot n i j g) e
theorem refP (k : Fin 256) : val_main_v130 (F := Ideal) x0 x1 x2 (ix5 n j g i k)
    = Ideal.div (E (arr x0 x1 x2) n (head j g) i k) ((∑ k : Fin 256, E (arr x0 x1 x2) n (head j g) i k) + Ideal.exp (x2 (ix2 0 (head j g)) - M (arr x0 x1 x2) n (head j g) i)) := by
  have hh : (⟨j.val * 4 + g.val, by omega⟩ : Fin 16) = head j g := Fin.ext (by show j.val * 4 + g.val = 4 * j.val + g.val; omega)
  pointwise [val_main_v114, val_main_v115, val_main_v116, val_main_v117, val_main_v118, val_main_v123, val_main_v124, val_main_v125, val_main_cst_15, val_main_v126, val_main_v127, val_main_v128, val_main_v129, val_main_v130]
  simp only [refS x0 x1 x2 H, refMax x0 x1 x2 H, hh, Finset.univ_unique, Finset.sum_singleton]
  rfl

theorem refO (d : Fin 64) : ∑ k : Fin 256, val_main_v136 (F := Ideal) x1 (ix4 n k j d) * val_main_v130 (F := Ideal) x0 x1 x2 (ix5 n j g i k)
    = O (arr x0 x1 x2) n (head j g) i d := by
  obtain ⟨z, hz, hZ⟩ := H.Z n (head j g) i
  have hZ' : (∑ k : Fin 256, E (arr x0 x1 x2) n (head j g) i k) + Ideal.exp (x2 (ix2 0 (head j g)) - M (arr x0 x1 x2) n (head j g) i) = (z : EReal) := hZ
  simp only [refP x0 x1 x2 H, refVals x0 x1 x2, hZ']
  unfold O I
  rw [hZ, show kvOf (head j g) = j from kvOf_head j g]
  refine sum_div (fun k => H.U _ _ _) (fun k => let ⟨r, _, h⟩ := H.E n (head j g) i k; ⟨r, h⟩) hz fun k => ?_
  by_cases hk : k.val < 128 ∧ n.val = 0
  · exact .inl (H.E_hid n (head j g) i (by unfold Seen; omega))
  · exact .inr (if_neg hk)

end Cert.AttnFwdRefIdeal.Read

end
-- ==== Proof.BandOut.lean ====
module

public import proofs.«01_k».proof.Proof.BandOps

@[expose] public section

set_option maxRecDepth 16384

noncomputable section

namespace Cert.Band

open Idealize.ShloMosaic

/-! The results put together: sixteen heads, head `h` the `h / 4`-th group's columns `128 * (h % 4) …`. -/

theorem cutOut : ∀ h : Fin 16, (⟨2, ![64, 512]⟩ : Shape).Slices ![0, 128 * (h.val % 4)] ⟨2, ![64, 128]⟩ := by decide
theorem cutRow : ∀ h : Fin 16, (⟨2, ![1, 512]⟩ : Shape).Slices ![0, 128 * (h.val % 4)] ⟨2, ![1, 128]⟩ := by decide
theorem catOut : Shape.Concatenates (List.replicate 16 (⟨2, ![64, 128]⟩ : Shape)) ⟨2, ![1024, 128]⟩ 0 := by decide
theorem catRow : Shape.Concatenates (List.replicate 16 (⟨2, ![1, 128]⟩ : Shape)) ⟨2, ![16, 128]⟩ 0 := by decide
/-- A head's group, and a group's column of a head's query. -/
def grp (h : Fin 16) : Fin 4 := ⟨h.val / 4, by omega⟩
def col (h : Fin 16) (i : Fin 128) : Fin 512 := ⟨128 * (h.val % 4) + i.val, by omega⟩
theorem hd_col (h : Fin 16) (i : Fin 128) : (hd (col h i)).val = h.val % 4 := by simp only [hd, col]; omega
theorem qi_col (h : Fin 16) (i : Fin 128) : qi (col h i) = i := Fin.ext (by simp only [qi, col]; omega)

/-- The heads' results, positions down. -/
def heads (w : Fin 4 → FVec Ideal ⟨2, ![64, 512]⟩ .f32) : FVec Ideal ⟨2, ![128, 1024]⟩ .bf16 :=
  truncf .bf16 (transpose ⟨2, ![128, 1024]⟩ [1, 0] (concatenate ⟨2, ![1024, 128]⟩ 0 (List.ofFn fun h : Fin 16 =>
    (⟨⟨2, ![64, 128]⟩, extractStridedSlice ⟨2, ![64, 128]⟩ ![0, 128 * (h.val % 4)] (w (grp h)) (cutOut h)⟩ : (s : Shape) × (s.Idx → Ideal .f32))) catOut) (by decide)) (by decide)
/-- The heads' statistics, heads down. -/
def rows (w : Fin 4 → FVec Ideal ⟨2, ![1, 512]⟩ .f32) : FVec Ideal ⟨2, ![16, 128]⟩ .f32 :=
  concatenate ⟨2, ![16, 128]⟩ 0 (List.ofFn fun h : Fin 16 =>
    (⟨⟨2, ![1, 128]⟩, extractStridedSlice ⟨2, ![1, 128]⟩ ![0, 128 * (h.val % 4)] (w (grp h)) (cutRow h)⟩ : (s : Shape) × (s.Idx → Ideal .f32))) catRow

theorem heads_apply (w) (i : Fin 128) (h : Fin 16) (d : Fin 64) :
    heads w (ix2 i ⟨64 * h.val + d.val, by omega⟩) = (w (grp h) (ix2 d (col h i)) : EReal) := by
  refine Eq.trans (b := concatenate ⟨2, ![1024, 128]⟩ 0 (List.ofFn fun h : Fin 16 =>
    (⟨⟨2, ![64, 128]⟩, extractStridedSlice ⟨2, ![64, 128]⟩ ![0, 128 * (h.val % 4)] (w (grp h)) (cutOut h)⟩ : (s : Shape) × (s.Idx → Ideal .f32))) catOut
      (ix2 ⟨64 * h.val + d.val, by omega⟩ i)) (by pointwise [heads]) ?_
  refine (concatenate_ofFn_apply (t := ⟨2, ![1024, 128]⟩) (0 : Fin 2) (fun h : Fin 16 => extractStridedSlice ⟨2, ![64, 128]⟩ ![0, 128 * (h.val % 4)] (w (grp h)) (cutOut h))
    catOut rfl 64 rfl (ix2 ⟨64 * h.val + d.val, by omega⟩ i) h (by show (64 * h.val + d.val) / 64 = _; omega) (ix2 d i) (by show d.val = (64 * h.val + d.val) % 64; omega) fun b hb => ?_).trans ?_
  · fin_cases b
    · exact absurd rfl hb
    · rfl
  · pointwise
    rfl
theorem rows_apply (w) (h : Fin 16) (i : Fin 128) : rows w (ix2 h i) = (w (grp h) (ix2 0 (col h i)) : EReal) := by
  refine (concatenate_ofFn_apply (t := ⟨2, ![16, 128]⟩) (0 : Fin 2) (fun h : Fin 16 => extractStridedSlice ⟨2, ![1, 128]⟩ ![0, 128 * (h.val % 4)] (w (grp h)) (cutRow h))
    catRow rfl 1 rfl (ix2 h i) h (by show h.val / 1 = _; omega) (ix2 0 i) (by show 0 = h.val % 1; omega) fun b hb => ?_).trans ?_
  · fin_cases b
    · exact absurd rfl hb
    · rfl
  · pointwise
    rfl

end Cert.Band

end
-- ==== Proof.AttnFwdBody.lean ====
module

public import proofs.«01_k».proof.Proof.Gen.AttnFwdIdeal.Value
public import proofs.«01_k».proof.Proof.BandOut
public import proofs.«01_k».proof.Proof.BandSpec

@[expose] public section

set_option maxRecDepth 65536

noncomputable section

namespace Cert.AttnFwdIdeal.Value

open Cert.AttnFwdIdeal Cert.AttnFwdIdeal.Gen Idealize.ShloMosaic
open Cert.Band

/-! The body of the forward attention, value by value, as the operations of a block. -/

/-- The named constant. -/
def ninf : Ideal .bf16 := Scalar.truncf .bf16 bitsLt_bf16_f32 (Named.named κ "mask" 0xF149F2CA#32)
theorem ninf_eq : ninf = (⊥ : EReal) := rfl

theorem mask_eq (i : grid0.Coords) : k0_pay2 i = band (BitVec.ofNat 32 (i 0).val) := rfl
theorem tab_eq (t : Vec Ideal S3x64x128 .f32) : k0_pay3 t = t := by
  funext j; idx_vars j; pointwise [k0_pay3]
section
variable (kp kc vp vc : Vec Ideal S128x256 .bf16) (q : Vec Ideal S128x1024 .bf16) (tc tp : Vec Ideal S3x64x128 .f32)
theorem keys_eq : k0_pay4 kp kc = both kp kc := rfl
theorem values_eq : k0_pay5 vp vc = both vp vc := rfl
theorem queries_eq : k0_pay6 q = flipQ q := rfl
theorem tabs_eq : k0_pay7 tc tp = bothTab tp tc := rfl
end

section
variable (kt : Vec Ideal S256x256 .f32) (kp kc : Vec Ideal S128x256 .bf16) (tc tp : Vec Ideal S3x64x128 .f32) (tab : Vec Ideal S3x64x256 .f32)
theorem key0 : k0_pay10 (bothTab tp tc) (k0_pay8 kp kc) (k0_pay9 tc kp kc tp) = key 0 (both kp kc) (bothTab tp tc) := rfl
theorem key1 : k0_pay11 kt tab = key 1 kt tab := rfl
theorem key2 : k0_pay12 kt tab = key 2 kt tab := rfl
theorem key3 : k0_pay17 (k0_pay14 kt tab) (k0_pay15 kt) (k0_pay16 tab) = key 3 kt tab := rfl
end

section
variable (t : Vec Ideal S3x64x128 .f32) (q : Vec Ideal S1024x128 .f32) (k : Vec Ideal S64x256 .bf16)
theorem score0 : k0_pay22 t k (k0_pay18 q) (k0_pay19 t q) (k0_pay20 t q) (k0_pay21 t q) (FloatOps.ofBits .f32 0x3E000000#32) = score k (query 0 q t) := rfl
theorem score1 : k0_pay29 t k (k0_pay24 q) (k0_pay25 q) (k0_pay26 t q) (k0_pay27 t q) (k0_pay28 t q) = score k (query 1 q t) := rfl
theorem score2 : k0_pay41 k (k0_pay37 (k0_pay34 t q) (k0_pay35 q) (k0_pay36 t)) (k0_pay38 t (k0_pay31 q)) (k0_pay39 t (k0_pay32 q)) (k0_pay40 t (k0_pay33 q)) = score k (query 2 q t) := rfl
theorem score3 : k0_pay46 t k (k0_pay42 q) (k0_pay43 t q) (k0_pay44 t q) (k0_pay45 t q) (FloatOps.ofBits .f32 0x3E000000#32) = score k (query 3 q t) := rfl
end

section
variable (s : Vec Ideal S256x512 .f32) (b : IVec S256x512 1) (a0 a1 a2 a3 : Ideal .f32)
/-- The exponentials, the greatest score and the inverse sum of a group. -/
def ex := expo (masked ninf b s) (top (masked ninf b s) (sinkRow ![a0, a1, a2, a3]))
def mx : FVec Ideal S1x512 .f32 := extf .f32 (top (masked ninf b s) (sinkRow ![a0, a1, a2, a3])) bitsLt_bf16_f32
def iv := inverse (ex s b a0 a1 a2 a3) (sinkRow ![a0, a1, a2, a3]) (mx s b a0 a1 a2 a3)
theorem ex0 : k0_pay53 b s k0_pay47 k0_pay48 k0_pay49 a0 a1 a2 a3 = ex s b a0 a1 a2 a3 := rfl
theorem mx0 : k0_pay54 b s k0_pay47 k0_pay48 k0_pay49 a0 a1 a2 a3 = mx s b a0 a1 a2 a3 := rfl
theorem iv0 : k0_pay55 b s k0_pay47 k0_pay48 k0_pay49 a0 a1 a2 a3 = iv s b a0 a1 a2 a3 := rfl
theorem ex1 : k0_pay63 b s (k0_pay58 (iota .tc S1x512 32 [1] iota_S1x512_d1_w32) 128#32 k0_pay56 a0 a1 a2) (k0_pay59 (iota .tc S1x512 32 [1] iota_S1x512_d1_w32) 128#32 k0_pay56) a3 = ex s b a0 a1 a2 a3 := rfl
theorem mx1 : k0_pay64 b s (k0_pay58 (iota .tc S1x512 32 [1] iota_S1x512_d1_w32) 128#32 k0_pay56 a0 a1 a2) (k0_pay59 (iota .tc S1x512 32 [1] iota_S1x512_d1_w32) 128#32 k0_pay56) a3 = mx s b a0 a1 a2 a3 := rfl
theorem iv1 : k0_pay65 b s (k0_pay58 (iota .tc S1x512 32 [1] iota_S1x512_d1_w32) 128#32 k0_pay56 a0 a1 a2) (k0_pay59 (iota .tc S1x512 32 [1] iota_S1x512_d1_w32) 128#32 k0_pay56) a3 = iv s b a0 a1 a2 a3 := rfl
theorem ex2 : k0_pay70 b s k0_pay66 a0 a1 a2 a3 = ex s b a0 a1 a2 a3 := rfl
theorem mx2 : k0_pay71 b s k0_pay66 a0 a1 a2 a3 = mx s b a0 a1 a2 a3 := rfl
theorem iv2 : k0_pay72 b s k0_pay66 a0 a1 a2 a3 = iv s b a0 a1 a2 a3 := rfl
theorem ex3 : k0_pay79 b s k0_pay73 (k0_pay74 a0 a1 a2) k0_pay75 a3 = ex s b a0 a1 a2 a3 := rfl
theorem mx3 : k0_pay80 b s k0_pay73 (k0_pay74 a0 a1 a2) k0_pay75 a3 = mx s b a0 a1 a2 a3 := rfl
theorem iv3 : k0_pay81 b s k0_pay73 (k0_pay74 a0 a1 a2) k0_pay75 a3 = iv s b a0 a1 a2 a3 := rfl
end

section
variable (v : Vec Ideal S256x256 .f32) (e0 e1 e2 e3 : FVec Ideal S256x512 .bf16) (w0 w1 w2 w3 : FVec Ideal S1x512 .f32)
theorem heads_eq : k0_pay100 v e2 w2 e3 w3 (k0_pay83 v e0 w0) (k0_pay84 v e0 w0) (k0_pay85 v e0 w0) (k0_pay86 v e0 w0)
    (k0_pay96 v e1 w1) (k0_pay97 v e1 w1) (k0_pay98 v e1 w1) (k0_pay99 v e1 w1)
    = heads ![weighted (value 0 v) e0 w0, weighted (value 1 v) e1 w1, weighted (value 2 v) e2 w2, weighted (value 3 v) e3 w3] := rfl
theorem rows0 : k0_pay101 w1 w2 w3 (k0_pay87 w0) (k0_pay88 w0) (k0_pay89 w0) (k0_pay90 w0)
    = shapeCast S1x16x128 (rows ![w0, w1, w2, w3]) shapeCasts_S16x128_S1x16x128 := rfl
theorem rows1 : k0_pay1 (k0_pay102 w1 w2 w3 (k0_pay91 w0) (k0_pay92 w0) (k0_pay93 w0) (k0_pay94 w0))
    = shapeCast S1x16x128 (rows ![w0, w1, w2, w3]) shapeCasts_S16x128_S1x16x128 := rfl
end

/-! A group's values are the block's. -/

section
variable (b : Blk) (j : Fin 4) (a0 a1 a2 a3 : EReal) (h0 : a0 = b.sk (ix2 0 (head j 0))) (h1 : a1 = b.sk (ix2 0 (head j 1)))
  (h2 : a2 = b.sk (ix2 0 (head j 2))) (h3 : a3 = b.sk (ix2 0 (head j 3)))
include h0 h1 h2 h3
theorem sinks_eq : (![a0, a1, a2, a3] : Fin 4 → EReal) = fun g => b.sk (ix2 0 (head j g)) := by
  funext g
  fin_cases g
  exacts [h0, h1, h2, h3]
theorem group_m : mx (score (b.kt j) (b.qt j)) (band (BitVec.ofNat 32 b.n.val)) a0 a1 a2 a3 = b.wide j := by
  rw [mx, sinks_eq b j a0 a1 a2 a3 h0 h1 h2 h3]; rfl
theorem group_i : iv (score (b.kt j) (b.qt j)) (band (BitVec.ofNat 32 b.n.val)) a0 a1 a2 a3 = b.inv j := by
  rw [iv, mx, ex, sinks_eq b j a0 a1 a2 a3 h0 h1 h2 h3]; rfl
theorem group_o : weighted (b.vt j) (ex (score (b.kt j) (b.qt j)) (band (BitVec.ofNat 32 b.n.val)) a0 a1 a2 a3)
    (iv (score (b.kt j) (b.qt j)) (band (BitVec.ofNat 32 b.n.val)) a0 a1 a2 a3) = b.o j := by
  rw [group_i b j a0 a1 a2 a3 h0 h1 h2 h3, ex, sinks_eq b j a0 a1 a2 a3 h0 h1 h2 h3]; rfl
end

/-! What the body stores, of a block's loads. -/

/-- A sink read out of its block. -/
theorem sk_lt (k : Nat) (hin : ∀ a : Fin S1x16.rank, (![0, k] : Fin 2 → Nat) a + (![1, 1] : Fin 2 → Nat) a ≤ S1x16.size a) : k < 16 := hin 1
theorem sk_ld (x : Vec Ideal S1x16 .f32) (k : Nat) (hin) (hf) :
    View.ld x (Rect.unit (s := S1x16) ![0, k] ![1, 1] hin) (Shape.Idx.first hf) = x (ix2 0 ⟨k, sk_lt k hin⟩) :=
  congrArg x (funext fun a => Fin.ext (by fin_cases a <;> rfl))
/-- Four groups' values, one by one. -/
theorem four {α : Type} {w : Fin 4 → α} {a b c d : α} (ha : a = w 0) (hb : b = w 1) (hc : c = w 2) (hd : d = w 3) : ![a, b, c, d] = w := by
  funext j
  fin_cases j
  exacts [ha, hb, hc, hd]
theorem head_col (h : Fin 16) (i : Fin 128) : head (grp h) (hd (col h i)) = h := Fin.ext (by
  show 4 * (h.val / 4) + (hd (col h i)).val = h.val
  rw [hd_col]; omega)

section
variable (n : Fin 32) (q : Vec Ideal S128x1024 .bf16) (kp k vp v : Vec Ideal S128x256 .bf16) (tp t : Vec Ideal S3x64x128 .f32) (sk : Vec Ideal S1x16 .f32)
theorem body_o : ![weighted (value 0 (both vp v)) (ex (score (key 0 (both kp k) (bothTab tp t)) (query 0 (flipQ q) t)) (band (BitVec.ofNat 32 n.val)) (sk (ix2 0 ⟨0, by decide⟩)) (sk (ix2 0 ⟨1, by decide⟩)) (sk (ix2 0 ⟨2, by decide⟩)) (sk (ix2 0 ⟨3, by decide⟩))) (iv (score (key 0 (both kp k) (bothTab tp t)) (query 0 (flipQ q) t)) (band (BitVec.ofNat 32 n.val)) (sk (ix2 0 ⟨0, by decide⟩)) (sk (ix2 0 ⟨1, by decide⟩)) (sk (ix2 0 ⟨2, by decide⟩)) (sk (ix2 0 ⟨3, by decide⟩))),
    weighted (value 1 (both vp v)) (ex (score (key 1 (both kp k) (bothTab tp t)) (query 1 (flipQ q) t)) (band (BitVec.ofNat 32 n.val)) (sk (ix2 0 ⟨4, by decide⟩)) (sk (ix2 0 ⟨5, by decide⟩)) (sk (ix2 0 ⟨6, by decide⟩)) (sk (ix2 0 ⟨7, by decide⟩))) (iv (score (key 1 (both kp k) (bothTab tp t)) (query 1 (flipQ q) t)) (band (BitVec.ofNat 32 n.val)) (sk (ix2 0 ⟨4, by decide⟩)) (sk (ix2 0 ⟨5, by decide⟩)) (sk (ix2 0 ⟨6, by decide⟩)) (sk (ix2 0 ⟨7, by decide⟩))),
    weighted (value 2 (both vp v)) (ex (score (key 2 (both kp k) (bothTab tp t)) (query 2 (flipQ q) t)) (band (BitVec.ofNat 32 n.val)) (sk (ix2 0 ⟨8, by decide⟩)) (sk (ix2 0 ⟨9, by decide⟩)) (sk (ix2 0 ⟨10, by decide⟩)) (sk (ix2 0 ⟨11, by decide⟩))) (iv (score (key 2 (both kp k) (bothTab tp t)) (query 2 (flipQ q) t)) (band (BitVec.ofNat 32 n.val)) (sk (ix2 0 ⟨8, by decide⟩)) (sk (ix2 0 ⟨9, by decide⟩)) (sk (ix2 0 ⟨10, by decide⟩)) (sk (ix2 0 ⟨11, by decide⟩))),
    weighted (value 3 (both vp v)) (ex (score (key 3 (both kp k) (bothTab tp t)) (query 3 (flipQ q) t)) (band (BitVec.ofNat 32 n.val)) (sk (ix2 0 ⟨12, by decide⟩)) (sk (ix2 0 ⟨13, by decide⟩)) (sk (ix2 0 ⟨14, by decide⟩)) (sk (ix2 0 ⟨15, by decide⟩))) (iv (score (key 3 (both kp k) (bothTab tp t)) (query 3 (flipQ q) t)) (band (BitVec.ofNat 32 n.val)) (sk (ix2 0 ⟨12, by decide⟩)) (sk (ix2 0 ⟨13, by decide⟩)) (sk (ix2 0 ⟨14, by decide⟩)) (sk (ix2 0 ⟨15, by decide⟩)))] = (⟨n, q, kp, k, vp, v, tp, t, sk⟩ : Blk).o :=
  four (group_o ⟨n, q, kp, k, vp, v, tp, t, sk⟩ 0 _ _ _ _ rfl rfl rfl rfl)
    (group_o ⟨n, q, kp, k, vp, v, tp, t, sk⟩ 1 _ _ _ _ rfl rfl rfl rfl)
    (group_o ⟨n, q, kp, k, vp, v, tp, t, sk⟩ 2 _ _ _ _ rfl rfl rfl rfl)
    (group_o ⟨n, q, kp, k, vp, v, tp, t, sk⟩ 3 _ _ _ _ rfl rfl rfl rfl)
theorem body_m : ![mx (score (key 0 (both kp k) (bothTab tp t)) (query 0 (flipQ q) t)) (band (BitVec.ofNat 32 n.val)) (sk (ix2 0 ⟨0, by decide⟩)) (sk (ix2 0 ⟨1, by decide⟩)) (sk (ix2 0 ⟨2, by decide⟩)) (sk (ix2 0 ⟨3, by decide⟩)),
    mx (score (key 1 (both kp k) (bothTab tp t)) (query 1 (flipQ q) t)) (band (BitVec.ofNat 32 n.val)) (sk (ix2 0 ⟨4, by decide⟩)) (sk (ix2 0 ⟨5, by decide⟩)) (sk (ix2 0 ⟨6, by decide⟩)) (sk (ix2 0 ⟨7, by decide⟩)),
    mx (score (key 2 (both kp k) (bothTab tp t)) (query 2 (flipQ q) t)) (band (BitVec.ofNat 32 n.val)) (sk (ix2 0 ⟨8, by decide⟩)) (sk (ix2 0 ⟨9, by decide⟩)) (sk (ix2 0 ⟨10, by decide⟩)) (sk (ix2 0 ⟨11, by decide⟩)),
    mx (score (key 3 (both kp k) (bothTab tp t)) (query 3 (flipQ q) t)) (band (BitVec.ofNat 32 n.val)) (sk (ix2 0 ⟨12, by decide⟩)) (sk (ix2 0 ⟨13, by decide⟩)) (sk (ix2 0 ⟨14, by decide⟩)) (sk (ix2 0 ⟨15, by decide⟩))] = (⟨n, q, kp, k, vp, v, tp, t, sk⟩ : Blk).wide :=
  four (group_m ⟨n, q, kp, k, vp, v, tp, t, sk⟩ 0 _ _ _ _ rfl rfl rfl rfl)
    (group_m ⟨n, q, kp, k, vp, v, tp, t, sk⟩ 1 _ _ _ _ rfl rfl rfl rfl)
    (group_m ⟨n, q, kp, k, vp, v, tp, t, sk⟩ 2 _ _ _ _ rfl rfl rfl rfl)
    (group_m ⟨n, q, kp, k, vp, v, tp, t, sk⟩ 3 _ _ _ _ rfl rfl rfl rfl)
theorem body_i : ![iv (score (key 0 (both kp k) (bothTab tp t)) (query 0 (flipQ q) t)) (band (BitVec.ofNat 32 n.val)) (sk (ix2 0 ⟨0, by decide⟩)) (sk (ix2 0 ⟨1, by decide⟩)) (sk (ix2 0 ⟨2, by decide⟩)) (sk (ix2 0 ⟨3, by decide⟩)),
    iv (score (key 1 (both kp k) (bothTab tp t)) (query 1 (flipQ q) t)) (band (BitVec.ofNat 32 n.val)) (sk (ix2 0 ⟨4, by decide⟩)) (sk (ix2 0 ⟨5, by decide⟩)) (sk (ix2 0 ⟨6, by decide⟩)) (sk (ix2 0 ⟨7, by decide⟩)),
    iv (score (key 2 (both kp k) (bothTab tp t)) (query 2 (flipQ q) t)) (band (BitVec.ofNat 32 n.val)) (sk (ix2 0 ⟨8, by decide⟩)) (sk (ix2 0 ⟨9, by decide⟩)) (sk (ix2 0 ⟨10, by decide⟩)) (sk (ix2 0 ⟨11, by decide⟩)),
    iv (score (key 3 (both kp k) (bothTab tp t)) (query 3 (flipQ q) t)) (band (BitVec.ofNat 32 n.val)) (sk (ix2 0 ⟨12, by decide⟩)) (sk (ix2 0 ⟨13, by decide⟩)) (sk (ix2 0 ⟨14, by decide⟩)) (sk (ix2 0 ⟨15, by decide⟩))] = (⟨n, q, kp, k, vp, v, tp, t, sk⟩ : Blk).inv :=
  four (group_i ⟨n, q, kp, k, vp, v, tp, t, sk⟩ 0 _ _ _ _ rfl rfl rfl rfl)
    (group_i ⟨n, q, kp, k, vp, v, tp, t, sk⟩ 1 _ _ _ _ rfl rfl rfl rfl)
    (group_i ⟨n, q, kp, k, vp, v, tp, t, sk⟩ 2 _ _ _ _ rfl rfl rfl rfl)
    (group_i ⟨n, q, kp, k, vp, v, tp, t, sk⟩ 3 _ _ _ _ rfl rfl rfl rfl)
end

/-- A block's loads, each given by its rows. -/
theorem loads_of (x : Arr) (n : Fin 32) (q kp k vp v tp t sk)
    (hq : ∀ i c, q (ix2 i c) = x.q (ix2 (pos n i) c)) (hkp : ∀ i r, kp (ix2 i r) = x.kv (ix2 ⟨128 * (n.val - 1) + i.val, by omega⟩ ⟨r.val, by omega⟩))
    (hk : ∀ i r, k (ix2 i r) = x.kv (ix2 (pos n i) ⟨r.val, by omega⟩)) (hvp : ∀ i r, vp (ix2 i r) = x.kv (ix2 ⟨128 * (n.val - 1) + i.val, by omega⟩ ⟨256 + r.val, by omega⟩))
    (hv : ∀ i r, v (ix2 i r) = x.kv (ix2 (pos n i) ⟨256 + r.val, by omega⟩)) (htp : ∀ a d i, tp (ix3 a d i) = x.tab (ix3 a d ⟨128 * (n.val - 1) + i.val, by omega⟩))
    (ht : ∀ a d i, t (ix3 a d i) = x.tab (ix3 a d (pos n i))) (hsk : sk = x.sk) : Loads ⟨n, q, kp, k, vp, v, tp, t, sk⟩ x :=
  ⟨hq, hkp, hk, hvp, hv, htp, ht, hsk⟩

end Cert.AttnFwdIdeal.Value

end
-- ==== Proof.AttnFwdValue.lean ====
module

public import proofs.«01_k».proof.Proof.AttnFwdBody
public import proofs.«01_k».proof.Proof.BandTab
public import Idealize.ShloMosaic.Lib.Pipeline.ValueKit
public import Idealize.ShloMosaic.Lib.Pipeline.ReadBack
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem
open Idealize.ShloMosaic.Pipeline (Dat)

namespace Cert.AttnFwdIdeal.Value

open Cert.AttnFwdIdeal Cert.AttnFwdIdeal.Gen
open Cert.Band

/-! The forward attention after the run: each head's result, and its two statistics. -/

variable (m : (ℓ : Loc nD τ sig) → Buf (Elt Ideal) ℓ) (c : Dev nD)

/-- The call's arguments, the rotations' factors as the host makes them. -/
def X : Arr := ⟨m ((c : Thread nD τ).loc main_arg0), m ((c : Thread nD τ).loc main_arg1), m ((c : Thread nD τ).loc main_arg2), V m c main_v29⟩

/-- The factors the host makes are the rotation's. -/
theorem tab_host : (V m c main_v29 : FVec Ideal S3x64x4096 .f32) = ctab := by
  refine Eq.trans ?_ hostTab_eq
  after_reads_simp
  rfl

/-- Which block each window stages at grid point `t`. -/
theorem idx : ∀ t : Fin cfg0.N, win0_0.index t = ![t.val, 0] ∧ win0_1.index t = ![t.val - 1, 0] ∧ win0_2.index t = ![t.val, 0]
    ∧ win0_3.index t = ![t.val - 1, 1] ∧ win0_4.index t = ![t.val, 1] ∧ win0_5.index t = ![0, 0, t.val - 1] ∧ win0_6.index t = ![0, 0, t.val]
    ∧ win0_7.index t = ![0, 0] ∧ win0_8.index t = ![t.val, 0] ∧ win0_9.index t = ![0, 0, t.val] ∧ (grid0.coords t 0).val = t.val ∧ t.val < 32 :=
  (by decide +kernel : ∀ t : Fin grid0.N, _)

variable (t : Fin cfg0.N)

/-- The grid has thirty-two points, and its coordinate is the point. -/
theorem tlt : t.val < 32 := by obtain ⟨-, -, -, -, -, -, -, -, -, -, -, h⟩ := idx t; exact h
theorem coord : (grid0.coords t 0).val = t.val := by obtain ⟨-, -, -, -, -, -, -, -, -, -, h, -⟩ := idx t; exact h

/-- A grid point's loads. -/
def B : Blk := ⟨⟨t.val, tlt t⟩, iblk m c 0 t, iblk m c 1 t, iblk m c 2 t, iblk m c 3 t, iblk m c 4 t, iblk m c 5 t, iblk m c 6 t, iblk m c 7 t⟩

/-- The blocks of the arguments, read at an index. -/
theorem rd0 (i : Fin 128) (k : Fin 1024) : (iblk m c 0 t : FVec Ideal S128x1024 .bf16) (ix2 i k) = (X m c).q (ix2 ⟨128 * t.val + i.val, by have := tlt t; omega⟩ k) := by
  unfold X; blk_ext [iblk, V, idx t]
theorem rd1 (i : Fin 128) (k : Fin 256) : (iblk m c 1 t : FVec Ideal S128x256 .bf16) (ix2 i k) = (X m c).kv (ix2 ⟨128 * (t.val - 1) + i.val, by have := tlt t; omega⟩ ⟨k.val, by omega⟩) := by
  unfold X; blk_ext [iblk, V, idx t]
theorem rd2 (i : Fin 128) (k : Fin 256) : (iblk m c 2 t : FVec Ideal S128x256 .bf16) (ix2 i k) = (X m c).kv (ix2 ⟨128 * t.val + i.val, by have := tlt t; omega⟩ ⟨k.val, by omega⟩) := by
  unfold X; blk_ext [iblk, V, idx t]
theorem rd3 (i : Fin 128) (k : Fin 256) : (iblk m c 3 t : FVec Ideal S128x256 .bf16) (ix2 i k) = (X m c).kv (ix2 ⟨128 * (t.val - 1) + i.val, by have := tlt t; omega⟩ ⟨256 + k.val, by omega⟩) := by
  unfold X; blk_ext [iblk, V, idx t]
theorem rd4 (i : Fin 128) (k : Fin 256) : (iblk m c 4 t : FVec Ideal S128x256 .bf16) (ix2 i k) = (X m c).kv (ix2 ⟨128 * t.val + i.val, by have := tlt t; omega⟩ ⟨256 + k.val, by omega⟩) := by
  unfold X; blk_ext [iblk, V, idx t]
theorem rd5 (a : Fin 3) (d : Fin 64) (i : Fin 128) : (iblk m c 5 t : FVec Ideal S3x64x128 .f32) (ix3 a d i) = (X m c).tab (ix3 a d ⟨128 * (t.val - 1) + i.val, by have := tlt t; omega⟩) := by
  unfold X; blk_ext [iblk, idx t]
theorem rd6 (a : Fin 3) (d : Fin 64) (i : Fin 128) : (iblk m c 6 t : FVec Ideal S3x64x128 .f32) (ix3 a d i) = (X m c).tab (ix3 a d ⟨128 * t.val + i.val, by have := tlt t; omega⟩) := by
  unfold X; blk_ext [iblk, idx t]
theorem rd7 : (iblk m c 7 t : FVec Ideal S1x16 .f32) = (X m c).sk := by
  funext j
  idx_vars j
  obtain rfl : j0 = 0 := Subsingleton.elim _ _
  unfold X; blk_ext [iblk, V, idx t]

theorem loads : Loads (B m c t) (X m c) :=
  loads_of (X m c) ⟨t.val, tlt t⟩ _ _ _ _ _ _ _ _ (rd0 m c t) (rd1 m c t) (rd2 m c t) (rd3 m c t) (rd4 m c t) (rd5 m c t) (rd6 m c t) (rd7 m c t)

/-- What a grid point leaves in its block of the result. -/
theorem out8 (i : Fin 128) (h : Fin 16) (d : Fin 64) : (outsAt0 m c t).1 (ix2 i ⟨64 * h.val + d.val, by omega⟩)
    = O (X m c) ⟨t.val, tlt t⟩ h i d := by
  unfold outsAt0
  dsimp only
  frame_out
  simp only [mask_eq, coord, tab_eq, keys_eq, values_eq, queries_eq, tabs_eq, key0, key1, key2, key3, score0, score1, score2, score3,
    ex0, iv0, ex2, iv2, ex3, iv3, heads_eq]
  rw [ex1, iv1]
  iterate 16 rw [sk_ld]
  refine (congrFun (congrArg heads (body_o ⟨t.val, tlt t⟩ _ _ _ _ _ _ _ _)) _).trans ?_
  refine (heads_apply _ i h d).trans (((loads m c t).out _ _ _).trans ?_)
  rw [qi_col, head_col]
  rfl

/-- What a grid point leaves in its block of the two statistics. -/
theorem out9 (a : Fin 2) (h : Fin 16) (i : Fin 128) : (outsAt0 m c t).2 (ix3 a h i)
    = if a.val = 0 then M (X m c) ⟨t.val, tlt t⟩ h i else I (X m c) ⟨t.val, tlt t⟩ h i := by
  unfold outsAt0
  dsimp only
  frame_out
  canon_tiles x hx
  all_goals idx_vars x
  all_goals obtain rfl : h = x1 := Fin.ext hx1
  all_goals obtain rfl : i = x2 := Fin.ext hx2
  all_goals simp only [mask_eq, coord, tab_eq, keys_eq, values_eq, queries_eq, tabs_eq, key0, key1, key2, key3, score0, score1, score2, score3,
    mx0, iv0, mx2, iv2, mx3, iv3, rows0, rows1]
  on_goal 1 => rw [iv1]
  on_goal 2 => rw [mx1]
  all_goals iterate 16 rw [sk_ld]
  · obtain rfl : x0 = 0 := Subsingleton.elim _ _
    rw [if_neg (by rw [show a.val = 1 from hx0]; omega)]
    refine (congrFun (congrArg (fun w => shapeCast S1x16x128 (rows w) shapeCasts_S16x128_S1x16x128)
      (body_i ⟨t.val, tlt t⟩ _ _ _ (iblk m c 3 t) (iblk m c 4 t) _ _ _)) _).trans ?_
    pointwise
    rw [rows_apply]
    exact ((loads m c t).inverse _ _).trans (by rw [qi_col, head_col]; rfl)
  · obtain rfl : x0 = 0 := Subsingleton.elim _ _
    rw [if_pos (show a.val = 0 from hx0)]
    refine (congrFun (congrArg (fun w => shapeCast S1x16x128 (rows w) shapeCasts_S16x128_S1x16x128)
      (body_m ⟨t.val, tlt t⟩ _ _ _ (iblk m c 3 t) (iblk m c 4 t) _ _ _)) _).trans ?_
    pointwise
    rw [rows_apply]
    exact ((loads m c t).top _ _).trans (by rw [qi_col, head_col]; rfl)

/-- The call's results after the run. -/
def heads' (x : Arr) : FVec Ideal S4096x1024 .bf16 := fun i =>
  O x ⟨(i 0).val / 128, by have : (i 0).val < 4096 := (i 0).isLt; omega⟩ ⟨(i 1).val / 64, by have : (i 1).val < 1024 := (i 1).isLt; omega⟩
    ⟨(i 0).val % 128, by omega⟩ ⟨(i 1).val % 64, by omega⟩
def stats' (x : Arr) : FVec Ideal S2x16x4096 .f32 := fun i =>
  let n : Fin 32 := ⟨(i 2).val / 128, by have : (i 2).val < 4096 := (i 2).isLt; omega⟩
  if (i 0).val = 0 then M x n (i 1) ⟨(i 2).val % 128, by omega⟩ else I x n (i 1) ⟨(i 2).val % 128, by omega⟩
theorem heads_at (x : Arr) (i : S4096x1024.Idx) (n : Fin 32) (h : Fin 16) (a : Fin 128) (d : Fin 64)
    (e0 : (i 0).val = 128 * n.val + a.val) (e1 : (i 1).val = 64 * h.val + d.val) : O x n h a d = heads' x i := by
  have := h.isLt
  unfold heads'
  congr 1 <;> apply Fin.ext
  · show n.val = (i 0).val / 128
    omega
  · show h.val = (i 1).val / 64
    omega
  · show a.val = (i 0).val % 128
    omega
  · show d.val = (i 1).val % 64
    omega
theorem stats_at (x : Arr) (i : S2x16x4096.Idx) (a : Fin 2) (n : Fin 32) (h : Fin 16) (q : Fin 128)
    (e0 : (i 0).val = a.val) (e1 : (i 1).val = h.val) (e2 : (i 2).val = 128 * n.val + q.val) :
    (if a.val = 0 then M x n h q else I x n h q) = stats' x i := by
  have hn : n = ⟨(i 2).val / 128, by omega⟩ := Fin.ext (by show n.val = (i 2).val / 128; omega)
  have hq : q = ⟨(i 2).val % 128, by omega⟩ := Fin.ext (by show q.val = (i 2).val % 128; omega)
  have hh : h = i 1 := Fin.ext e1.symm
  have key : ∀ n' h' q', n = n' → h = h' → q = q' → (if a.val = 0 then M x n h q else I x n h q) = if a.val = 0 then M x n' h' q' else I x n' h' q' := by
    rintro _ _ _ rfl rfl rfl; rfl
  refine (key _ _ _ hn hh hq).trans ?_
  show (if a.val = 0 then _ else _) = if (i 0).val = 0 then _ else _
  rw [e0]
theorem final8 : (dats m 0 c).arrAt 8 (cfgs 0).N = heads' (X m c) := by
  refine (dats m 0 c).arrAt_eq_of_covers 8 _ (by decide +kernel) fun t hf y => ?_
  blk_simp
  rw [after0_8]
  idx_vars y
  have e : y1 = ⟨64 * (y1.val / 64) + y1.val % 64, by omega⟩ := Fin.ext (by show y1.val = 64 * (y1.val / 64) + y1.val % 64; omega)
  rw [e]
  refine (out8 m c t y0 ⟨y1.val / 64, by omega⟩ ⟨y1.val % 64, by omega⟩).trans (heads_at _ _ _ _ _ _ ?_ ?_)
  · blk_simp [idx t]
    show t.val * 128 + y0.val = 128 * t.val + y0.val
    omega
  · blk_simp [idx t]
theorem final9 : (dats m 0 c).arrAt 9 (cfgs 0).N = stats' (X m c) := by
  refine (dats m 0 c).arrAt_eq_of_covers 9 _ (by decide +kernel) fun t hf y => ?_
  blk_simp
  rw [after0_9]
  idx_vars y
  refine (out9 m c t y0 y1 y2).trans (stats_at _ _ _ _ _ _ ?_ ?_ ?_)
  · blk_simp [idx t]
  · blk_simp [idx t]
  · blk_simp [idx t]
    show t.val * 128 + y2.val = 128 * t.val + y2.val
    omega

end Cert.AttnFwdIdeal.Value

end
-- ==== Proof.AttnFwdRun.lean ====
module

public import proofs.«01_k».proof.Proof.BandRow
public import proofs.«01_k».proof.Proof.AttnFwdValue
public import proofs.«01_k».proof.Proof.Gen.AttnFwdRefIdeal.Run

@[expose] public section

set_option maxRecDepth 16384

noncomputable section

open Idealize.ShloMosaic Idealize.ShloMosaic.TcCoe Idealize.SL.Sem

namespace Cert.AttnFwdRefIdeal.Read

open Cert.AttnFwdRefIdeal Cert.AttnFwdRefIdeal.Gen
open Cert.Band Cert.AttnFwdIdeal.Value

/-! The reference's two results. -/

section Results
variable (x0 : FVec Ideal S4096x1024 .bf16) (x1 : FVec Ideal S4096x512 .bf16) (x2 : FVec Ideal S1x16 .f32)
variable (H : Reals (arr x0 x1 x2))
include H

theorem refHeads : (val_main_v140 (F := Ideal) x0 x1 x2 : FVec Ideal S4096x1024 .bf16) = heads' (arr x0 x1 x2) := by
  funext i
  idx_vars i
  pointwise [val_main_v137, val_main_v138, val_main_v139, val_main_v140]
  rw [refO x0 x1 x2 H]
  refine heads_at _ _ _ _ _ _ ?_ ?_
  · show i0.val = 128 * (i0.val / 128) + i0.val % 128
    omega
  · show i1.val = 64 * (4 * (i1.val / 256) + i1.val / 64 % 4) + i1.val % 64
    omega
theorem refStats : (val_main_v149 (F := Ideal) x0 x1 x2 : FVec Ideal S2x16x4096 .f32) = stats' (arr x0 x1 x2) := by
  funext i
  idx_vars i
  pointwise [val_main_v141, val_main_v142, val_main_v143, val_main_v144, val_main_v145, val_main_v146, val_main_v147, val_main_v148, val_main_v149]
  rw [refSinkMax x0 x1 x2 H, refI x0 x1 x2 H]
  have hh : head ⟨i1.val / 4, by omega⟩ ⟨i1.val % 4, by omega⟩ = i1 := Fin.ext (by show 4 * (i1.val / 4) + i1.val % 4 = i1.val; omega)
  refine Eq.trans ?_ (stats_at _ _ i0 ⟨i2.val / 128, by omega⟩ i1 ⟨i2.val % 128, by omega⟩ rfl rfl (by show i2.val = 128 * (i2.val / 128) + i2.val % 128; omega))
  rw [hh]
  by_cases h : i0.val < 1
  · rw [dif_pos h, if_pos (by omega)]
  · rw [dif_neg h, if_neg (by omega)]
end Results

/-- The arguments as the reference's memory holds them. -/
abbrev X (m : (ℓ : Loc nD τ sig) → Buf (Elt Ideal) ℓ) (c : Dev nD) : Arr := arr (m ((c.tc : Thread nD τ).loc main_arg0)) (m ((c.tc : Thread nD τ).loc main_arg1)) (m ((c.tc : Thread nD τ).loc main_arg2))

/-- The reference's run, where its arguments are real: each head's result and the rows' statistics as the kernel has them. -/
theorem run_heads (m : (ℓ : Loc nD τ sig) → Buf (Elt Ideal) ℓ) (ρ : Dev nD → PrngReg) (hr : ∀ c : Dev nD, Reals (X m c)) :
    θ_run (defs (F := Ideal)) (onTc (τ := τ) (main (F := Ideal))) ⟨m, fun _ => 0, ρ⟩ fun r => ∀ c : Dev nD,
      r.2.mem ((c.tc : Thread nD τ).loc main_v140) = heads' (X m c)
      ∧ r.2.mem ((c.tc : Thread nD τ).loc main_v149) = stats' (X m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨
    (h c).1.trans ((val_main_v140_eq _ _).trans (refHeads _ _ _ (hr c))),
    (h c).2.1.trans ((val_main_v149_eq _ _).trans (refStats _ _ _ (hr c))),
    (h c).2.2⟩) (Cert.AttnFwdRefIdeal.Value.run m ρ)

end Cert.AttnFwdRefIdeal.Read

end
-- ==== Proof.AttnFwdClaim.lean ====
module

public import proofs.«01_k».proof.Defs
public import proofs.«01_k».proof.Proof.AttnFwdRun
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.Pre_fwd_finite

/-- The shape facts of the predicate. -/
instance facts : Facts := by constructor <;> decide

/-- Where the predicate holds, the arguments are real. -/
theorem real [Facts] {a0 : FVec Ideal S4096x1024 .bf16} {a1 : FVec Ideal S4096x512 .bf16} {a2 : FVec Ideal S1x16 .f32}
    (h : fn a0 a1 a2 = fun _ => 1#1) : Cert.Band.Reals (Cert.Band.arr a0 a1 a2) := by
  obtain ⟨e, e2⟩ := Row.and_split (congrFun h fun k => k.elim0)
  obtain ⟨e0, e1⟩ := Row.and_split e
  exact ⟨Row.isReal_of_all e0 fun _ => Row.cTop16, Row.isReal_of_all e1 fun _ => Row.cTop16, Row.isReal_of_all e2 fun _ => Row.cTop, Cert.Band.ctab_real⟩

end Cert.Pre_fwd_finite

namespace Cert.Proof

/-- The reference of the forward attention runs to its end and leaves its arguments as they were. -/
theorem attnfwd_ref : quiescent_AttnFwdRefIdeal (hAttnFwdRefIdeal := Cert.AttnFwdRefIdeal.Gen.facts) := by
  intro m g _
  run_from Cert.AttnFwdRefIdeal.Value.run m g
  · exact fun _ => by simp only [and_self]
  · exact sem_eq_zero_of_no_sems (sig := Cert.AttnFwdRefIdeal.sig) (by decide) _

set_option maxHeartbeats 2000000 in
/-- The forward attention leaves the heads' results and the rows' statistics that the reference leaves, of real arguments. -/
theorem attnfwd_value : algebraic_AttnFwdIdeal_AttnFwdRefIdeal_pre_fwd_finite (hAttnFwdIdeal := Cert.AttnFwdIdeal.Gen.facts)
    (hAttnFwdRefIdeal := Cert.AttnFwdRefIdeal.Gen.facts) (hPre_fwd_finite := Cert.Pre_fwd_finite.facts) := by
  pair_intro
  · run_from Cert.AttnFwdIdeal.Gen.run_main m g
  · have hx : ∀ c, Cert.AttnFwdRefIdeal.Read.X m' c = Cert.AttnFwdIdeal.Value.X m c := fun c => by
      obtain ⟨e0, e1, e2⟩ := hagree c
      unfold Cert.AttnFwdRefIdeal.Read.X Cert.AttnFwdIdeal.Value.X Cert.Band.arr
      rw [e0, e1, e2, Cert.AttnFwdIdeal.Value.tab_host]
    have run := Cert.AttnFwdRefIdeal.Read.run_heads m' g' fun c => by
      obtain ⟨e0, e1, e2⟩ := hagree c
      unfold Cert.AttnFwdRefIdeal.Read.X
      rw [e0, e1, e2]
      exact Cert.Pre_fwd_finite.real (hpre c)
    run_from run
    · rw [hx c]; exact (Cert.AttnFwdIdeal.Value.final8 m c).symm
    · rw [hx c]; exact (Cert.AttnFwdIdeal.Value.final9 m c).symm

end Cert.Proof

end
-- ==== Proof.FwdRow.lean ====
module

public import proofs.«01_k».proof.Proof.RealRow

@[expose] public section

noncomputable section

open Idealize.ShloMosaic

namespace Cert.Row

/-- A row scaled to unit mean square. -/
def unit {n : ℕ} (f : Fin n → EReal) (k : Fin n) : EReal := f k * rms f

/-- A normed row: scaled to unit mean square, then by the norm's scale. -/
def normed {n : ℕ} (f g : Fin n → EReal) (k : Fin n) : EReal := unit f k * g k

end Cert.Row

end
-- ==== Proof.KvqValue.lean ====
module

public import proofs.«01_k».proof.Proof.FwdRow
public import proofs.«01_k».proof.Proof.Gen.KvqIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KvqIdeal.Value

open Cert.KvqIdeal Cert.KvqIdeal.Gen

/-! The two norms of the rows and the products after them, at one row and lane. -/

/-- A row of `h`, normed with the scale `g`. -/
def nrm (x : FVec Ideal S4096x1024 .bf16) (g : FVec Ideal S1x1024 .f32) (r : Fin 4096) (l : Fin 1024) : EReal :=
  Row.normed (fun k => x (ix2 r k)) (fun k => g (ix2 0 k)) l

/-- The product of the normed rows with the keys' and values' weights. -/
def kv (x : FVec Ideal S4096x1024 .bf16) (g : FVec Ideal S1x1024 .f32) (w : FVec Ideal S1024x512 .bf16) (r : Fin 4096) (l : Fin 512) : EReal :=
  ∑ k : Fin 1024, nrm x g r k * w (ix2 k l)

/-- The product of the normed rows with the queries' weights. -/
def q (x : FVec Ideal S4096x1024 .bf16) (g : FVec Ideal S1x1024 .f32) (w : FVec Ideal S1024x1024 .bf16) (r : Fin 4096) (l : Fin 1024) : EReal :=
  ∑ k : Fin 1024, nrm x g r k * w (ix2 k l)

/-! ## What a grid point writes, in terms of its blocks -/

section Block

variable (x0 : FVec Ideal S1024x1024 .bf16) (x1 x2 : FVec Ideal S1x1024 .f32) (x3 : FVec Ideal S1024x512 .bf16) (x4 : FVec Ideal S1024x1024 .bf16)

/-- A block's row at unit mean square. -/
def unitB (r l : Fin 1024) : EReal := Row.unit (fun k => x0 (ix2 r k)) l

/-- The four parts of a block, each at unit mean square. -/
theorem part0 (r : Fin 256) (l : Fin 1024) : k0_pay6 (F := Ideal) (View.ld x0 r0_0) (ix2 r l) = unitB x0 ⟨r.val, by omega⟩ l := by
  pointwise [k0_pay6]
  rfl
theorem part1 (r : Fin 256) (l : Fin 1024) : k0_pay7 (F := Ideal) (View.ld x0 r0_1) (ix2 r l) = unitB x0 ⟨256 + r.val, by omega⟩ l := by
  pointwise [k0_pay7]
  rfl
theorem part2 (r : Fin 256) (l : Fin 1024) : k0_pay8 (F := Ideal) (View.ld x0 r0_2) (ix2 r l) = unitB x0 ⟨512 + r.val, by omega⟩ l := by
  pointwise [k0_pay8]
  rfl
theorem part3 (r : Fin 256) (l : Fin 1024) : k0_pay11 (F := Ideal) (k0_pay9 (View.ld x0 r0_3)) (k0_pay10 (View.ld x0 r0_3)) (ix2 r l)
    = unitB x0 ⟨768 + r.val, by omega⟩ l := by
  pointwise [k0_pay11, k0_pay9, k0_pay10]
  rfl

/-- The keys and values that a grid point leaves. -/
theorem out5 (y0 : Fin 1024) (y1 : Fin 512) : out0_5 (F := Ideal) x0 x1 x2 x3 x4 (ix2 y0 y1)
    = ∑ k : Fin 1024, unitB x0 y0 k * x1 (ix2 0 k) * x3 (ix2 k y1) := by
  unfold_out out0_5
  canon_tiles p h
  all_goals idx_vars p
  all_goals obtain rfl : y1 = p1 := Fin.ext h1
  · obtain rfl : y0 = ⟨768 + p0.val, by clear h0; omega⟩ := Fin.ext h0
    pointwise [k0_pay19, k0_pay18]
    simp only [part3]
  · obtain rfl : y0 = ⟨512 + p0.val, by clear h0; omega⟩ := Fin.ext h0
    pointwise [k0_pay17, k0_pay16]
    simp only [part2]
  · obtain rfl : y0 = ⟨256 + p0.val, by clear h0; omega⟩ := Fin.ext h0
    pointwise [k0_pay15, k0_pay14]
    simp only [part1]
  · obtain rfl : y0 = ⟨p0.val, by clear h0; omega⟩ := Fin.ext h0
    pointwise [k0_pay13, k0_pay12]
    simp only [part0]

/-- The rows normed for the keys and values that a grid point leaves. -/
theorem out6 (y0 y1 : Fin 1024) : out0_6 (F := Ideal) x0 x1 x2 x3 x4 (ix2 y0 y1) = unitB x0 y0 y1 * x1 (ix2 0 y1) := by
  unfold_out out0_6
  canon_tiles p h
  all_goals idx_vars p
  all_goals obtain rfl : y1 = p1 := Fin.ext h1
  · obtain rfl : y0 = ⟨768 + p0.val, by clear h0; omega⟩ := Fin.ext h0
    pointwise [k0_pay18]
    rw [part3]
  · obtain rfl : y0 = ⟨512 + p0.val, by clear h0; omega⟩ := Fin.ext h0
    pointwise [k0_pay16]
    rw [part2]
  · obtain rfl : y0 = ⟨256 + p0.val, by clear h0; omega⟩ := Fin.ext h0
    pointwise [k0_pay14]
    rw [part1]
  · obtain rfl : y0 = ⟨p0.val, by clear h0; omega⟩ := Fin.ext h0
    pointwise [k0_pay12]
    rw [part0]

/-- The queries that a grid point leaves. -/
theorem out7 (y0 y1 : Fin 1024) : out0_7 (F := Ideal) x0 x1 x2 x3 x4 (ix2 y0 y1)
    = ∑ k : Fin 1024, unitB x0 y0 k * x2 (ix2 0 k) * x4 (ix2 k y1) := by
  unfold_out out0_7
  canon_tiles p h
  all_goals idx_vars p
  all_goals obtain rfl : y1 = p1 := Fin.ext h1
  · obtain rfl : y0 = ⟨768 + p0.val, by clear h0; omega⟩ := Fin.ext h0
    pointwise [k0_pay5, k0_pay4]
    simp only [part3]
  · obtain rfl : y0 = ⟨512 + p0.val, by clear h0; omega⟩ := Fin.ext h0
    pointwise [k0_pay3, k0_pay2]
    simp only [part2]
  · obtain rfl : y0 = ⟨256 + p0.val, by clear h0; omega⟩ := Fin.ext h0
    pointwise [k0_pay1, k0_pay22]
    simp only [part1]
  · obtain rfl : y0 = ⟨p0.val, by clear h0; omega⟩ := Fin.ext h0
    pointwise [k0_pay21, k0_pay20]
    simp only [part0]

/-- The rows normed for the queries that a grid point leaves. -/
theorem out8 (y0 y1 : Fin 1024) : out0_8 (F := Ideal) x0 x1 x2 x3 x4 (ix2 y0 y1) = unitB x0 y0 y1 * x2 (ix2 0 y1) := by
  unfold_out out0_8
  canon_tiles p h
  all_goals idx_vars p
  all_goals obtain rfl : y1 = p1 := Fin.ext h1
  · obtain rfl : y0 = ⟨768 + p0.val, by clear h0; omega⟩ := Fin.ext h0
    pointwise [k0_pay4]
    rw [part3]
  · obtain rfl : y0 = ⟨512 + p0.val, by clear h0; omega⟩ := Fin.ext h0
    pointwise [k0_pay2]
    rw [part2]
  · obtain rfl : y0 = ⟨256 + p0.val, by clear h0; omega⟩ := Fin.ext h0
    pointwise [k0_pay22]
    rw [part1]
  · obtain rfl : y0 = ⟨p0.val, by clear h0; omega⟩ := Fin.ext h0
    pointwise [k0_pay20]
    rw [part0]

end Block

/-! ## The arrays after the run -/

variable (m : (ℓ : Loc nD τ sig) → Buf (Elt Ideal) ℓ) (c : Dev nD)

/-- The argument arrays. -/
abbrev X0 : FVec Ideal S4096x1024 .bf16 := m ((c : Thread nD τ).loc main_arg0)
abbrev X1 : FVec Ideal S1x1024 .f32 := m ((c : Thread nD τ).loc main_arg1)
abbrev X2 : FVec Ideal S1x1024 .f32 := m ((c : Thread nD τ).loc main_arg2)
abbrev X3 : FVec Ideal S1024x512 .bf16 := m ((c : Thread nD τ).loc main_arg3)
abbrev X4 : FVec Ideal S1024x1024 .bf16 := m ((c : Thread nD τ).loc main_arg4)

/-- The blocks the windows hold at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ t.val < 4 :=
  (by decide +kernel : ∀ t : Fin grid0.N, _)

theorem tlt (t : Fin cfg0.N) : t.val < 4 := (idx t).2.2.2.2.2.2.2.2.2

variable (t : Fin cfg0.N)

/-- The row of the array that is a block's row `r`. -/
def row (r : Fin 1024) : Fin 4096 := ⟨1024 * t.val + r.val, by have := tlt t; omega⟩

/-- The input blocks, in terms of the arrays. -/
theorem rd0 (r k : Fin 1024) : (iblk m c 0 t : FVec Ideal S1024x1024 .bf16) (ix2 r k) = X0 m c (ix2 (row t r) k) := by
  blk_ext [iblk, V, idx t, row]
theorem rd1 (k : Fin 1024) : (iblk m c 1 t : FVec Ideal S1x1024 .f32) (ix2 0 k) = X1 m c (ix2 0 k) := by
  blk_ext [iblk, V, idx t]
theorem rd2 (k : Fin 1024) : (iblk m c 2 t : FVec Ideal S1x1024 .f32) (ix2 0 k) = X2 m c (ix2 0 k) := by
  blk_ext [iblk, V, idx t]
theorem rd3 (k : Fin 1024) (l : Fin 512) : (iblk m c 3 t : FVec Ideal S1024x512 .bf16) (ix2 k l) = X3 m c (ix2 k l) := by
  blk_ext [iblk, V, idx t]
theorem rd4 (k l : Fin 1024) : (iblk m c 4 t : FVec Ideal S1024x1024 .bf16) (ix2 k l) = X4 m c (ix2 k l) := by
  blk_ext [iblk, V, idx t]

theorem rdUnit (r l : Fin 1024) : unitB (iblk m c 0 t : FVec Ideal S1024x1024 .bf16) r l = Row.unit (fun k => X0 m c (ix2 (row t r) k)) l := by
  unfold unitB
  simp only [rd0]

/-- The keys and values after the run. -/
theorem final5 : (dats m 0 c).arrAt 5 (cfgs 0).N = fun i : S4096x512.Idx => kv (X0 m c) (X1 m c) (X3 m c) (i 0) (i 1) := by
  refine (dats m 0 c).arrAt_eq_of_covers 5 _ (by decide +kernel) fun t hf y => ?_
  blk_simp
  rw [after0_5]
  idx_vars y
  refine (out5 _ _ _ _ _ y0 y1).trans ?_
  simp only [rdUnit, rd1, rd3]
  refine congrArg₂ (kv (X0 m c) (X1 m c) (X3 m c)) (Fin.ext ?_) (Fin.ext ?_) <;> blk_simp [idx t]
  show 1024 * t.val + y0.val = _
  omega

/-- The rows normed for the keys and values after the run. -/
theorem final6 : (dats m 0 c).arrAt 6 (cfgs 0).N = fun i : S4096x1024.Idx => nrm (X0 m c) (X1 m c) (i 0) (i 1) := by
  refine (dats m 0 c).arrAt_eq_of_covers 6 _ (by decide +kernel) fun t hf y => ?_
  blk_simp
  rw [after0_6]
  idx_vars y
  refine (out6 _ _ _ _ _ y0 y1).trans ?_
  simp only [rdUnit, rd1]
  refine congrArg₂ (nrm (X0 m c) (X1 m c)) (Fin.ext ?_) (Fin.ext ?_) <;> blk_simp [idx t]
  show 1024 * t.val + y0.val = _
  omega

/-- The queries after the run. -/
theorem final7 : (dats m 0 c).arrAt 7 (cfgs 0).N = fun i : S4096x1024.Idx => q (X0 m c) (X2 m c) (X4 m c) (i 0) (i 1) := by
  refine (dats m 0 c).arrAt_eq_of_covers 7 _ (by decide +kernel) fun t hf y => ?_
  blk_simp
  rw [after0_7]
  idx_vars y
  refine (out7 _ _ _ _ _ y0 y1).trans ?_
  simp only [rdUnit, rd2, rd4]
  refine congrArg₂ (q (X0 m c) (X2 m c) (X4 m c)) (Fin.ext ?_) (Fin.ext ?_) <;> blk_simp [idx t]
  show 1024 * t.val + y0.val = _
  omega

/-- The rows normed for the queries after the run. -/
theorem final8 : (dats m 0 c).arrAt 8 (cfgs 0).N = fun i : S4096x1024.Idx => nrm (X0 m c) (X2 m c) (i 0) (i 1) := by
  refine (dats m 0 c).arrAt_eq_of_covers 8 _ (by decide +kernel) fun t hf y => ?_
  blk_simp
  rw [after0_8]
  idx_vars y
  refine (out8 _ _ _ _ _ y0 y1).trans ?_
  simp only [rdUnit, rd2]
  refine congrArg₂ (nrm (X0 m c) (X2 m c)) (Fin.ext ?_) (Fin.ext ?_) <;> blk_simp [idx t]
  show 1024 * t.val + y0.val = _
  omega

end Cert.KvqIdeal.Value

end
-- ==== Proof.KvqClaim.lean ====
module

public import proofs.«01_k».proof.Defs
public import proofs.«01_k».proof.Proof.Gen.Kvq.Frame
public import proofs.«01_k».proof.Proof.KvqValue
public import proofs.«01_k».proof.Proof.Gen.KvqRefIdeal.Read
public import Idealize.ShloMosaic.Lib.Claim

@[expose] public section

set_option maxRecDepth 16384

noncomputable section

open Idealize.ShloMosaic Idealize.ShloMosaic.TcCoe Idealize.SL.Sem

namespace Cert.KvqRefIdeal.Read

open Cert.KvqRefIdeal

open Cert.KvqIdeal.Value (nrm kv q)

section Reference

variable (x0 : FVec Ideal S4096x1024 .bf16) (g : FVec Ideal S1x1024 .f32)

/-- The reference's normed rows, for each of the two norms. -/
theorem refNormKv (r : Fin 4096) (l : Fin 1024) : val_main_v12 (F := Ideal) x0 g (ix2 r l) = nrm x0 g r l := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl
theorem refNormQ (r : Fin 4096) (l : Fin 1024) : val_main_v29 (F := Ideal) x0 g (ix2 r l) = nrm x0 g r l := by
  pointwise [val_main_v17, val_main_v18, val_main_v19, val_main_v20, val_main_v21, val_main_v22, val_main_v23, val_main_v24, val_main_v25, val_main_v26, val_main_v27, val_main_v28, val_main_v29, val_main_cst_2, val_main_cst_3, val_main_cst_4]
  rfl

theorem ref15 (w : FVec Ideal S1024x512 .bf16) (r : Fin 4096) (l : Fin 512) : val_main_v15 (F := Ideal) x0 g w (ix2 r l) = kv x0 g w r l := by
  pointwise [val_main_v15, val_main_v14, val_main_v13]
  simp only [refNormKv, kv]
theorem ref16 (r : Fin 4096) (l : Fin 1024) : val_main_v16 (F := Ideal) x0 g (ix2 r l) = nrm x0 g r l := by
  pointwise [val_main_v16]
  exact refNormKv x0 g r l
theorem ref32 (w : FVec Ideal S1024x1024 .bf16) (r : Fin 4096) (l : Fin 1024) : val_main_v32 (F := Ideal) x0 g w (ix2 r l) = q x0 g w r l := by
  pointwise [val_main_v32, val_main_v31, val_main_v30]
  simp only [refNormQ, q]
theorem ref33 (r : Fin 4096) (l : Fin 1024) : val_main_v33 (F := Ideal) x0 g (ix2 r l) = nrm x0 g r l := by
  pointwise [val_main_v33]
  exact refNormQ x0 g r l

end Reference

/-- The reference's run, its results the products and the normed rows. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = (fun i : S4096x512.Idx => Cert.KvqIdeal.Value.kv
        (m ((c.tc : Thread nD τ).loc main_arg0)) (m ((c.tc : Thread nD τ).loc main_arg1)) (m ((c.tc : Thread nD τ).loc main_arg3)) (i 0) (i 1))
      ∧ r.2.mem ((c.tc : Thread nD τ).loc main_v16) = (fun i : S4096x1024.Idx => Cert.KvqIdeal.Value.nrm
        (m ((c.tc : Thread nD τ).loc main_arg0)) (m ((c.tc : Thread nD τ).loc main_arg1)) (i 0) (i 1))
      ∧ r.2.mem ((c.tc : Thread nD τ).loc main_v32) = (fun i : S4096x1024.Idx => Cert.KvqIdeal.Value.q
        (m ((c.tc : Thread nD τ).loc main_arg0)) (m ((c.tc : Thread nD τ).loc main_arg2)) (m ((c.tc : Thread nD τ).loc main_arg4)) (i 0) (i 1))
      ∧ r.2.mem ((c.tc : Thread nD τ).loc main_v33) = (fun i : S4096x1024.Idx => Cert.KvqIdeal.Value.nrm
        (m ((c.tc : Thread nD τ).loc main_arg0)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans ((val_main_v15_eq _ _ _).trans (funext fun i => by idx_vars i; exact ref15 _ _ _ i0 i1)),
    (h c).2.1.trans ((val_main_v16_eq _ _).trans (funext fun i => by idx_vars i; exact ref16 _ _ i0 i1)),
    (h c).2.2.1.trans ((val_main_v32_eq _ _ _).trans (funext fun i => by idx_vars i; exact ref32 _ _ _ i0 i1)),
    (h c).2.2.2.1.trans ((val_main_v33_eq _ _).trans (funext fun i => by idx_vars i; exact ref33 _ _ i0 i1)),
    (h c).2.2.2.2⟩) (Cert.KvqRefIdeal.Value.run m ρ)

end Cert.KvqRefIdeal.Read

namespace Cert.Proof

/-- The reference of the keys, values and queries runs to its end and leaves its arguments as they were. -/
theorem kvq_ref : quiescent_KvqRefIdeal (hKvqRefIdeal := Cert.KvqRefIdeal.Gen.facts) := by
  intro m g _
  run_from Cert.KvqRefIdeal.Read.run_forward m g
  · exact fun _ => by simp only [and_self]
  · exact sem_eq_zero_of_no_sems (sig := Cert.KvqRefIdeal.sig) (by decide) _

/-- The kernel of the keys, values and queries leaves in every result what the forward lines leave there. -/
theorem kvq_value : algebraic_KvqIdeal_KvqRefIdeal (hKvqIdeal := Cert.KvqIdeal.Gen.facts)
    (hKvqRefIdeal := Cert.KvqRefIdeal.Gen.facts) := by
  pair_intro
  · run_from Cert.KvqIdeal.Gen.run_main m g
  · run_from Cert.KvqRefIdeal.Read.run_forward m' g'
    · exact (Cert.KvqIdeal.Value.final5 m c).symm
    · exact (Cert.KvqIdeal.Value.final6 m c).symm
    · exact (Cert.KvqIdeal.Value.final7 m c).symm
    · exact (Cert.KvqIdeal.Value.final8 m c).symm

end Cert.Proof

end
-- ==== Proof.MixOutValue.lean ====
module

public import proofs.«01_k».proof.Proof.FwdRow
public import proofs.«01_k».proof.Proof.Gen.MixOutIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

/-! The product, its norm and the residual sum, at one row and lane. -/

/-- The product that the norm normalises. -/
def Z (a : FVec Ideal S4096x2816 .bf16) (w : FVec Ideal S2816x1024 .bf16) (r : Fin 4096) (l : Fin 1024) : EReal :=
  ∑ k : Fin 2816, a (ix2 r k) * w (ix2 k l)

/-- The row carried past the layer, plus the normed product. -/
def H (a : FVec Ideal S4096x2816 .bf16) (w : FVec Ideal S2816x1024 .bf16) (g : FVec Ideal S1x1024 .f32) (res : FVec Ideal S4096x1024 .bf16)
    (r : Fin 4096) (l : Fin 1024) : EReal :=
  res (ix2 r l) + Row.normed (Z a w r) (fun k => g (ix2 0 k)) l

/-! ## What a grid point writes, in terms of its blocks -/

section Block

variable (x0 : FVec Ideal S512x2816 .bf16) (x1 : FVec Ideal S2816x1024 .bf16) (x2 : FVec Ideal S1x1024 .f32) (x3 : FVec Ideal S512x1024 .bf16)

/-- A block's product. -/
def ZB (r : Fin 512) (l : Fin 1024) : EReal := ∑ k : Fin 2816, x0 (ix2 r k) * x1 (ix2 k l)

/-- The two parts of a block's product. -/
theorem part0 (r : Fin 256) (l : Fin 1024) : k0_pay3 (F := Ideal) (View.ld x0 r0_0) (View.ld x1 r0_1) (ix2 r l) = ZB x0 x1 ⟨r.val, by omega⟩ l := by
  pointwise [k0_pay3]
  rfl
theorem part1 (r : Fin 256) (l : Fin 1024) : k0_pay4 (F := Ideal) (View.ld x0 r0_2) (View.ld x1 r0_1) (ix2 r l) = ZB x0 x1 ⟨256 + r.val, by omega⟩ l := by
  pointwise [k0_pay4]
  rfl

/-- The residual sum that a grid point leaves. -/
theorem out4 (y0 : Fin 512) (y1 : Fin 1024) : out0_4 (F := Ideal) x0 x1 x2 x3 (ix2 y0 y1)
    = x3 (ix2 y0 y1) + Row.normed (ZB x0 x1 y0) (fun k => x2 (ix2 0 k)) y1 := by
  unfold_out out0_4
  canon_tiles p h
  all_goals idx_vars p
  all_goals obtain rfl : y1 = p1 := Fin.ext h1
  · obtain rfl : y0 = ⟨256 + p0.val, by clear h0; omega⟩ := Fin.ext h0
    pointwise [k0_pay1, k0_pay7, k0_pay8, k0_pay9]
    simp only [part1]
    rfl
  · obtain rfl : y0 = ⟨p0.val, by clear h0; omega⟩ := Fin.ext h0
    pointwise [k0_pay5]
    simp only [part0]
    rfl

/-- The product that a grid point leaves. -/
theorem out5 (y0 : Fin 512) (y1 : Fin 1024) : out0_5 (F := Ideal) x0 x1 x2 x3 (ix2 y0 y1) = ZB x0 x1 y0 y1 := by
  unfold_out out0_5
  canon_tiles p h
  all_goals idx_vars p
  all_goals obtain rfl : y1 = p1 := Fin.ext h1
  · obtain rfl : y0 = ⟨256 + p0.val, by clear h0; omega⟩ := Fin.ext h0
    pointwise [k0_pay2]
    exact part1 x0 x1 p0 y1
  · obtain rfl : y0 = ⟨p0.val, by clear h0; omega⟩ := Fin.ext h0
    pointwise [k0_pay6]
    exact part0 x0 x1 p0 y1

end Block

/-! ## The arrays after the run -/

variable (m : (ℓ : Loc nD τ sig) → Buf (Elt Ideal) ℓ) (c : Dev nD)

/-- The argument arrays. -/
abbrev X0 : FVec Ideal S4096x2816 .bf16 := m ((c : Thread nD τ).loc main_arg0)
abbrev X1 : FVec Ideal S2816x1024 .bf16 := m ((c : Thread nD τ).loc main_arg1)
abbrev X2 : FVec Ideal S1x1024 .f32 := m ((c : Thread nD τ).loc main_arg2)
abbrev X3 : FVec Ideal S4096x1024 .bf16 := m ((c : Thread nD τ).loc main_arg3)

/-- The blocks the windows hold at a grid point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ t.val < 8 :=
  (by decide +kernel : ∀ t : Fin grid0.N, _)

theorem tlt (t : Fin cfg0.N) : t.val < 8 := (idx t).2.2.2.2.2.2

variable (t : Fin cfg0.N)

/-- The row of the array that is a block's row `r`. -/
def row (r : Fin 512) : Fin 4096 := ⟨512 * t.val + r.val, by have := tlt t; omega⟩

/-- The input blocks, in terms of the arrays. -/
theorem rd0 (r : Fin 512) (k : Fin 2816) : (iblk m c 0 t : FVec Ideal S512x2816 .bf16) (ix2 r k) = X0 m c (ix2 (row t r) k) := by
  blk_ext [iblk, V, idx t, row]
theorem rd1 (k : Fin 2816) (l : Fin 1024) : (iblk m c 1 t : FVec Ideal S2816x1024 .bf16) (ix2 k l) = X1 m c (ix2 k l) := by
  blk_ext [iblk, V, idx t]
theorem rd2 (k : Fin 1024) : (iblk m c 2 t : FVec Ideal S1x1024 .f32) (ix2 0 k) = X2 m c (ix2 0 k) := by
  blk_ext [iblk, V, idx t]
theorem rd3 (r : Fin 512) (k : Fin 1024) : (iblk m c 3 t : FVec Ideal S512x1024 .bf16) (ix2 r k) = X3 m c (ix2 (row t r) k) := by
  blk_ext [iblk, V, idx t, row]

theorem rdZ (r : Fin 512) : ZB (iblk m c 0 t : FVec Ideal S512x2816 .bf16) (iblk m c 1 t : FVec Ideal S2816x1024 .bf16) r
    = Z (X0 m c) (X1 m c) (row t r) := by
  funext l
  unfold ZB Z
  simp only [rd0, rd1]

/-- The residual sum after the run. -/
theorem final4 : (dats m 0 c).arrAt 4 (cfgs 0).N = fun i : S4096x1024.Idx => H (X0 m c) (X1 m c) (X2 m c) (X3 m c) (i 0) (i 1) := by
  refine (dats m 0 c).arrAt_eq_of_covers 4 _ (by decide +kernel) fun t hf y => ?_
  blk_simp
  rw [after0_4]
  idx_vars y
  refine (out4 _ _ _ _ y0 y1).trans ?_
  simp only [rdZ, rd2, rd3]
  refine congrArg₂ (H (X0 m c) (X1 m c) (X2 m c) (X3 m c)) (Fin.ext ?_) (Fin.ext ?_) <;> blk_simp [idx t]
  show 512 * t.val + y0.val = _
  omega

/-- The product after the run. -/
theorem final5 : (dats m 0 c).arrAt 5 (cfgs 0).N = fun i : S4096x1024.Idx => Z (X0 m c) (X1 m c) (i 0) (i 1) := by
  refine (dats m 0 c).arrAt_eq_of_covers 5 _ (by decide +kernel) fun t hf y => ?_
  blk_simp
  rw [after0_5]
  idx_vars y
  refine (out5 _ _ _ _ y0 y1).trans ?_
  rw [rdZ]
  refine congrArg₂ (Z (X0 m c) (X1 m c)) (Fin.ext ?_) (Fin.ext ?_) <;> blk_simp [idx t]
  show 512 * t.val + y0.val = _
  omega

end Cert.MixOutIdeal.Value

end
-- ==== Proof.MixOutClaim.lean ====
module

public import proofs.«01_k».proof.Defs
public import proofs.«01_k».proof.Proof.Gen.MixOut.Frame
public import proofs.«01_k».proof.Proof.MixOutValue
public import proofs.«01_k».proof.Proof.Gen.MixOutRefIdeal.Read
public import Idealize.ShloMosaic.Lib.Claim

@[expose] public section

set_option maxRecDepth 16384

noncomputable section

open Idealize.ShloMosaic Idealize.ShloMosaic.TcCoe Idealize.SL.Sem

namespace Cert.MixOutRefIdeal.Read

open Cert.MixOutRefIdeal

open Cert.MixOutIdeal.Value (Z H)

section Reference

variable (a : FVec Ideal S4096x2816 .bf16) (w : FVec Ideal S2816x1024 .bf16)

/-- The reference's product, the reciprocal root of its mean square, and the two results. -/
theorem refZ (r : Fin 4096) (l : Fin 1024) : val_main_v3 (F := Ideal) a w (ix2 r l) = Z a w r l := by
  pointwise [val_main_v0, val_main_v1, val_main_v3]
  rfl
theorem refRms (r : Fin 4096) : val_main_v11 (F := Ideal) a w (ix2 r 0) = Row.rms (Z a w r) := by
  pointwise [val_main_v4, val_main_cst, val_main_v5, val_main_v6, val_main_cst_0, val_main_v7, val_main_v8, val_main_cst_1, val_main_v9,
      val_main_v10, val_main_v11]
  simp only [refZ]
  rfl
theorem ref17 (g : FVec Ideal S1x1024 .f32) (res : FVec Ideal S4096x1024 .bf16) (r : Fin 4096) (l : Fin 1024) :
    val_main_v17 (F := Ideal) a w g res (ix2 r l) = H a w g res r l := by
  pointwise [val_main_v17, val_main_v16, val_main_v2, val_main_v15, val_main_v14, val_main_v13, val_main_v12]
  simp only [refZ, refRms]
  rfl
theorem ref18 (r : Fin 4096) (l : Fin 1024) : val_main_v18 (F := Ideal) a w (ix2 r l) = Z a w r l := by
  pointwise [val_main_v18]
  exact refZ a w r l

end Reference

/-- The reference's run, its results the residual sum and the product. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = (fun i : S4096x1024.Idx => Cert.MixOutIdeal.Value.H
        (m ((c.tc : Thread nD τ).loc main_arg0)) (m ((c.tc : Thread nD τ).loc main_arg1)) (m ((c.tc : Thread nD τ).loc main_arg2)) (m ((c.tc : Thread nD τ).loc main_arg3)) (i 0) (i 1))
      ∧ r.2.mem ((c.tc : Thread nD τ).loc main_v18) = (fun i : S4096x1024.Idx => Cert.MixOutIdeal.Value.Z
        (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans ((val_main_v17_eq _ _ _ _).trans (funext fun i => by idx_vars i; exact ref17 _ _ _ _ i0 i1)),
    (h c).2.1.trans ((val_main_v18_eq _ _).trans (funext fun i => by idx_vars i; exact ref18 _ _ i0 i1)),
    (h c).2.2⟩) (Cert.MixOutRefIdeal.Value.run m ρ)

end Cert.MixOutRefIdeal.Read

namespace Cert.Proof

/-- The reference of the layer's output product and its norm runs to its end and leaves its arguments as they were. -/
theorem mixout_ref : quiescent_MixOutRefIdeal (hMixOutRefIdeal := Cert.MixOutRefIdeal.Gen.facts) := by
  intro m g _
  run_from Cert.MixOutRefIdeal.Read.run_forward m g
  · exact fun _ => by simp only [and_self]
  · exact sem_eq_zero_of_no_sems (sig := Cert.MixOutRefIdeal.sig) (by decide) _

/-- The kernel of the layer's output product and its norm leaves in every result what the forward lines leave there. -/
theorem mixout_value : algebraic_MixOutIdeal_MixOutRefIdeal (hMixOutIdeal := Cert.MixOutIdeal.Gen.facts)
    (hMixOutRefIdeal := Cert.MixOutRefIdeal.Gen.facts) := by
  pair_intro
  · run_from Cert.MixOutIdeal.Gen.run_main m g
  · run_from Cert.MixOutRefIdeal.Read.run_forward m' g'
    · exact (Cert.MixOutIdeal.Value.final4 m c).symm
    · exact (Cert.MixOutIdeal.Value.final5 m c).symm

end Cert.Proof

end
-- ==== Proof.GateValue.lean ====
module

public import proofs.«01_k».proof.Proof.FwdRow
public import proofs.«01_k».proof.Proof.Gen.GateIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen

/-! The norm, the gate and up products and the gated product, at one row and lane. -/

/-- A row of `h`, normed. -/
def nrm (x : FVec Ideal S4096x1024 .bf16) (g : FVec Ideal S1x1024 .f32) (r : Fin 4096) (l : Fin 1024) : EReal :=
  Row.normed (fun k => x (ix2 r k)) (fun k => g (ix2 0 k)) l

/-- The lane of the weights that is lane `l` of the gate's half (`s = 0`) or of the up half (`s = 1`). -/
def lane (s : Fin 2) (l : Fin 2816) : Fin 5632 := ⟨2816 * s.val + l.val, by omega⟩

/-- The gate (`s = 0`) and up (`s = 1`) products. -/
def gu (x : FVec Ideal S4096x1024 .bf16) (g : FVec Ideal S1x1024 .f32) (w : FVec Ideal S1024x5632 .bf16) (s : Fin 2) (r : Fin 4096)
    (l : Fin 2816) : EReal :=
  ∑ k : Fin 1024, nrm x g r k * w (ix2 k (lane s l))

/-- The gated product. -/
def act (x : FVec Ideal S4096x1024 .bf16) (g : FVec Ideal S1x1024 .f32) (w : FVec Ideal S1024x5632 .bf16) (r : Fin 4096) (l : Fin 2816) : EReal :=
  gu x g w 0 r l * Ideal.logistic (gu x g w 0 r l) * gu x g w 1 r l

/-! ## What a grid point writes, in terms of its blocks -/

section Block

variable (x0 : FVec Ideal S512x1024 .bf16) (x1 : FVec Ideal S1x1024 .f32) (x2 x3 : FVec Ideal S1024x2816 .bf16)

/-- A block's normed row. -/
def nrmB (r : Fin 512) (l : Fin 1024) : EReal := Row.normed (fun k => x0 (ix2 r k)) (fun k => x1 (ix2 0 k)) l

/-- The two parts of a block's normed rows. -/
theorem part0 (r : Fin 256) (l : Fin 1024) : k0_pay2 (F := Ideal) (View.ld x0 r0_0) (View.ld x1 r0_1) (ix2 r l) = nrmB x0 x1 ⟨r.val, by omega⟩ l := by
  pointwise [k0_pay2]
  rfl
theorem part1 (r : Fin 256) (l : Fin 1024) : k0_pay3 (F := Ideal) (View.ld x0 r0_2) (View.ld x1 r0_1) (ix2 r l)
    = nrmB x0 x1 ⟨256 + r.val, by omega⟩ l := by
  pointwise [k0_pay3]
  rfl

/-- A block's product with one half of the weights. -/
def prodB (w : FVec Ideal S1024x2816 .bf16) (r : Fin 512) (l : Fin 2816) : EReal := ∑ k : Fin 1024, nrmB x0 x1 r k * w (ix2 k l)

/-- The gate's and the up product's two parts. -/
theorem gate0 (r : Fin 256) (l : Fin 2816) : k0_pay6 (F := Ideal) (View.ld x0 r0_0) (View.ld x1 r0_1) (View.ld x2 r0_3) (ix2 r l)
    = prodB x0 x1 x2 ⟨r.val, by omega⟩ l := by
  pointwise [k0_pay6, k0_pay4]
  simp only [part0]
  rfl
theorem gate1 (r : Fin 256) (l : Fin 2816) : k0_pay7 (F := Ideal) (View.ld x0 r0_2) (View.ld x1 r0_1) (View.ld x2 r0_3) (ix2 r l)
    = prodB x0 x1 x2 ⟨256 + r.val, by omega⟩ l := by
  pointwise [k0_pay7, k0_pay5]
  simp only [part1]
  rfl
theorem up0 (r : Fin 256) (l : Fin 2816) : k0_pay8 (F := Ideal) (k0_pay4 (View.ld x0 r0_0) (View.ld x1 r0_1)) (View.ld x3 r0_3) (ix2 r l)
    = prodB x0 x1 x3 ⟨r.val, by omega⟩ l := by
  pointwise [k0_pay8, k0_pay4]
  simp only [part0]
  rfl
theorem up1 (r : Fin 256) (l : Fin 2816) : k0_pay9 (F := Ideal) (k0_pay5 (View.ld x0 r0_2) (View.ld x1 r0_1)) (View.ld x3 r0_3) (ix2 r l)
    = prodB x0 x1 x3 ⟨256 + r.val, by omega⟩ l := by
  pointwise [k0_pay9, k0_pay5]
  simp only [part1]
  rfl

/-- The gate and up products that a grid point leaves. -/
theorem out4 (y0 : Fin 2) (y1 : Fin 512) (y2 : Fin 2816) : out0_4 (F := Ideal) x0 x1 x2 x3 (ix3 y0 y1 y2)
    = prodB x0 x1 (![x2, x3] y0) y1 y2 := by
  unfold_out out0_4
  canon_tiles p h
  all_goals idx_vars p
  all_goals obtain rfl : p0 = 0 := Subsingleton.elim _ _
  all_goals obtain rfl : y2 = p2 := Fin.ext h2
  · obtain rfl : y0 = 1 := Fin.ext h0
    obtain rfl : y1 = ⟨256 + p1.val, by clear h1; omega⟩ := Fin.ext h1
    pointwise [k0_pay14]
    exact up1 x0 x1 x3 p1 y2
  · obtain rfl : y0 = 0 := Fin.ext h0
    obtain rfl : y1 = ⟨256 + p1.val, by clear h1; omega⟩ := Fin.ext h1
    pointwise [k0_pay13]
    exact gate1 x0 x1 x2 p1 y2
  · obtain rfl : y0 = 1 := Fin.ext h0
    obtain rfl : y1 = ⟨p1.val, by clear h1; omega⟩ := Fin.ext h1
    pointwise [k0_pay11]
    exact up0 x0 x1 x3 p1 y2
  · obtain rfl : y0 = 0 := Fin.ext h0
    obtain rfl : y1 = ⟨p1.val, by clear h1; omega⟩ := Fin.ext h1
    pointwise [k0_pay10]
    exact gate0 x0 x1 x2 p1 y2

/-- The gated product that a grid point leaves. -/
theorem out5 (y0 : Fin 512) (y1 : Fin 2816) : out0_5 (F := Ideal) x0 x1 x2 x3 (ix2 y0 y1)
    = prodB x0 x1 x2 y0 y1 * Ideal.logistic (prodB x0 x1 x2 y0 y1) * prodB x0 x1 x3 y0 y1 := by
  unfold_out out0_5
  canon_tiles p h
  all_goals idx_vars p
  all_goals obtain rfl : y1 = p1 := Fin.ext h1
  · obtain rfl : y0 = ⟨256 + p0.val, by clear h0; omega⟩ := Fin.ext h0
    pointwise [k0_pay15]
    rw [gate1, up1]
  · obtain rfl : y0 = ⟨p0.val, by clear h0; omega⟩ := Fin.ext h0
    pointwise [k0_pay12]
    rw [gate0, up0]

/-- The normed rows that a grid point leaves, transposed. -/
theorem out6 (y0 : Fin 1024) (y1 : Fin 512) : out0_6 (F := Ideal) x0 x1 x2 x3 (ix2 y0 y1) = nrmB x0 x1 y1 y0 := by
  unfold_out out0_6
  canon_tiles p h
  all_goals idx_vars p
  all_goals obtain rfl : y0 = p0 := Fin.ext h0
  · obtain rfl : y1 = ⟨256 + p1.val, by clear h1; omega⟩ := Fin.ext h1
    pointwise [k0_pay1, k0_pay17]
    exact part1 x0 x1 p1 y0
  · obtain rfl : y1 = ⟨p1.val, by clear h1; omega⟩ := Fin.ext h1
    pointwise [k0_pay16]
    exact part0 x0 x1 p1 y0

end Block

/-! ## The arrays after the run -/

variable (m : (ℓ : Loc nD τ sig) → Buf (Elt Ideal) ℓ) (c : Dev nD)

/-- The argument arrays. -/
abbrev X0 : FVec Ideal S4096x1024 .bf16 := m ((c : Thread nD τ).loc main_arg0)
abbrev X1 : FVec Ideal S1x1024 .f32 := m ((c : Thread nD τ).loc main_arg1)
abbrev X2 : FVec Ideal S1024x5632 .bf16 := m ((c : Thread nD τ).loc main_arg2)

/-- The blocks the windows hold at a grid point. -/
theorem idx : ∀ t : Fin cfg0.N, win0_0.index t = ![t.val, 0] ∧ win0_1.index t = ![0, 0] ∧ win0_2.index t = ![0, 0] ∧ win0_3.index t = ![0, 1]
    ∧ win0_4.index t = ![0, t.val, 0] ∧ win0_5.index t = ![t.val, 0] ∧ win0_6.index t = ![0, t.val] ∧ t.val < 8 :=
  (by decide +kernel : ∀ t : Fin grid0.N, _)

theorem tlt (t : Fin cfg0.N) : t.val < 8 := (idx t).2.2.2.2.2.2.2

variable (t : Fin cfg0.N)

/-- The row of the array that is a block's row `r`. -/
def row (r : Fin 512) : Fin 4096 := ⟨512 * t.val + r.val, by have := tlt t; omega⟩

/-- The input blocks, in terms of the arrays. -/
theorem rd0 (r : Fin 512) (k : Fin 1024) : (iblk m c 0 t : FVec Ideal S512x1024 .bf16) (ix2 r k) = X0 m c (ix2 (row t r) k) := by
  blk_ext [iblk, V, idx t, row]
theorem rd1 (k : Fin 1024) : (iblk m c 1 t : FVec Ideal S1x1024 .f32) (ix2 0 k) = X1 m c (ix2 0 k) := by
  blk_ext [iblk, V, idx t]
theorem rd2 (k : Fin 1024) (l : Fin 2816) : (iblk m c 2 t : FVec Ideal S1024x2816 .bf16) (ix2 k l) = X2 m c (ix2 k (lane 0 l)) := by
  blk_ext [iblk, V, idx t, lane]
theorem rd3 (k : Fin 1024) (l : Fin 2816) : (iblk m c 3 t : FVec Ideal S1024x2816 .bf16) (ix2 k l) = X2 m c (ix2 k (lane 1 l)) := by
  blk_ext [iblk, V, idx t, lane]

theorem rdNrm (r : Fin 512) : nrmB (iblk m c 0 t : FVec Ideal S512x1024 .bf16) (iblk m c 1 t : FVec Ideal S1x1024 .f32) r
    = nrm (X0 m c) (X1 m c) (row t r) := by
  funext l
  unfold nrmB nrm
  simp only [rd0, rd1]

theorem rdGate (r : Fin 512) (l : Fin 2816) : prodB (iblk m c 0 t : FVec Ideal S512x1024 .bf16) (iblk m c 1 t : FVec Ideal S1x1024 .f32)
    (iblk m c 2 t : FVec Ideal S1024x2816 .bf16) r l = gu (X0 m c) (X1 m c) (X2 m c) 0 (row t r) l := by
  unfold prodB gu
  simp only [rdNrm, rd2]
theorem rdUp (r : Fin 512) (l : Fin 2816) : prodB (iblk m c 0 t : FVec Ideal S512x1024 .bf16) (iblk m c 1 t : FVec Ideal S1x1024 .f32)
    (iblk m c 3 t : FVec Ideal S1024x2816 .bf16) r l = gu (X0 m c) (X1 m c) (X2 m c) 1 (row t r) l := by
  unfold prodB gu
  simp only [rdNrm, rd3]
theorem rdGu (s : Fin 2) (r : Fin 512) (l : Fin 2816) : prodB (iblk m c 0 t : FVec Ideal S512x1024 .bf16) (iblk m c 1 t : FVec Ideal S1x1024 .f32)
    (![(iblk m c 2 t : FVec Ideal S1024x2816 .bf16), (iblk m c 3 t : FVec Ideal S1024x2816 .bf16)] s) r l
    = gu (X0 m c) (X1 m c) (X2 m c) s (row t r) l :=
  match s with
  | 0 => rdGate m c t r l
  | 1 => rdUp m c t r l

/-- The gate and up products after the run. -/
theorem final4 : (dats m 0 c).arrAt 4 (cfgs 0).N = fun i : S2x4096x2816.Idx => gu (X0 m c) (X1 m c) (X2 m c) (i 0) (i 1) (i 2) := by
  refine (dats m 0 c).arrAt_eq_of_covers 4 _ (by decide +kernel) fun t hf y => ?_
  blk_simp
  rw [after0_4]
  idx_vars y
  refine (out4 _ _ _ _ y0 y1 y2).trans ((rdGu m c t y0 y1 y2).trans ?_)
  congr 1 <;> refine Fin.ext ?_ <;> blk_simp [idx t]
  show 512 * t.val + y1.val = _
  omega

/-- The gated product after the run. -/
theorem final5 : (dats m 0 c).arrAt 5 (cfgs 0).N = fun i : S4096x2816.Idx => act (X0 m c) (X1 m c) (X2 m c) (i 0) (i 1) := by
  refine (dats m 0 c).arrAt_eq_of_covers 5 _ (by decide +kernel) fun t hf y => ?_
  blk_simp
  rw [after0_5]
  idx_vars y
  refine (out5 _ _ _ _ y0 y1).trans ?_
  simp only [rdGate, rdUp]
  refine congrArg₂ (act (X0 m c) (X1 m c) (X2 m c)) (Fin.ext ?_) (Fin.ext ?_) <;> blk_simp [idx t]
  show 512 * t.val + y0.val = _
  omega

/-- The normed rows after the run, transposed. -/
theorem final6 : (dats m 0 c).arrAt 6 (cfgs 0).N = fun i : S1024x4096.Idx => nrm (X0 m c) (X1 m c) (i 1) (i 0) := by
  refine (dats m 0 c).arrAt_eq_of_covers 6 _ (by decide +kernel) fun t hf y => ?_
  blk_simp
  rw [after0_6]
  idx_vars y
  refine (out6 _ _ _ _ y0 y1).trans ?_
  rw [rdNrm]
  refine congrArg₂ (nrm (X0 m c) (X1 m c)) (Fin.ext ?_) (Fin.ext ?_) <;> blk_simp [idx t]
  show 512 * t.val + y1.val = _
  omega

end Cert.GateIdeal.Value

end
-- ==== Proof.GateClaim.lean ====
module

public import proofs.«01_k».proof.Defs
public import proofs.«01_k».proof.Proof.Gen.Gate.Frame
public import proofs.«01_k».proof.Proof.GateValue
public import proofs.«01_k».proof.Proof.Gen.GateRefIdeal.Read
public import Idealize.ShloMosaic.Lib.Claim

@[expose] public section

set_option maxRecDepth 16384

noncomputable section

open Idealize.ShloMosaic Idealize.ShloMosaic.TcCoe Idealize.SL.Sem

namespace Cert.GateRefIdeal.Read

open Cert.GateRefIdeal

open Cert.GateIdeal.Value (nrm lane gu act)

section Reference

variable (x : FVec Ideal S4096x1024 .bf16) (g : FVec Ideal S1x1024 .f32)

/-- The reference's normed rows, for the products and for the result that saves them. -/
theorem refNorm (r : Fin 4096) (l : Fin 1024) : val_main_v13 (F := Ideal) x g (ix2 r l) = nrm x g r l := by
  pointwise [val_main_v0, val_main_v2, val_main_v3, val_main_v4, val_main_v5, val_main_v6, val_main_v7, val_main_v8, val_main_v9, val_main_v10, val_main_v11, val_main_v12, val_main_v13, val_main_cst, val_main_cst_0, val_main_cst_1]
  rfl
theorem refSaved (r : Fin 4096) (l : Fin 1024) : val_main_v35 (F := Ideal) x g (ix2 r l) = nrm x g r l := by
  pointwise [val_main_v0, val_main_v24, val_main_v25, val_main_v26, val_main_v27, val_main_v28, val_main_v29, val_main_v30, val_main_v31, val_main_v32, val_main_v33, val_main_v34, val_main_v35, val_main_cst_2, val_main_cst_3, val_main_cst_4]
  rfl
theorem ref37 (l : Fin 1024) (r : Fin 4096) : val_main_v37 (F := Ideal) x g (ix2 l r) = nrm x g r l := by
  pointwise [val_main_v37, val_main_v36]
  exact refSaved x g r l

variable (w : FVec Ideal S1024x5632 .bf16)

/-- The product with the whole of the weights, and its two halves. -/
theorem refGU (r : Fin 4096) (l : Fin 5632) : val_main_v14 (F := Ideal) x g w (ix2 r l) = ∑ k : Fin 1024, nrm x g r k * w (ix2 k l) := by
  pointwise [val_main_v14, val_main_v1]
  simp only [refNorm]
theorem refGate (r : Fin 4096) (l : Fin 2816) : val_main_v15 (F := Ideal) x g w (ix2 r l) = gu x g w 0 r l := by
  pointwise [val_main_v15]
  refine (refGU x g w r _).trans (Finset.sum_congr rfl fun k _ => ?_)
  exact congrArg (fun j => nrm x g r k * w (ix2 k j)) (Fin.ext (by show _ = 2816 * 0 + l.val; simp))
theorem refUp (r : Fin 4096) (l : Fin 2816) : val_main_v16 (F := Ideal) x g w (ix2 r l) = gu x g w 1 r l := by
  pointwise [val_main_v16]
  refine (refGU x g w r _).trans (Finset.sum_congr rfl fun k _ => ?_)
  exact congrArg (fun j => nrm x g r k * w (ix2 k j)) (Fin.ext (by show _ = 2816 * 1 + l.val; simp))

theorem ref20 (s : Fin 2) (r : Fin 4096) (l : Fin 2816) : val_main_v20 (F := Ideal) x g w (ix3 s r l) = gu x g w s r l := by
  match s with
  | 0 =>
    pointwise [val_main_v20, val_main_v19, val_main_v17]
    exact refGate x g w r l
  | 1 =>
    pointwise [val_main_v20, val_main_v19, val_main_v18]
    exact refUp x g w r l
theorem ref23 (r : Fin 4096) (l : Fin 2816) : val_main_v23 (F := Ideal) x g w (ix2 r l) = act x g w r l := by
  pointwise [val_main_v23, val_main_v22, val_main_v21, val_main_call0_v5, val_main_call0_v4, val_main_call0_cst_0, val_main_call0_v3,
      val_main_call0_v2, val_main_call0_cst, val_main_call0_v1, val_main_call0_v0]
  simp only [refGate, refUp, Row.cOne, EReal.coe_one]
  rfl

end Reference

/-- The reference's run, its results the gate and up products, the gated product and the normed rows. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = (fun i : S2x4096x2816.Idx => Cert.GateIdeal.Value.gu
        (m ((c.tc : Thread nD τ).loc main_arg0)) (m ((c.tc : Thread nD τ).loc main_arg1)) (m ((c.tc : Thread nD τ).loc main_arg2)) (i 0) (i 1) (i 2))
      ∧ r.2.mem ((c.tc : Thread nD τ).loc main_v23) = (fun i : S4096x2816.Idx => Cert.GateIdeal.Value.act
        (m ((c.tc : Thread nD τ).loc main_arg0)) (m ((c.tc : Thread nD τ).loc main_arg1)) (m ((c.tc : Thread nD τ).loc main_arg2)) (i 0) (i 1))
      ∧ r.2.mem ((c.tc : Thread nD τ).loc main_v37) = (fun i : S1024x4096.Idx => Cert.GateIdeal.Value.nrm
        (m ((c.tc : Thread nD τ).loc main_arg0)) (m ((c.tc : Thread nD τ).loc main_arg1)) (i 1) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans ((val_main_v20_eq _ _ _).trans (funext fun i => by idx_vars i; exact ref20 _ _ _ i0 i1 i2)),
    (h c).2.1.trans ((val_main_v23_eq _ _ _).trans (funext fun i => by idx_vars i; exact ref23 _ _ _ i0 i1)),
    (h c).2.2.1.trans ((val_main_v37_eq _ _).trans (funext fun i => by idx_vars i; exact ref37 _ _ i0 i1)),
    (h c).2.2.2⟩) (Cert.GateRefIdeal.Value.run m ρ)

end Cert.GateRefIdeal.Read

namespace Cert.Proof

/-- The reference of the gated layer's input product runs to its end and leaves its arguments as they were. -/
theorem gate_ref : quiescent_GateRefIdeal (hGateRefIdeal := Cert.GateRefIdeal.Gen.facts) := by
  intro m g _
  run_from Cert.GateRefIdeal.Read.run_forward m g
  · exact fun _ => by simp only [and_self]
  · exact sem_eq_zero_of_no_sems (sig := Cert.GateRefIdeal.sig) (by decide) _

/-- The kernel of the gated layer's input product leaves in every result what the forward lines leave there. -/
theorem gate_value : algebraic_GateIdeal_GateRefIdeal (hGateIdeal := Cert.GateIdeal.Gen.facts)
    (hGateRefIdeal := Cert.GateRefIdeal.Gen.facts) := by
  pair_intro
  · run_from Cert.GateIdeal.Gen.run_main m g
  · run_from Cert.GateRefIdeal.Read.run_forward m' g'
    · exact (Cert.GateIdeal.Value.final4 m c).symm
    · exact (Cert.GateIdeal.Value.final5 m c).symm
    · exact (Cert.GateIdeal.Value.final6 m c).symm

end Cert.Proof

end
-- ==== Proof.NormInValue.lean ====
module

public import proofs.«01_k».proof.Proof.FwdRow
public import proofs.«01_k».proof.Proof.Gen.NormInIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormInIdeal.Value

open Cert.NormInIdeal Cert.NormInIdeal.Gen

/-! The norm of the rows and the product after it, at one row and lane. -/

/-- A row, normed with the scale `g`. -/
def nrm (x : FVec Ideal S4096x1024 .f32) (g : FVec Ideal S1x1024 .f32) (r : Fin 4096) (l : Fin 1024) : EReal :=
  Row.normed (fun k => x (ix2 r k)) (fun k => g (ix2 0 k)) l

/-- The product of the normed rows with the weights. -/
def prod (x : FVec Ideal S4096x1024 .f32) (g : FVec Ideal S1x1024 .f32) (w : FVec Ideal S1024x3072 .bf16) (r : Fin 4096) (l : Fin 3072) : EReal :=
  ∑ k : Fin 1024, nrm x g r k * w (ix2 k l)

/-! ## The arrays after the run -/

variable (m : (ℓ : Loc nD τ sig) → Buf (Elt Ideal) ℓ) (c : Dev nD)

/-- The argument arrays. -/
abbrev X0 : FVec Ideal S4096x1024 .f32 := m ((c : Thread nD τ).loc main_arg0)
abbrev X1 : FVec Ideal S1x1024 .f32 := m ((c : Thread nD τ).loc main_arg1)
abbrev X2 : FVec Ideal S1024x3072 .bf16 := m ((c : Thread nD τ).loc main_arg2)

/-- The blocks the windows hold at a grid point. -/
theorem idx : ∀ t : Fin cfg0.N, win0_0.index t = ![t.val, 0] ∧ win0_1.index t = ![0, 0] ∧ win0_2.index t = ![0, 0]
    ∧ win0_3.index t = ![0, t.val, 0] ∧ win0_4.index t = ![t.val, 0] ∧ t.val < 8 :=
  (by decide +kernel : ∀ t : Fin grid0.N, _)

theorem tlt (t : Fin cfg0.N) : t.val < 8 := (idx t).2.2.2.2.2

variable (t : Fin cfg0.N)

/-- The row of the array that is a block's row `r`. -/
def row (r : Fin 512) : Fin 4096 := ⟨512 * t.val + r.val, by have := tlt t; omega⟩

/-- The input blocks, in terms of the arrays. -/
theorem rd0 (r : Fin 512) (k : Fin 1024) : (iblk m c 0 t : FVec Ideal S512x1024 .f32) (ix2 r k) = X0 m c (ix2 (row t r) k) := by
  blk_ext [iblk, V, idx t, row]
theorem rd1 (k : Fin 1024) : (iblk m c 1 t : FVec Ideal S1x1024 .f32) (ix2 0 k) = X1 m c (ix2 0 k) := by
  blk_ext [iblk, V, idx t]
theorem rd2 (k : Fin 1024) (l : Fin 3072) : (iblk m c 2 t : FVec Ideal S1024x3072 .bf16) (ix2 k l) = X2 m c (ix2 k l) := by
  blk_ext [iblk, V, idx t]

/-- A block's normed rows, as computed from the blocks. -/
theorem pay1 (r : Fin 512) (l : Fin 1024) : k0_pay1 (F := Ideal) (iblk m c 0 t) (iblk m c 1 t) (ix2 r l)
    = nrm (X0 m c) (X1 m c) (row t r) l := by
  pointwise [k0_pay1]
  simp only [rd0, rd1]
  rfl

/-- The product of a block's normed rows. -/
theorem pay2 (r : Fin 512) (l : Fin 3072) :
    k0_pay2 (F := Ideal) (k0_pay1 (F := Ideal) (iblk m c 0 t) (iblk m c 1 t)) (iblk m c 2 t) (ix3 0 r l)
      = prod (X0 m c) (X1 m c) (X2 m c) (row t r) l := by
  pointwise [k0_pay2]
  simp only [pay1, rd2]
  rfl

/-- What a grid point leaves in its blocks of the two results. -/
theorem out3 (r : Fin 512) (l : Fin 3072) : (outsAt0 m c t).1 (ix3 0 r l) = prod (X0 m c) (X1 m c) (X2 m c) (row t r) l := by
  unfold outsAt0
  dsimp only
  frame_out
  exact pay2 m c t r l
theorem out4 (r : Fin 512) (l : Fin 1024) : (outsAt0 m c t).2 (ix2 r l) = nrm (X0 m c) (X1 m c) (row t r) l := by
  unfold outsAt0
  dsimp only
  frame_out
  exact pay1 m c t r l

/-- The product after the run. -/
theorem final3 : (dats m 0 c).arrAt 3 (cfgs 0).N = fun i : S1x4096x3072.Idx => prod (X0 m c) (X1 m c) (X2 m c) (i 1) (i 2) := by
  refine (dats m 0 c).arrAt_eq_of_covers 3 _ (by decide +kernel) fun t hf y => ?_
  blk_simp
  rw [after0_3]
  idx_vars y
  obtain rfl : y0 = 0 := Subsingleton.elim _ _
  refine (out3 m c t y1 y2).trans ?_
  refine congrArg₂ (prod (X0 m c) (X1 m c) (X2 m c)) (Fin.ext ?_) (Fin.ext ?_) <;> blk_simp [idx t]
  show 512 * t.val + y1.val = _
  omega

/-- The normed rows after the run. -/
theorem final4 : (dats m 0 c).arrAt 4 (cfgs 0).N = fun i : S4096x1024.Idx => nrm (X0 m c) (X1 m c) (i 0) (i 1) := by
  refine (dats m 0 c).arrAt_eq_of_covers 4 _ (by decide +kernel) fun t hf y => ?_
  blk_simp
  rw [after0_4]
  idx_vars y
  refine (out4 m c t y0 y1).trans ?_
  refine congrArg₂ (nrm (X0 m c) (X1 m c)) (Fin.ext ?_) (Fin.ext ?_) <;> blk_simp [idx t]
  show 512 * t.val + y0.val = _
  omega

end Cert.NormInIdeal.Value

end
-- ==== Proof.NormInClaim.lean ====
module

public import proofs.«01_k».proof.Defs
public import proofs.«01_k».proof.Proof.Gen.NormIn.Frame
public import proofs.«01_k».proof.Proof.NormInValue
public import proofs.«01_k».proof.Proof.Gen.NormInRefIdeal.Read
public import Idealize.ShloMosaic.Lib.Claim

@[expose] public section

set_option maxRecDepth 16384

noncomputable section

open Idealize.ShloMosaic Idealize.ShloMosaic.TcCoe Idealize.SL.Sem

namespace Cert.NormInRefIdeal.Read

open Cert.NormInRefIdeal

open Cert.NormInIdeal.Value (nrm prod)

section Reference

variable (x0 : FVec Ideal S4096x1024 .f32) (g : FVec Ideal S1x1024 .f32)

/-- The reference's normed rows. -/
theorem refNorm (r : Fin 4096) (l : Fin 1024) : val_main_v11 (F := Ideal) x0 g (ix2 r l) = nrm x0 g r l := by
  pointwise [val_main_v0, val_main_v1, val_main_v2, val_main_v3, val_main_v4, val_main_v5, val_main_v6, val_main_v7, val_main_v8, val_main_v9, val_main_v10, val_main_v11, val_main_cst, val_main_cst_0, val_main_cst_1]
  rfl

theorem ref15 (r : Fin 4096) (l : Fin 1024) : val_main_v15 (F := Ideal) x0 g (ix2 r l) = nrm x0 g r l := by
  pointwise [val_main_v15]
  exact refNorm x0 g r l
theorem ref16 (w : FVec Ideal S1024x3072 .bf16) (s : Fin 1) (r : Fin 4096) (l : Fin 3072) : val_main_v16 (F := Ideal) x0 g w (ix3 s r l)
    = prod x0 g w r l := by
  pointwise [val_main_v16, val_main_v14, val_main_v13, val_main_v12]
  simp only [refNorm, prod]

end Reference

/-- The reference's run, its results the product and the normed rows. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16) = (fun i : S1x4096x3072.Idx => Cert.NormInIdeal.Value.prod
        (m ((c.tc : Thread nD τ).loc main_arg0)) (m ((c.tc : Thread nD τ).loc main_arg1)) (m ((c.tc : Thread nD τ).loc main_arg2)) (i 1) (i 2))
      ∧ r.2.mem ((c.tc : Thread nD τ).loc main_v15) = (fun i : S4096x1024.Idx => Cert.NormInIdeal.Value.nrm
        (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans ((val_main_v16_eq _ _ _).trans (funext fun i => by idx_vars i; exact ref16 _ _ _ i0 i1 i2)),
    (h c).2.1.trans ((val_main_v15_eq _ _).trans (funext fun i => by idx_vars i; exact ref15 _ _ i0 i1)),
    (h c).2.2⟩) (Cert.NormInRefIdeal.Value.run m ρ)

end Cert.NormInRefIdeal.Read

namespace Cert.Proof

/-- The reference of the normed rows and the product after them runs to its end and leaves its arguments as they were. -/
theorem normin_ref : quiescent_NormInRefIdeal (hNormInRefIdeal := Cert.NormInRefIdeal.Gen.facts) := by
  intro m g _
  run_from Cert.NormInRefIdeal.Read.run_forward m g
  · exact fun _ => by simp only [and_self]
  · exact sem_eq_zero_of_no_sems (sig := Cert.NormInRefIdeal.sig) (by decide) _

/-- The kernel of the normed rows and the product after them leaves in every result what the forward lines leave there. -/
theorem normin_value : algebraic_NormInIdeal_NormInRefIdeal (hNormInIdeal := Cert.NormInIdeal.Gen.facts)
    (hNormInRefIdeal := Cert.NormInRefIdeal.Gen.facts) := by
  pair_intro
  · run_from Cert.NormInIdeal.Gen.run_main m g
  · run_from Cert.NormInRefIdeal.Read.run_forward m' g'
    · exact (Cert.NormInIdeal.Value.final3 m c).symm
    · exact (Cert.NormInIdeal.Value.final4 m c).symm

end Cert.Proof

end
-- ==== Proof.ConvMixValue.lean ====
module

public import proofs.«01_k».proof.Proof.FwdRow
public import proofs.«01_k».proof.Proof.ConvValue
public import proofs.«01_k».proof.Proof.Gen.ConvMixIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvMixIdeal.Value

open Cert.ConvMixIdeal Cert.ConvMixIdeal.Gen
open Cert.ConvIdeal.Value (U Up conv sel)

/-! The gated convolution, the product after it, its norm and the residual sum, at one row and lane. -/

section Formulas

variable (x : FVec Ideal S4096x3072 .bf16) (cw : FVec Ideal S3x1024 .f32) (w : FVec Ideal S1024x1024 .bf16) (g : FVec Ideal S1x1024 .f32)
    (res : FVec Ideal S4096x1024 .f32) (r : Fin 4096) (l : Fin 1024)

/-- The gated convolution. -/
def Y : EReal := x (ix2 r ⟨l.val, by omega⟩) * conv x cw r.val l

/-- The product that the norm normalises. -/
def Z : EReal := ∑ k : Fin 1024, Y x cw r k * w (ix2 k l)

/-- The row carried past the layer, plus the normed product. -/
def H : EReal := res (ix2 r l) + Row.normed (Z x cw w r) (fun k => g (ix2 0 k)) l

end Formulas

section Pure

variable (x : FVec Ideal S4096x3072 .bf16) (cw : FVec Ideal S3x1024 .f32) (T : ℕ)
    (i : grid0.Coords) (v0 v2 : Vec Ideal S512x1024 .bf16) (v5 v7 : Vec Ideal S16x1024 .bf16)
    (v13 v19 v26 : Vec Ideal S1x1024 .f32) (v30 : Vec Ideal S512x1024 .bf16)
    (hi : Scalar.cmpi .eq (BitVec.ofNat 32 (i 0).val) 0#32 = if T = 0 then 1#1 else 0#1)
    (hU : ∀ (r : Fin 512) (l : Fin 1024), v0 (ix2 r l) * v2 (ix2 r l) = U x (512 * T + r.val) l)
    (hP : T ≠ 0 → ∀ (r : Fin 16) (l : Fin 1024), v5 (ix2 r l) * v7 (ix2 r l) = U x (512 * T - 16 + r.val) l)
    (r : Fin 512) (l : Fin 1024)
    (h13 : v13 (ix2 0 l) = cw (ix2 0 l)) (h19 : v19 (ix2 0 l) = cw (ix2 1 l)) (h26 : v26 (ix2 0 l) = cw (ix2 2 l))
include hi hU hP h13 h19 h26

/-- Block `T` of the convolution's output, gated. -/
theorem pay4 : k0_pay4 (F := Ideal) i v0 v2 v5 v7 v13 v19 v26 v30 (ix2 r l) = v30 (ix2 r l) * conv x cw (512 * T + r.val) l := by
  pointwise [k0_pay4, hU]
  rw [h13, h19, h26]
  unfold conv
  refine congrArg (fun a : EReal => _ * a) (congrArg₂ (fun a b : EReal => a + b) (congrArg₂ (fun a b : EReal => a + b)
    (congrArg (fun a : EReal => _ * a) ?_) (congrArg (fun a : EReal => _ * a) ?_)) rfl)
  · unfold Up
    by_cases h : (16 + r.val + 528 - 2) % 528 < 16
    · rw [dif_pos h]
      refine sel hi (fun h0 => by rw [if_neg (by omega)]) fun h0 => (hP h0 _ l).trans ?_
      rw [if_pos (by omega)]
      refine congrArg (fun n => U x n l) ?_
      show 512 * T - 16 + (16 + r.val + 528 - 2) % 528 = _
      omega
    · rw [dif_neg h, if_pos (by omega)]
      congr 1; omega
  · unfold Up
    by_cases h : (16 + r.val + 528 - 1) % 528 < 16
    · rw [dif_pos h]
      refine sel hi (fun h0 => by rw [if_neg (by omega)]) fun h0 => (hP h0 _ l).trans ?_
      rw [if_pos (by omega)]
      refine congrArg (fun n => U x n l) ?_
      show 512 * T - 16 + (16 + r.val + 528 - 1) % 528 = _
      omega
    · rw [dif_neg h, if_pos (by omega)]
      congr 1; omega

end Pure

/-- The residual sum, from the product. -/
theorem pay3 (v33 : FVec Ideal S512x1024 .bf16) (v35 : Vec Ideal S1024x1024 .bf16) (v39 : Vec Ideal S512x1024 .f32) (v50 : Vec Ideal S1x1024 .f32)
    (f : Fin 1024 → EReal) (r : Fin 512) (hf : ∀ l, k0_pay1 (F := Ideal) v33 v35 (ix2 r l) = f l) (l : Fin 1024) :
    k0_pay3 (F := Ideal) v33 v35 v39 v50 (ix2 r l) = (fun a b : EReal => a + b) (v39 (ix2 r l)) (Row.normed f (fun k => v50 (ix2 0 k)) l) := by
  pointwise [k0_pay3, hf]
  rfl

/-! ## The arrays after the run -/

variable (m : (ℓ : Loc nD τ sig) → Buf (Elt Ideal) ℓ) (c : Dev nD)

/-- The argument arrays. -/
abbrev X0 : FVec Ideal S4096x3072 .bf16 := m ((c : Thread nD τ).loc main_arg0)
abbrev X1 : FVec Ideal S3x1024 .f32 := m ((c : Thread nD τ).loc main_arg1)
abbrev X2 : FVec Ideal S1024x1024 .bf16 := m ((c : Thread nD τ).loc main_arg2)
abbrev X3 : FVec Ideal S1x1024 .f32 := m ((c : Thread nD τ).loc main_arg3)
abbrev X4 : FVec Ideal S4096x1024 .f32 := m ((c : Thread nD τ).loc main_arg4)

/-- The blocks the windows hold at a grid point. -/
theorem idx : ∀ t : Fin cfg0.N, win0_0.index t = ![t.val, 0] ∧ win0_1.index t = ![t.val, 1] ∧ win0_2.index t = ![t.val, 2]
    ∧ win0_3.index t = ![32 * t.val - 1, 1] ∧ win0_4.index t = ![32 * t.val - 1, 2] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ t.val < 8 :=
  (by decide +kernel : ∀ t : Fin grid0.N, _)

theorem tlt (t : Fin cfg0.N) : t.val < 8 := (idx t).2.2.2.2.2.2.2.2.2.2.2.2

/-- The test for the first point. -/
theorem first : ∀ t : Fin cfg0.N, Scalar.cmpi .eq (BitVec.ofNat 32 (grid0.coords t 0).val) 0#32
    = if t.val = 0 then 1#1 else 0#1 := (by decide +kernel : ∀ t : Fin grid0.N, _)

variable (t : Fin cfg0.N)

/-- The row of the array that is a block's row `r`. -/
def row (r : Fin 512) : Fin 4096 := ⟨512 * t.val + r.val, by have := tlt t; omega⟩

/-- The input blocks, in terms of the arrays. -/
theorem rd0 (r : Fin 512) (l : Fin 1024) : (iblk m c 0 t : FVec Ideal S512x1024 .bf16) (ix2 r l)
    = X0 m c (ix2 (row t r) ⟨l.val, by omega⟩) := by blk_ext [iblk, V, idx t, row]
theorem rd5 (k : Fin 3) (l : Fin 1024) : (iblk m c 5 t : FVec Ideal S3x1024 .f32) (ix2 k l) = X1 m c (ix2 k l) := by
  blk_ext [iblk, V, idx t]
theorem rd6 (k l : Fin 1024) : (iblk m c 6 t : FVec Ideal S1024x1024 .bf16) (ix2 k l) = X2 m c (ix2 k l) := by
  blk_ext [iblk, V, idx t]
theorem rd7 (l : Fin 1024) : (iblk m c 7 t : FVec Ideal S1x1024 .f32) (ix2 0 l) = X3 m c (ix2 0 l) := by
  blk_ext [iblk, V, idx t]
theorem rd8 (r : Fin 512) (l : Fin 1024) : (iblk m c 8 t : FVec Ideal S512x1024 .f32) (ix2 r l) = X4 m c (ix2 (row t r) l) := by
  blk_ext [iblk, V, idx t, row]

/-- The block of the convolution's input. -/
theorem hU (r : Fin 512) (l : Fin 1024) :
    (fun a b : EReal => a * b) ((iblk m c 1 t : FVec Ideal S512x1024 .bf16) (ix2 r l)) ((iblk m c 2 t : FVec Ideal S512x1024 .bf16) (ix2 r l))
    = U (X0 m c) (512 * t.val + r.val) l := by
  have ht := tlt t
  unfold U
  rw [dif_pos (by omega)]
  refine congrArg₂ (fun a b : EReal => a * b) ?_ ?_ <;> blk_ext [iblk, V, idx t]

/-- The sixteen rows of the convolution's input before the block, away from the first point. -/
theorem hP (h : t.val ≠ 0) (r : Fin 16) (l : Fin 1024) :
    (fun a b : EReal => a * b) ((iblk m c 3 t : FVec Ideal S16x1024 .bf16) (ix2 r l)) ((iblk m c 4 t : FVec Ideal S16x1024 .bf16) (ix2 r l))
    = U (X0 m c) (512 * t.val - 16 + r.val) l := by
  have ht := tlt t
  unfold U
  rw [dif_pos (by omega)]
  refine congrArg₂ (fun a b : EReal => a * b) ?_ ?_ <;> blk_ext [iblk, V, idx t]

/-- A block's gated convolution, as computed from the blocks. -/
theorem gated (r : Fin 512) (l : Fin 1024) : k0_pay5 (F := Ideal) (grid0.coords t) (iblk m c 0 t) (iblk m c 1 t) (iblk m c 2 t) (iblk m c 3 t)
      (iblk m c 4 t) (iblk m c 5 t) (iblk m c 6 t) (iblk m c 7 t) (iblk m c 8 t) (ix2 r l) = Y (X0 m c) (X1 m c) (row t r) l := by
  unfold k0_pay5
  refine (pay4 (X0 m c) (X1 m c) t.val _ _ _ _ _ _ _ _ _ (first t) ?_ ?_ r l ?_ ?_ ?_).trans ?_
  · intro r l; pointwise; exact hU m c t r l
  · intro h r l; pointwise; exact hP m c t h r l
  · pointwise; exact rd5 m c t _ _
  · pointwise; exact rd5 m c t _ _
  · pointwise; exact rd5 m c t _ _
  · pointwise
    exact congrArg (fun a : EReal => a * _) (rd0 m c t r l)

/-- A block's product. -/
theorem product (r : Fin 512) (l : Fin 1024) : k0_pay1 (F := Ideal) (k0_pay5 (F := Ideal) (grid0.coords t) (iblk m c 0 t) (iblk m c 1 t) (iblk m c 2 t)
      (iblk m c 3 t) (iblk m c 4 t) (iblk m c 5 t) (iblk m c 6 t) (iblk m c 7 t) (iblk m c 8 t)) (View.ld (iblk m c 6 t) r0_5) (ix2 r l)
    = Z (X0 m c) (X1 m c) (X2 m c) (row t r) l := by
  pointwise [k0_pay1]
  simp only [gated, rd6]
  rfl

/-- What a grid point leaves in its blocks of the three results. -/
theorem out9 (y0 : Fin 512) (y1 : Fin 1024) : out0_9 (F := Ideal) (grid0.coords t) (iblk m c 0 t) (iblk m c 1 t) (iblk m c 2 t) (iblk m c 3 t)
      (iblk m c 4 t) (iblk m c 5 t) (iblk m c 6 t) (iblk m c 7 t) (iblk m c 8 t) (ix2 y0 y1)
    = H (X0 m c) (X1 m c) (X2 m c) (X3 m c) (X4 m c) (row t y0) y1 := by
  unfold out0_9
  canon_tiles p h
  all_goals idx_vars p
  all_goals obtain rfl : y1 = p1 := Fin.ext h1
  obtain rfl : y0 = p0 := Fin.ext h0
  refine (pay3 _ _ _ _ _ y0 (product m c t y0) y1).trans ?_
  pointwise
  simp only [rd7, rd8]
  rfl
theorem out10 (y0 : Fin 512) (y1 : Fin 1024) : out0_10 (F := Ideal) (grid0.coords t) (iblk m c 0 t) (iblk m c 1 t) (iblk m c 2 t) (iblk m c 3 t)
      (iblk m c 4 t) (iblk m c 5 t) (iblk m c 6 t) (iblk m c 7 t) (iblk m c 8 t) (ix2 y0 y1)
    = Z (X0 m c) (X1 m c) (X2 m c) (row t y0) y1 := by
  unfold out0_10
  canon_tiles p h
  all_goals idx_vars p
  all_goals obtain rfl : y1 = p1 := Fin.ext h1
  obtain rfl : y0 = p0 := Fin.ext h0
  pointwise [k0_pay2]
  exact product m c t y0 y1
theorem out11 (y0 : Fin 512) (y1 : Fin 1024) : out0_11 (F := Ideal) (grid0.coords t) (iblk m c 0 t) (iblk m c 1 t) (iblk m c 2 t) (iblk m c 3 t)
      (iblk m c 4 t) (iblk m c 5 t) (iblk m c 6 t) (iblk m c 7 t) (iblk m c 8 t) (ix2 y0 y1)
    = Y (X0 m c) (X1 m c) (row t y0) y1 := by
  unfold out0_11
  canon_tiles p h
  all_goals idx_vars p
  all_goals obtain rfl : y1 = p1 := Fin.ext h1
  obtain rfl : y0 = p0 := Fin.ext h0
  exact gated m c t y0 y1

/-- The residual sum after the run. -/
theorem final9 : (dats m 0 c).arrAt 9 (cfgs 0).N = fun i : S4096x1024.Idx => H (X0 m c) (X1 m c) (X2 m c) (X3 m c) (X4 m c) (i 0) (i 1) := by
  refine (dats m 0 c).arrAt_eq_of_covers 9 _ (by decide +kernel) fun t hf y => ?_
  blk_simp
  rw [after0_9]
  idx_vars y
  refine (out9 m c t y0 y1).trans ?_
  refine congrArg₂ (H (X0 m c) (X1 m c) (X2 m c) (X3 m c) (X4 m c)) (Fin.ext ?_) (Fin.ext ?_) <;> blk_simp [idx t]
  show 512 * t.val + y0.val = _
  omega

/-- The product after the run. -/
theorem final10 : (dats m 0 c).arrAt 10 (cfgs 0).N = fun i : S4096x1024.Idx => Z (X0 m c) (X1 m c) (X2 m c) (i 0) (i 1) := by
  refine (dats m 0 c).arrAt_eq_of_covers 10 _ (by decide +kernel) fun t hf y => ?_
  blk_simp
  rw [after0_10]
  idx_vars y
  refine (out10 m c t y0 y1).trans ?_
  refine congrArg₂ (Z (X0 m c) (X1 m c) (X2 m c)) (Fin.ext ?_) (Fin.ext ?_) <;> blk_simp [idx t]
  show 512 * t.val + y0.val = _
  omega

/-- The gated convolution after the run. -/
theorem final11 : (dats m 0 c).arrAt 11 (cfgs 0).N = fun i : S4096x1024.Idx => Y (X0 m c) (X1 m c) (i 0) (i 1) := by
  refine (dats m 0 c).arrAt_eq_of_covers 11 _ (by decide +kernel) fun t hf y => ?_
  blk_simp
  rw [after0_11]
  idx_vars y
  refine (out11 m c t y0 y1).trans ?_
  refine congrArg₂ (Y (X0 m c) (X1 m c)) (Fin.ext ?_) (Fin.ext ?_) <;> blk_simp [idx t]
  show 512 * t.val + y0.val = _
  omega

end Cert.ConvMixIdeal.Value

end
-- ==== Proof.ConvMixClaim.lean ====
module

public import proofs.«01_k».proof.Defs
public import proofs.«01_k».proof.Proof.Gen.ConvMix.Frame
public import proofs.«01_k».proof.Proof.ConvMixValue
public import proofs.«01_k».proof.Proof.Gen.ConvMixRefIdeal.Read
public import proofs.«01_k».proof.Proof.ConvRef
public import Idealize.ShloMosaic.Lib.Claim

@[expose] public section

set_option maxRecDepth 16384

noncomputable section

open Idealize.ShloMosaic Idealize.ShloMosaic.TcCoe Idealize.SL.Sem

namespace Cert.ConvMixRefIdeal.Read

open Cert.ConvMixRefIdeal

open Cert.ConvIdeal.Value (U Up conv up_of u_at)
open Cert.ConvMixIdeal.Value (Y Z H)

section Reference

variable (x : FVec Ideal S4096x3072 .bf16) (cw : FVec Ideal S3x1024 .f32) (r : Fin 4096) (l : Fin 1024)

/-- The reference's gated convolution, its product, the reciprocal root of the mean square, and the three results. -/
theorem refY : val_main_v27 (F := Ideal) x cw (ix2 r l) = Y x cw r l := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18,
    val_main_v19, val_main_v20, val_main_v21, val_main_v22, val_main_v23, val_main_v24, val_main_v25, val_main_v26, val_main_v27,
    val_main_cst]
  unfold Y conv
  rw [up_of x 2 r.val l Iff.rfl (fun h => (u_at x _ (by omega) l).symm),
    up_of x 1 r.val l (by omega) (fun h => ((congrArg (fun n => U x n l) (by omega)).trans (u_at x (1 + r.val - 2) (by omega) l)).symm),
    ← u_at x r.val r.isLt l, mul_comm (cw _), mul_comm (cw _), mul_comm (cw _)]
theorem refZ (w : FVec Ideal S1024x1024 .bf16) : val_main_v29 (F := Ideal) x cw w (ix2 r l) = Z x cw w r l := by
  pointwise [val_main_v28, val_main_v29]
  simp only [refY]
  rfl
theorem refRms (w : FVec Ideal S1024x1024 .bf16) : val_main_v37 (F := Ideal) x cw w (ix2 r 0) = Row.rms (Z x cw w r) := by
  pointwise [val_main_v30, val_main_v31, val_main_v32, val_main_v33, val_main_v34, val_main_v35, val_main_v36, val_main_v37, val_main_cst_0,
    val_main_cst_1, val_main_cst_2]
  simp only [refZ]
  rfl
theorem ref43 (w : FVec Ideal S1024x1024 .bf16) (g : FVec Ideal S1x1024 .f32) (res : FVec Ideal S4096x1024 .f32) :
    val_main_v43 (F := Ideal) x cw w g res (ix2 r l) = H x cw w g res r l := by
  pointwise [val_main_v43, val_main_v42, val_main_v41, val_main_v40, val_main_v39, val_main_v38]
  simp only [refZ, refRms]
  rfl
theorem ref44 (w : FVec Ideal S1024x1024 .bf16) : val_main_v44 (F := Ideal) x cw w (ix2 r l) = Z x cw w r l := by
  pointwise [val_main_v44]
  exact refZ x cw r l w
theorem ref45 : val_main_v45 (F := Ideal) x cw (ix2 r l) = Y x cw r l := by
  pointwise [val_main_v45]
  exact refY x cw r l

end Reference

/-- The reference's run, its results the residual sum, the product and the gated convolution. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = (fun i : S4096x1024.Idx => Cert.ConvMixIdeal.Value.H
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_v44) = (fun i : S4096x1024.Idx => Cert.ConvMixIdeal.Value.Z
        (m ((c.tc : Thread nD τ).loc main_arg0)) (m ((c.tc : Thread nD τ).loc main_arg1)) (m ((c.tc : Thread nD τ).loc main_arg2)) (i 0) (i 1))
      ∧ r.2.mem ((c.tc : Thread nD τ).loc main_v45) = (fun i : S4096x1024.Idx => Cert.ConvMixIdeal.Value.Y
        (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans ((val_main_v43_eq _ _).trans (funext fun i => by idx_vars i; exact ref43 _ _ i0 i1 _ _ _)),
    (h c).2.1.trans ((val_main_v44_eq _ _ _).trans (funext fun i => by idx_vars i; exact ref44 _ _ i0 i1 _)),
    (h c).2.2.1.trans ((val_main_v45_eq _ _).trans (funext fun i => by idx_vars i; exact ref45 _ _ i0 i1)),
    (h c).2.2.2⟩) (Cert.ConvMixRefIdeal.Value.run m ρ)

end Cert.ConvMixRefIdeal.Read

namespace Cert.Proof

/-- The reference of the gated convolution and its output product runs to its end and leaves its arguments as they were. -/
theorem convmix_ref : quiescent_ConvMixRefIdeal (hConvMixRefIdeal := Cert.ConvMixRefIdeal.Gen.facts) := by
  intro m g _
  run_from Cert.ConvMixRefIdeal.Read.run_forward m g
  · exact fun _ => by simp only [and_self]
  · exact sem_eq_zero_of_no_sems (sig := Cert.ConvMixRefIdeal.sig) (by decide) _

/-- The kernel of the gated convolution and its output product leaves in every result what the forward lines leave there. -/
theorem convmix_value : algebraic_ConvMixIdeal_ConvMixRefIdeal (hConvMixIdeal := Cert.ConvMixIdeal.Gen.facts)
    (hConvMixRefIdeal := Cert.ConvMixRefIdeal.Gen.facts) := by
  pair_intro
  · run_from Cert.ConvMixIdeal.Gen.run_main m g
  · run_from Cert.ConvMixRefIdeal.Read.run_forward m' g'
    · exact (Cert.ConvMixIdeal.Value.final9 m c).symm
    · exact (Cert.ConvMixIdeal.Value.final10 m c).symm
    · exact (Cert.ConvMixIdeal.Value.final11 m c).symm

end Cert.Proof

end
-- ==== Proof.AdamStep.lean ====
module

public import Idealize.ShloMosaic.Lib.Pointwise

@[expose] public section

noncomputable section

open Idealize.ShloMosaic

namespace Cert.Step

/-! One step of the optimiser at one entry: `w` the weight, `g` its gradient, `m` and `v` the moments. -/

/-- A constant of the step. -/
abbrev num (b : BitVec 32) : EReal := (FloatOps.ofBits .f32 b : Ideal .f32)

/-- The first moment, a mean of the gradients. -/
def first (g m : EReal) : EReal := num 0x3F666666#32 * m + num 0x3DCCCCCD#32 * g

/-- The second moment, a mean of their squares. -/
def second (g v : EReal) : EReal := num 0x3F7FBE77#32 * v + num 0x3A83126F#32 * (g * g)

/-- The weight's change: the corrected first moment over the root of the corrected second one, and the weight's decay. -/
def change (w g m v : EReal) : EReal :=
  num 0xBA83126F#32 * (FloatOps.divf (F := Ideal) (φ := .f32) (FloatOps.divf (F := Ideal) (φ := .f32) (first g m) (num 0x3F26BD02#32))
    (FloatOps.sqrt (F := Ideal) (φ := .f32) (FloatOps.divf (F := Ideal) (φ := .f32) (second g v) (num 0x3C231ACC#32)) + num 0x322BCC77#32)
    + num 0x3C23D70A#32 * w)

end Cert.Step

end
-- ==== Proof.AdamValue.lean ====
module

public import proofs.«01_k».proof.Proof.AdamStep
public import proofs.«01_k».proof.Proof.Gen.AdamIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamIdeal.Value

open Cert.AdamIdeal Cert.AdamIdeal.Gen

/-! The optimiser's step of a weight with two layers, at one entry. -/

section Formulas

variable (w : FVec Ideal S2x1024x1408 .f32) (g0 g1 : FVec Ideal S1024x1408 .f32) (m v : FVec Ideal S2x1024x1408 .f32)
  (a : Fin 2) (r : Fin 1024) (l : Fin 1408)

/-- The gradient of layer `a`. -/
def G : EReal := if a.val = 0 then g0 (ix2 r l) else g1 (ix2 r l)
/-- The step's three results. -/
def D : EReal := Step.change (w (ix3 a r l)) (G g0 g1 a r l) (m (ix3 a r l)) (v (ix3 a r l))
def M : EReal := Step.first (G g0 g1 a r l) (m (ix3 a r l))
def S : EReal := Step.second (G g0 g1 a r l) (v (ix3 a r l))

end Formulas

variable (m : (ℓ : Loc nD τ sig) → Buf (Elt Ideal) ℓ) (c : Dev nD)

/-- The argument arrays. -/
abbrev X0 : FVec Ideal S2x1024x1408 .f32 := m ((c : Thread nD τ).loc main_arg0)
abbrev X1 : FVec Ideal S1024x1408 .f32 := m ((c : Thread nD τ).loc main_arg1)
abbrev X2 : FVec Ideal S1024x1408 .f32 := m ((c : Thread nD τ).loc main_arg2)
abbrev X3 : FVec Ideal S2x1024x1408 .f32 := m ((c : Thread nD τ).loc main_arg3)
abbrev X4 : FVec Ideal S2x1024x1408 .f32 := m ((c : Thread nD τ).loc main_arg4)

/-- The blocks the windows hold at a grid point: four points to a layer. -/
theorem idx : ∀ t : Fin cfg0.N, win0_0.index t = ![t.val / 4, t.val % 4, 0] ∧ win0_1.index t = ![t.val / 4, t.val % 4, 0]
    ∧ win0_2.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ t.val < 8 :=
  (by decide +kernel : ∀ t : Fin grid0.N, _)
/-- The layer's own gradient is at the block that the point is at. -/
theorem idx3 : ∀ t : Fin cfg0.N, t.val / 4 = 0 → win0_3.index t = ![t.val % 4, 0] :=
  (by decide +kernel : ∀ t : Fin grid0.N, _)
theorem idx4 : ∀ t : Fin cfg0.N, ¬ t.val / 4 = 0 → win0_4.index t = ![t.val % 4, 0] :=
  (by decide +kernel : ∀ t : Fin grid0.N, _)
/-- Which of the two gradients the body chooses. -/
theorem chosen : ∀ t : Fin cfg0.N, Scalar.cmpi .eq (BitVec.ofNat 32 ((grid0.coords t) 0).val) 1#32 = if t.val / 4 = 0 then 0#1 else 1#1 :=
  (by decide +kernel : ∀ t : Fin grid0.N, _)

variable (t : Fin cfg0.N)

/-- The layer of a grid point, and the row of the array that is a block's row `r`. -/
def lay : Fin 2 := ⟨t.val / 4, by have := (idx t).2.2.2.2.2.2.2; omega⟩
def row (r : Fin 256) : Fin 1024 := ⟨256 * (t.val % 4) + r.val, by omega⟩

/-- The blocks that the body reads. -/
theorem rd0 (r : Fin 256) (l : Fin 1408) : (iblk m c 0 t : FVec Ideal S1x256x1408 .f32) (ix3 0 r l) = X0 m c (ix3 (lay t) (row t r) l) := by
  blk_ext [iblk, V, idx t, row, lay]
theorem rd1 (r : Fin 256) (l : Fin 1408) : (iblk m c 1 t : FVec Ideal S1x256x1408 .f32) (ix3 0 r l) = X3 m c (ix3 (lay t) (row t r) l) := by
  blk_ext [iblk, V, idx t, row, lay]
theorem rd2 (r : Fin 256) (l : Fin 1408) : (iblk m c 2 t : FVec Ideal S1x256x1408 .f32) (ix3 0 r l) = X4 m c (ix3 (lay t) (row t r) l) := by
  blk_ext [iblk, V, idx t, row, lay]
theorem rd3 (h : t.val / 4 = 0) (r : Fin 256) (l : Fin 1408) :
    (iblk m c 3 t : FVec Ideal S256x1408 .f32) (ix2 r l) = X1 m c (ix2 (row t r) l) := by
  blk_ext [iblk, V, idx3 t h, row]
theorem rd4 (h : ¬ t.val / 4 = 0) (r : Fin 256) (l : Fin 1408) :
    (iblk m c 4 t : FVec Ideal S256x1408 .f32) (ix2 r l) = X2 m c (ix2 (row t r) l) := by
  blk_ext [iblk, V, idx4 t h, row]

/-- The gradient the body takes. -/
theorem pay4 (v0 v2 : Vec Ideal S256x1408 .f32) (r : Fin 256) (l : Fin 1408)
    (h0 : t.val / 4 = 0 → v0 (ix2 r l) = X1 m c (ix2 (row t r) l)) (h2 : ¬ t.val / 4 = 0 → v2 (ix2 r l) = X2 m c (ix2 (row t r) l)) :
    k0_pay4 (F := Ideal) (grid0.coords t) v0 v2 (ix2 r l) = G (X1 m c) (X2 m c) (lay t) (row t r) l := by
  unfold k0_pay4 G lay
  dsimp only
  rw [chosen t]
  by_cases h : t.val / 4 = 0
  · rw [if_pos h, if_pos h]
    exact h0 h
  · rw [if_neg h, if_neg h]
    exact h2 h

section Pieces

variable (v0 v2 : Vec Ideal S256x1408 .f32) (v7 v9 v11 : Vec Ideal S1x256x1408 .f32) (g : EReal) (r : Fin 256) (l : Fin 1408)
  (h : k0_pay4 (F := Ideal) (grid0.coords t) v0 v2 (ix2 r l) = g)
include h

/-- The body's four results, from the gradient it takes. -/
theorem pieceG : k0_pay5 (F := Ideal) (grid0.coords t) v0 v2 (ix3 0 r l) = g := by
  pointwise [k0_pay5]
  exact h
theorem pieceM : k0_pay7 (F := Ideal) (grid0.coords t) v0 v2 v9 (ix2 r l) = Step.first g (v9 (ix3 0 r l)) := by
  pointwise [k0_pay7]
  rw [h]
  rfl
theorem pieceS : k0_pay8 (F := Ideal) (grid0.coords t) v0 v2 v11 (ix2 r l) = Step.second g (v11 (ix3 0 r l)) := by
  pointwise [k0_pay8]
  rw [h]
  rfl
theorem pieceD : k0_pay1 (F := Ideal) (k0_pay6 v7) (k0_pay9 (grid0.coords t) v0 v2 v9 v11) (Scalar.ofBits .f32 0x3C23D70A#32) (ix3 0 r l)
    = Step.change (v7 (ix3 0 r l)) g (v9 (ix3 0 r l)) (v11 (ix3 0 r l)) := by
  pointwise [k0_pay1, k0_pay6, k0_pay9]
  rw [pieceM t v0 v2 v9 g r l h, pieceS t v0 v2 v11 g r l h]
  rfl

end Pieces

/-- The gradient the body takes at a grid point. -/
theorem took (r : Fin 256) (l : Fin 1408) : k0_pay4 (F := Ideal) (grid0.coords t) (View.ld (iblk m c 3 t) r0_0) (View.ld (iblk m c 4 t) r0_0) (ix2 r l)
    = G (X1 m c) (X2 m c) (lay t) (row t r) l := by
  refine pay4 m c t _ _ r l (fun h => ?_) fun h => ?_ <;> pointwise
  exacts [rd3 m c t h r l, rd4 m c t h r l]

/-- A place of the array from a place of a block. -/
theorem place (f : Fin 2 → Fin 1024 → Fin 1408 → EReal) (r : Fin 256) (l : Fin 1408) (a : Fin 2) (b : Fin 1024) (d : Fin 1408)
    (ha : a.val = t.val / 4) (hb : b.val = 256 * (t.val % 4) + r.val) (hd : d.val = l.val) : f (lay t) (row t r) l = f a b d := by
  obtain rfl : a = lay t := Fin.ext ha
  obtain rfl : b = row t r := Fin.ext hb
  obtain rfl : d = l := Fin.ext hd
  rfl

/-- The gradient after the run. -/
theorem final5 : (dats m 0 c).arrAt 5 (cfgs 0).N = fun i : S2x1024x1408.Idx => G (X1 m c) (X2 m c) (i 0) (i 1) (i 2) := by
  refine (dats m 0 c).arrAt_eq_of_covers 5 _ (by decide +kernel) fun t hf y => ?_
  blk_simp
  rw [after0_5]
  idx_vars y
  unfold out0_5
  canon_tiles p h
  all_goals idx_vars p
  all_goals obtain rfl : y1 = p1 := Fin.ext h1
  all_goals obtain rfl : y2 = p2 := Fin.ext h2
  obtain rfl : p0 = 0 := Subsingleton.elim _ _
  refine (pieceG t _ _ _ y1 y2 (took m c t y1 y2)).trans ?_
  refine place t (G (X1 m c) (X2 m c)) y1 y2 _ _ _ ?_ ?_ ?_ <;> blk_simp [idx t]
  omega

/-- The weights' change after the run. -/
theorem final6 : (dats m 0 c).arrAt 6 (cfgs 0).N = fun i : S2x1024x1408.Idx => D (X0 m c) (X1 m c) (X2 m c) (X3 m c) (X4 m c) (i 0) (i 1) (i 2) := by
  refine (dats m 0 c).arrAt_eq_of_covers 6 _ (by decide +kernel) fun t hf y => ?_
  blk_simp
  rw [after0_6]
  idx_vars y
  unfold out0_6
  canon_tiles p h
  all_goals idx_vars p
  all_goals obtain rfl : y1 = p1 := Fin.ext h1
  all_goals obtain rfl : y2 = p2 := Fin.ext h2
  obtain rfl : p0 = 0 := Subsingleton.elim _ _
  refine (pieceD t _ _ _ _ _ _ y1 y2 (took m c t y1 y2)).trans ?_
  pointwise
  simp only [rd0, rd1, rd2]
  refine place t (D (X0 m c) (X1 m c) (X2 m c) (X3 m c) (X4 m c)) y1 y2 _ _ _ ?_ ?_ ?_ <;> blk_simp [idx t]
  omega

/-- The first moment after the run. -/
theorem final7 : (dats m 0 c).arrAt 7 (cfgs 0).N = fun i : S2x1024x1408.Idx => M (X1 m c) (X2 m c) (X3 m c) (i 0) (i 1) (i 2) := by
  refine (dats m 0 c).arrAt_eq_of_covers 7 _ (by decide +kernel) fun t hf y => ?_
  blk_simp
  rw [after0_7]
  idx_vars y
  unfold out0_7
  canon_tiles p h
  all_goals idx_vars p
  all_goals obtain rfl : y1 = p1 := Fin.ext h1
  all_goals obtain rfl : y2 = p2 := Fin.ext h2
  obtain rfl : p0 = 0 := Subsingleton.elim _ _
  pointwise [k0_pay2]
  refine (pieceM t _ _ _ _ y1 y2 (took m c t y1 y2)).trans ?_
  pointwise
  simp only [rd1]
  refine place t (M (X1 m c) (X2 m c) (X3 m c)) y1 y2 _ _ _ ?_ ?_ ?_ <;> blk_simp [idx t]
  omega

/-- The second moment after the run. -/
theorem final8 : (dats m 0 c).arrAt 8 (cfgs 0).N = fun i : S2x1024x1408.Idx => S (X1 m c) (X2 m c) (X4 m c) (i 0) (i 1) (i 2) := by
  refine (dats m 0 c).arrAt_eq_of_covers 8 _ (by decide +kernel) fun t hf y => ?_
  blk_simp
  rw [after0_8]
  idx_vars y
  unfold out0_8
  canon_tiles p h
  all_goals idx_vars p
  all_goals obtain rfl : y1 = p1 := Fin.ext h1
  all_goals obtain rfl : y2 = p2 := Fin.ext h2
  obtain rfl : p0 = 0 := Subsingleton.elim _ _
  pointwise [k0_pay3]
  refine (pieceS t _ _ _ _ y1 y2 (took m c t y1 y2)).trans ?_
  pointwise
  simp only [rd2]
  refine place t (S (X1 m c) (X2 m c) (X4 m c)) y1 y2 _ _ _ ?_ ?_ ?_ <;> blk_simp [idx t]
  omega

end Cert.AdamIdeal.Value

end
-- ==== Proof.AdamClaim.lean ====
module

public import proofs.«01_k».proof.Defs
public import proofs.«01_k».proof.Proof.Gen.Adam.Frame
public import proofs.«01_k».proof.Proof.AdamValue
public import proofs.«01_k».proof.Proof.Gen.AdamRefIdeal.Read
public import Idealize.ShloMosaic.Lib.Claim

@[expose] public section

set_option maxRecDepth 16384

noncomputable section

open Idealize.ShloMosaic Idealize.ShloMosaic.TcCoe Idealize.SL.Sem

namespace Cert.AdamRefIdeal.Read

open Cert.AdamRefIdeal

open Cert.AdamIdeal.Value (G D M S)

section Reference

variable (w : FVec Ideal S2x1024x1408 .f32) (g0 g1 : FVec Ideal S1024x1408 .f32) (m v : FVec Ideal S2x1024x1408 .f32)
  (a : Fin 2) (r : Fin 1024) (l : Fin 1408)

/-- The reference's gradients, moments and change at one entry. -/
theorem ref2 : val_main_v2 (F := Ideal) g0 g1 (ix3 a r l) = G g0 g1 a r l := by
  unfold G
  by_cases h : a.val = 0
  · obtain rfl : a = 0 := Fin.ext h
    pointwise [val_main_v2, val_main_v1, val_main_v0]
  · obtain rfl : a = 1 := Fin.ext (by omega)
    pointwise [val_main_v2, val_main_v1, val_main_v0]
theorem ref7 : val_main_v7 (F := Ideal) g0 g1 m (ix3 a r l) = M g0 g1 m a r l := by
  pointwise [val_main_v7, val_main_v6, val_main_v5, val_main_v4, val_main_v3, val_main_cst, val_main_cst_0]
  rw [ref2]
  rfl
theorem ref13 : val_main_v13 (F := Ideal) g0 g1 v (ix3 a r l) = S g0 g1 v a r l := by
  pointwise [val_main_v13, val_main_v12, val_main_v11, val_main_v10, val_main_v9, val_main_v8, val_main_cst_1, val_main_cst_2]
  rw [ref2]
  rfl
theorem ref26 : val_main_v26 (F := Ideal) w g0 g1 m v (ix3 a r l) = D w g0 g1 m v a r l := by
  pointwise [val_main_v26, val_main_v25, val_main_v24, val_main_v23, val_main_v22, val_main_v21, val_main_v20, val_main_v19, val_main_v18,
    val_main_v17, val_main_v16, val_main_v15, val_main_v14, val_main_cst_3, val_main_cst_4, val_main_cst_5, val_main_cst_6, val_main_cst_7]
  rw [ref7, ref13]
  rfl

end Reference

/-- The reference's run, its results the gradients, the weights' changes and the moments. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = (fun i : S2x1024x1408.Idx => Cert.AdamIdeal.Value.G
        (m ((c.tc : Thread nD τ).loc main_arg1)) (m ((c.tc : Thread nD τ).loc main_arg2)) (i 0) (i 1) (i 2))
      ∧ r.2.mem ((c.tc : Thread nD τ).loc main_v26) = (fun i : S2x1024x1408.Idx => Cert.AdamIdeal.Value.D
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) (i 2))
      ∧ r.2.mem ((c.tc : Thread nD τ).loc main_v7) = (fun i : S2x1024x1408.Idx => Cert.AdamIdeal.Value.M
        (m ((c.tc : Thread nD τ).loc main_arg1)) (m ((c.tc : Thread nD τ).loc main_arg2)) (m ((c.tc : Thread nD τ).loc main_arg3)) (i 0) (i 1) (i 2))
      ∧ r.2.mem ((c.tc : Thread nD τ).loc main_v13) = (fun i : S2x1024x1408.Idx => Cert.AdamIdeal.Value.S
        (m ((c.tc : Thread nD τ).loc main_arg1)) (m ((c.tc : Thread nD τ).loc main_arg2)) (m ((c.tc : Thread nD τ).loc main_arg4)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans ((val_main_v2_eq _ _).trans (funext fun i => by idx_vars i; exact ref2 _ _ i0 i1 i2)),
    (h c).2.1.trans ((val_main_v26_eq _ _ _ _ _).trans (funext fun i => by idx_vars i; exact ref26 _ _ _ _ _ i0 i1 i2)),
    (h c).2.2.1.trans ((val_main_v7_eq _ _ _).trans (funext fun i => by idx_vars i; exact ref7 _ _ _ i0 i1 i2)),
    (h c).2.2.2.1.trans ((val_main_v13_eq _ _ _).trans (funext fun i => by idx_vars i; exact ref13 _ _ _ i0 i1 i2)),
    (h c).2.2.2.2⟩) (Cert.AdamRefIdeal.Value.run m ρ)

end Cert.AdamRefIdeal.Read

namespace Cert.Proof

/-- The reference of the optimiser's step of a weight with two layers runs to its end and leaves its arguments as they were. -/
theorem adam_ref : quiescent_AdamRefIdeal (hAdamRefIdeal := Cert.AdamRefIdeal.Gen.facts) := by
  intro m g _
  run_from Cert.AdamRefIdeal.Read.run_forward m g
  · exact fun _ => by simp only [and_self]
  · exact sem_eq_zero_of_no_sems (sig := Cert.AdamRefIdeal.sig) (by decide) _

/-- The kernel of the optimiser's step of a weight with two layers leaves in every result what the reference leaves there. -/
theorem adam_value : algebraic_AdamIdeal_AdamRefIdeal (hAdamIdeal := Cert.AdamIdeal.Gen.facts)
    (hAdamRefIdeal := Cert.AdamRefIdeal.Gen.facts) := by
  pair_intro
  · run_from Cert.AdamIdeal.Gen.run_main m g
  · run_from Cert.AdamRefIdeal.Read.run_forward m' g'
    · exact (Cert.AdamIdeal.Value.final5 m c).symm
    · exact (Cert.AdamIdeal.Value.final6 m c).symm
    · exact (Cert.AdamIdeal.Value.final7 m c).symm
    · exact (Cert.AdamIdeal.Value.final8 m c).symm

end Cert.Proof

end
-- ==== Proof.WGradValue.lean ====
module

public import proofs.«01_k».proof.Proof.Gen.WGradIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WGradIdeal.Value

open Cert.WGradIdeal Cert.WGradIdeal.Gen

/-- The gradient of a product's weights at one place: the rows against the rows of the product's gradient. -/
def dW (a : FVec Ideal S4096x1024 .bf16) (b : FVec Ideal S4096x3072 .bf16) (k : Fin 1024) (l : Fin 3072) : EReal :=
  ∑ r : Fin 4096, a (ix2 r k) * b (ix2 r l)

variable (m : (ℓ : Loc nD τ sig) → Buf (Elt Ideal) ℓ) (c : Dev nD)

/-- The argument arrays. -/
abbrev X0 : FVec Ideal S4096x1024 .bf16 := m ((c : Thread nD τ).loc main_arg0)
abbrev X1 : FVec Ideal S4096x3072 .bf16 := m ((c : Thread nD τ).loc main_arg1)

/-- The blocks the windows hold at a grid point: the second coordinate counts the rows' lanes. -/
theorem idx : ∀ t : Fin cfg0.N, win0_0.index t = ![0, t.val % 4] ∧ win0_1.index t = ![0, 0, t.val / 4]
    ∧ win0_2.index t = ![t.val % 4, t.val / 4] ∧ t.val < 8 :=
  (by decide +kernel : ∀ t : Fin grid0.N, _)

variable (t : Fin cfg0.N)

/-- The places in the arrays of a block's lanes. -/
def left (k : Fin 256) : Fin 1024 := ⟨256 * (t.val % 4) + k.val, by omega⟩
def right (l : Fin 1536) : Fin 3072 := ⟨1536 * (t.val / 4) + l.val, by have := (idx t).2.2.2; omega⟩

/-- The gradient as the host hands it to the kernel. -/
theorem host (r : Fin 4096) (l : Fin 3072) : V m c main_v0 (ix3 0 r l) = X1 m c (ix2 r l) := by
  entry_read
  pointwise

/-- The blocks that the body reads. -/
theorem rd0 (r : Fin 4096) (k : Fin 256) : (iblk m c 0 t : FVec Ideal S4096x256 .bf16) (ix2 r k) = X0 m c (ix2 r (left t k)) := by
  blk_ext [iblk, V, idx t, left]
theorem rd1 (r : Fin 4096) (l : Fin 1536) : (iblk m c 1 t : FVec Ideal S1x4096x1536 .bf16) (ix3 0 r l) = X1 m c (ix2 r (right t l)) := by
  refine Eq.trans ?_ (host m c r (right t l))
  blk_ext [iblk, idx t, right]

/-- What a grid point leaves in its block. -/
theorem out2 (k : Fin 256) (l : Fin 1536) : out0_2 (F := Ideal) (iblk m c 0 t) (iblk m c 1 t) (ix2 k l)
    = dW (X0 m c) (X1 m c) (left t k) (right t l) := by
  unfold out0_2
  canon_tiles p h
  all_goals idx_vars p
  all_goals obtain rfl : l = p1 := Fin.ext h1
  obtain rfl : k = p0 := Fin.ext h0
  pointwise [k0_pay1]
  simp only [rd0, rd1]
  rfl

/-- The gradient after the run. -/
theorem final2 : (dats m 0 c).arrAt 2 (cfgs 0).N = fun i : S1024x3072.Idx => dW (X0 m c) (X1 m c) (i 0) (i 1) := by
  refine (dats m 0 c).arrAt_eq_of_covers 2 _ (by decide +kernel) fun t hf y => ?_
  blk_simp
  rw [after0_2]
  idx_vars y
  refine (out2 m c t y0 y1).trans ?_
  refine congrArg₂ (dW (X0 m c) (X1 m c)) (Fin.ext ?_) (Fin.ext ?_) <;> blk_simp [idx t]
  · show 256 * (t.val % 4) + y0.val = _
    omega
  · show 1536 * (t.val / 4) + y1.val = _
    omega

end Cert.WGradIdeal.Value

end
-- ==== Proof.WGradClaim.lean ====
module

public import proofs.«01_k».proof.Defs
public import proofs.«01_k».proof.Proof.Gen.WGrad.Frame
public import proofs.«01_k».proof.Proof.WGradValue
public import proofs.«01_k».proof.Proof.Gen.WGradRefIdeal.Read
public import Idealize.ShloMosaic.Lib.Claim

@[expose] public section

set_option maxRecDepth 16384

noncomputable section

open Idealize.ShloMosaic Idealize.ShloMosaic.TcCoe Idealize.SL.Sem

namespace Cert.WGradRefIdeal.Read

open Cert.WGradRefIdeal

open Cert.WGradIdeal.Value (dW)

/-- The reference's gradient at one place. -/
theorem ref6 (a : FVec Ideal S4096x1024 .bf16) (b : FVec Ideal S4096x3072 .bf16) (k : Fin 1024) (l : Fin 3072) :
    val_main_v6 (F := Ideal) a b (ix2 k l) = dW a b k l := by
  pointwise [val_main_v6, val_main_v5, val_main_v4, val_main_v3, val_main_v1]
  exact Finset.sum_congr rfl fun r _ => mul_comm _ _

/-- The reference's run, its results the gradient of the weights. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = (fun i : S1024x3072.Idx => Cert.WGradIdeal.Value.dW
        (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans ((val_main_v6_eq _ _).trans (funext fun i => by idx_vars i; exact ref6 _ _ i0 i1)),
    (h c).2⟩) (Cert.WGradRefIdeal.Value.run m ρ)

end Cert.WGradRefIdeal.Read

namespace Cert.Proof

/-- The reference of the input projection's weights' gradient runs to its end and leaves its arguments as they were. -/
theorem wgrad_ref : quiescent_WGradRefIdeal (hWGradRefIdeal := Cert.WGradRefIdeal.Gen.facts) := by
  intro m g _
  run_from Cert.WGradRefIdeal.Read.run_forward m g
  · exact fun _ => by simp only [and_self]
  · exact sem_eq_zero_of_no_sems (sig := Cert.WGradRefIdeal.sig) (by decide) _

/-- The kernel of the input projection's weights' gradient leaves in every result what the reference leaves there. -/
theorem wgrad_value : algebraic_WGradIdeal_WGradRefIdeal (hWGradIdeal := Cert.WGradIdeal.Gen.facts)
    (hWGradRefIdeal := Cert.WGradRefIdeal.Gen.facts) := by
  pair_intro
  · run_from Cert.WGradIdeal.Gen.run_main m g
  · run_from Cert.WGradRefIdeal.Read.run_forward m' g'
    · exact (Cert.WGradIdeal.Value.final2 m c).symm

end Cert.Proof

end
-- ==== Proof.AdamDownValue.lean ====
module

public import proofs.«01_k».proof.Proof.AdamStep
public import proofs.«01_k».proof.Proof.Gen.AdamDownIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamDownIdeal.Value

open Cert.AdamDownIdeal Cert.AdamDownIdeal.Gen

/-! The optimiser's step of the down weights, at one entry. -/

section Formulas

variable (w : FVec Ideal S2x704x1024 .f32) (g0 g1 : FVec Ideal S704x1024 .f32) (m v : FVec Ideal S2x704x1024 .f32)
  (a : Fin 2) (r : Fin 704) (l : Fin 1024)

/-- The gradient of layer `a`. -/
def G : EReal := if a.val = 0 then g0 (ix2 r l) else g1 (ix2 r l)
/-- The step's three results. -/
def D : EReal := Step.change (w (ix3 a r l)) (G g0 g1 a r l) (m (ix3 a r l)) (v (ix3 a r l))
def M : EReal := Step.first (G g0 g1 a r l) (m (ix3 a r l))
def S : EReal := Step.second (G g0 g1 a r l) (v (ix3 a r l))

end Formulas

variable (m : (ℓ : Loc nD τ sig) → Buf (Elt Ideal) ℓ) (c : Dev nD)

/-- The argument arrays. -/
abbrev X0 : FVec Ideal S2x704x1024 .f32 := m ((c : Thread nD τ).loc main_arg0)
abbrev X1 : FVec Ideal S704x1024 .f32 := m ((c : Thread nD τ).loc main_arg1)
abbrev X2 : FVec Ideal S704x1024 .f32 := m ((c : Thread nD τ).loc main_arg2)
abbrev X3 : FVec Ideal S2x704x1024 .f32 := m ((c : Thread nD τ).loc main_arg3)
abbrev X4 : FVec Ideal S2x704x1024 .f32 := m ((c : Thread nD τ).loc main_arg4)

/-- The blocks the windows hold at a grid point: four points to a layer. -/
theorem idx : ∀ t : Fin cfg0.N, win0_0.index t = ![t.val / 4, t.val % 4, 0] ∧ win0_1.index t = ![t.val / 4, t.val % 4, 0]
    ∧ win0_2.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ t.val < 8 :=
  (by decide +kernel : ∀ t : Fin grid0.N, _)
/-- The layer's own gradient is at the block that the point is at. -/
theorem idx3 : ∀ t : Fin cfg0.N, t.val / 4 = 0 → win0_3.index t = ![t.val % 4, 0] :=
  (by decide +kernel : ∀ t : Fin grid0.N, _)
theorem idx4 : ∀ t : Fin cfg0.N, ¬ t.val / 4 = 0 → win0_4.index t = ![t.val % 4, 0] :=
  (by decide +kernel : ∀ t : Fin grid0.N, _)
/-- Which of the two gradients the body chooses. -/
theorem chosen : ∀ t : Fin cfg0.N, Scalar.cmpi .eq (BitVec.ofNat 32 ((grid0.coords t) 0).val) 1#32 = if t.val / 4 = 0 then 0#1 else 1#1 :=
  (by decide +kernel : ∀ t : Fin grid0.N, _)

variable (t : Fin cfg0.N)

/-- The layer of a grid point, and the row of the array that is a block's row `r`. -/
def lay : Fin 2 := ⟨t.val / 4, by have := (idx t).2.2.2.2.2.2.2; omega⟩
def row (r : Fin 176) : Fin 704 := ⟨176 * (t.val % 4) + r.val, by omega⟩

/-- The blocks that the body reads. -/
theorem rd0 (r : Fin 176) (l : Fin 1024) : (iblk m c 0 t : FVec Ideal S1x176x1024 .f32) (ix3 0 r l) = X0 m c (ix3 (lay t) (row t r) l) := by
  blk_ext [iblk, V, idx t, row, lay]
theorem rd1 (r : Fin 176) (l : Fin 1024) : (iblk m c 1 t : FVec Ideal S1x176x1024 .f32) (ix3 0 r l) = X3 m c (ix3 (lay t) (row t r) l) := by
  blk_ext [iblk, V, idx t, row, lay]
theorem rd2 (r : Fin 176) (l : Fin 1024) : (iblk m c 2 t : FVec Ideal S1x176x1024 .f32) (ix3 0 r l) = X4 m c (ix3 (lay t) (row t r) l) := by
  blk_ext [iblk, V, idx t, row, lay]
theorem rd3 (h : t.val / 4 = 0) (r : Fin 176) (l : Fin 1024) :
    (iblk m c 3 t : FVec Ideal S176x1024 .f32) (ix2 r l) = X1 m c (ix2 (row t r) l) := by
  blk_ext [iblk, V, idx3 t h, row]
theorem rd4 (h : ¬ t.val / 4 = 0) (r : Fin 176) (l : Fin 1024) :
    (iblk m c 4 t : FVec Ideal S176x1024 .f32) (ix2 r l) = X2 m c (ix2 (row t r) l) := by
  blk_ext [iblk, V, idx4 t h, row]

/-- The gradient the body takes. -/
theorem pay4 (v0 v2 : Vec Ideal S176x1024 .f32) (r : Fin 176) (l : Fin 1024)
    (h0 : t.val / 4 = 0 → v0 (ix2 r l) = X1 m c (ix2 (row t r) l)) (h2 : ¬ t.val / 4 = 0 → v2 (ix2 r l) = X2 m c (ix2 (row t r) l)) :
    k0_pay4 (F := Ideal) (grid0.coords t) v0 v2 (ix2 r l) = G (X1 m c) (X2 m c) (lay t) (row t r) l := by
  unfold k0_pay4 G lay
  dsimp only
  rw [chosen t]
  by_cases h : t.val / 4 = 0
  · rw [if_pos h, if_pos h]
    exact h0 h
  · rw [if_neg h, if_neg h]
    exact h2 h

section Pieces

variable (v0 v2 : Vec Ideal S176x1024 .f32) (v7 v9 v11 : Vec Ideal S1x176x1024 .f32) (g : EReal) (r : Fin 176) (l : Fin 1024)
  (h : k0_pay4 (F := Ideal) (grid0.coords t) v0 v2 (ix2 r l) = g)
include h

/-- The body's four results, from the gradient it takes. -/
theorem pieceG : k0_pay5 (F := Ideal) (grid0.coords t) v0 v2 (ix3 0 r l) = g := by
  pointwise [k0_pay5]
  exact h
theorem pieceM : k0_pay7 (F := Ideal) (grid0.coords t) v0 v2 v9 (ix2 r l) = Step.first g (v9 (ix3 0 r l)) := by
  pointwise [k0_pay7]
  rw [h]
  rfl
theorem pieceS : k0_pay8 (F := Ideal) (grid0.coords t) v0 v2 v11 (ix2 r l) = Step.second g (v11 (ix3 0 r l)) := by
  pointwise [k0_pay8]
  rw [h]
  rfl
theorem pieceD : k0_pay1 (F := Ideal) (k0_pay6 v7) (k0_pay9 (grid0.coords t) v0 v2 v9 v11) (Scalar.ofBits .f32 0x3C23D70A#32) (ix3 0 r l)
    = Step.change (v7 (ix3 0 r l)) g (v9 (ix3 0 r l)) (v11 (ix3 0 r l)) := by
  pointwise [k0_pay1, k0_pay6, k0_pay9]
  rw [pieceM t v0 v2 v9 g r l h, pieceS t v0 v2 v11 g r l h]
  rfl

end Pieces

/-- The gradient the body takes at a grid point. -/
theorem took (r : Fin 176) (l : Fin 1024) : k0_pay4 (F := Ideal) (grid0.coords t) (View.ld (iblk m c 3 t) r0_0) (View.ld (iblk m c 4 t) r0_0) (ix2 r l)
    = G (X1 m c) (X2 m c) (lay t) (row t r) l := by
  refine pay4 m c t _ _ r l (fun h => ?_) fun h => ?_ <;> pointwise
  exacts [rd3 m c t h r l, rd4 m c t h r l]

/-- A place of the array from a place of a block. -/
theorem place (f : Fin 2 → Fin 704 → Fin 1024 → EReal) (r : Fin 176) (l : Fin 1024) (a : Fin 2) (b : Fin 704) (d : Fin 1024)
    (ha : a.val = t.val / 4) (hb : b.val = 176 * (t.val % 4) + r.val) (hd : d.val = l.val) : f (lay t) (row t r) l = f a b d := by
  obtain rfl : a = lay t := Fin.ext ha
  obtain rfl : b = row t r := Fin.ext hb
  obtain rfl : d = l := Fin.ext hd
  rfl

/-- The gradient after the run. -/
theorem final5 : (dats m 0 c).arrAt 5 (cfgs 0).N = fun i : S2x704x1024.Idx => G (X1 m c) (X2 m c) (i 0) (i 1) (i 2) := by
  refine (dats m 0 c).arrAt_eq_of_covers 5 _ (by decide +kernel) fun t hf y => ?_
  blk_simp
  rw [after0_5]
  idx_vars y
  unfold out0_5
  canon_tiles p h
  all_goals idx_vars p
  all_goals obtain rfl : y1 = p1 := Fin.ext h1
  all_goals obtain rfl : y2 = p2 := Fin.ext h2
  obtain rfl : p0 = 0 := Subsingleton.elim _ _
  refine (pieceG t _ _ _ y1 y2 (took m c t y1 y2)).trans ?_
  refine place t (G (X1 m c) (X2 m c)) y1 y2 _ _ _ ?_ ?_ ?_ <;> blk_simp [idx t]
  omega

/-- The weights' change after the run. -/
theorem final6 : (dats m 0 c).arrAt 6 (cfgs 0).N = fun i : S2x704x1024.Idx => D (X0 m c) (X1 m c) (X2 m c) (X3 m c) (X4 m c) (i 0) (i 1) (i 2) := by
  refine (dats m 0 c).arrAt_eq_of_covers 6 _ (by decide +kernel) fun t hf y => ?_
  blk_simp
  rw [after0_6]
  idx_vars y
  unfold out0_6
  canon_tiles p h
  all_goals idx_vars p
  all_goals obtain rfl : y1 = p1 := Fin.ext h1
  all_goals obtain rfl : y2 = p2 := Fin.ext h2
  obtain rfl : p0 = 0 := Subsingleton.elim _ _
  refine (pieceD t _ _ _ _ _ _ y1 y2 (took m c t y1 y2)).trans ?_
  pointwise
  simp only [rd0, rd1, rd2]
  refine place t (D (X0 m c) (X1 m c) (X2 m c) (X3 m c) (X4 m c)) y1 y2 _ _ _ ?_ ?_ ?_ <;> blk_simp [idx t]
  omega

/-- The first moment after the run. -/
theorem final7 : (dats m 0 c).arrAt 7 (cfgs 0).N = fun i : S2x704x1024.Idx => M (X1 m c) (X2 m c) (X3 m c) (i 0) (i 1) (i 2) := by
  refine (dats m 0 c).arrAt_eq_of_covers 7 _ (by decide +kernel) fun t hf y => ?_
  blk_simp
  rw [after0_7]
  idx_vars y
  unfold out0_7
  canon_tiles p h
  all_goals idx_vars p
  all_goals obtain rfl : y1 = p1 := Fin.ext h1
  all_goals obtain rfl : y2 = p2 := Fin.ext h2
  obtain rfl : p0 = 0 := Subsingleton.elim _ _
  pointwise [k0_pay2]
  refine (pieceM t _ _ _ _ y1 y2 (took m c t y1 y2)).trans ?_
  pointwise
  simp only [rd1]
  refine place t (M (X1 m c) (X2 m c) (X3 m c)) y1 y2 _ _ _ ?_ ?_ ?_ <;> blk_simp [idx t]
  omega

/-- The second moment after the run. -/
theorem final8 : (dats m 0 c).arrAt 8 (cfgs 0).N = fun i : S2x704x1024.Idx => S (X1 m c) (X2 m c) (X4 m c) (i 0) (i 1) (i 2) := by
  refine (dats m 0 c).arrAt_eq_of_covers 8 _ (by decide +kernel) fun t hf y => ?_
  blk_simp
  rw [after0_8]
  idx_vars y
  unfold out0_8
  canon_tiles p h
  all_goals idx_vars p
  all_goals obtain rfl : y1 = p1 := Fin.ext h1
  all_goals obtain rfl : y2 = p2 := Fin.ext h2
  obtain rfl : p0 = 0 := Subsingleton.elim _ _
  pointwise [k0_pay3]
  refine (pieceS t _ _ _ _ y1 y2 (took m c t y1 y2)).trans ?_
  pointwise
  simp only [rd2]
  refine place t (S (X1 m c) (X2 m c) (X4 m c)) y1 y2 _ _ _ ?_ ?_ ?_ <;> blk_simp [idx t]
  omega

end Cert.AdamDownIdeal.Value

end
-- ==== Proof.AdamDownClaim.lean ====
module

public import proofs.«01_k».proof.Defs
public import proofs.«01_k».proof.Proof.Gen.AdamDown.Frame
public import proofs.«01_k».proof.Proof.AdamDownValue
public import proofs.«01_k».proof.Proof.Gen.AdamDownRefIdeal.Read
public import Idealize.ShloMosaic.Lib.Claim

@[expose] public section

set_option maxRecDepth 16384

noncomputable section

open Idealize.ShloMosaic Idealize.ShloMosaic.TcCoe Idealize.SL.Sem

namespace Cert.AdamDownRefIdeal.Read

open Cert.AdamDownRefIdeal

open Cert.AdamDownIdeal.Value (G D M S)

section Reference

variable (w : FVec Ideal S2x704x1024 .f32) (g0 g1 : FVec Ideal S704x1024 .f32) (m v : FVec Ideal S2x704x1024 .f32)
  (a : Fin 2) (r : Fin 704) (l : Fin 1024)

/-- The reference's gradients, moments and change at one entry. -/
theorem ref2 : val_main_v2 (F := Ideal) g0 g1 (ix3 a r l) = G g0 g1 a r l := by
  unfold G
  by_cases h : a.val = 0
  · obtain rfl : a = 0 := Fin.ext h
    pointwise [val_main_v2, val_main_v1, val_main_v0]
  · obtain rfl : a = 1 := Fin.ext (by omega)
    pointwise [val_main_v2, val_main_v1, val_main_v0]
theorem ref7 : val_main_v7 (F := Ideal) g0 g1 m (ix3 a r l) = M g0 g1 m a r l := by
  pointwise [val_main_v7, val_main_v6, val_main_v5, val_main_v4, val_main_v3, val_main_cst, val_main_cst_0]
  rw [ref2]
  rfl
theorem ref13 : val_main_v13 (F := Ideal) g0 g1 v (ix3 a r l) = S g0 g1 v a r l := by
  pointwise [val_main_v13, val_main_v12, val_main_v11, val_main_v10, val_main_v9, val_main_v8, val_main_cst_1, val_main_cst_2]
  rw [ref2]
  rfl
theorem ref26 : val_main_v26 (F := Ideal) w g0 g1 m v (ix3 a r l) = D w g0 g1 m v a r l := by
  pointwise [val_main_v26, val_main_v25, val_main_v24, val_main_v23, val_main_v22, val_main_v21, val_main_v20, val_main_v19, val_main_v18,
    val_main_v17, val_main_v16, val_main_v15, val_main_v14, val_main_cst_3, val_main_cst_4, val_main_cst_5, val_main_cst_6, val_main_cst_7]
  rw [ref7, ref13]
  rfl

end Reference

/-- The reference's run, its results the gradients, the weights' changes and the moments. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = (fun i : S2x704x1024.Idx => Cert.AdamDownIdeal.Value.G
        (m ((c.tc : Thread nD τ).loc main_arg1)) (m ((c.tc : Thread nD τ).loc main_arg2)) (i 0) (i 1) (i 2))
      ∧ r.2.mem ((c.tc : Thread nD τ).loc main_v26) = (fun i : S2x704x1024.Idx => Cert.AdamDownIdeal.Value.D
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) (i 2))
      ∧ r.2.mem ((c.tc : Thread nD τ).loc main_v7) = (fun i : S2x704x1024.Idx => Cert.AdamDownIdeal.Value.M
        (m ((c.tc : Thread nD τ).loc main_arg1)) (m ((c.tc : Thread nD τ).loc main_arg2)) (m ((c.tc : Thread nD τ).loc main_arg3)) (i 0) (i 1) (i 2))
      ∧ r.2.mem ((c.tc : Thread nD τ).loc main_v13) = (fun i : S2x704x1024.Idx => Cert.AdamDownIdeal.Value.S
        (m ((c.tc : Thread nD τ).loc main_arg1)) (m ((c.tc : Thread nD τ).loc main_arg2)) (m ((c.tc : Thread nD τ).loc main_arg4)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans ((val_main_v2_eq _ _).trans (funext fun i => by idx_vars i; exact ref2 _ _ i0 i1 i2)),
    (h c).2.1.trans ((val_main_v26_eq _ _ _ _ _).trans (funext fun i => by idx_vars i; exact ref26 _ _ _ _ _ i0 i1 i2)),
    (h c).2.2.1.trans ((val_main_v7_eq _ _ _).trans (funext fun i => by idx_vars i; exact ref7 _ _ _ i0 i1 i2)),
    (h c).2.2.2.1.trans ((val_main_v13_eq _ _ _).trans (funext fun i => by idx_vars i; exact ref13 _ _ _ i0 i1 i2)),
    (h c).2.2.2.2⟩) (Cert.AdamDownRefIdeal.Value.run m ρ)

end Cert.AdamDownRefIdeal.Read

namespace Cert.Proof

/-- The reference of the optimiser's step of the down weights runs to its end and leaves its arguments as they were. -/
theorem adamdown_ref : quiescent_AdamDownRefIdeal (hAdamDownRefIdeal := Cert.AdamDownRefIdeal.Gen.facts) := by
  intro m g _
  run_from Cert.AdamDownRefIdeal.Read.run_forward m g
  · exact fun _ => by simp only [and_self]
  · exact sem_eq_zero_of_no_sems (sig := Cert.AdamDownRefIdeal.sig) (by decide) _

/-- The kernel of the optimiser's step of the down weights leaves in every result what the reference leaves there. -/
theorem adamdown_value : algebraic_AdamDownIdeal_AdamDownRefIdeal (hAdamDownIdeal := Cert.AdamDownIdeal.Gen.facts)
    (hAdamDownRefIdeal := Cert.AdamDownRefIdeal.Gen.facts) := by
  pair_intro
  · run_from Cert.AdamDownIdeal.Gen.run_main m g
  · run_from Cert.AdamDownRefIdeal.Read.run_forward m' g'
    · exact (Cert.AdamDownIdeal.Value.final5 m c).symm
    · exact (Cert.AdamDownIdeal.Value.final6 m c).symm
    · exact (Cert.AdamDownIdeal.Value.final7 m c).symm
    · exact (Cert.AdamDownIdeal.Value.final8 m c).symm

end Cert.Proof

end
-- ==== Proof.AdamInValue.lean ====
module

public import proofs.«01_k».proof.Proof.AdamStep
public import proofs.«01_k».proof.Proof.Gen.AdamInIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamInIdeal.Value

open Cert.AdamInIdeal Cert.AdamInIdeal.Gen

/-! The optimiser's step of the input projection's weights, at one entry. -/

section Formulas

variable (w : FVec Ideal S1x1024x768 .f32) (g : FVec Ideal S1024x768 .f32) (m v : FVec Ideal S1x1024x768 .f32) (r : Fin 1024) (l : Fin 768)

/-- The step's four results: the gradient, the weight's change and the moments. -/
def G : EReal := g (ix2 r l)
def D : EReal := Step.change (w (ix3 0 r l)) (g (ix2 r l)) (m (ix3 0 r l)) (v (ix3 0 r l))
def M : EReal := Step.first (g (ix2 r l)) (m (ix3 0 r l))
def S : EReal := Step.second (g (ix2 r l)) (v (ix3 0 r l))

end Formulas

variable (m : (ℓ : Loc nD τ sig) → Buf (Elt Ideal) ℓ) (c : Dev nD)

/-- The argument arrays. -/
abbrev X0 : FVec Ideal S1x1024x768 .f32 := m ((c : Thread nD τ).loc main_arg0)
abbrev X1 : FVec Ideal S1024x768 .f32 := m ((c : Thread nD τ).loc main_arg1)
abbrev X2 : FVec Ideal S1x1024x768 .f32 := m ((c : Thread nD τ).loc main_arg2)
abbrev X3 : FVec Ideal S1x1024x768 .f32 := m ((c : Thread nD τ).loc main_arg3)

/-- The blocks the windows hold at a grid point. -/
theorem idx : ∀ t : Fin cfg0.N, win0_0.index t = ![0, t.val, 0]
    ∧ win0_1.index t = ![0, t.val, 0]
    ∧ win0_2.index t = ![0, t.val, 0]
    ∧ win0_3.index t = ![t.val, 0]
    ∧ win0_4.index t = ![0, t.val, 0]
    ∧ win0_5.index t = ![0, t.val, 0]
    ∧ win0_6.index t = ![0, t.val, 0]
    ∧ win0_7.index t = ![0, t.val, 0] ∧ t.val < 4 :=
  (by decide +kernel : ∀ t : Fin grid0.N, _)

variable (t : Fin cfg0.N)

/-- The row of an array that is a block's row `r` at a grid point. -/
def row (r : Fin 256) : Fin 1024 := ⟨256 * t.val + r.val, by have := (idx t).2.2.2.2.2.2.2.2; omega⟩

/-- The blocks that the body reads. -/
theorem rd0 (r : Fin 256) (l : Fin 768) : (iblk m c 0 t : FVec Ideal S1x256x768 .f32) (ix3 0 r l) = X0 m c (ix3 0 (row t r) l) := by
  blk_ext [iblk, V, idx t, row]
theorem rd1 (r : Fin 256) (l : Fin 768) : (iblk m c 1 t : FVec Ideal S1x256x768 .f32) (ix3 0 r l) = X2 m c (ix3 0 (row t r) l) := by
  blk_ext [iblk, V, idx t, row]
theorem rd2 (r : Fin 256) (l : Fin 768) : (iblk m c 2 t : FVec Ideal S1x256x768 .f32) (ix3 0 r l) = X3 m c (ix3 0 (row t r) l) := by
  blk_ext [iblk, V, idx t, row]
theorem rd3 (r : Fin 256) (l : Fin 768) : (iblk m c 3 t : FVec Ideal S256x768 .f32) (ix2 r l) = X1 m c (ix2 (row t r) l) := by
  blk_ext [iblk, V, idx t, row]

/-- A place of the array from a place of a block. -/
theorem place (f : Fin 1024 → Fin 768 → EReal) (r : Fin 256) (l : Fin 768) (b : Fin 1024) (d : Fin 768)
    (hb : b.val = 256 * t.val + r.val) (hd : d.val = l.val) : f (row t r) l = f b d := by
  obtain rfl : b = row t r := Fin.ext hb
  obtain rfl : d = l := Fin.ext hd
  rfl

/-- The gradient after the run. -/
theorem final4 : (dats m 0 c).arrAt 4 (cfgs 0).N = fun i : S1x1024x768.Idx => G (X1 m c) (i 1) (i 2) := by
  refine (dats m 0 c).arrAt_eq_of_covers 4 _ (by decide +kernel) fun t hf y => ?_
  blk_simp
  rw [after0_4]
  idx_vars y
  unfold out0_4
  canon_tiles p h
  all_goals idx_vars p
  all_goals obtain rfl : y1 = p1 := Fin.ext h1
  all_goals obtain rfl : y2 = p2 := Fin.ext h2
  obtain rfl : p0 = 0 := Subsingleton.elim _ _
  pointwise [k0_pay4]
  simp only [rd3]
  refine place t (G (X1 m c)) y1 y2 _ _ ?_ ?_ <;> blk_simp [idx t]
  omega

/-- The weights' change after the run. -/
theorem final5 : (dats m 0 c).arrAt 5 (cfgs 0).N = fun i : S1x1024x768.Idx => D (X0 m c) (X1 m c) (X2 m c) (X3 m c) (i 1) (i 2) := by
  refine (dats m 0 c).arrAt_eq_of_covers 5 _ (by decide +kernel) fun t hf y => ?_
  blk_simp
  rw [after0_5]
  idx_vars y
  unfold out0_5
  canon_tiles p h
  all_goals idx_vars p
  all_goals obtain rfl : y1 = p1 := Fin.ext h1
  all_goals obtain rfl : y2 = p2 := Fin.ext h2
  obtain rfl : p0 = 0 := Subsingleton.elim _ _
  pointwise [k0_pay1, k0_pay5, k0_pay6, k0_pay7]
  simp only [rd0, rd1, rd2, rd3]
  refine place t (D (X0 m c) (X1 m c) (X2 m c) (X3 m c)) y1 y2 _ _ ?_ ?_ <;> blk_simp [idx t]
  omega

/-- The first moment after the run. -/
theorem final6 : (dats m 0 c).arrAt 6 (cfgs 0).N = fun i : S1x1024x768.Idx => M (X1 m c) (X2 m c) (i 1) (i 2) := by
  refine (dats m 0 c).arrAt_eq_of_covers 6 _ (by decide +kernel) fun t hf y => ?_
  blk_simp
  rw [after0_6]
  idx_vars y
  unfold out0_6
  canon_tiles p h
  all_goals idx_vars p
  all_goals obtain rfl : y1 = p1 := Fin.ext h1
  all_goals obtain rfl : y2 = p2 := Fin.ext h2
  obtain rfl : p0 = 0 := Subsingleton.elim _ _
  pointwise [k0_pay2, k0_pay5]
  simp only [rd1, rd3]
  refine place t (M (X1 m c) (X2 m c)) y1 y2 _ _ ?_ ?_ <;> blk_simp [idx t]
  omega

/-- The second moment after the run. -/
theorem final7 : (dats m 0 c).arrAt 7 (cfgs 0).N = fun i : S1x1024x768.Idx => S (X1 m c) (X3 m c) (i 1) (i 2) := by
  refine (dats m 0 c).arrAt_eq_of_covers 7 _ (by decide +kernel) fun t hf y => ?_
  blk_simp
  rw [after0_7]
  idx_vars y
  unfold out0_7
  canon_tiles p h
  all_goals idx_vars p
  all_goals obtain rfl : y1 = p1 := Fin.ext h1
  all_goals obtain rfl : y2 = p2 := Fin.ext h2
  obtain rfl : p0 = 0 := Subsingleton.elim _ _
  pointwise [k0_pay3, k0_pay6]
  simp only [rd2, rd3]
  refine place t (S (X1 m c) (X3 m c)) y1 y2 _ _ ?_ ?_ <;> blk_simp [idx t]
  omega

end Cert.AdamInIdeal.Value

end
-- ==== Proof.AdamInClaim.lean ====
module

public import proofs.«01_k».proof.Defs
public import proofs.«01_k».proof.Proof.Gen.AdamIn.Frame
public import proofs.«01_k».proof.Proof.AdamInValue
public import proofs.«01_k».proof.Proof.Gen.AdamInRefIdeal.Read
public import Idealize.ShloMosaic.Lib.Claim

@[expose] public section

set_option maxRecDepth 16384

noncomputable section

open Idealize.ShloMosaic Idealize.ShloMosaic.TcCoe Idealize.SL.Sem

namespace Cert.AdamInRefIdeal.Read

open Cert.AdamInRefIdeal

open Cert.AdamInIdeal.Value (G D M S)

section Reference

variable (w : FVec Ideal S1x1024x768 .f32) (g : FVec Ideal S1024x768 .f32) (m v : FVec Ideal S1x1024x768 .f32) (a : Fin 1)
  (r : Fin 1024) (l : Fin 768)

/-- The reference's gradient, moments and change at one entry. -/
theorem ref0 : val_main_v0 (F := Ideal) g (ix3 a r l) = G g r l := by
  pointwise [val_main_v0]
  rfl
theorem ref5 : val_main_v5 (F := Ideal) g m (ix3 a r l) = M g m r l := by
  obtain rfl : a = 0 := Subsingleton.elim _ _
  pointwise [val_main_v5, val_main_v4, val_main_v3, val_main_v2, val_main_v1, val_main_cst, val_main_cst_0]
  rw [ref0]
  rfl
theorem ref11 : val_main_v11 (F := Ideal) g v (ix3 a r l) = S g v r l := by
  obtain rfl : a = 0 := Subsingleton.elim _ _
  pointwise [val_main_v11, val_main_v10, val_main_v9, val_main_v8, val_main_v7, val_main_v6, val_main_cst_1, val_main_cst_2]
  rw [ref0]
  rfl
theorem ref24 : val_main_v24 (F := Ideal) w g m v (ix3 a r l) = D w g m v r l := by
  obtain rfl : a = 0 := Subsingleton.elim _ _
  pointwise [val_main_v24, val_main_v23, val_main_v22, val_main_v21, val_main_v20, val_main_v19, val_main_v18, val_main_v17, val_main_v16,
    val_main_v15, val_main_v14, val_main_v13, val_main_v12, val_main_cst_3, val_main_cst_4, val_main_cst_5, val_main_cst_6, val_main_cst_7]
  rw [ref5, ref11]
  rfl

end Reference

/-- The reference's run, its results the gradient, the weights' change and the moments. -/
theorem run_forward (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S1x1024x768.Idx => Cert.AdamInIdeal.Value.G
        (m ((c.tc : Thread nD τ).loc main_arg1)) (i 1) (i 2))
      ∧ r.2.mem ((c.tc : Thread nD τ).loc main_v24) = (fun i : S1x1024x768.Idx => Cert.AdamInIdeal.Value.D
        (m ((c.tc : Thread nD τ).loc main_arg0)) (m ((c.tc : Thread nD τ).loc main_arg1)) (m ((c.tc : Thread nD τ).loc main_arg2)) (m ((c.tc : Thread nD τ).loc main_arg3)) (i 1) (i 2))
      ∧ r.2.mem ((c.tc : Thread nD τ).loc main_v5) = (fun i : S1x1024x768.Idx => Cert.AdamInIdeal.Value.M
        (m ((c.tc : Thread nD τ).loc main_arg1)) (m ((c.tc : Thread nD τ).loc main_arg2)) (i 1) (i 2))
      ∧ r.2.mem ((c.tc : Thread nD τ).loc main_v11) = (fun i : S1x1024x768.Idx => Cert.AdamInIdeal.Value.S
        (m ((c.tc : Thread nD τ).loc main_arg1)) (m ((c.tc : Thread nD τ).loc main_arg3)) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans ((val_main_v0_eq _).trans (funext fun i => by idx_vars i; exact ref0 _ i0 i1 i2)),
    (h c).2.1.trans ((val_main_v24_eq _ _ _ _).trans (funext fun i => by idx_vars i; exact ref24 _ _ _ _ i0 i1 i2)),
    (h c).2.2.1.trans ((val_main_v5_eq _ _).trans (funext fun i => by idx_vars i; exact ref5 _ _ i0 i1 i2)),
    (h c).2.2.2.1.trans ((val_main_v11_eq _ _).trans (funext fun i => by idx_vars i; exact ref11 _ _ i0 i1 i2)),
    (h c).2.2.2.2⟩) (Cert.AdamInRefIdeal.Value.run m ρ)

end Cert.AdamInRefIdeal.Read

namespace Cert.Proof

/-- The reference of the optimiser's step of the input projection's weights runs to its end and leaves its arguments as they were. -/
theorem adamin_ref : quiescent_AdamInRefIdeal (hAdamInRefIdeal := Cert.AdamInRefIdeal.Gen.facts) := by
  intro m g _
  run_from Cert.AdamInRefIdeal.Read.run_forward m g
  · exact fun _ => by simp only [and_self]
  · exact sem_eq_zero_of_no_sems (sig := Cert.AdamInRefIdeal.sig) (by decide) _

/-- The kernel of the optimiser's step of the input projection's weights leaves in every result what the reference leaves there. -/
theorem adamin_value : algebraic_AdamInIdeal_AdamInRefIdeal (hAdamInIdeal := Cert.AdamInIdeal.Gen.facts)
    (hAdamInRefIdeal := Cert.AdamInRefIdeal.Gen.facts) := by
  pair_intro
  · run_from Cert.AdamInIdeal.Gen.run_main m g
  · run_from Cert.AdamInRefIdeal.Read.run_forward m' g'
    · exact (Cert.AdamInIdeal.Value.final4 m c).symm
    · exact (Cert.AdamInIdeal.Value.final5 m c).symm
    · exact (Cert.AdamInIdeal.Value.final6 m c).symm
    · exact (Cert.AdamInIdeal.Value.final7 m c).symm

end Cert.Proof

end
-- ==== Proof.SmallSumValue.lean ====
module

public import proofs.«01_k».proof.Proof.Gen.SmallSumIdeal.Frame
public import proofs.«01_k».proof.Proof.Gen.SmallSumRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SmallSumIdeal.Value

open Cert.SmallSumIdeal Cert.SmallSumIdeal.Gen

/-! The sum of the devices' blocks, at one entry. -/

/-- The sum over the devices. -/
def T (x : FVec Ideal S8x16x1024 .f32) (r : Fin 16) (l : Fin 1024) : EReal := ∑ k : Fin 8, x (ix3 k r l)

/-- A device's own block, then the others in the order of the exclusive or, are all the blocks. -/
theorem sum_xor (f : Fin 8 → EReal) (k : Fin 8) :
    f k + f (k ^^^ 1) + f (k ^^^ 2) + f (k ^^^ 3) + f (k ^^^ 4) + f (k ^^^ 5) + f (k ^^^ 6) + f (k ^^^ 7) = ∑ j : Fin 8, f j := by
  have hk : k ^^^ 0 = k := (by decide : ∀ k : Fin 8, k ^^^ 0 = k) k
  have hb : Function.Involutive fun j : Fin 8 => k ^^^ j := (by decide : ∀ k j : Fin 8, k ^^^ (k ^^^ j) = j) k
  rw [← Function.Bijective.sum_comp hb.bijective f, Fin.sum_univ_eight, hk]

/-- The places that the body loads from, on each device. -/
theorem offs : ∀ k : Fin 8, k0_off1 (BitVec.ofNat 32 k.val) = ![k.val, 0, 0]
    ∧ ∀ d : Fin 8, k0_off2 (BitVec.ofNat 32 k.val) (BitVec.ofNat 32 d.val) = ![(k ^^^ d).val, 0, 0] := by decide +kernel

/-- A load of one block, at one entry. -/
theorem ld_at (x : FVec Ideal S8x16x1024 .f32) {off : Fin 3 → Nat} (inb : ∀ a, off a + S1x16x1024.size a ≤ S8x16x1024.size a)
    (k : Fin 8) (h : off = ![k.val, 0, 0]) (r : Fin 16) (l : Fin 1024) :
    (View.ld (Val := Elt Ideal) (e' := .f32) x (Rect.unit (s := S8x16x1024) off S1x16x1024.size inb) : FVec Ideal S1x16x1024 .f32) (ix3 0 r l) = x (ix3 k r l) := by
  subst h
  pointwise

/-- What the body stores, at one entry. -/
theorem total (x : FVec Ideal S8x16x1024 .f32) (v : BitVec 32) (hw : k0_chk1 v) (r : Fin 16) (l : Fin 1024) :
    k0_pay1 (F := Ideal) (k0_pay2 (View.ld x (Rect.unit (s := S8x16x1024) (k0_off1 v) S1x16x1024.size (k0_off1_inb v hw)))
      (View.ld x (Rect.unit (s := S8x16x1024) (k0_off2 v 1#32) S1x16x1024.size (k0_off2_inb v hw 0)))
      (View.ld x (Rect.unit (s := S8x16x1024) (k0_off2 v 2#32) S1x16x1024.size (k0_off2_inb v hw 1)))
      (View.ld x (Rect.unit (s := S8x16x1024) (k0_off2 v 3#32) S1x16x1024.size (k0_off2_inb v hw 2)))
      (View.ld x (Rect.unit (s := S8x16x1024) (k0_off2 v 4#32) S1x16x1024.size (k0_off2_inb v hw 3)))
      (View.ld x (Rect.unit (s := S8x16x1024) (k0_off2 v 5#32) S1x16x1024.size (k0_off2_inb v hw 4)))
      (View.ld x (Rect.unit (s := S8x16x1024) (k0_off2 v 6#32) S1x16x1024.size (k0_off2_inb v hw 5))))
      (View.ld x (Rect.unit (s := S8x16x1024) (k0_off2 v 7#32) S1x16x1024.size (k0_off2_inb v hw 6))) (ix2 r l) = T x r l := by
  have hv : v.toNat < 8 := by
    have h : v.toNat + 1 ≤ 8 := hw.1 0
    omega
  obtain ⟨k, rfl⟩ : ∃ k : Fin 8, v = BitVec.ofNat 32 k.val := ⟨⟨v.toNat, hv⟩, by simp⟩
  obtain ⟨h0, hd⟩ := offs k
  have e (d : Fin 7) := ld_at x (k0_off2_inb _ hw d) (k ^^^ ⟨1 + d.val, by omega⟩) (hd ⟨1 + d.val, by omega⟩) r l
  unfold T
  rw [← sum_xor (fun j => x (ix3 j r l)) k]
  have e1 : x (ix3 (k ^^^ 1) r l) = _ := (e 0).symm
  have e2 : x (ix3 (k ^^^ 2) r l) = _ := (e 1).symm
  have e3 : x (ix3 (k ^^^ 3) r l) = _ := (e 2).symm
  have e4 : x (ix3 (k ^^^ 4) r l) = _ := (e 3).symm
  have e5 : x (ix3 (k ^^^ 5) r l) = _ := (e 4).symm
  have e6 : x (ix3 (k ^^^ 6) r l) = _ := (e 5).symm
  have e7 : x (ix3 (k ^^^ 7) r l) = _ := (e 6).symm
  simp only [e1, e2, e3, e4, e5, e6, e7]
  rw [← ld_at x (k0_off1_inb _ hw) k h0 r l]
  unfold k0_pay1 k0_pay2
  pointwise

/-- What the body leaves in its block, at one entry. -/
theorem out (c : Dev nD) (i : grid0.Coords) (arg2 : Memref sig .tc .vmem S8x16x1024 .f32) (harg2 : arg2.IsWhole)
    (arg3 : Memref sig .tc .vmem S16x1024 .f32) (harg3 : arg3.IsWhole) (x : FVec Ideal S8x16x1024 .f32)
    (w : TbBuf0 (F := Ideal) c tbM0_0)
    (hw : k0_chk1 (tbM0_0.view.readAt (Elt Ideal) (Rect.unit (s := S1) ![0] S1.size inb_S1_S1_0).toLoadRect w (Shape.Idx.first (numel1_S1.symm ▸ Nat.one_pos))))
    (r : Fin 16) (l : Fin 1024) : out0_A_1 c i arg2 harg2 arg3 harg3 x w hw (ix2 r l) = T x r l := by
  frame_out
  exact total x _ hw r l

variable (m : (ℓ : Loc nD τ sig) → Buf (Elt Ideal) ℓ) (c : Dev nD) (hO : Ok m) (hH : Hyps m hO)

/-- The argument: the devices' blocks. -/
abbrev X0 : FVec Ideal S8x16x1024 .f32 := m ((c : Thread nD τ).loc main_arg0)

/-- The windows hold their arrays whole. -/
theorem idx (t : Fin (cfgM m hO).N) : ((cfgM m hO).win 0).index t = ![0, 0, 0] ∧ ((cfgM m hO).win 1).index t = ![0, 0] := ⟨rfl, rfl⟩
theorem covers : ((cfgM m hO).win 1).Covers := by
  refine ⟨fun a => ?_, fun β => ⟨t0_0, flush0_1 _ _, fun a => ⟨?_, .inl rfl⟩⟩⟩
  · match a with
    | ⟨0, _⟩ => exact (by decide : 0 < 16)
    | ⟨1, _⟩ => exact (by decide : 0 < 1024)
  · match a with
    | ⟨0, h⟩ =>
      have hb : (β ⟨0, h⟩).val < (16 + 16 - 1) / 16 := (β ⟨0, h⟩).isLt
      exact (Nat.lt_one_iff.1 hb).symm
    | ⟨1, h⟩ =>
      have hb : (β ⟨1, h⟩).val < (1024 + 1024 - 1) / 1024 := (β ⟨1, h⟩).isLt
      exact (Nat.lt_one_iff.1 hb).symm

/-- The blocks that the windows hold. -/
theorem rd0 (t : Fin (cfgM m hO).N) (k : Fin 8) (r : Fin 16) (l : Fin 1024) :
    (iblk m hO c 0 t : FVec Ideal S8x16x1024 .f32) (ix3 k r l) = X0 m c (ix3 k r l) := by
  blk_ext [iblk, V, idx m hO t]

/-- The sum after the run. -/
theorem final1 : (dats m hO hH 0 c).arrAt 1 (cfgM m hO).N = fun i : S16x1024.Idx => T (X0 m c) (i 0) (i 1) := by
  refine (dats m hO hH 0 c).arrAt_eq_of_covers 1 _ (covers m hO) fun t hf (y : S16x1024.Idx) => ?_
  blk_simp
  rw [after0_1]
  idx_vars y
  unfold outsAt0
  refine (out c _ _ _ _ _ (iblk m hO c 0 t) _ _ y0 y1).trans ?_
  unfold T
  simp only [rd0]
  refine Finset.sum_congr rfl fun k _ => congrArg₂ (fun a b => X0 m c (ix3 k a b)) (Fin.ext ?_) (Fin.ext ?_) <;> blk_simp [idx m hO t]

include hO hH in
/-- The kernel's run, its result the sum. -/
theorem run_sum (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S16x1024.Idx => T (X0 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨((h c).1 1).trans (final1 m c hO hH),
    ((h c).1 0).trans (((dats m hO hH 0 c).arrAt_in 0 rfl _).trans ((A_eq m hO hH c 0).trans (V_main_arg0 m c))),
    ((h c).2 main_arg1 (by decide : main_arg1 ∈ Pipeline.restRefs sig spec0)).trans (V_main_arg1 m c)⟩) (run_main m ρ hO hH)

end Cert.SmallSumIdeal.Value

end
-- ==== Proof.SmallSumClaim.lean ====
module

public import proofs.«01_k».proof.Defs
public import proofs.«01_k».proof.Proof.Finite
public import proofs.«01_k».proof.Proof.Gen.SmallSum.Frame
public import proofs.«01_k».proof.Proof.SmallSumValue
public import proofs.«01_k».proof.Proof.Gen.SmallSumRefIdeal.Read
public import Idealize.ShloMosaic.Lib.Claim

@[expose] public section

set_option maxRecDepth 16384

noncomputable section

open Idealize.ShloMosaic Idealize.ShloMosaic.TcCoe Idealize.SL.Sem

namespace Cert.SmallSumRefIdeal.Read

open Cert.SmallSumRefIdeal

/-- The reference's sum at one entry. -/
theorem ref0 (x : FVec Ideal S8x16x1024 .f32) (r : Fin 16) (l : Fin 1024) :
    val_main_v0 (F := Ideal) x (ix2 r l) = Cert.SmallSumIdeal.Value.T x r l := by
  rw [val_main_v0_apply]
  have e (j : S_.Idx) : val_main_cst (F := Ideal) j = (0 : EReal) := Ideal.ofBits_zero_f32
  rw [e, zero_add]
  refine Finset.sum_congr rfl fun k _ => congrArg x (funext fun a => Fin.ext ?_)
  match a with
  | ⟨0, _⟩ => rfl
  | ⟨1, _⟩ => rfl
  | ⟨2, _⟩ => rfl

/-- The reference's run, its result the sum. -/
theorem run_sum (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = (fun i : S16x1024.Idx => Cert.SmallSumIdeal.Value.T
        (m ((c.tc : Thread nD τ).loc main_arg0)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans ((val_main_v0_eq _).trans (funext fun i => by idx_vars i; exact ref0 _ i0 i1)), (h c).2⟩)
    (Cert.SmallSumRefIdeal.Value.run m ρ)

end Cert.SmallSumRefIdeal.Read

namespace Cert.Pre_small_place

/-- The shape facts of the predicate. -/
instance facts : Facts := by constructor <;> decide

/-- A word that is at least zero and below eight, signed, is one of eight. -/
theorem word_lt {v : BitVec 32} (h0 : IntOp.cmpi .sge v 0#32 = 1#1) (h8 : IntOp.cmpi .slt v 8#32 = 1#1) : v.toNat < 8 := by
  have h0 : BitVec.sle 0#32 v = true := by
    rw [show IntOp.cmpi .sge v 0#32 = BitVec.ofBool (BitVec.sle 0#32 v) from rfl] at h0
    exact (by decide : ∀ b : Bool, BitVec.ofBool b = 1#1 → b = true) _ h0
  have h8 : BitVec.slt v 8#32 = true := by
    rw [show IntOp.cmpi .slt v 8#32 = BitVec.ofBool (BitVec.slt v 8#32) from rfl] at h8
    exact (by decide : ∀ b : Bool, BitVec.ofBool b = 1#1 → b = true) _ h8
  rw [BitVec.sle_iff_toInt_le] at h0
  rw [BitVec.slt_iff_toInt_lt] at h8
  have e0 : (0#32).toInt = 0 := by decide
  have e8 : (8#32).toInt = 8 := by decide
  have e := BitVec.toInt_eq_toNat_cond v
  have := v.isLt
  split at e <;> omega

/-- Where the predicate holds, the device's place is one of eight. -/
theorem place [Facts] {F : FTy → Type} [FloatOps F] {a0 : FVec F S8x16x1024 .f32} {a1 : IVec S1 32} (h : fn a0 a1 = fun _ => 1#1)
    (i : S1.Idx) : ∃ k : Fin 8, a1 i = BitVec.ofNat 32 k.val := by
  have e := Host.reduce_andi_all _ _ _ _ _ (congrFun h fun k => k.elim0) i
  obtain ⟨e0, e8⟩ := Row.and_split e
  exact ⟨⟨(a1 i).toNat, word_lt e0 e8⟩, by simp⟩

end Cert.Pre_small_place

namespace Cert.Proof

/-- The kernel's own condition on its device's place, in both readings of the program. -/
theorem smallsum_word (m : (ℓ : Loc Cert.SmallSum.nD Cert.SmallSum.τ Cert.SmallSum.sig) → Buf (Elt Bits) ℓ)
    (h : Pre_SmallSum (hPre_small_place := Cert.Pre_small_place.facts) m) : Cert.SmallSum.Gen.Hyps m trivial := fun c t => by
  obtain ⟨k, e⟩ := Cert.Pre_small_place.place (h 0) (Shape.Idx.first Nat.one_pos)
  exact (congrArg Cert.SmallSum.k0_chk1 ((congrFun (Memref.readAt_unit_zero _ Cert.SmallSum.main_arg1
    (by decide : (![0] : Fin 1 → Nat) = fun _ => 0) _ _) _).trans e)).mpr
    ((by decide +kernel : ∀ k : Fin 8, Cert.SmallSum.k0_chk1 (BitVec.ofNat 32 k.val)) k)
theorem smallsum_word_ideal (m : (ℓ : Loc Cert.SmallSumIdeal.nD Cert.SmallSumIdeal.τ Cert.SmallSumIdeal.sig) → Buf (Elt Ideal) ℓ)
    (h : Pre_SmallSumIdeal (hPre_small_place := Cert.Pre_small_place.facts) m) : Cert.SmallSumIdeal.Gen.Hyps m trivial := fun c t => by
  obtain ⟨k, e⟩ := Cert.Pre_small_place.place (h 0) (Shape.Idx.first Nat.one_pos)
  exact (congrArg Cert.SmallSumIdeal.k0_chk1 ((congrFun (Memref.readAt_unit_zero _ Cert.SmallSumIdeal.main_arg1
    (by decide : (![0] : Fin 1 → Nat) = fun _ => 0) _ _) _).trans e)).mpr
    ((by decide +kernel : ∀ k : Fin 8, Cert.SmallSumIdeal.k0_chk1 (BitVec.ofNat 32 k.val)) k)

/-- The reference of the sum of the devices' blocks runs to its end and leaves its arguments as they were. -/
theorem smallsum_ref : quiescent_SmallSumRefIdeal (hSmallSumRefIdeal := Cert.SmallSumRefIdeal.Gen.facts) := by
  intro m g _
  run_from Cert.SmallSumRefIdeal.Read.run_sum m g
  · exact fun _ => by simp only [and_self]
  · exact sem_eq_zero_of_no_sems (sig := Cert.SmallSumRefIdeal.sig) (by decide) _

/-- The kernel of the sum of the devices' blocks leaves what the reference leaves, wherever the device is among the eight. -/
theorem smallsum_value : algebraic_SmallSumIdeal_SmallSumRefIdeal (hSmallSumIdeal := Cert.SmallSumIdeal.Gen.facts)
    (hSmallSumRefIdeal := Cert.SmallSumRefIdeal.Gen.facts) (hPre_small_place := Cert.Pre_small_place.facts) := by
  pair_intro
  · run_from Cert.SmallSumIdeal.Value.run_sum m trivial (smallsum_word_ideal m hpre) g
  · run_from Cert.SmallSumRefIdeal.Read.run_sum m' g'

end Cert.Proof

end
-- ==== Proof.AttnFrame.lean ====
/-
  The frame of the attention's backward kernel (`attention_bwd`). The body meets three kinds of grid points: the first
  one, the ones between, and the last. At each of them it runs to its end on whole buffers, whatever they hold, and
  hands every buffer back. Nothing is said of what it leaves in them: the arrays the kernel reads are inputs of the
  pipeline, which writes none of them back, so the argument arrays end as they began.
-/
module

public import proofs.«01_k».proof.Proof.Gen.AttnIdeal.Frame
public import proofs.«01_k».proof.Proof.Gen.AttnIdeal.Skeleton
public import Idealize.ShloMosaic.Lib.Claim

@[expose] public section

set_option maxRecDepth 16384

noncomputable section

namespace Cert.AttnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid's points -/

/-- Whether the body's first conditional is taken at a point: is it the first point? -/
def starts (i : grid0.Coords) : BitVec 1 :=
  Scalar.cmpi .ne (Scalar.extui (Scalar.cmpi .eq (BitVec.ofNat 32 (i 0).val) 0#32)) 0#32

/-- The first point: the scratch is begun and the first rows' part is done. -/
def First (i : grid0.Coords) : Prop :=
  starts i = 1#1 ∧ k0_cond2 i = 1#1 ∧ k0_cond3 i = 1#1 ∧ ¬ k0_cond4 i = 1#1 ∧ ¬ k0_cond5 i = 1#1

/-- A point between: both halves of the band are there. -/
def Middle (i : grid0.Coords) : Prop :=
  ¬ starts i = 1#1 ∧ k0_cond2 i = 1#1 ∧ ¬ k0_cond3 i = 1#1 ∧ k0_cond4 i = 1#1 ∧ ¬ k0_cond5 i = 1#1

/-- The last point: only the rows of the block before are written out. -/
def Last (i : grid0.Coords) : Prop :=
  ¬ starts i = 1#1 ∧ ¬ k0_cond2 i = 1#1 ∧ ¬ k0_cond3 i = 1#1 ∧ k0_cond4 i = 1#1 ∧ k0_cond5 i = 1#1

instance (i : grid0.Coords) : Decidable (First i) := by unfold First; infer_instance
instance (i : grid0.Coords) : Decidable (Middle i) := by unfold Middle; infer_instance
instance (i : grid0.Coords) : Decidable (Last i) := by unfold Last; infer_instance

/-- Every point of the grid is one of the three. -/
theorem points : ∀ t : Fin grid0.N, First (grid0.coords t) ∨ Middle (grid0.coords t) ∨ Last (grid0.coords t) := by
  decide +kernel

/-! ## The body's run -/

/-- Core `c` owns the whole of a buffer, at some contents. -/
def held {sp : Space} {s : Shape} {e : EltTy} (c : Dev nD) (b : Memref sig .tc sp s e) : sProp 𝕄 :=
  iprop(∃ X, owns (c : Thread nD τ) b fullShare X)

set_option maxHeartbeats 4000000 in
/-- At each kind of point the body runs on buffers it owns, whatever they hold, and ends owning them. -/
theorem body_runs (c : Dev nD) (i : grid0.Coords) (hi : First i ∨ Middle i ∨ Last i)
    (b1 : Memref sig .tc .vmem S128x1024 .bf16) (h1 : b1.IsWhole) (b2 : Memref sig .tc .vmem S128x256 .bf16) (h2 : b2.IsWhole)
    (b3 : Memref sig .tc .vmem S128x256 .bf16) (h3 : b3.IsWhole) (b4 : Memref sig .tc .vmem S128x256 .bf16) (h4 : b4.IsWhole)
    (b5 : Memref sig .tc .vmem S128x256 .bf16) (h5 : b5.IsWhole) (b6 : Memref sig .tc .vmem S3x64x128 .f32) (h6 : b6.IsWhole)
    (b7 : Memref sig .tc .vmem S3x64x128 .f32) (h7 : b7.IsWhole) (b8 : Memref sig .tc .smem S1x16 .f32) (h8 : b8.IsWhole)
    (b9 : Memref sig .tc .vmem S128x1024 .bf16) (h9 : b9.IsWhole) (b10 : Memref sig .tc .vmem S128x1024 .bf16) (h10 : b10.IsWhole)
    (b11 : Memref sig .tc .vmem S2x16x128 .f32) (h11 : b11.IsWhole) (b12 : Memref sig .tc .vmem S128x1024 .bf16) (h12 : b12.IsWhole)
    (b13 : Memref sig .tc .vmem S128x512 .bf16) (h13 : b13.IsWhole) (b14 : Memref sig .tc .vmem S8x128 .f32) (h14 : b14.IsWhole)
    (b15 : Memref sig .tc .vmem S128x512 .f32) (h15 : b15.IsWhole) (E : Set ℕ) (K : PUnit → sProp 𝕄) :
    iprop((held (F := F) c b1 ∗ held (F := F) c b2 ∗ held (F := F) c b3 ∗ held (F := F) c b4 ∗ held (F := F) c b5 ∗ held (F := F) c b6
        ∗ held (F := F) c b7 ∗ held (F := F) c b8 ∗ held (F := F) c b9 ∗ held (F := F) c b10 ∗ held (F := F) c b11 ∗ held (F := F) c b12
        ∗ held (F := F) c b13 ∗ held (F := F) c b14 ∗ held (F := F) c b15)
      ∗ (iprop(held (F := F) c b1 ∗ held (F := F) c b2 ∗ held (F := F) c b3 ∗ held (F := F) c b4 ∗ held (F := F) c b5 ∗ held (F := F) c b6
        ∗ held (F := F) c b7 ∗ held (F := F) c b8 ∗ held (F := F) c b9 ∗ held (F := F) c b10 ∗ held (F := F) c b11 ∗ held (F := F) c b12
        ∗ held (F := F) c b13 ∗ held (F := F) c b14 ∗ held (F := F) c b15) -∗ K PUnit.unit))
    ⊢ wp frame (wpE (defs₀ (F := F)) Variants.none c none) E
        (cc0_attn_bwd i b1 h1 b2 h2 b3 h3 b4 h4 b5 h5 b6 h6 b7 h7 b8 h8 b9 h9 b10 h10 b11 h11 b12 h12 b13 h13 b14 h14 b15 h15) K := by
  simp only [cc0_attn_bwd_eq_skeleton]
  unfold cc0_attn_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton]
  unfold held owns
  rcases hi with ⟨c1, c2, c3, c4, c5⟩ | ⟨c1, c2, c3, c4, c5⟩ | ⟨c1, c2, c3, c4, c5⟩ <;> unfold starts at c1
  all_goals
    iintro ⟨⟨⟨%X1, %f1, -, B1⟩, ⟨%X2, %f2, -, B2⟩, ⟨%X3, %f3, -, B3⟩, ⟨%X4, %f4, -, B4⟩, ⟨%X5, %f5, -, B5⟩, ⟨%X6, %f6, -, B6⟩,
      ⟨%X7, %f7, -, B7⟩, ⟨%X8, %f8, -, B8⟩, ⟨%X9, %f9, -, B9⟩, ⟨%X10, %f10, -, B10⟩, ⟨%X11, %f11, -, B11⟩, ⟨%X12, %f12, -, B12⟩,
      ⟨%X13, %f13, -, B13⟩, ⟨%X14, %f14, -, B14⟩, ⟨%X15, %f15, -, B15⟩⟩, Hk⟩
    sl_exec (disch := first | sl_exact c1 | sl_exact c2 | sl_exact c3 | sl_exact c4 | sl_exact c5)
    sl_step
    iapply Hk
    isplitl [B1]; · iexists _, _; isplitr; swap; · iexact B1
                    ipureintro; rfl
    isplitl [B2]; · iexists _, _; isplitr; swap; · iexact B2
                    ipureintro; rfl
    isplitl [B3]; · iexists _, _; isplitr; swap; · iexact B3
                    ipureintro; rfl
    isplitl [B4]; · iexists _, _; isplitr; swap; · iexact B4
                    ipureintro; rfl
    isplitl [B5]; · iexists _, _; isplitr; swap; · iexact B5
                    ipureintro; rfl
    isplitl [B6]; · iexists _, _; isplitr; swap; · iexact B6
                    ipureintro; rfl
    isplitl [B7]; · iexists _, _; isplitr; swap; · iexact B7
                    ipureintro; rfl
    isplitl [B8]; · iexists _, _; isplitr; swap; · iexact B8
                    ipureintro; rfl
    isplitl [B9]; · iexists _, _; isplitr; swap; · iexact B9
                    ipureintro; rfl
    isplitl [B10]; · iexists _, _; isplitr; swap; · iexact B10
                     ipureintro; rfl
    isplitl [B11]; · iexists _, _; isplitr; swap; · iexact B11
                     ipureintro; rfl
    isplitl [B12]; · iexists _, _; isplitr; swap; · iexact B12
                     ipureintro; rfl
    isplitl [B13]; · iexists _, _; isplitr; swap; · iexact B13
                     ipureintro; rfl
    isplitl [B14]; · iexists _, _; isplitr; swap; · iexact B14
                     ipureintro; rfl
    iexists _, _; isplitr; swap; · iexact B15
    ipureintro; rfl

/-! ## The pipeline's run -/

/-- The proof data: the arrays as the region finds them, and nothing said of what the body leaves. -/
def dats (_ : Fin 1) (c : Dev nD) : Dat τ (Elt F) Unit ℕ (UR sig nD τ) ℕ cfg0 c where
  A w := V m c (Pipeline.arrRef spec0 w)
  after w t := Pipeline.Dat.unnamed w t
  Φ _ := Pipeline.ΦA spec0 c
  q := Pipeline.shareOf spec0
  owed _ := 0

/-- What holds between two points: the scratch at some contents, and the generator's register. -/
theorem between_eq (c : Dev nD) :
    (Pipeline.ΦA spec0 c : sProp 𝕄)
      = iprop(held (F := F) c (Memref.whole cc0_scratch0) ∗ (∃ r, prngReg c r)) := by
  unfold Pipeline.ΦA held; rw [scopedRest0_eq]; simp only [owns_whole]; try rfl

/-- The body at a point, on the buffers the pipeline hands it. -/
theorem body_at (c : Dev nD) (t : Fin cfg0.N) (O : sProp 𝕄) :
    iprop(Pipeline.ΦA spec0 c ∗ O ∗ held (F := F) c (st0_0 t) ∗ held (F := F) c (st0_1 t) ∗ held (F := F) c (st0_2 t) ∗ held (F := F) c (st0_3 t)
      ∗ held (F := F) c (st0_4 t) ∗ held (F := F) c (st0_5 t) ∗ held (F := F) c (st0_6 t) ∗ held (F := F) c (st0_7 t) ∗ held (F := F) c (st0_8 t)
      ∗ held (F := F) c (st0_9 t) ∗ held (F := F) c (st0_10 t) ∗ held (F := F) c (st0_11 t) ∗ held (F := F) c (st0_12 t) ∗ held (F := F) c (st0_13 t))
    ⊢ wp frame (wpE (defs₀ (F := F)) Variants.none c none) Set.univ (bodyAt0 t) fun _ =>
      iprop(Pipeline.ΦA spec0 c ∗ O ∗ held (F := F) c (st0_0 t) ∗ held (F := F) c (st0_1 t) ∗ held (F := F) c (st0_2 t) ∗ held (F := F) c (st0_3 t)
      ∗ held (F := F) c (st0_4 t) ∗ held (F := F) c (st0_5 t) ∗ held (F := F) c (st0_6 t) ∗ held (F := F) c (st0_7 t) ∗ held (F := F) c (st0_8 t)
      ∗ held (F := F) c (st0_9 t) ∗ held (F := F) c (st0_10 t) ∗ held (F := F) c (st0_11 t) ∗ held (F := F) c (st0_12 t) ∗ held (F := F) c (st0_13 t)) := by
  rw [between_eq]
  unfold bodyAt0
  iintro ⟨⟨HS, Hg⟩, Ho, B0, B1, B2, B3, B4, B5, B6, B7, B8, B9, B10, B11, B12, B13⟩
  iapply (body_runs c (grid0.coords t) (points t) _ _ _ _ _ _ _ _ _ _ _ _ _ _ _ _ _ _ _ _ _ _ _ _ _ _ _ _ _ _ Set.univ _)
  isplitl [HS B0 B1 B2 B3 B4 B5 B6 B7 B8 B9 B10 B11 B12 B13]
  · iframe
  iintro ⟨B0, B1, B2, B3, B4, B5, B6, B7, B8, B9, B10, B11, B12, B13, HS⟩
  iframe

/-- The pipeline's obligation on the body, every window's contents left unsaid. -/
theorem obligation (c : Dev nD) :
    BodyObligation (dats m 0 c) (defs₀ (F := F)) Variants.none () Set.univ (fun _ => true) := fun t => by
  rw [bigSep_W0]
  exact triple_restated (body_at c t ((dats m 0 c).owesAt () t.castSucc)) rfl .rfl fun _ => .rfl

set_option backward.isDefEq.respectTransparency.types false in
/-- Every fair execution ends, the pipeline's input arrays as they were, and every counter at zero. -/
theorem ends : θ_run defs (onTc (τ := τ) (main (F := F))) (s₀ m ρ) (fun r =>
    (Pipeline.RDat.FramePost (cfgs 0) (fun c => (dats m 0 c).toRForget fun _ => true) (V m)) r ∧ r.2.sem = fun _ => 0) :=
  Pipeline.θ_run_frame_forget_shared (Q' := _) cfgs (dats m) (0 : Fin 1) launch₀0 defs₀ Variants.none (fun _ => true) m ρ main
    (hbody := fun c => (obligation m c).loose) (hq := fun _ _ _ => rfl) (howed := fun _ _ => rfl) (V := V m)
    (hmain := hmain m Variants.none) (hA := fun _ _ => rfl) (hΦ := fun _ _ => rfl)

set_option maxHeartbeats 4000000 in
/-- The frame: every fair execution of the call ends, its argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 0 rfl).trans (V_main_arg0 m c),
     (Pipeline.RDat.FramePost.arr_in h.1 c 4 rfl).trans (V_main_arg1 m c),
     (Pipeline.RDat.FramePost.arr_in h.1 c 7 rfl).trans (V_main_arg2 m c),
     (Pipeline.RDat.FramePost.arr_in h.1 c 8 rfl).trans (V_main_arg3 m c)⟩, h.2⟩) (ends m ρ)

end Cert.AttnIdeal.Run

end
-- ==== Proof.AttnClaim.lean ====
module

public import proofs.«01_k».proof.Defs
public import proofs.«01_k».proof.Proof.Gen.AttnRefIdeal.Run
public import Idealize.ShloMosaic.Lib.Claim

@[expose] public section

set_option maxRecDepth 16384

noncomputable section

open Idealize.ShloMosaic Idealize.ShloMosaic.TcCoe Idealize.SL.Sem

namespace Cert.Proof

/-- The reference of the attention's gradient runs to its end and leaves its arguments as they were. -/
theorem attn_ref : quiescent_AttnRefIdeal (hAttnRefIdeal := Cert.AttnRefIdeal.Gen.facts) := by
  intro m g _
  run_from Cert.AttnRefIdeal.Value.run (F := Ideal) m g
  · exact fun _ => by simp only [and_self]
  · exact sem_eq_zero_of_no_sems (sig := Cert.AttnRefIdeal.sig) (by decide) _

end Cert.Proof

end
-- ==== Proof.lean ====
module

public import proofs.«01_k».proof.Proof.ConvClaim
public import proofs.«01_k».proof.Proof.DwGuClaim
public import proofs.«01_k».proof.Proof.NormBwdClaim
public import proofs.«01_k».proof.Proof.LossClaim
public import proofs.«01_k».proof.Proof.QkvClaim
public import proofs.«01_k».proof.Proof.SwigluBwdClaim
public import proofs.«01_k».proof.Proof.AttnFwdClaim
public import proofs.«01_k».proof.Proof.KvqClaim
public import proofs.«01_k».proof.Proof.MixOutClaim
public import proofs.«01_k».proof.Proof.GateClaim
public import proofs.«01_k».proof.Proof.NormInClaim
public import proofs.«01_k».proof.Proof.ConvMixClaim
public import proofs.«01_k».proof.Proof.AdamClaim
public import proofs.«01_k».proof.Proof.WGradClaim
public import proofs.«01_k».proof.Proof.AdamDownClaim
public import proofs.«01_k».proof.Proof.AdamInClaim
public import proofs.«01_k».proof.Proof.SmallSumClaim
public import Idealize.ShloMosaic.Lib.Claim
public import proofs.«01_k».proof.Proof.Gen.DwGu.Frame
public import proofs.«01_k».proof.Proof.Gen.NormBwd.Frame
public import proofs.«01_k».proof.Proof.Gen.Loss.Frame
public import proofs.«01_k».proof.Proof.Gen.Qkv.Frame
public import proofs.«01_k».proof.Proof.Gen.SwigluBwd.Frame
public import proofs.«01_k».proof.Proof.Gen.AttnFwd.Frame
public import proofs.«01_k».proof.Proof.Gen.Kvq.Frame
public import proofs.«01_k».proof.Proof.Gen.MixOut.Frame
public import proofs.«01_k».proof.Proof.Gen.Gate.Frame
public import proofs.«01_k».proof.Proof.Gen.NormIn.Frame
public import proofs.«01_k».proof.Proof.Gen.ConvMix.Frame
public import proofs.«01_k».proof.Proof.Gen.Adam.Frame
public import proofs.«01_k».proof.Proof.Gen.WGrad.Frame
public import proofs.«01_k».proof.Proof.Gen.AdamDown.Frame
public import proofs.«01_k».proof.Proof.Gen.AdamIn.Frame
public import proofs.«01_k».proof.Proof.Gen.SmallSum.Frame
public import proofs.«01_k».proof.Proof.AttnFrame
public import proofs.«01_k».proof.Proof.AttnBits
public import proofs.«01_k».proof.Proof.AttnClaim

@[expose] public section

noncomputable section

open Idealize.ShloMosaic Idealize.ShloMosaic.TcCoe Idealize.SL.Sem

namespace Cert.Proof

/-- Every call's frame and its reference's, and every call's value. -/
theorem claim : Cert.Claim :=
  ⟨Cert.Conv.Gen.facts, Cert.ConvIdeal.Gen.facts, Cert.ConvRefIdeal.Gen.facts, Cert.DwGu.Gen.facts, Cert.DwGuIdeal.Gen.facts, Cert.DwGuRefIdeal.Gen.facts, Cert.NormBwd.Gen.facts, Cert.NormBwdIdeal.Gen.facts, Cert.NormBwdRefIdeal.Gen.facts, Cert.Loss.Gen.facts, Cert.LossIdeal.Gen.facts, Cert.LossRefIdeal.Gen.facts, Cert.Qkv.Gen.facts, Cert.QkvIdeal.Gen.facts, Cert.QkvRefIdeal.Gen.facts, Cert.SwigluBwd.Gen.facts, Cert.SwigluBwdIdeal.Gen.facts, Cert.SwigluBwdRefIdeal.Gen.facts, Cert.AttnFwd.Gen.facts, Cert.AttnFwdIdeal.Gen.facts, Cert.AttnFwdRefIdeal.Gen.facts, Cert.Kvq.Gen.facts, Cert.KvqIdeal.Gen.facts, Cert.KvqRefIdeal.Gen.facts, Cert.MixOut.Gen.facts, Cert.MixOutIdeal.Gen.facts, Cert.MixOutRefIdeal.Gen.facts, Cert.Gate.Gen.facts, Cert.GateIdeal.Gen.facts, Cert.GateRefIdeal.Gen.facts, Cert.NormIn.Gen.facts, Cert.NormInIdeal.Gen.facts, Cert.NormInRefIdeal.Gen.facts, Cert.ConvMix.Gen.facts, Cert.ConvMixIdeal.Gen.facts, Cert.ConvMixRefIdeal.Gen.facts, Cert.Attn.Gen.facts, Cert.AttnIdeal.Gen.facts, Cert.AttnRefIdeal.Gen.facts, Cert.Adam.Gen.facts, Cert.AdamIdeal.Gen.facts, Cert.AdamRefIdeal.Gen.facts, Cert.WGrad.Gen.facts, Cert.WGradIdeal.Gen.facts, Cert.WGradRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.SmallSum.Gen.facts, Cert.SmallSumIdeal.Gen.facts, Cert.SmallSumRefIdeal.Gen.facts, Cert.Pre_dwgu_finite.facts, Cert.Pre_ain_finite.facts, Cert.Pre_loss_finite.facts, Cert.Pre_qkv_finite.facts, Cert.Pre_inb_finite.facts, Cert.Pre_fwd_finite.facts, Cert.Pre_small_place.facts,
    fun m ρ _ => Cert.Conv.Gen.frame m ρ, fun m ρ _ => Cert.ConvIdeal.Gen.frame m ρ, conv_ref,
    fun m ρ _ => Cert.DwGu.Gen.frame m ρ, fun m ρ _ => Cert.DwGuIdeal.Gen.frame m ρ, fun m ρ _ => Cert.DwGuIdeal.Gen.frame m ρ, dwgu_ref, fun m g _ => dwgu_ref m g trivial,
    fun m ρ _ => Cert.NormBwd.Gen.frame m ρ, fun m ρ _ => Cert.NormBwdIdeal.Gen.frame m ρ, fun m ρ _ => Cert.NormBwdIdeal.Gen.frame m ρ, normbwd_ref, fun m g _ => normbwd_ref m g trivial,
    fun m ρ _ => Cert.Loss.Gen.frame m ρ, fun m ρ _ => Cert.LossIdeal.Gen.frame m ρ, fun m ρ _ => Cert.LossIdeal.Gen.frame m ρ, loss_ref, fun m g _ => loss_ref m g trivial,
    fun m ρ _ => Cert.Qkv.Gen.frame m ρ, fun m ρ _ => Cert.QkvIdeal.Gen.frame m ρ, fun m ρ _ => Cert.QkvIdeal.Gen.frame m ρ, qkv_ref, fun m g _ => qkv_ref m g trivial,
    fun m ρ _ => Cert.SwigluBwd.Gen.frame m ρ, fun m ρ _ => Cert.SwigluBwdIdeal.Gen.frame m ρ, fun m ρ _ => Cert.SwigluBwdIdeal.Gen.frame m ρ, swiglubwd_ref, fun m g _ => swiglubwd_ref m g trivial,
    fun m ρ _ => Cert.AttnFwd.Gen.frame m ρ, fun m ρ _ => Cert.AttnFwdIdeal.Gen.frame m ρ, fun m ρ _ => Cert.AttnFwdIdeal.Gen.frame m ρ, attnfwd_ref, fun m g _ => attnfwd_ref m g trivial,
    fun m ρ _ => Cert.Kvq.Gen.frame m ρ, fun m ρ _ => Cert.KvqIdeal.Gen.frame m ρ, kvq_ref,
    fun m ρ _ => Cert.MixOut.Gen.frame m ρ, fun m ρ _ => Cert.MixOutIdeal.Gen.frame m ρ, mixout_ref,
    fun m ρ _ => Cert.Gate.Gen.frame m ρ, fun m ρ _ => Cert.GateIdeal.Gen.frame m ρ, gate_ref,
    fun m ρ _ => Cert.NormIn.Gen.frame m ρ, fun m ρ _ => Cert.NormInIdeal.Gen.frame m ρ, normin_ref,
    fun m ρ _ => Cert.ConvMix.Gen.frame m ρ, fun m ρ _ => Cert.ConvMixIdeal.Gen.frame m ρ, convmix_ref,
    fun m ρ _ => Cert.Attn.Run.frame m ρ, fun m ρ _ => Cert.AttnIdeal.Run.frame m ρ, attn_ref,
    fun m ρ _ => Cert.Adam.Gen.frame m ρ, fun m ρ _ => Cert.AdamIdeal.Gen.frame m ρ, adam_ref,
    fun m ρ _ => Cert.WGrad.Gen.frame m ρ, fun m ρ _ => Cert.WGradIdeal.Gen.frame m ρ, wgrad_ref,
    fun m ρ _ => Cert.AdamDown.Gen.frame m ρ, fun m ρ _ => Cert.AdamDownIdeal.Gen.frame m ρ, adamdown_ref,
    fun m ρ _ => Cert.AdamIn.Gen.frame m ρ, fun m ρ _ => Cert.AdamInIdeal.Gen.frame m ρ, adamin_ref,
    fun m ρ h => Cert.SmallSum.Gen.frame m ρ trivial (smallsum_word m h), fun m ρ h => Cert.SmallSumIdeal.Gen.frame m ρ trivial (smallsum_word_ideal m h), smallsum_ref, fun m g _ => smallsum_ref m g trivial,
    trivial, conv_value, trivial, dwgu_value, trivial, normbwd_value, trivial, loss_value, trivial, qkv_value, trivial, swiglubwd_value, IdealRules.named_const.statement Cert.AttnFwdIdeal.κ "mask" .f32 0xF149F2CA#32 ⊥ rfl, attnfwd_value, trivial, kvq_value, trivial, mixout_value, trivial, gate_value, trivial, normin_value, trivial, convmix_value, IdealRules.named_const.statement Cert.AttnIdeal.κ "mask" .f32 0xF149F2CA#32 ⊥ rfl, trivial, adam_value, trivial, wgrad_value, trivial, adamdown_value, trivial, adamin_value, trivial, smallsum_value⟩

end Cert.Proof

end
